-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "floor" .f32 0xEFA18F08#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_v8) = v3 c
          ∧ r.2.mem ((c.tc : Thread Cert.Reference3Ideal.nD Cert.Reference3Ideal.τ).loc Cert.Reference3Ideal.main_v10) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)) (v2 : (c : Dev Cert.Kernel5Ideal.nD) → Buf (Elt Ideal) ((c.tc : Thread Cert.Kernel5Ideal.nD Cert.Kernel5Ideal.τ).loc Cert.Kernel5Ideal.main_v32_2)) (v3 : (c : Dev Cert.Kernel5Ideal.nD) → Buf (Elt Ideal) ((c.tc : Thread Cert.Kernel5Ideal.nD Cert.Kernel5Ideal.τ).loc Cert.Kernel5Ideal.main_v32_3)) (v4 : (c : Dev Cert.Kernel5Ideal.nD) → Buf (Elt Ideal) ((c.tc : Thread Cert.Kernel5Ideal.nD Cert.Kernel5Ideal.τ).loc Cert.Kernel5Ideal.main_v32_4)) (v5 : (c : Dev Cert.Kernel5Ideal.nD) → Buf (Elt Ideal) ((c.tc : Thread Cert.Kernel5Ideal.nD Cert.Kernel5Ideal.τ).loc Cert.Kernel5Ideal.main_v32_5)) (v6 : (c : Dev Cert.Kernel5Ideal.nD) → Buf (Elt Ideal) ((c.tc : Thread Cert.Kernel5Ideal.nD Cert.Kernel5Ideal.τ).loc Cert.Kernel5Ideal.main_v32_6)) (v7 : (c : Dev Cert.Kernel5Ideal.nD) → Buf (Elt Ideal) ((c.tc : Thread Cert.Kernel5Ideal.nD Cert.Kernel5Ideal.τ).loc Cert.Kernel5Ideal.main_v32_7)) (v8 : (c : Dev Cert.Kernel5Ideal.nD) → Buf (Elt Ideal) ((c.tc : Thread Cert.Kernel5Ideal.nD Cert.Kernel5Ideal.τ).loc Cert.Kernel5Ideal.main_v32_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_v32_2) = v2 c
          ∧ r.2.mem ((c.tc : Thread Cert.Kernel5Ideal.nD Cert.Kernel5Ideal.τ).loc Cert.Kernel5Ideal.main_v32_3) = v3 c
          ∧ r.2.mem ((c.tc : Thread Cert.Kernel5Ideal.nD Cert.Kernel5Ideal.τ).loc Cert.Kernel5Ideal.main_v32_4) = v4 c
          ∧ r.2.mem ((c.tc : Thread Cert.Kernel5Ideal.nD Cert.Kernel5Ideal.τ).loc Cert.Kernel5Ideal.main_v32_5) = v5 c
          ∧ r.2.mem ((c.tc : Thread Cert.Kernel5Ideal.nD Cert.Kernel5Ideal.τ).loc Cert.Kernel5Ideal.main_v32_6) = v6 c
          ∧ r.2.mem ((c.tc : Thread Cert.Kernel5Ideal.nD Cert.Kernel5Ideal.τ).loc Cert.Kernel5Ideal.main_v32_7) = v7 c
          ∧ r.2.mem ((c.tc : Thread Cert.Kernel5Ideal.nD Cert.Kernel5Ideal.τ).loc Cert.Kernel5Ideal.main_v32_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_v16) = v4 c
          ∧ r.2.mem ((c.tc : Thread Cert.Reference5Ideal.nD Cert.Reference5Ideal.τ).loc Cert.Reference5Ideal.main_v19) = v5 c
          ∧ r.2.mem ((c.tc : Thread Cert.Reference5Ideal.nD Cert.Reference5Ideal.τ).loc Cert.Reference5Ideal.main_v22) = v6 c
          ∧ r.2.mem ((c.tc : Thread Cert.Reference5Ideal.nD Cert.Reference5Ideal.τ).loc Cert.Reference5Ideal.main_v25) = v7 c
          ∧ r.2.mem ((c.tc : Thread Cert.Reference5Ideal.nD Cert.Reference5Ideal.τ).loc Cert.Reference5Ideal.main_v28) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v101) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v67_0)) (v1 : (c : Dev Cert.Kernel9Ideal.nD) → Buf (Elt Ideal) ((c.tc : Thread Cert.Kernel9Ideal.nD Cert.Kernel9Ideal.τ).loc Cert.Kernel9Ideal.main_v67_1)) (v2 : (c : Dev Cert.Kernel9Ideal.nD) → Buf (Elt Ideal) ((c.tc : Thread Cert.Kernel9Ideal.nD Cert.Kernel9Ideal.τ).loc Cert.Kernel9Ideal.main_v67_2)) (v3 : (c : Dev Cert.Kernel9Ideal.nD) → Buf (Elt Ideal) ((c.tc : Thread Cert.Kernel9Ideal.nD Cert.Kernel9Ideal.τ).loc Cert.Kernel9Ideal.main_v67_3)) (v4 : (c : Dev Cert.Kernel9Ideal.nD) → Buf (Elt Ideal) ((c.tc : Thread Cert.Kernel9Ideal.nD Cert.Kernel9Ideal.τ).loc Cert.Kernel9Ideal.main_v67_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v67_0) = v0 c
          ∧ r.2.mem ((c.tc : Thread Cert.Kernel9Ideal.nD Cert.Kernel9Ideal.τ).loc Cert.Kernel9Ideal.main_v67_1) = v1 c
          ∧ r.2.mem ((c.tc : Thread Cert.Kernel9Ideal.nD Cert.Kernel9Ideal.τ).loc Cert.Kernel9Ideal.main_v67_2) = v2 c
          ∧ r.2.mem ((c.tc : Thread Cert.Kernel9Ideal.nD Cert.Kernel9Ideal.τ).loc Cert.Kernel9Ideal.main_v67_3) = v3 c
          ∧ r.2.mem ((c.tc : Thread Cert.Kernel9Ideal.nD Cert.Kernel9Ideal.τ).loc Cert.Kernel9Ideal.main_v67_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v116) = v0 c
          ∧ r.2.mem ((c.tc : Thread Cert.Reference9Ideal.nD Cert.Reference9Ideal.τ).loc Cert.Reference9Ideal.main_v117) = v1 c
          ∧ r.2.mem ((c.tc : Thread Cert.Reference9Ideal.nD Cert.Reference9Ideal.τ).loc Cert.Reference9Ideal.main_v118) = v2 c
          ∧ r.2.mem ((c.tc : Thread Cert.Reference9Ideal.nD Cert.Reference9Ideal.τ).loc Cert.Reference9Ideal.main_v119) = v3 c
          ∧ r.2.mem ((c.tc : Thread Cert.Reference9Ideal.nD Cert.Reference9Ideal.τ).loc Cert.Reference9Ideal.main_v120) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v15_0)) (v1 : (c : Dev Cert.Kernel10Ideal.nD) → Buf (Elt Ideal) ((c.tc : Thread Cert.Kernel10Ideal.nD Cert.Kernel10Ideal.τ).loc Cert.Kernel10Ideal.main_v15_1)) (v2 : (c : Dev Cert.Kernel10Ideal.nD) → Buf (Elt Ideal) ((c.tc : Thread Cert.Kernel10Ideal.nD Cert.Kernel10Ideal.τ).loc Cert.Kernel10Ideal.main_v15_2)) (v3 : (c : Dev Cert.Kernel10Ideal.nD) → Buf (Elt Ideal) ((c.tc : Thread Cert.Kernel10Ideal.nD Cert.Kernel10Ideal.τ).loc Cert.Kernel10Ideal.main_v15_3)) (v4 : (c : Dev Cert.Kernel10Ideal.nD) → Buf (Elt Ideal) ((c.tc : Thread Cert.Kernel10Ideal.nD Cert.Kernel10Ideal.τ).loc Cert.Kernel10Ideal.main_v15_4)) (v5 : (c : Dev Cert.Kernel10Ideal.nD) → Buf (Elt Ideal) ((c.tc : Thread Cert.Kernel10Ideal.nD Cert.Kernel10Ideal.τ).loc Cert.Kernel10Ideal.main_v15_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15_0) = v0 c
          ∧ r.2.mem ((c.tc : Thread Cert.Kernel10Ideal.nD Cert.Kernel10Ideal.τ).loc Cert.Kernel10Ideal.main_v15_1) = v1 c
          ∧ r.2.mem ((c.tc : Thread Cert.Kernel10Ideal.nD Cert.Kernel10Ideal.τ).loc Cert.Kernel10Ideal.main_v15_2) = v2 c
          ∧ r.2.mem ((c.tc : Thread Cert.Kernel10Ideal.nD Cert.Kernel10Ideal.τ).loc Cert.Kernel10Ideal.main_v15_3) = v3 c
          ∧ r.2.mem ((c.tc : Thread Cert.Kernel10Ideal.nD Cert.Kernel10Ideal.τ).loc Cert.Kernel10Ideal.main_v15_4) = v4 c
          ∧ r.2.mem ((c.tc : Thread Cert.Kernel10Ideal.nD Cert.Kernel10Ideal.τ).loc Cert.Kernel10Ideal.main_v15_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v5) = v3 c
          ∧ r.2.mem ((c.tc : Thread Cert.Reference10Ideal.nD Cert.Reference10Ideal.τ).loc Cert.Reference10Ideal.main_v8) = v4 c
          ∧ r.2.mem ((c.tc : Thread Cert.Reference10Ideal.nD Cert.Reference10Ideal.τ).loc Cert.Reference10Ideal.main_v11) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4x4096x16x96 : Shape := ⟨4, ![4, 4096, 16, 96]⟩
abbrev S4x4096x16x64 : Shape := ⟨4, ![4, 4096, 16, 64]⟩
abbrev S_ : Shape := ⟨0, ![]⟩
abbrev S4x4096x16x128 : Shape := ⟨4, ![4, 4096, 16, 128]⟩
abbrev S4x4096x16x1 : Shape := ⟨4, ![4, 4096, 16, 1]⟩
abbrev S4x4096x16x65 : Shape := ⟨4, ![4, 4096, 16, 65]⟩
abbrev S4x4096x2048 : Shape := ⟨3, ![4, 4096, 2048]⟩
abbrev S4x4096x1024 : Shape := ⟨3, ![4, 4096, 1024]⟩
abbrev S1x256x512 : Shape := ⟨3, ![1, 256, 512]⟩
abbrev S1x4096x512 : Shape := ⟨3, ![1, 4096, 512]⟩
abbrev S1x256x256 : Shape := ⟨3, ![1, 256, 256]⟩
abbrev S1024x1 : Shape := ⟨2, ![1024, 1]⟩
abbrev S1024x128 : Shape := ⟨2, ![1024, 128]⟩
abbrev S256x1024 : Shape := ⟨2, ![256, 1024]⟩
abbrev S256x1 : Shape := ⟨2, ![256, 1]⟩
abbrev S256x128 : Shape := ⟨2, ![256, 128]⟩
abbrev S1x256x128 : Shape := ⟨3, ![1, 256, 128]⟩
abbrev S1x1024x128 : Shape := ⟨3, ![1, 1024, 128]⟩
abbrev S256 : Shape := ⟨1, ![256]⟩
abbrev S256x64 : Shape := ⟨2, ![256, 64]⟩
abbrev S1x256x64 : Shape := ⟨3, ![1, 256, 64]⟩

abbrev nBuf : Space → Nat
  | .hbm => 25
  | .vmem => 10
  | .smem => 0
  | _ => 0

abbrev bufTy : (tb : Table) → Fin (tcTables nBuf tb) → BufTy
  | .hbm, ⟨0, _⟩ => ⟨S4x4096x16x96, .f32⟩
  | .hbm, ⟨1, _⟩ => ⟨S4x4096x16x96, .f32⟩
  | .hbm, ⟨2, _⟩ => ⟨S4x4096x16x64, .f32⟩
  | .hbm, ⟨3, _⟩ => ⟨S_, .f32⟩
  | .hbm, ⟨4, _⟩ => ⟨S4x4096x16x96, .f32⟩
  | .hbm, ⟨5, _⟩ => ⟨S4x4096x16x96, .f32⟩
  | .hbm, ⟨6, _⟩ => ⟨S_, .i32⟩
  | .hbm, ⟨7, _⟩ => ⟨S_, .f32⟩
  | .hbm, ⟨8, _⟩ => ⟨S4x4096x16x128, .f32⟩
  | .hbm, ⟨9, _⟩ => ⟨S4x4096x16x128, .bf16⟩
  | .hbm, ⟨10, _⟩ => ⟨S_, .i32⟩
  | .hbm, ⟨11, _⟩ => ⟨S_, .f32⟩
  | .hbm, ⟨12, _⟩ => ⟨S4x4096x16x128, .f32⟩
  | .hbm, ⟨13, _⟩ => ⟨S4x4096x16x128, .bf16⟩
  | .hbm, ⟨14, _⟩ => ⟨S_, .f32⟩
  | .hbm, ⟨15, _⟩ => ⟨S4x4096x16x1, .f32⟩
  | .hbm, ⟨16, _⟩ => ⟨S4x4096x16x65, .f32⟩
  | .hbm, ⟨17, _⟩ => ⟨S_, .i32⟩
  | .hbm, ⟨18, _⟩ => ⟨S_, .f32⟩
  | .hbm, ⟨19, _⟩ => ⟨S4x4096x16x128, .f32⟩
  | .hbm, ⟨20, _⟩ => ⟨S4x4096x16x128, .bf16⟩
  | .hbm, ⟨21, _⟩ => ⟨S4x4096x2048, .bf16⟩
  | .hbm, ⟨22, _⟩ => ⟨S4x4096x2048, .bf16⟩
  | .hbm, ⟨23, _⟩ => ⟨S4x4096x2048, .bf16⟩
  | .hbm, ⟨24, _⟩ => ⟨S4x4096x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x256, .f32⟩
  | .local _ .vmem, ⟨7, _⟩ => ⟨S1x256x256, .f32⟩
  | .local _ .vmem, ⟨8, _⟩ => ⟨S1024x1, .f32⟩
  | .local _ .vmem, ⟨9, _⟩ => ⟨S1024x128, .f32⟩
  | _, _ => ⟨S4x4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_14 : BitVec 32 := 1#32
  ⟨c0_i32_12, v35, c1_i32_14⟩
def k0_mult1 (i : grid0.Coords) (k0_t1 : Fin (k0_t1_loop i).trips) : BitVec 32 :=
  let c0_i32_12 : BitVec 32 := 0#32
  let c1_i32_14 : BitVec 32 := 1#32
  let arg9 : BitVec 32 := Scf.iv c0_i32_12 c1_i32_14 k0_t1
  let c1024_i32_34 : BitVec 32 := 1024#32
  let v76 : BitVec 32 := Scalar.muli arg9 c1024_i32_34
  v76
def k0_off1 (i : grid0.Coords) (k0_t1 : Fin (k0_t1_loop i).trips) : Fin 3 → Nat :=
  let c0_56 : Index := 0#32
  let c0_i32_12 : BitVec 32 := 0#32
  let c1_i32_14 : BitVec 32 := 1#32
  let arg9 : BitVec 32 := Scf.iv c0_i32_12 c1_i32_14 k0_t1
  let c1024_i32_34 : BitVec 32 := 1024#32
  let v76 : BitVec 32 := Scalar.muli arg9 c1024_i32_34
  let v77 : BitVec 32 := v76
  let v96 : Index := Scalar.indexCast v77
  let c0_57 : Index := 0#32
  ![0, v96.toNat, 0]
def k0_off2 (i : grid0.Coords) (k0_t1 : Fin (k0_t1_loop i).trips) : Fin 3 → Nat :=
  let c0_67 : Index := 0#32
  let c0_i32_12 : BitVec 32 := 0#32
  let c1_i32_14 : BitVec 32 := 1#32
  let arg9 : BitVec 32 := Scf.iv c0_i32_12 c1_i32_14 k0_t1
  let c1024_i32_34 : BitVec 32 := 1024#32
  let v76 : BitVec 32 := Scalar.muli arg9 c1024_i32_34
  let v77 : BitVec 32 := v76
  let v121 : Index := Scalar.indexCast v77
  let c128_68 : Index := 128#32
  ![0, v121.toNat, 128]
def k0_off3 (i : grid0.Coords) (k0_t1 : Fin (k0_t1_loop i).trips) : Fin 3 → Nat :=
  let c0_78 : Index := 0#32
  let c0_i32_12 : BitVec 32 := 0#32
  let c1_i32_14 : BitVec 32 := 1#32
  let arg9 : BitVec 32 := Scf.iv c0_i32_12 c1_i32_14 k0_t1
  let c1024_i32_34 : BitVec 32 := 1024#32
  let v76 : BitVec 32 := Scalar.muli arg9 c1024_i32_34
  let v77 : BitVec 32 := v76
  let v146 : Index := Scalar.indexCast v77
  let c256_79 : Index := 256#32
  ![0, v146.toNat, 256]
def k0_off4 (i : grid0.Coords) (k0_t1 : Fin (k0_t1_loop i).trips) : Fin 3 → Nat :=
  let c0_88 : Index := 0#32
  let c0_i32_12 : BitVec 32 := 0#32
  let c1_i32_14 : BitVec 32 := 1#32
  let arg9 : BitVec 32 := Scf.iv c0_i32_12 c1_i32_14 k0_t1
  let c1024_i32_34 : BitVec 32 := 1024#32
  let v76 : BitVec 32 := Scalar.muli arg9 c1024_i32_34
  let v77 : BitVec 32 := v76
  let v171 : Index := Scalar.indexCast v77
  let c384_89 : Index := 384#32
  ![0, v171.toNat, 384]
@[reducible] def k0_t2_loop (i : grid0.Coords) : Scf.Loop 32 :=
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let v32 : BitVec 32 := Scalar.addi c0_i32_12 v31
  let c1_i32_15 : BitVec 32 := 1#32
  ⟨v35, v32, c1_i32_15⟩
def k0_mult2 (i : grid0.Coords) (k0_t2 : Fin (k0_t2_loop i).trips) : BitVec 32 :=
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg9 : BitVec 32 := Scf.iv v35 c1_i32_15 k0_t2
  let c1024_i32_34 : BitVec 32 := 1024#32
  let v76 : BitVec 32 := Scalar.muli arg9 c1024_i32_34
  v76
def k0_off5 (i : grid0.Coords) (k0_t2 : Fin (k0_t2_loop i).trips) : Fin 3 → Nat :=
  let c0_56 : Index := 0#32
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg9 : BitVec 32 := Scf.iv v35 c1_i32_15 k0_t2
  let c1024_i32_34 : BitVec 32 := 1024#32
  let v76 : BitVec 32 := Scalar.muli arg9 c1024_i32_34
  let v77 : BitVec 32 := v76
  let v96 : Index := Scalar.indexCast v77
  let c0_57 : Index := 0#32
  ![0, v96.toNat, 0]
def k0_off6 (i : grid0.Coords) (k0_t2 : Fin (k0_t2_loop i).trips) : Fin 3 → Nat :=
  let c0_67 : Index := 0#32
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg9 : BitVec 32 := Scf.iv v35 c1_i32_15 k0_t2
  let c1024_i32_34 : BitVec 32 := 1024#32
  let v76 : BitVec 32 := Scalar.muli arg9 c1024_i32_34
  let v77 : BitVec 32 := v76
  let v121 : Index := Scalar.indexCast v77
  let c128_68 : Index := 128#32
  ![0, v121.toNat, 128]
def k0_off7 (i : grid0.Coords) (k0_t2 : Fin (k0_t2_loop i).trips) : Fin 3 → Nat :=
  let c0_78 : Index := 0#32
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg9 : BitVec 32 := Scf.iv v35 c1_i32_15 k0_t2
  let c1024_i32_34 : BitVec 32 := 1024#32
  let v76 : BitVec 32 := Scalar.muli arg9 c1024_i32_34
  let v77 : BitVec 32 := v76
  let v146 : Index := Scalar.indexCast v77
  let c256_79 : Index := 256#32
  ![0, v146.toNat, 256]
def k0_off8 (i : grid0.Coords) (k0_t2 : Fin (k0_t2_loop i).trips) : Fin 3 → Nat :=
  let c0_88 : Index := 0#32
  let c0_i32_12 : BitVec 32 := 0#32
  let arg2 : BitVec 32 := BitVec.ofNat 32 (i 2).val
  let c256_i32 : BitVec 32 := 256#32
  let v0 : BitVec 32 := Scalar.muli arg2 c256_i32
  let c256_i32_4 : BitVec 32 := 256#32
  let v11 : BitVec 32 := Scalar.addi v0 c256_i32_4
  let c1024_i32 : BitVec 32 := 1024#32
  let v12 : BitVec 32 := Scalar.addi v11 c1024_i32
  let c1_i32 : BitVec 32 := 1#32
  let v13 : BitVec 32 := Scalar.subi v12 c1_i32
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c1024_i32_5 : BitVec 32 := 1024#32
  let c0_i32_7 : BitVec 32 := 0#32
  let v20 : BitVec 1 := Scalar.cmpi .sgt c1024_i32_5 c0_i32_7
  let v21 : BitVec 32 := Scalar.extui v20
  let c0_i32_8 : BitVec 32 := 0#32
  let v22 : BitVec 1 := Scalar.cmpi .slt c1024_i32_5 c0_i32_8
  let v23 : BitVec 32 := Scalar.extui v22
  let v24 : BitVec 32 := Scalar.subi v21 v23
  let v25 : BitVec 1 := Scalar.cmpi .ne v19 v24
  let v26 : BitVec 32 := Scalar.remsi v13 c1024_i32_5
  let c0_i32_9 : BitVec 32 := 0#32
  let v27 : BitVec 1 := Scalar.cmpi .ne v26 c0_i32_9
  let v28 : BitVec 1 := Scalar.andi v25 v27
  let v14 : BitVec 32 := Scalar.divsi v13 c1024_i32_5
  let c1_i32_10 : BitVec 32 := 1#32
  let v29 : BitVec 32 := Scalar.subi v14 c1_i32_10
  let v30 : BitVec 32 := Scalar.select v28 v29 v14
  let v31 : BitVec 32 := Scalar.subi v30 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg9 : BitVec 32 := Scf.iv v35 c1_i32_15 k0_t2
  let c1024_i32_34 : BitVec 32 := 1024#32
  let v76 : BitVec 32 := Scalar.muli arg9 c1024_i32_34
  let v77 : BitVec 32 := v76
  let v171 : Index := Scalar.indexCast v77
  let c384_89 : Index := 384#32
  ![0, v171.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "floor" => some ⊥
  | "mask" => some ⊥
  | _ => none
-- ==== ReferenceIdeal.lean ====
abbrev S4x4096x16x96 : Shape := ⟨4, ![4, 4096, 16, 96]⟩
abbrev S4x4096x16x64 : Shape := ⟨4, ![4, 4096, 16, 64]⟩
abbrev S4096 : Shape := ⟨1, ![4096]⟩
abbrev S4x16x4096x4096 : Shape := ⟨4, ![4, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x1024 : Shape := ⟨3, ![4, 4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x16x96, .f32⟩
  | .hbm, ⟨1, _⟩ => ⟨S4x4096x16x96, .f32⟩
  | .hbm, ⟨2, _⟩ => ⟨S4x4096x16x64, .f32⟩
  | .hbm, ⟨3, _⟩ => ⟨S4096, .i32⟩
  | .hbm, ⟨4, _⟩ => ⟨S4x16x4096x4096, .f32⟩
  | .hbm, ⟨5, _⟩ => ⟨S_, .f32⟩
  | .hbm, ⟨6, _⟩ => ⟨S4x16x4096x4096, .f32⟩
  | .hbm, ⟨7, _⟩ => ⟨S4x16x4096x4096, .f32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4x16x4096x4096, .i1⟩
  | .hbm, ⟨16, _⟩ => ⟨S4x16x4096x4096, .f32⟩
  | .hbm, ⟨17, _⟩ => ⟨S4x16x4096x4096, .f32⟩
  | .hbm, ⟨18, _⟩ => ⟨S_, .f32⟩
  | .hbm, ⟨19, _⟩ => ⟨S4x16x4096, .f32⟩
  | .hbm, ⟨20, _⟩ => ⟨S4x16x4096x1, .f32⟩
  | .hbm, ⟨21, _⟩ => ⟨S4x16x4096x4096, .f32⟩
  | .hbm, ⟨22, _⟩ => ⟨S4x16x4096x4096, .f32⟩
  | .hbm, ⟨23, _⟩ => ⟨S4x16x4096x4096, .f32⟩
  | .hbm, ⟨24, _⟩ => ⟨S_, .f32⟩
  | .hbm, ⟨25, _⟩ => ⟨S_, .f32⟩
  | .hbm, ⟨26, _⟩ => ⟨S4x16x4096x4096, .i1⟩
  | .hbm, ⟨27, _⟩ => ⟨S4x16x4096x4096, .f32⟩
  | .hbm, ⟨28, _⟩ => ⟨S4x16x4096x4096, .f32⟩
  | .hbm, ⟨29, _⟩ => ⟨S_, .f32⟩
  | .hbm, ⟨30, _⟩ => ⟨S4x16x4096, .f32⟩
  | .hbm, ⟨31, _⟩ => ⟨S4x16x4096x1, .f32⟩
  | .hbm, ⟨32, _⟩ => ⟨S_, .f32⟩
  | .hbm, ⟨33, _⟩ => ⟨S4x16x4096x1, .f32⟩
  | .hbm, ⟨34, _⟩ => ⟨S4x16x4096x1, .f32⟩
  | .hbm, ⟨35, _⟩ => ⟨S4x16x4096x4096, .f32⟩
  | .hbm, ⟨36, _⟩ => ⟨S4x16x4096x4096, .f32⟩
  | .hbm, ⟨37, _⟩ => ⟨S4x16x64x4096, .f32⟩
  | .hbm, ⟨38, _⟩ => ⟨S4x4096x16x64, .f32⟩
  | .hbm, ⟨39, _⟩ => ⟨S4x4096x1024, .f32⟩
  | _, _ => ⟨S4x4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel2.lean ====
abbrev S16384x1024 : Shape := ⟨2, ![16384, 1024]⟩
abbrev S4x16384x256 : Shape := ⟨3, ![4, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 24
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x1024, .f32⟩
  | .hbm, ⟨12, _⟩ => ⟨S256x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1024x1024, .bf16⟩
  | .hbm, ⟨22, _⟩ => ⟨S256x1024, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1024x1024, .bf16⟩
  | .local _ .vmem, ⟨15, _⟩ => ⟨S256x1024, .bf16⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S4x16384x256 : Shape := ⟨3, ![4, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1x16384x256 : Shape := ⟨3, ![1, 16384, 256]⟩
abbrev S16384x256 : Shape := ⟨2, ![16384, 256]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x1024, .f32⟩
  | .hbm, ⟨12, _⟩ => ⟨S256x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S1x16384x256, .f32⟩
  | .hbm, ⟨103, _⟩ => ⟨S16384x256, .f32⟩
  | .hbm, ⟨104, _⟩ => ⟨S16384x1024, .f32⟩
  | .hbm, ⟨105, _⟩ => ⟨S16384x1024, .f32⟩
  | .hbm, ⟨106, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x1456 : Shape := ⟨2, ![1024, 1456]⟩
abbrev S1024x1024 : Shape := ⟨2, ![1024, 1024]⟩
abbrev S1024x48 : Shape := ⟨2, ![1024, 48]⟩
abbrev S1024x128 : Shape := ⟨2, ![1024, 128]⟩
abbrev S1024x256 : Shape := ⟨2, ![1024, 256]⟩
abbrev S256x1024 : Shape := ⟨2, ![256, 1024]⟩
abbrev S128x1024 : Shape := ⟨2, ![128, 1024]⟩
abbrev S16384x1024 : Shape := ⟨2, ![16384, 1024]⟩
abbrev S16384x128 : Shape := ⟨2, ![16384, 128]⟩
abbrev S16384x48 : Shape := ⟨2, ![16384, 48]⟩
abbrev S4x256x4096 : Shape := ⟨3, ![4, 256, 4096]⟩
abbrev S4x128x4096 : Shape := ⟨3, ![4, 128, 4096]⟩
abbrev S256x128 : Shape := ⟨2, ![256, 128]⟩
abbrev S256x48 : Shape := ⟨2, ![256, 48]⟩
abbrev S1x256x256 : Shape := ⟨3, ![1, 256, 256]⟩
abbrev S1x128x256 : Shape := ⟨3, ![1, 128, 256]⟩
abbrev S256x256 : Shape := ⟨2, ![256, 256]⟩
abbrev S128x256 : Shape := ⟨2, ![128, 256]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x1456, .f32⟩
  | .hbm, ⟨2, _⟩ => ⟨S1024x1024, .f32⟩
  | .hbm, ⟨3, _⟩ => ⟨S1024x1024, .bf16⟩
  | .hbm, ⟨4, _⟩ => ⟨S1024x48, .f32⟩
  | .hbm, ⟨5, _⟩ => ⟨S1024x48, .bf16⟩
  | .hbm, ⟨6, _⟩ => ⟨S1024x128, .f32⟩
  | .hbm, ⟨7, _⟩ => ⟨S1024x128, .bf16⟩
  | .hbm, ⟨8, _⟩ => ⟨S1024x256, .f32⟩
  | .hbm, ⟨9, _⟩ => ⟨S256x1024, .f32⟩
  | .hbm, ⟨10, _⟩ => ⟨S256x1024, .bf16⟩
  | .hbm, ⟨11, _⟩ => ⟨S1024x128, .f32⟩
  | .hbm, ⟨12, _⟩ => ⟨S128x1024, .f32⟩
  | .hbm, ⟨13, _⟩ => ⟨S128x1024, .bf16⟩
  | .hbm, ⟨14, _⟩ => ⟨S16384x1024, .f32⟩
  | .hbm, ⟨15, _⟩ => ⟨S16384x1024, .f32⟩
  | .hbm, ⟨16, _⟩ => ⟨S16384x128, .f32⟩
  | .hbm, ⟨17, _⟩ => ⟨S16384x48, .f32⟩
  | .hbm, ⟨18, _⟩ => ⟨S4x256x4096, .f32⟩
  | .hbm, ⟨19, _⟩ => ⟨S4x128x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x128, .bf16⟩
  | .local _ .vmem, ⟨4, _⟩ => ⟨S1024x48, .bf16⟩
  | .local _ .vmem, ⟨5, _⟩ => ⟨S256x1024, .bf16⟩
  | .local _ .vmem, ⟨6, _⟩ => ⟨S128x1024, .bf16⟩
  | .local _ .vmem, ⟨7, _⟩ => ⟨S256x1024, .f32⟩
  | .local _ .vmem, ⟨8, _⟩ => ⟨S256x1024, .f32⟩
  | .local _ .vmem, ⟨9, _⟩ => ⟨S256x128, .f32⟩
  | .local _ .vmem, ⟨10, _⟩ => ⟨S256x128, .f32⟩
  | .local _ .vmem, ⟨11, _⟩ => ⟨S256x48, .f32⟩
  | .local _ .vmem, ⟨12, _⟩ => ⟨S256x48, .f32⟩
  | .local _ .vmem, ⟨13, _⟩ => ⟨S1x256x256, .f32⟩
  | .local _ .vmem, ⟨14, _⟩ => ⟨S1x256x256, .f32⟩
  | .local _ .vmem, ⟨15, _⟩ => ⟨S1x128x256, .f32⟩
  | .local _ .vmem, ⟨16, _⟩ => ⟨S1x128x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13_0 : Ref sig .tc := ⟨.hbm, 15, rfl⟩
abbrev main_v13_1 : Ref sig .tc := ⟨.hbm, 16, rfl⟩
abbrev main_v13_2 : Ref sig .tc := ⟨.hbm, 17, rfl⟩
abbrev main_v13_3 : Ref sig .tc := ⟨.hbm, 18, rfl⟩
abbrev main_v13_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x4096x1024 : Shape := ⟨3, ![4, 4096, 1024]⟩
abbrev S1024x1456 : Shape := ⟨2, ![1024, 1456]⟩
abbrev S4x4096x1456 : Shape := ⟨3, ![4, 4096, 1456]⟩
abbrev S16384x1024 : Shape := ⟨2, ![16384, 1024]⟩
abbrev S4x4096x128 : Shape := ⟨3, ![4, 4096, 128]⟩
abbrev S16384x128 : Shape := ⟨2, ![16384, 128]⟩
abbrev S4x4096x48 : Shape := ⟨3, ![4, 4096, 48]⟩
abbrev S16384x48 : Shape := ⟨2, ![16384, 48]⟩
abbrev S4x4096x256 : Shape := ⟨3, ![4, 4096, 256]⟩
abbrev S4x256x4096 : Shape := ⟨3, ![4, 256, 4096]⟩
abbrev S4x128x4096 : Shape := ⟨3, ![4, 128, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1456, .f32⟩
  | .hbm, ⟨2, _⟩ => ⟨S4x4096x1456, .f32⟩
  | .hbm, ⟨3, _⟩ => ⟨S4x4096x1024, .f32⟩
  | .hbm, ⟨4, _⟩ => ⟨S16384x1024, .f32⟩
  | .hbm, ⟨5, _⟩ => ⟨S4x4096x128, .f32⟩
  | .hbm, ⟨6, _⟩ => ⟨S16384x128, .f32⟩
  | .hbm, ⟨7, _⟩ => ⟨S4x4096x48, .f32⟩
  | .hbm, ⟨8, _⟩ => ⟨S16384x48, .f32⟩
  | .hbm, ⟨9, _⟩ => ⟨S4x4096x256, .f32⟩
  | .hbm, ⟨10, _⟩ => ⟨S4x256x4096, .f32⟩
  | .hbm, ⟨11, _⟩ => ⟨S4x4096x128, .f32⟩
  | .hbm, ⟨12, _⟩ => ⟨S4x128x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024x1536 : Shape := ⟨2, ![1024, 1536]⟩
abbrev S16384x1024 : Shape := ⟨2, ![16384, 1024]⟩
abbrev S1024x1024 : Shape := ⟨2, ![1024, 1024]⟩
abbrev S1024x512 : Shape := ⟨2, ![1024, 512]⟩
abbrev S512x1024 : Shape := ⟨2, ![512, 1024]⟩
abbrev S4x512x4096 : Shape := ⟨3, ![4, 512, 4096]⟩
abbrev S256x1024 : Shape := ⟨2, ![256, 1024]⟩
abbrev S1x512x256 : Shape := ⟨3, ![1, 512, 256]⟩
abbrev S512x256 : Shape := ⟨2, ![512, 256]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x1536, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S16384x1024, .f32⟩
  | .hbm, ⟨9, _⟩ => ⟨S4x512x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | .local _ .vmem, ⟨6, _⟩ => ⟨S1x512x256, .f32⟩
  | .local _ .vmem, ⟨7, _⟩ => ⟨S1x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x4096x1024 : Shape := ⟨3, ![4, 4096, 1024]⟩
abbrev S1024x1536 : Shape := ⟨2, ![1024, 1536]⟩
abbrev S4x4096x1536 : Shape := ⟨3, ![4, 4096, 1536]⟩
abbrev S16384x1024 : Shape := ⟨2, ![16384, 1024]⟩
abbrev S4x4096x512 : Shape := ⟨3, ![4, 4096, 512]⟩
abbrev S4x512x4096 : Shape := ⟨3, ![4, 512, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1536, .f32⟩
  | .hbm, ⟨2, _⟩ => ⟨S4x4096x1536, .f32⟩
  | .hbm, ⟨3, _⟩ => ⟨S4x4096x1024, .f32⟩
  | .hbm, ⟨4, _⟩ => ⟨S16384x1024, .f32⟩
  | .hbm, ⟨5, _⟩ => ⟨S4x4096x512, .f32⟩
  | .hbm, ⟨6, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024x4608 : Shape := ⟨2, ![1024, 4608]⟩
abbrev S1024x3x1536 : Shape := ⟨3, ![1024, 3, 1536]⟩
abbrev S1024x1x1024 : Shape := ⟨3, ![1024, 1, 1024]⟩
abbrev S1024x1024 : Shape := ⟨2, ![1024, 1024]⟩
abbrev S1024x1x512 : Shape := ⟨3, ![1024, 1, 512]⟩
abbrev S1024x512 : Shape := ⟨2, ![1024, 512]⟩
abbrev S512x1024 : Shape := ⟨2, ![512, 1024]⟩
abbrev S16384x1024 : Shape := ⟨2, ![16384, 1024]⟩
abbrev S16384x512 : Shape := ⟨2, ![16384, 512]⟩
abbrev S4x512x4096 : Shape := ⟨3, ![4, 512, 4096]⟩
abbrev S256x1024 : Shape := ⟨2, ![256, 1024]⟩
abbrev S256x512 : Shape := ⟨2, ![256, 512]⟩
abbrev S1x512x256 : Shape := ⟨3, ![1, 512, 256]⟩
abbrev S512x256 : Shape := ⟨2, ![512, 256]⟩

abbrev nBuf : Space → Nat
  | .hbm => 43
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S1024x4608, .f32⟩
  | .hbm, ⟨2, _⟩ => ⟨S1024x3x1536, .f32⟩
  | .hbm, ⟨3, _⟩ => ⟨S1024x1x1024, .f32⟩
  | .hbm, ⟨4, _⟩ => ⟨S1024x1024, .f32⟩
  | .hbm, ⟨5, _⟩ => ⟨S1024x1024, .bf16⟩
  | .hbm, ⟨6, _⟩ => ⟨S1024x1x512, .f32⟩
  | .hbm, ⟨7, _⟩ => ⟨S1024x512, .f32⟩
  | .hbm, ⟨8, _⟩ => ⟨S1024x512, .bf16⟩
  | .hbm, ⟨9, _⟩ => ⟨S1024x1x512, .f32⟩
  | .hbm, ⟨10, _⟩ => ⟨S1024x512, .f32⟩
  | .hbm, ⟨11, _⟩ => ⟨S512x1024, .f32⟩
  | .hbm, ⟨12, _⟩ => ⟨S512x1024, .bf16⟩
  | .hbm, ⟨13, _⟩ => ⟨S1024x1x1024, .f32⟩
  | .hbm, ⟨14, _⟩ => ⟨S1024x1024, .f32⟩
  | .hbm, ⟨15, _⟩ => ⟨S1024x1024, .bf16⟩
  | .hbm, ⟨16, _⟩ => ⟨S1024x1x512, .f32⟩
  | .hbm, ⟨17, _⟩ => ⟨S1024x512, .f32⟩
  | .hbm, ⟨18, _⟩ => ⟨S1024x512, .bf16⟩
  | .hbm, ⟨19, _⟩ => ⟨S1024x1x512, .f32⟩
  | .hbm, ⟨20, _⟩ => ⟨S1024x512, .f32⟩
  | .hbm, ⟨21, _⟩ => ⟨S512x1024, .f32⟩
  | .hbm, ⟨22, _⟩ => ⟨S512x1024, .bf16⟩
  | .hbm, ⟨23, _⟩ => ⟨S1024x1x1024, .f32⟩
  | .hbm, ⟨24, _⟩ => ⟨S1024x1024, .f32⟩
  | .hbm, ⟨25, _⟩ => ⟨S1024x1024, .bf16⟩
  | .hbm, ⟨26, _⟩ => ⟨S1024x1x512, .f32⟩
  | .hbm, ⟨27, _⟩ => ⟨S1024x512, .f32⟩
  | .hbm, ⟨28, _⟩ => ⟨S1024x512, .bf16⟩
  | .hbm, ⟨29, _⟩ => ⟨S1024x1x512, .f32⟩
  | .hbm, ⟨30, _⟩ => ⟨S1024x512, .f32⟩
  | .hbm, ⟨31, _⟩ => ⟨S512x1024, .f32⟩
  | .hbm, ⟨32, _⟩ => ⟨S512x1024, .bf16⟩
  | .hbm, ⟨33, _⟩ => ⟨S16384x1024, .f32⟩
  | .hbm, ⟨34, _⟩ => ⟨S16384x1024, .f32⟩
  | .hbm, ⟨35, _⟩ => ⟨S16384x512, .f32⟩
  | .hbm, ⟨36, _⟩ => ⟨S16384x1024, .f32⟩
  | .hbm, ⟨37, _⟩ => ⟨S16384x512, .f32⟩
  | .hbm, ⟨38, _⟩ => ⟨S16384x1024, .f32⟩
  | .hbm, ⟨39, _⟩ => ⟨S16384x512, .f32⟩
  | .hbm, ⟨40, _⟩ => ⟨S4x512x4096, .f32⟩
  | .hbm, ⟨41, _⟩ => ⟨S4x512x4096, .f32⟩
  | .hbm, ⟨42, _⟩ => ⟨S4x512x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S1024x1024, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S256x1024, .f32⟩
  | .local _ .vmem, ⟨12, _⟩ => ⟨S256x1024, .f32⟩
  | .local _ .vmem, ⟨13, _⟩ => ⟨S256x512, .f32⟩
  | .local _ .vmem, ⟨14, _⟩ => ⟨S256x512, .f32⟩
  | .local _ .vmem, ⟨15, _⟩ => ⟨S256x1024, .f32⟩
  | .local _ .vmem, ⟨16, _⟩ => ⟨S256x1024, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x512, .f32⟩
  | .local _ .vmem, ⟨22, _⟩ => ⟨S256x512, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32_0 : Ref sig .tc := ⟨.hbm, 34, rfl⟩
abbrev main_v32_1 : Ref sig .tc := ⟨.hbm, 35, rfl⟩
abbrev main_v32_2 : Ref sig .tc := ⟨.hbm, 36, rfl⟩
abbrev main_v32_3 : Ref sig .tc := ⟨.hbm, 37, rfl⟩
abbrev main_v32_4 : Ref sig .tc := ⟨.hbm, 38, rfl⟩
abbrev main_v32_5 : Ref sig .tc := ⟨.hbm, 39, rfl⟩
abbrev main_v32_6 : Ref sig .tc := ⟨.hbm, 40, rfl⟩
abbrev main_v32_7 : Ref sig .tc := ⟨.hbm, 41, rfl⟩
abbrev main_v32_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S4x4096x1024 : Shape := ⟨3, ![4, 4096, 1024]⟩
abbrev S1024x4608 : Shape := ⟨2, ![1024, 4608]⟩
abbrev S4x4096x4608 : Shape := ⟨3, ![4, 4096, 4608]⟩
abbrev S4x4096x3x1536 : Shape := ⟨4, ![4, 4096, 3, 1536]⟩
abbrev S4x4096x1x1024 : Shape := ⟨4, ![4, 4096, 1, 1024]⟩
abbrev S16384x1024 : Shape := ⟨2, ![16384, 1024]⟩
abbrev S4x4096x1x512 : Shape := ⟨4, ![4, 4096, 1, 512]⟩
abbrev S4x4096x512 : Shape := ⟨3, ![4, 4096, 512]⟩
abbrev S16384x512 : Shape := ⟨2, ![16384, 512]⟩
abbrev S4x512x4096 : Shape := ⟨3, ![4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4608, .f32⟩
  | .hbm, ⟨2, _⟩ => ⟨S4x4096x4608, .f32⟩
  | .hbm, ⟨3, _⟩ => ⟨S4x4096x3x1536, .f32⟩
  | .hbm, ⟨4, _⟩ => ⟨S4x4096x1x1024, .f32⟩
  | .hbm, ⟨5, _⟩ => ⟨S4x4096x1024, .f32⟩
  | .hbm, ⟨6, _⟩ => ⟨S16384x1024, .f32⟩
  | .hbm, ⟨7, _⟩ => ⟨S4x4096x1x512, .f32⟩
  | .hbm, ⟨8, _⟩ => ⟨S4x4096x512, .f32⟩
  | .hbm, ⟨9, _⟩ => ⟨S16384x512, .f32⟩
  | .hbm, ⟨10, _⟩ => ⟨S4x4096x1x1024, .f32⟩
  | .hbm, ⟨11, _⟩ => ⟨S4x4096x1024, .f32⟩
  | .hbm, ⟨12, _⟩ => ⟨S16384x1024, .f32⟩
  | .hbm, ⟨13, _⟩ => ⟨S4x4096x1x512, .f32⟩
  | .hbm, ⟨14, _⟩ => ⟨S4x4096x512, .f32⟩
  | .hbm, ⟨15, _⟩ => ⟨S16384x512, .f32⟩
  | .hbm, ⟨16, _⟩ => ⟨S4x4096x1x1024, .f32⟩
  | .hbm, ⟨17, _⟩ => ⟨S4x4096x1024, .f32⟩
  | .hbm, ⟨18, _⟩ => ⟨S16384x1024, .f32⟩
  | .hbm, ⟨19, _⟩ => ⟨S4x4096x1x512, .f32⟩
  | .hbm, ⟨20, _⟩ => ⟨S4x4096x512, .f32⟩
  | .hbm, ⟨21, _⟩ => ⟨S16384x512, .f32⟩
  | .hbm, ⟨22, _⟩ => ⟨S4x4096x1x512, .f32⟩
  | .hbm, ⟨23, _⟩ => ⟨S4x4096x512, .f32⟩
  | .hbm, ⟨24, _⟩ => ⟨S4x512x4096, .f32⟩
  | .hbm, ⟨25, _⟩ => ⟨S4x4096x1x512, .f32⟩
  | .hbm, ⟨26, _⟩ => ⟨S4x4096x512, .f32⟩
  | .hbm, ⟨27, _⟩ => ⟨S4x512x4096, .f32⟩
  | .hbm, ⟨28, _⟩ => ⟨S4x4096x1x512, .f32⟩
  | .hbm, ⟨29, _⟩ => ⟨S4x4096x512, .f32⟩
  | .hbm, ⟨30, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩

abbrev nD : Nat := 1
abbrev τ : Topo := Topo.v7x

variable {F : FTy → Type} [FloatOps F]
-- ==== Kernel6.lean ====
abbrev S128x1024 : Shape := ⟨2, ![128, 1024]⟩
abbrev S4x128x256 : Shape := ⟨3, ![4, 128, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S1x128x256 : Shape := ⟨3, ![1, 128, 256]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 24
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S4x128x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x1024, .f32⟩
  | .hbm, ⟨12, _⟩ => ⟨S256x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1024x1024, .bf16⟩
  | .hbm, ⟨22, _⟩ => ⟨S256x1024, .bf16⟩
  | .hbm, ⟨23, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1x128x256, .f32⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1024x1024, .bf16⟩
  | .local _ .vmem, ⟨12, _⟩ => ⟨S256x1024, .bf16⟩
  | .local _ .vmem, ⟨13, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference6Ideal.lean ====
abbrev S128x1024 : Shape := ⟨2, ![128, 1024]⟩
abbrev S4x128x256 : Shape := ⟨3, ![4, 128, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩
abbrev S1x128x256 : Shape := ⟨3, ![1, 128, 256]⟩
abbrev S128x256 : Shape := ⟨2, ![128, 256]⟩

abbrev nBuf : Space → Nat
  | .hbm => 107
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S4x128x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x1024, .f32⟩
  | .hbm, ⟨12, _⟩ => ⟨S256x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1024, .f32⟩
  | .hbm, ⟨40, _⟩ => ⟨S128x1024, .f32⟩
  | .hbm, ⟨41, _⟩ => ⟨S1x1024, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x2816, .f32⟩
  | .hbm, ⟨51, _⟩ => ⟨S128x2816, .f32⟩
  | .hbm, ⟨52, _⟩ => ⟨S128x2816, .f32⟩
  | .hbm, ⟨53, _⟩ => ⟨S_, .f32⟩
  | .hbm, ⟨54, _⟩ => ⟨S128x2816, .f32⟩
  | .hbm, ⟨55, _⟩ => ⟨S128x2816, .f32⟩
  | .hbm, ⟨56, _⟩ => ⟨S_, .f32⟩
  | .hbm, ⟨57, _⟩ => ⟨S128x2816, .f32⟩
  | .hbm, ⟨58, _⟩ => ⟨S128x2816, .f32⟩
  | .hbm, ⟨59, _⟩ => ⟨S128x2816, .f32⟩
  | .hbm, ⟨60, _⟩ => ⟨S128x2816, .f32⟩
  | .hbm, ⟨61, _⟩ => ⟨S128x2816, .f32⟩
  | .hbm, ⟨62, _⟩ => ⟨S128x1024, .f32⟩
  | .hbm, ⟨63, _⟩ => ⟨S128x1024, .f32⟩
  | .hbm, ⟨64, _⟩ => ⟨S_, .f32⟩
  | .hbm, ⟨65, _⟩ => ⟨S128, .f32⟩
  | .hbm, ⟨66, _⟩ => ⟨S128x1, .f32⟩
  | .hbm, ⟨67, _⟩ => ⟨S_, .f32⟩
  | .hbm, ⟨68, _⟩ => ⟨S128x1, .f32⟩
  | .hbm, ⟨69, _⟩ => ⟨S128x1, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1, .f32⟩
  | .hbm, ⟨83, _⟩ => ⟨S128x1, .f32⟩
  | .hbm, ⟨84, _⟩ => ⟨S128x1, .f32⟩
  | .hbm, ⟨85, _⟩ => ⟨S128x1024, .f32⟩
  | .hbm, ⟨86, _⟩ => ⟨S128x1024, .f32⟩
  | .hbm, ⟨87, _⟩ => ⟨S1x1024, .f32⟩
  | .hbm, ⟨88, _⟩ => ⟨S128x1024, .f32⟩
  | .hbm, ⟨89, _⟩ => ⟨S128x1024, .f32⟩
  | .hbm, ⟨90, _⟩ => ⟨S1x1024, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S_, .f32⟩
  | .hbm, ⟨100, _⟩ => ⟨S128x1024, .f32⟩
  | .hbm, ⟨101, _⟩ => ⟨S128x1024, .f32⟩
  | .hbm, ⟨102, _⟩ => ⟨S1x128x256, .f32⟩
  | .hbm, ⟨103, _⟩ => ⟨S128x256, .f32⟩
  | .hbm, ⟨104, _⟩ => ⟨S128x1024, .f32⟩
  | .hbm, ⟨105, _⟩ => ⟨S128x1024, .f32⟩
  | .hbm, ⟨106, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Kernel8.lean ====
abbrev S16384x1024 : Shape := ⟨2, ![16384, 1024]⟩
abbrev S16384x128 : Shape := ⟨2, ![16384, 128]⟩
abbrev S4x16384x256 : Shape := ⟨3, ![4, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S512x1024 : Shape := ⟨2, ![512, 1024]⟩
abbrev S512x128 : Shape := ⟨2, ![512, 128]⟩
abbrev S1x512x256 : Shape := ⟨3, ![1, 512, 256]⟩
abbrev S512x1 : Shape := ⟨2, ![512, 1]⟩
abbrev S512x64 : Shape := ⟨2, ![512, 64]⟩
abbrev S512 : Shape := ⟨1, ![512]⟩
abbrev S1024x256 : Shape := ⟨2, ![1024, 256]⟩
abbrev S512x256 : Shape := ⟨2, ![512, 256]⟩

abbrev nBuf : Space → Nat
  | .hbm => 29
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x1024, .f32⟩
  | .hbm, ⟨7, _⟩ => ⟨S4x16384x256, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S1024x1024, .f32⟩
  | .hbm, ⟨17, _⟩ => ⟨S256x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S1024x1024, .bf16⟩
  | .hbm, ⟨27, _⟩ => ⟨S256x1024, .bf16⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S1x512x256, .f32⟩
  | .local _ .vmem, ⟨15, _⟩ => ⟨S1x512x256, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S1024x1024, .bf16⟩
  | .local _ .vmem, ⟨25, _⟩ => ⟨S256x1024, .bf16⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference8Ideal.lean ====
abbrev S16384x1024 : Shape := ⟨2, ![16384, 1024]⟩
abbrev S16384x128 : Shape := ⟨2, ![16384, 128]⟩
abbrev S4x16384x256 : Shape := ⟨3, ![4, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S16384x16 : Shape := ⟨2, ![16384, 16]⟩
abbrev S1x16384x16 : Shape := ⟨3, ![1, 16384, 16]⟩
abbrev S3x16384x16 : Shape := ⟨3, ![3, 16384, 16]⟩
abbrev S16384x16x64 : Shape := ⟨3, ![16384, 16, 64]⟩
abbrev S1x16384x16x64 : Shape := ⟨4, ![1, 16384, 16, 64]⟩
abbrev S3x16384x16x64 : Shape := ⟨4, ![3, 16384, 16, 64]⟩
abbrev S_ : Shape := ⟨0, ![]⟩
abbrev S3x16384x16x1 : Shape := ⟨4, ![3, 16384, 16, 1]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1x16384x256 : Shape := ⟨3, ![1, 16384, 256]⟩
abbrev S16384x256 : Shape := ⟨2, ![16384, 256]⟩

abbrev nBuf : Space → Nat
  | .hbm => 146
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x128, .f32⟩
  | 4 => ⟨S16384x128, .f32⟩
  | 5 => ⟨S16384x128, .f32⟩
  | 6 => ⟨S16384x1024, .f32⟩
  | 7 => ⟨S4x16384x256, .f32⟩
  | 8 => ⟨S1024x1024, .f32⟩
  | 9 => ⟨S1024, .f32⟩
  | 10 => ⟨S1024, .f32⟩
  | 11 => ⟨S1024, .f32⟩
  | 12 => ⟨S1024, .f32⟩
  | 13 => ⟨S1024x2816, .f32⟩
  | 14 => ⟨S1024x2816, .f32⟩
  | 15 => ⟨S2816x1024, .f32⟩
  | 16 => ⟨S1024x1024, .f32⟩
  | 17 => ⟨S256x1024, .f32⟩
  | 18 => ⟨S16384x16, .f32⟩
  | 19 => ⟨S16384x16, .f32⟩
  | 20 => ⟨S16384x16, .f32⟩
  | 21 => ⟨S1x16384x16, .f32⟩
  | 22 => ⟨S1x16384x16, .f32⟩
  | 23 => ⟨S1x16384x16, .f32⟩
  | 24 => ⟨S3x16384x16, .f32⟩
  | 25 => ⟨S16384x16x64, .f32⟩
  | 26 => ⟨S16384x16x64, .f32⟩
  | 27 => ⟨S16384x16x64, .f32⟩
  | 28 => ⟨S1x16384x16x64, .f32⟩
  | 29 => ⟨S1x16384x16x64, .f32⟩
  | 30 => ⟨S1x16384x16x64, .f32⟩
  | 31 => ⟨S3x16384x16x64, .f32⟩
  | 32 => ⟨S_, .f32⟩
  | 33 => ⟨S16384x16, .f32⟩
  | 34 => ⟨S_, .f32⟩
  | 35 => ⟨S16384x16, .f32⟩
  | 36 => ⟨S16384x16, .f32⟩
  | 37 => ⟨S1x16384x16, .f32⟩
  | 38 => ⟨S3x16384x16, .f32⟩
  | 39 => ⟨S3x16384x16, .f32⟩
  | 40 => ⟨S3x16384x16, .f32⟩
  | 41 => ⟨S_, .f32⟩
  | 42 => ⟨S16384x16, .f32⟩
  | 43 => ⟨S1x16384x16, .f32⟩
  | 44 => ⟨S3x16384x16, .f32⟩
  | 45 => ⟨S3x16384x16, .f32⟩
  | 46 => ⟨S3x16384x16x1, .f32⟩
  | 47 => ⟨S3x16384x16x64, .f32⟩
  | 48 => ⟨S3x16384x16x64, .f32⟩
  | 49 => ⟨S_, .f32⟩
  | 50 => ⟨S16384x16x64, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S16384x1024, .f32⟩
  | 64 => ⟨S16384x1024, .f32⟩
  | 65 => ⟨S16384x1024, .f32⟩
  | 66 => ⟨S_, .f32⟩
  | 67 => ⟨S16384, .f32⟩
  | 68 => ⟨S16384x1, .f32⟩
  | 69 => ⟨S_, .f32⟩
  | 70 => ⟨S16384x1, .f32⟩
  | 71 => ⟨S16384x1, .f32⟩
  | 72 => ⟨S16384x1024, .f32⟩
  | 73 => ⟨S16384x1024, .f32⟩
  | 74 => ⟨S_, .f32⟩
  | 75 => ⟨S16384x1, .f32⟩
  | 76 => ⟨S16384x1, .f32⟩
  | 77 => ⟨S16384x1, .f32⟩
  | 78 => ⟨S16384x1024, .f32⟩
  | 79 => ⟨S16384x1024, .f32⟩
  | 80 => ⟨S1x1024, .f32⟩
  | 81 => ⟨S16384x1024, .f32⟩
  | 82 => ⟨S16384x1024, .f32⟩
  | 83 => ⟨S1x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S16384x2816, .f32⟩
  | 90 => ⟨S16384x2816, .f32⟩
  | 91 => ⟨S16384x2816, .f32⟩
  | 92 => ⟨S_, .f32⟩
  | 93 => ⟨S16384x2816, .f32⟩
  | 94 => ⟨S16384x2816, .f32⟩
  | 95 => ⟨S_, .f32⟩
  | 96 => ⟨S16384x2816, .f32⟩
  | 97 => ⟨S16384x2816, .f32⟩
  | 98 => ⟨S16384x2816, .f32⟩
  | 99 => ⟨S16384x2816, .f32⟩
  | 100 => ⟨S16384x2816, .f32⟩
  | 101 => ⟨S16384x1024, .f32⟩
  | 102 => ⟨S16384x1024, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S16384x1024, .f32⟩
  | 110 => ⟨S16384x1024, .f32⟩
  | 111 => ⟨S16384x1024, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S16384x1024, .f32⟩
  | 119 => ⟨S16384x1024, .f32⟩
  | 120 => ⟨S_, .f32⟩
  | 121 => ⟨S16384x1, .f32⟩
  | 122 => ⟨S16384x1, .f32⟩
  | 123 => ⟨S16384x1, .f32⟩
  | 124 => ⟨S16384x1024, .f32⟩
  | 125 => ⟨S16384x1024, .f32⟩
  | 126 => ⟨S1x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S1x1024, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S1x16384x256, .f32⟩
  | 14 => ⟨S16384x256, .f32⟩
  | 15 => ⟨S16384x1024, .f32⟩
  | 16 => ⟨S16384x1024, .f32⟩
  | 17 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_cst_11 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_cst_13 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_15 : Ref sig .tc := ⟨.hbm, 135, rfl⟩
abbrev main_v93 : Ref sig .tc := ⟨.hbm, 136, rfl⟩
abbrev main_v94 : Ref sig .tc := ⟨.hbm, 137, rfl⟩
abbrev main_cst_16 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]
-- ==== Kernel9.lean ====
abbrev S4x4096x1024 : Shape := ⟨3, ![4, 4096, 1024]⟩
abbrev S1024x544 : Shape := ⟨2, ![1024, 544]⟩
abbrev S256 : Shape := ⟨1, ![256]⟩
abbrev S256x1536 : Shape := ⟨2, ![256, 1536]⟩
abbrev S256x16x64 : Shape := ⟨3, ![256, 16, 64]⟩
abbrev S2048 : Shape := ⟨1, ![2048]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S16384x1024 : Shape := ⟨2, ![16384, 1024]⟩
abbrev S1024x16 : Shape := ⟨2, ![1024, 16]⟩
abbrev S1024x64 : Shape := ⟨2, ![1024, 64]⟩
abbrev S1024x32 : Shape := ⟨2, ![1024, 32]⟩
abbrev S1024x128 : Shape := ⟨2, ![1024, 128]⟩
abbrev S1024x512 : Shape := ⟨2, ![1024, 512]⟩
abbrev S1024x768 : Shape := ⟨2, ![1024, 768]⟩
abbrev S256x16x96 : Shape := ⟨3, ![256, 16, 96]⟩
abbrev S256x16x128 : Shape := ⟨3, ![256, 16, 128]⟩
abbrev S1 : Shape := ⟨1, ![1]⟩
abbrev S256x16x16 : Shape := ⟨3, ![256, 16, 16]⟩
abbrev S256x2048 : Shape := ⟨2, ![256, 2048]⟩
abbrev S1x2048 : Shape := ⟨2, ![1, 2048]⟩
abbrev S1x256 : Shape := ⟨2, ![1, 256]⟩
abbrev S16384x2048 : Shape := ⟨2, ![16384, 2048]⟩
abbrev S16384x288 : Shape := ⟨2, ![16384, 288]⟩
abbrev S4x288x4096 : Shape := ⟨3, ![4, 288, 4096]⟩
abbrev S256x1024 : Shape := ⟨2, ![256, 1024]⟩
abbrev S256x128 : Shape := ⟨2, ![256, 128]⟩
abbrev S256x288 : Shape := ⟨2, ![256, 288]⟩
abbrev S1x288x256 : Shape := ⟨3, ![1, 288, 256]⟩
abbrev S256x768 : Shape := ⟨2, ![256, 768]⟩
abbrev S256x256 : Shape := ⟨2, ![256, 256]⟩
abbrev S256x1 : Shape := ⟨2, ![256, 1]⟩
abbrev S256x32 : Shape := ⟨2, ![256, 32]⟩
abbrev S1x256x256 : Shape := ⟨3, ![1, 256, 256]⟩
abbrev S128x256 : Shape := ⟨2, ![128, 256]⟩
abbrev S32x256 : Shape := ⟨2, ![32, 256]⟩
abbrev S1x32x256 : Shape := ⟨3, ![1, 32, 256]⟩

abbrev nBuf : Space → Nat
  | .hbm => 99
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024x544, .f32⟩
  | .hbm, ⟨2, _⟩ => ⟨S256, .f32⟩
  | .hbm, ⟨3, _⟩ => ⟨S256, .f32⟩
  | .hbm, ⟨4, _⟩ => ⟨S256x1536, .f32⟩
  | .hbm, ⟨5, _⟩ => ⟨S256x16x64, .f32⟩
  | .hbm, ⟨6, _⟩ => ⟨S256x16x64, .f32⟩
  | .hbm, ⟨7, _⟩ => ⟨S2048, .f32⟩
  | .hbm, ⟨8, _⟩ => ⟨S4096, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x64, .f32⟩
  | .hbm, ⟨27, _⟩ => ⟨S_, .f32⟩
  | .hbm, ⟨28, _⟩ => ⟨S4096x32, .f32⟩
  | .hbm, ⟨29, _⟩ => ⟨S4096x128, .f32⟩
  | .hbm, ⟨30, _⟩ => ⟨S_, .f32⟩
  | .hbm, ⟨31, _⟩ => ⟨S4096x64, .f32⟩
  | .hbm, ⟨32, _⟩ => ⟨S4096x16, .f32⟩
  | .hbm, ⟨33, _⟩ => ⟨S_, .f32⟩
  | .hbm, ⟨34, _⟩ => ⟨S4096x32, .f32⟩
  | .hbm, ⟨35, _⟩ => ⟨S4096x128, .f32⟩
  | .hbm, ⟨36, _⟩ => ⟨S16384x1024, .f32⟩
  | .hbm, ⟨37, _⟩ => ⟨S1024x16, .f32⟩
  | .hbm, ⟨38, _⟩ => ⟨S1024x16, .f32⟩
  | .hbm, ⟨39, _⟩ => ⟨S_, .f32⟩
  | .hbm, ⟨40, _⟩ => ⟨S1024x64, .f32⟩
  | .hbm, ⟨41, _⟩ => ⟨S_, .f32⟩
  | .hbm, ⟨42, _⟩ => ⟨S1024x32, .f32⟩
  | .hbm, ⟨43, _⟩ => ⟨S1024x128, .f32⟩
  | .hbm, ⟨44, _⟩ => ⟨S1024x128, .f32⟩
  | .hbm, ⟨45, _⟩ => ⟨S1024x512, .f32⟩
  | .hbm, ⟨46, _⟩ => ⟨S1024x768, .f32⟩
  | .hbm, ⟨47, _⟩ => ⟨S1024x768, .bf16⟩
  | .hbm, ⟨48, _⟩ => ⟨S256x16x96, .f32⟩
  | .hbm, ⟨49, _⟩ => ⟨S_, .f32⟩
  | .hbm, ⟨50, _⟩ => ⟨S256x16x128, .f32⟩
  | .hbm, ⟨51, _⟩ => ⟨S256x16x64, .f32⟩
  | .hbm, ⟨52, _⟩ => ⟨S_, .i32⟩
  | .hbm, ⟨53, _⟩ => ⟨S1, .i32⟩
  | .hbm, ⟨54, _⟩ => ⟨S256x16x128, .f32⟩
  | .hbm, ⟨55, _⟩ => ⟨S256x16x16, .f32⟩
  | .hbm, ⟨56, _⟩ => ⟨S_, .i32⟩
  | .hbm, ⟨57, _⟩ => ⟨S1, .i32⟩
  | .hbm, ⟨58, _⟩ => ⟨S256x16x128, .f32⟩
  | .hbm, ⟨59, _⟩ => ⟨S256x16x16, .f32⟩
  | .hbm, ⟨60, _⟩ => ⟨S_, .i32⟩
  | .hbm, ⟨61, _⟩ => ⟨S1, .i32⟩
  | .hbm, ⟨62, _⟩ => ⟨S256x16x128, .f32⟩
  | .hbm, ⟨63, _⟩ => ⟨S256x2048, .f32⟩
  | .hbm, ⟨64, _⟩ => ⟨S256x2048, .bf16⟩
  | .hbm, ⟨65, _⟩ => ⟨S_, .f32⟩
  | .hbm, ⟨66, _⟩ => ⟨S256x16x128, .f32⟩
  | .hbm, ⟨67, _⟩ => ⟨S256x16x16, .f32⟩
  | .hbm, ⟨68, _⟩ => ⟨S_, .i32⟩
  | .hbm, ⟨69, _⟩ => ⟨S1, .i32⟩
  | .hbm, ⟨70, _⟩ => ⟨S256x16x128, .f32⟩
  | .hbm, ⟨71, _⟩ => ⟨S256x16x16, .f32⟩
  | .hbm, ⟨72, _⟩ => ⟨S_, .i32⟩
  | .hbm, ⟨73, _⟩ => ⟨S1, .i32⟩
  | .hbm, ⟨74, _⟩ => ⟨S256x16x128, .f32⟩
  | .hbm, ⟨75, _⟩ => ⟨S256x2048, .f32⟩
  | .hbm, ⟨76, _⟩ => ⟨S256x2048, .bf16⟩
  | .hbm, ⟨77, _⟩ => ⟨S_, .f32⟩
  | .hbm, ⟨78, _⟩ => ⟨S256x16x128, .f32⟩
  | .hbm, ⟨79, _⟩ => ⟨S_, .i32⟩
  | .hbm, ⟨80, _⟩ => ⟨S1, .i32⟩
  | .hbm, ⟨81, _⟩ => ⟨S256x16x128, .f32⟩
  | .hbm, ⟨82, _⟩ => ⟨S256x2048, .f32⟩
  | .hbm, ⟨83, _⟩ => ⟨S256x2048, .bf16⟩
  | .hbm, ⟨84, _⟩ => ⟨S_, .f32⟩
  | .hbm, ⟨85, _⟩ => ⟨S256x16x128, .f32⟩
  | .hbm, ⟨86, _⟩ => ⟨S_, .i32⟩
  | .hbm, ⟨87, _⟩ => ⟨S1, .i32⟩
  | .hbm, ⟨88, _⟩ => ⟨S256x16x128, .f32⟩
  | .hbm, ⟨89, _⟩ => ⟨S256x2048, .f32⟩
  | .hbm, ⟨90, _⟩ => ⟨S256x2048, .bf16⟩
  | .hbm, ⟨91, _⟩ => ⟨S1x2048, .f32⟩
  | .hbm, ⟨92, _⟩ => ⟨S1x256, .f32⟩
  | .hbm, ⟨93, _⟩ => ⟨S1x256, .f32⟩
  | .hbm, ⟨94, _⟩ => ⟨S16384x2048, .bf16⟩
  | .hbm, ⟨95, _⟩ => ⟨S16384x2048, .bf16⟩
  | .hbm, ⟨96, _⟩ => ⟨S16384x2048, .bf16⟩
  | .hbm, ⟨97, _⟩ => ⟨S16384x288, .f32⟩
  | .hbm, ⟨98, _⟩ => ⟨S4x288x4096, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x768, .bf16⟩
  | .local _ .vmem, ⟨7, _⟩ => ⟨S1x256, .f32⟩
  | .local _ .vmem, ⟨8, _⟩ => ⟨S1x256, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x288, .f32⟩
  | .local _ .vmem, ⟨21, _⟩ => ⟨S256x288, .f32⟩
  | .local _ .vmem, ⟨22, _⟩ => ⟨S1x288x256, .f32⟩
  | .local _ .vmem, ⟨23, _⟩ => ⟨S1x288x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_c_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67_0 : Ref sig .tc := ⟨.hbm, 94, rfl⟩
abbrev main_v67_1 : Ref sig .tc := ⟨.hbm, 95, rfl⟩
abbrev main_v67_2 : Ref sig .tc := ⟨.hbm, 96, rfl⟩
abbrev main_v67_3 : Ref sig .tc := ⟨.hbm, 97, rfl⟩
abbrev main_v67_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x288 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x288x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference9Ideal.lean ====
abbrev S4x4096x1024 : Shape := ⟨3, ![4, 4096, 1024]⟩
abbrev S1024x544 : Shape := ⟨2, ![1024, 544]⟩
abbrev S256 : Shape := ⟨1, ![256]⟩
abbrev S256x1536 : Shape := ⟨2, ![256, 1536]⟩
abbrev S256x16x64 : Shape := ⟨3, ![256, 16, 64]⟩
abbrev S4096 : Shape := ⟨1, ![4096]⟩
abbrev S4x4096x544 : Shape := ⟨3, ![4, 4096, 544]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩
abbrev S4x4096x32 : Shape := ⟨3, ![4, 4096, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4x4096x16 : Shape := ⟨3, ![4, 4096, 16]⟩
abbrev S1x4096x16 : Shape := ⟨3, ![1, 4096, 16]⟩
abbrev S4x4096x1536 : Shape := ⟨3, ![4, 4096, 1536]⟩
abbrev S4x4096x16x96 : Shape := ⟨4, ![4, 4096, 16, 96]⟩
abbrev S4x4096x16x64 : Shape := ⟨4, ![4, 4096, 16, 64]⟩
abbrev S4x4096x16x32 : Shape := ⟨4, ![4, 4096, 16, 32]⟩
abbrev S4096x1x16 : Shape := ⟨3, ![4096, 1, 16]⟩
abbrev S4x4096x16x16 : Shape := ⟨4, ![4, 4096, 16, 16]⟩
abbrev S1x4096x1x16 : Shape := ⟨4, ![1, 4096, 1, 16]⟩
abbrev S4x4096x16x128 : Shape := ⟨4, ![4, 4096, 16, 128]⟩
abbrev S16384x2048 : Shape := ⟨2, ![16384, 2048]⟩
abbrev S4x4096x1x32 : Shape := ⟨4, ![4, 4096, 1, 32]⟩
abbrev S4x4096x16x1 : Shape := ⟨4, ![4, 4096, 16, 1]⟩
abbrev S4x4096x16x31 : Shape := ⟨4, ![4, 4096, 16, 31]⟩
abbrev S4x4096x288 : Shape := ⟨3, ![4, 4096, 288]⟩
abbrev S16384x288 : Shape := ⟨2, ![16384, 288]⟩
abbrev S4x288x4096 : Shape := ⟨3, ![4, 288, 4096]⟩

abbrev nBuf : Space → Nat
  | .hbm => 144
  | .vmem => 0
  | .smem => 0
  | _ => 0

abbrev hbmTy0_0 (i : Nat) : BufTy := match i % 128 with
  | 0 => ⟨S4x4096x1024, .f32⟩
  | 1 => ⟨S1024x544, .f32⟩
  | 2 => ⟨S256, .f32⟩
  | 3 => ⟨S256, .f32⟩
  | 4 => ⟨S256x1536, .f32⟩
  | 5 => ⟨S256x16x64, .f32⟩
  | 6 => ⟨S256x16x64, .f32⟩
  | 7 => ⟨S4096, .i32⟩
  | 8 => ⟨S4x4096x544, .f32⟩
  | 9 => ⟨S4x4096x256, .f32⟩
  | 10 => ⟨S4x4096x256, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x256, .f32⟩
  | 22 => ⟨S4x4096x256, .f32⟩
  | 23 => ⟨S1x1x256, .f32⟩
  | 24 => ⟨S4x4096x256, .f32⟩
  | 25 => ⟨S4x4096x256, .f32⟩
  | 26 => ⟨S4x4096x256, .f32⟩
  | 27 => ⟨S4x4096x256, .f32⟩
  | 28 => ⟨S_, .f32⟩
  | 29 => ⟨S4x4096, .f32⟩
  | 30 => ⟨S4x4096x1, .f32⟩
  | 31 => ⟨S_, .f32⟩
  | 32 => ⟨S4x4096x1, .f32⟩
  | 33 => ⟨S4x4096x1, .f32⟩
  | 34 => ⟨S_, .f32⟩
  | 35 => ⟨S4x4096x1, .f32⟩
  | 36 => ⟨S4x4096x1, .f32⟩
  | 37 => ⟨S4x4096x1, .f32⟩
  | 38 => ⟨S4x4096x256, .f32⟩
  | 39 => ⟨S4x4096x256, .f32⟩
  | 40 => ⟨S1x1x256, .f32⟩
  | 41 => ⟨S4x4096x256, .f32⟩
  | 42 => ⟨S4x4096x256, .f32⟩
  | 43 => ⟨S4x4096x32, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S4096, .f32⟩
  | 53 => ⟨S4096x1, .f32⟩
  | 54 => ⟨S1x16, .f32⟩
  | 55 => ⟨S4096x16, .f32⟩
  | 56 => ⟨S4096x16, .f32⟩
  | 57 => ⟨S4096x16, .f32⟩
  | 58 => ⟨S4096x16, .f32⟩
  | 59 => ⟨S4096x16, .f32⟩
  | 60 => ⟨S4x4096x16, .f32⟩
  | 61 => ⟨S4x4096x16, .f32⟩
  | 62 => ⟨S1x4096x16, .f32⟩
  | 63 => ⟨S4x4096x16, .f32⟩
  | 64 => ⟨S4x4096x16, .f32⟩
  | 65 => ⟨S1x4096x16, .f32⟩
  | 66 => ⟨S4x4096x16, .f32⟩
  | 67 => ⟨S4x4096x16, .f32⟩
  | 68 => ⟨S4x4096x16, .f32⟩
  | 69 => ⟨S1x4096x16, .f32⟩
  | 70 => ⟨S4x4096x16, .f32⟩
  | 71 => ⟨S4x4096x16, .f32⟩
  | 72 => ⟨S1x4096x16, .f32⟩
  | 73 => ⟨S4x4096x16, .f32⟩
  | 74 => ⟨S4x4096x16, .f32⟩
  | 75 => ⟨S4x4096x16, .f32⟩
  | 76 => ⟨S4x4096x32, .f32⟩
  | 77 => ⟨S4x4096x1536, .f32⟩
  | 78 => ⟨S4x4096x16x96, .f32⟩
  | 79 => ⟨S4x4096x16x64, .f32⟩
  | 80 => ⟨S4x4096x16x32, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S4096, .f32⟩
  | 90 => ⟨S4096x1, .f32⟩
  | 91 => ⟨S1x16, .f32⟩
  | 92 => ⟨S4096x16, .f32⟩
  | 93 => ⟨S4096x16, .f32⟩
  | 94 => ⟨S4096x16, .f32⟩
  | 95 => ⟨S4096x1x16, .f32⟩
  | 96 => ⟨S4096x1x16, .f32⟩
  | 97 => ⟨S4096x1x16, .f32⟩
  | 98 => ⟨S4x4096x16x16, .f32⟩
  | 99 => ⟨S4x4096x16x16, .f32⟩
  | 100 => ⟨S1x4096x1x16, .f32⟩
  | 101 => ⟨S4x4096x16x16, .f32⟩
  | 102 => ⟨S4x4096x16x16, .f32⟩
  | 103 => ⟨S1x4096x1x16, .f32⟩
  | 104 => ⟨S4x4096x16x16, .f32⟩
  | 105 => ⟨S4x4096x16x16, .f32⟩
  | 106 => ⟨S4x4096x16x16, .f32⟩
  | 107 => ⟨S1x4096x1x16, .f32⟩
  | 108 => ⟨S4x4096x16x16, .f32⟩
  | 109 => ⟨S4x4096x16x16, .f32⟩
  | 110 => ⟨S1x4096x1x16, .f32⟩
  | 111 => ⟨S4x4096x16x16, .f32⟩
  | 112 => ⟨S4x4096x16x16, .f32⟩
  | 113 => ⟨S4x4096x16x16, .f32⟩
  | 114 => ⟨S4x4096x16x32, .f32⟩
  | 115 => ⟨S_, .f32⟩
  | 116 => ⟨S4x4096x16x32, .f32⟩
  | 117 => ⟨S4x4096x16x128, .f32⟩
  | 118 => ⟨S16384x2048, .f32⟩
  | 119 => ⟨S_, .f32⟩
  | 120 => ⟨S16384x2048, .f32⟩
  | 121 => ⟨S16384x2048, .f32⟩
  | 122 => ⟨S4x4096x16x64, .f32⟩
  | 123 => ⟨S4x4096x1x32, .f32⟩
  | 124 => ⟨S4x4096x16x32, .f32⟩
  | 125 => ⟨S_, .f32⟩
  | 126 => ⟨S4x4096x16x32, .f32⟩
  | 127 => ⟨S4x4096x16x128, .f32⟩
  | _ => ⟨S4x4096x1024, .f32⟩

abbrev hbmTy0_1 (i : Nat) : BufTy := match i % 128 with
  | 0 => ⟨S16384x2048, .f32⟩
  | 1 => ⟨S4x4096x16x64, .f32⟩
  | 2 => ⟨S_, .f32⟩
  | 3 => ⟨S4x4096x16x1, .f32⟩
  | 4 => ⟨S_, .f32⟩
  | 5 => ⟨S4x4096x16x31, .f32⟩
  | 6 => ⟨S_, .f32⟩
  | 7 => ⟨S4x4096x16x32, .f32⟩
  | 8 => ⟨S4x4096x16x128, .f32⟩
  | 9 => ⟨S16384x2048, .f32⟩
  | 10 => ⟨S4x4096x288, .f32⟩
  | 11 => ⟨S16384x2048, .bf16⟩
  | 12 => ⟨S16384x2048, .bf16⟩
  | 13 => ⟨S16384x2048, .bf16⟩
  | 14 => ⟨S16384x288, .f32⟩
  | 15 => ⟨S4x288x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_9 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_10 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_cst_14 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩

abbrev nD : Nat := 1
abbrev τ : Topo := Topo.v7x

variable {F : FTy → Type} [FloatOps F]
-- ==== Kernel10.lean ====
abbrev S128x1x1024 : Shape := ⟨3, ![128, 1, 1024]⟩
abbrev S1024x1456 : Shape := ⟨2, ![1024, 1456]⟩
abbrev S1024x1024 : Shape := ⟨2, ![1024, 1024]⟩
abbrev S1024x48 : Shape := ⟨2, ![1024, 48]⟩
abbrev S1024x128 : Shape := ⟨2, ![1024, 128]⟩
abbrev S1024x256 : Shape := ⟨2, ![1024, 256]⟩
abbrev S256x1024 : Shape := ⟨2, ![256, 1024]⟩
abbrev S128x1024 : Shape := ⟨2, ![128, 1024]⟩
abbrev S128x128 : Shape := ⟨2, ![128, 128]⟩
abbrev S128x48 : Shape := ⟨2, ![128, 48]⟩
abbrev S1x256x128 : Shape := ⟨3, ![1, 256, 128]⟩
abbrev S1x128x128 : Shape := ⟨3, ![1, 128, 128]⟩
abbrev S256x128 : Shape := ⟨2, ![256, 128]⟩

abbrev nBuf : Space → Nat
  | .hbm => 23
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S1024x1456, .f32⟩
  | .hbm, ⟨2, _⟩ => ⟨S1024x1024, .f32⟩
  | .hbm, ⟨3, _⟩ => ⟨S1024x1024, .bf16⟩
  | .hbm, ⟨4, _⟩ => ⟨S1024x48, .f32⟩
  | .hbm, ⟨5, _⟩ => ⟨S1024x48, .bf16⟩
  | .hbm, ⟨6, _⟩ => ⟨S1024x128, .f32⟩
  | .hbm, ⟨7, _⟩ => ⟨S1024x128, .bf16⟩
  | .hbm, ⟨8, _⟩ => ⟨S1024x128, .f32⟩
  | .hbm, ⟨9, _⟩ => ⟨S1024x128, .bf16⟩
  | .hbm, ⟨10, _⟩ => ⟨S1024x256, .f32⟩
  | .hbm, ⟨11, _⟩ => ⟨S256x1024, .f32⟩
  | .hbm, ⟨12, _⟩ => ⟨S256x1024, .bf16⟩
  | .hbm, ⟨13, _⟩ => ⟨S1024x128, .f32⟩
  | .hbm, ⟨14, _⟩ => ⟨S128x1024, .f32⟩
  | .hbm, ⟨15, _⟩ => ⟨S128x1024, .bf16⟩
  | .hbm, ⟨16, _⟩ => ⟨S128x1024, .f32⟩
  | .hbm, ⟨17, _⟩ => ⟨S128x1024, .f32⟩
  | .hbm, ⟨18, _⟩ => ⟨S128x128, .f32⟩
  | .hbm, ⟨19, _⟩ => ⟨S128x128, .f32⟩
  | .hbm, ⟨20, _⟩ => ⟨S128x48, .f32⟩
  | .hbm, ⟨21, _⟩ => ⟨S1x256x128, .f32⟩
  | .hbm, ⟨22, _⟩ => ⟨S1x128x128, .f32⟩
  | .local _ .vmem, ⟨0, _⟩ => ⟨S128x1024, .f32⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x48, .bf16⟩
  | .local _ .vmem, ⟨5, _⟩ => ⟨S256x1024, .bf16⟩
  | .local _ .vmem, ⟨6, _⟩ => ⟨S128x1024, .bf16⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x48, .f32⟩
  | .local _ .vmem, ⟨11, _⟩ => ⟨S1x256x128, .f32⟩
  | .local _ .vmem, ⟨12, _⟩ => ⟨S1x128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v15_2 : Ref sig .tc := ⟨.hbm, 19, rfl⟩
abbrev main_v15_3 : Ref sig .tc := ⟨.hbm, 20, rfl⟩
abbrev main_v15_4 : Ref sig .tc := ⟨.hbm, 21, rfl⟩
abbrev main_v15_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference10Ideal.lean ====
abbrev S128x1x1024 : Shape := ⟨3, ![128, 1, 1024]⟩
abbrev S1024x1456 : Shape := ⟨2, ![1024, 1456]⟩
abbrev S128x1x1456 : Shape := ⟨3, ![128, 1, 1456]⟩
abbrev S128x1456 : Shape := ⟨2, ![128, 1456]⟩
abbrev S128x1024 : Shape := ⟨2, ![128, 1024]⟩
abbrev S128x128 : Shape := ⟨2, ![128, 128]⟩
abbrev S128x48 : Shape := ⟨2, ![128, 48]⟩
abbrev S128x256 : Shape := ⟨2, ![128, 256]⟩
abbrev S256x128 : Shape := ⟨2, ![256, 128]⟩
abbrev S1x256x128 : Shape := ⟨3, ![1, 256, 128]⟩
abbrev S1x128x128 : Shape := ⟨3, ![1, 128, 128]⟩

abbrev nBuf : Space → Nat
  | .hbm => 14
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x1456, .f32⟩
  | .hbm, ⟨2, _⟩ => ⟨S128x1x1456, .f32⟩
  | .hbm, ⟨3, _⟩ => ⟨S128x1456, .f32⟩
  | .hbm, ⟨4, _⟩ => ⟨S128x1024, .f32⟩
  | .hbm, ⟨5, _⟩ => ⟨S128x128, .f32⟩
  | .hbm, ⟨6, _⟩ => ⟨S128x128, .f32⟩
  | .hbm, ⟨7, _⟩ => ⟨S128x48, .f32⟩
  | .hbm, ⟨8, _⟩ => ⟨S128x256, .f32⟩
  | .hbm, ⟨9, _⟩ => ⟨S256x128, .f32⟩
  | .hbm, ⟨10, _⟩ => ⟨S1x256x128, .f32⟩
  | .hbm, ⟨11, _⟩ => ⟨S128x128, .f32⟩
  | .hbm, ⟨12, _⟩ => ⟨S128x128, .f32⟩
  | .hbm, ⟨13, _⟩ => ⟨S1x128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel11.lean ====
abbrev S128x1x1024 : Shape := ⟨3, ![128, 1, 1024]⟩
abbrev S1024x1536 : Shape := ⟨2, ![1024, 1536]⟩
abbrev S128x1024 : Shape := ⟨2, ![128, 1024]⟩
abbrev S1024x1024 : Shape := ⟨2, ![1024, 1024]⟩
abbrev S1024x512 : Shape := ⟨2, ![1024, 512]⟩
abbrev S512x1024 : Shape := ⟨2, ![512, 1024]⟩
abbrev S1x512x128 : Shape := ⟨3, ![1, 512, 128]⟩
abbrev S512x128 : Shape := ⟨2, ![512, 128]⟩

abbrev nBuf : Space → Nat
  | .hbm => 10
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1024x1536, .f32⟩
  | .hbm, ⟨2, _⟩ => ⟨S128x1024, .f32⟩
  | .hbm, ⟨3, _⟩ => ⟨S1024x1024, .f32⟩
  | .hbm, ⟨4, _⟩ => ⟨S1024x1024, .bf16⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S128x1024, .f32⟩
  | .hbm, ⟨9, _⟩ => ⟨S1x512x128, .f32⟩
  | .local _ .vmem, ⟨0, _⟩ => ⟨S128x1024, .f32⟩
  | .local _ .vmem, ⟨1, _⟩ => ⟨S1024x1024, .bf16⟩
  | .local _ .vmem, ⟨2, _⟩ => ⟨S512x1024, .bf16⟩
  | .local _ .vmem, ⟨3, _⟩ => ⟨S128x1024, .f32⟩
  | .local _ .vmem, ⟨4, _⟩ => ⟨S1x512x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference11Ideal.lean ====
abbrev S128x1x1024 : Shape := ⟨3, ![128, 1, 1024]⟩
abbrev S1024x1536 : Shape := ⟨2, ![1024, 1536]⟩
abbrev S128x1x1536 : Shape := ⟨3, ![128, 1, 1536]⟩
abbrev S128x1536 : Shape := ⟨2, ![128, 1536]⟩
abbrev S128x1024 : Shape := ⟨2, ![128, 1024]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 8
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x1536, .f32⟩
  | .hbm, ⟨2, _⟩ => ⟨S128x1x1536, .f32⟩
  | .hbm, ⟨3, _⟩ => ⟨S128x1536, .f32⟩
  | .hbm, ⟨4, _⟩ => ⟨S128x1024, .f32⟩
  | .hbm, ⟨5, _⟩ => ⟨S128x512, .f32⟩
  | .hbm, ⟨6, _⟩ => ⟨S512x128, .f32⟩
  | .hbm, ⟨7, _⟩ => ⟨S1x512x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Attn.Pay.lean ====
/- What one trip of the causal-attention loop computes for one head, read at an index: the scores of a query row against
   the trip's 1024 keys, the running maximum after the trip, and the running weighted sum after the trip. -/
module

public import proofs.«01_k».proof.Proof.Gen.KernelIdeal.Loops
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Cert.KernelIdeal.Gen

/-- The mask constant is the bottom of the extended reals. -/
theorem mask_bot : Named.named (F := Ideal) κ "mask" (φ := .f32) 0xF149F2CA#32 = (⊥ : EReal) :=
  IdealRules.named_const.ideal_named_scalar κ "mask" (φ := .f32) 0xF149F2CA#32 ⊥ rfl

/-- The floor of the running maximum is the bottom of the extended reals. -/
theorem floor_bot : Named.named (F := Ideal) κ "floor" (φ := .f32) 0xEFA18F08#32 = (⊥ : EReal) :=
  IdealRules.named_const.ideal_named_scalar κ "floor" (φ := .f32) 0xEFA18F08#32 ⊥ rfl

/-- The initial value of a maximum reduction is the bottom of the extended reals. -/
theorem ninf_bot : Ideal.ofBits .f32 0xFF800000#32 = (⊥ : EReal) := by
  simp [Ideal.ofBits, Ideal.ieee]

/-- A maximum folded from the bottom is the supremum. -/
theorem fold_sup {n : ℕ} (f : Fin n → EReal) : Finset.fold max (⊥ : EReal) f Finset.univ = Finset.univ.sup f := rfl

/-- The score of a query row `q` against key `j`: the inner product over the 128 lanes, plus the mask. -/
def sc (q : Fin 128 → EReal) (k : Fin 1024 → Fin 128 → EReal) (b : Fin 1024 → EReal) (j : Fin 1024) : EReal :=
  (∑ l : Fin 128, q l * k j l) + b j

/-- The running maximum after the trip, from the maximum `M` before it. -/
def mx (M : EReal) (q : Fin 128 → EReal) (k : Fin 1024 → Fin 128 → EReal) (b : Fin 1024 → EReal) : EReal :=
  max M (Finset.univ.sup fun j => sc q k b j)

/-- One lane of the running weighted sum after the trip, from the maximum `M` and the sum `A` before it. -/
def ac (M A : EReal) (q : Fin 128 → EReal) (k : Fin 1024 → Fin 128 → EReal) (b v : Fin 1024 → EReal) : EReal :=
  Ideal.exp (M - mx M q k b) * A + ∑ j : Fin 1024, Ideal.exp (sc q k b j - mx M q k b) * v j

/-- Row `r` of a loaded query tile. -/
abbrev row {n : ℕ} (q : Vec Ideal ⟨3, ![1, n, 128]⟩ .bf16) (r : Fin n) (l : Fin 128) : EReal := q (ix3 0 r l)

section
variable (i : grid0.Coords) (v0 : BitVec 32) (v9 v10 : IVec S256x1024 32) (c0 c1 : BitVec 32)
  (t : Fin (k0_t1_loop i).trips)
variable (b : Vec Ideal S256x1024 .f32) (m : Vec Ideal S256x1 .f32) (a : Vec Ideal S256x128 .f32)
  (q : Vec Ideal S1x256x128 .bf16) (k v : Vec Ideal S1x1024x128 .bf16)

/-- First head: the new maximum. -/
theorem raw0_at (r : Fin 256) : k0_pay4 (F := Ideal) i v0 v9 v10 c0 c1 t m q k (ix2 r 0)
    = mx (m (ix2 r 0)) (row q r) (row k) (fun j => k0_pay2 (F := Ideal) i v0 v9 v10 c0 c1 t (ix2 r j)) := by
  unfold k0_pay4 k0_pay3 mx sc row
  pointwise
  rw [ninf_bot, fold_sup]

/-- First head: the maximum stored. -/
theorem max0_at (r : Fin 256) : k0_pay40 (F := Ideal) (k0_pay4 i v0 v9 v10 c0 c1 t m q k) (ix2 r 0)
    = mx (m (ix2 r 0)) (row q r) (row k) (fun j => k0_pay2 (F := Ideal) i v0 v9 v10 c0 c1 t (ix2 r j)) := by
  unfold k0_pay40
  pointwise
  exact raw0_at i v0 v9 v10 c0 c1 t m q k r

/-- First head: the sum stored. -/
theorem acc0_at (r : Fin 256) (l : Fin 128) : k0_pay41 (F := Ideal) (k0_pay6 m a (k0_pay4 i v0 v9 v10 c0 c1 t m q k)
      (k0_pay5 i v0 v9 v10 c0 c1 t m q k) v) (ix2 r l)
    = ac (m (ix2 r 0)) (a (ix2 r l)) (row q r) (row k) (fun j => k0_pay2 (F := Ideal) i v0 v9 v10 c0 c1 t (ix2 r j)) (fun j => row v j l) := by
  have hm := raw0_at i v0 v9 v10 c0 c1 t m q k r
  unfold k0_pay41 k0_pay6 k0_pay5 k0_pay3 ac row
  pointwise
  rw [hm, floor_bot]
  simp only [max_bot_right, sc, row]

/-- Second head: the new maximum. -/
theorem raw1_at (r : Fin 256) : k0_pay8 (F := Ideal) b m q k (ix2 r 0)
    = mx (m (ix2 r 0)) (row q r) (row k) (fun j => b (ix2 r j)) := by
  unfold k0_pay8 k0_pay7 mx sc row
  pointwise
  rw [ninf_bot, fold_sup]

/-- Second head: the maximum stored. -/
theorem max1_at (r : Fin 256) : k0_pay42 (F := Ideal) (k0_pay8 b m q k) (ix2 r 0)
    = mx (m (ix2 r 0)) (row q r) (row k) (fun j => b (ix2 r j)) := by
  unfold k0_pay42
  pointwise
  exact raw1_at b m q k r

/-- Second head: the sum stored. -/
theorem acc1_at (r : Fin 256) (l : Fin 128) : k0_pay43 (F := Ideal) (k0_pay9 b m a q k v) (ix2 r l)
    = ac (m (ix2 r 0)) (a (ix2 r l)) (row q r) (row k) (fun j => b (ix2 r j)) (fun j => row v j l) := by
  have hm := raw1_at b m q k r
  unfold k0_pay43 k0_pay9 k0_pay7 ac row
  pointwise
  rw [hm, floor_bot]
  simp only [max_bot_right, sc, row]

/-- Third head: the new maximum. -/
theorem raw2_at (r : Fin 256) : k0_pay13 (F := Ideal) b m (k0_pay10 q) (k0_pay11 k) (ix2 r 0)
    = mx (m (ix2 r 0)) (row q r) (row k) (fun j => b (ix2 r j)) := by
  unfold k0_pay13 k0_pay12 k0_pay11 k0_pay10 mx sc row
  pointwise
  rw [ninf_bot, fold_sup]

/-- Third head: the maximum stored. -/
theorem max2_at (r : Fin 256) : k0_pay44 (F := Ideal) (k0_pay13 b m (k0_pay10 q) (k0_pay11 k)) (ix2 r 0)
    = mx (m (ix2 r 0)) (row q r) (row k) (fun j => b (ix2 r j)) := by
  unfold k0_pay44
  pointwise
  exact raw2_at b m q k r

/-- Third head: the sum stored. -/
theorem acc2_at (r : Fin 256) (l : Fin 128) : k0_pay45 (F := Ideal) (k0_pay14 b m a (k0_pay10 q) (k0_pay11 k) v) (ix2 r l)
    = ac (m (ix2 r 0)) (a (ix2 r l)) (row q r) (row k) (fun j => b (ix2 r j)) (fun j => row v j l) := by
  have hm := raw2_at b m q k r
  unfold k0_pay45 k0_pay14 k0_pay12 ac row
  pointwise
  rw [hm, floor_bot]
  unfold k0_pay10 k0_pay11
  simp only [max_bot_right, sc, row]
  pointwise

/-- Fourth head: the new maximum. -/
theorem raw3_at (r : Fin 256) : k0_pay16 (F := Ideal) b m q k (ix2 r 0)
    = mx (m (ix2 r 0)) (row q r) (row k) (fun j => b (ix2 r j)) := by
  unfold k0_pay16 k0_pay15 mx sc row
  pointwise
  rw [ninf_bot, fold_sup]

/-- Fourth head: the maximum stored. -/
theorem max3_at (r : Fin 256) : k0_pay46 (F := Ideal) (k0_pay16 b m q k) (ix2 r 0)
    = mx (m (ix2 r 0)) (row q r) (row k) (fun j => b (ix2 r j)) := by
  unfold k0_pay46
  pointwise
  exact raw3_at b m q k r

/-- Fourth head: the sum stored. -/
theorem acc3_at (r : Fin 256) (l : Fin 128) : k0_pay47 (F := Ideal) (k0_pay17 b m a q k) (k0_pay18 b m q k) (k0_pay19 v) (constant S256x128 .f32 0x00000000#32) (ix2 r l)
    = ac (m (ix2 r 0)) (a (ix2 r l)) (row q r) (row k) (fun j => b (ix2 r j)) (fun j => row v j l) := by
  have hm := raw3_at b m q k r
  unfold k0_pay47 k0_pay17 k0_pay18 k0_pay19 k0_pay15 ac row
  pointwise
  rw [hm, floor_bot]
  simp only [max_bot_right, sc, row]

end

/-- The mask at row `r`, key `j` of trip `t`: nothing where the key is at or before the query, the bottom elsewhere. -/
theorem mask_at (i : grid0.Coords) (v0 : BitVec 32) (v9 v10 : IVec S256x1024 32) (t : Fin (k0_t1_loop i).trips)
    (q0 : ℕ) (hv0 : v0 = BitVec.ofNat 32 q0) (hq0 : q0 ≤ 4096) (ht : t.val < 4)
    (h9 : ∀ (r : Fin 256) (j : Fin 1024), v9 (ix2 r j) = BitVec.ofNat 32 r.val)
    (h10 : ∀ (r : Fin 256) (j : Fin 1024), v10 (ix2 r j) = BitVec.ofNat 32 j.val) (r : Fin 256) (j : Fin 1024) :
    k0_pay2 (F := Ideal) i v0 v9 v10 0#32 1#32 t (ix2 r j)
      = if 1024 * t.val + j.val ≤ q0 + r.val then (0 : EReal) else ⊥ := by
  unfold k0_pay2
  pointwise
  rw [mask_bot, h9, h10, hv0]
  have e1 : IntOp.addi (BitVec.ofNat 32 q0) (BitVec.ofNat 32 r.val) = BitVec.ofNat 32 (q0 + r.val) := by
    simp [IntOp.addi, BitVec.ofNat_add]
  have e2 : IntOp.addi (Scalar.muli (Scf.iv 0#32 1#32 t.val) 1024#32) (BitVec.ofNat 32 j.val)
      = BitVec.ofNat 32 (1024 * t.val + j.val) := by
    simp only [IntOp.addi, Scalar.muli, Scf.iv, IntOp.muli, BitVec.zero_add, BitVec.mul_one]
    rw [BitVec.ofNat_add, BitVec.ofNat_mul, BitVec.mul_comm]
  have hr := r.isLt
  have hj := j.isLt
  rw [e1, e2]
  by_cases h : 1024 * t.val + j.val ≤ q0 + r.val
  · rw [if_pos h, (WordCmp.cmpi_sge_ofNat_eq_one_iff (by omega) (by omega)).mpr h]
    rfl
  · rw [if_neg h, (WordCmp.cmpi_sge_ofNat_eq_zero_iff (by omega) (by omega)).mpr (by omega)]
    rfl

end Cert.KernelIdeal.Attn

end
-- ==== Proof.Attn.Trip.lean ====
/- One trip of the causal-attention loop as a step on the two scratch buffers: what the running maximum and the running
   weighted sum of a head and a query row are after the trip, from what they were before it. -/
module

public import proofs.«01_k».proof.Proof.Attn.Pay
public import Idealize.ShloMosaic.Lib.WritesUnit
public import Idealize.ShloMosaic.Lib.Pipeline.Value
public import Idealize.ShloMosaic.Lib.Pipeline.ValueKit

@[expose] public section

set_option maxRecDepth 16384

noncomputable section

namespace Cert.KernelIdeal.Attn

open Idealize.ShloMosaic Idealize.ShloMosaic.TcCoe Cert.KernelIdeal.Gen

/-- A load through a rectangle of unit strides reads the view at the index moved by the rectangle's offsets. -/
theorem ld_at {κ : Kind} {sp : Space} {S : Shape} {e : EltTy} (v : View sig κ sp S e) (f : v.ty.Contents (Elt Ideal))
    (off size : Fin S.rank → ℕ) (inb) (x : (Rect.unit off size inb).shape.Idx) (y : S.Idx)
    (hy : ∀ a, (y a : ℕ) = off a + x a) :
    View.readAt (Elt Ideal) v (Rect.unit off size inb).toLoadRect f x = v.read (Elt Ideal) f y :=
  congrArg (v.read (Elt Ideal) f) (funext fun a => Fin.ext ((Rect.idx_unit_val off size inb x a).trans (hy a).symm))

/-- The query row `r` of head `h` of a query block. -/
def qrow (x0 : Vec Ideal S1x256x512 .bf16) (h : Fin 4) (r : Fin 256) (l : Fin 128) : EReal :=
  x0 (ix3 0 r ⟨128 * h.val + l.val, by omega⟩)

/-- The key (or value) row `n` of head `h` of a key block, for `n` under 4096; nothing past it. -/
def krow (x : Vec Ideal S1x4096x512 .bf16) (h : Fin 4) (n : ℕ) (l : Fin 128) : EReal :=
  if hn : n < 4096 then x (ix3 0 ⟨n, hn⟩ ⟨128 * h.val + l.val, by omega⟩) else 0

/-- A load of a head's lanes of the query block is that head's query rows. -/
theorem q_ld (arg3 : Memref sig .tc .vmem S1x256x512 .bf16) (harg3 : arg3.IsWhole) (x0 : Vec Ideal S1x256x512 .bf16)
    (off : Fin 3 → ℕ) (inb) (h : Fin 4) (hoff : off = ![0, 0, 128 * h.val]) (r : Fin 256) :
    row (View.readAt (Elt Ideal) arg3.view (Rect.unit (s := S1x256x512) off S1x256x128.size inb).toLoadRect (harg3.unread x0)) r
      = qrow x0 h r := by
  subst hoff
  funext l
  unfold row qrow
  rw [ld_at arg3.view (harg3.unread x0) _ _ inb _ (ix3 0 r ⟨128 * h.val + l.val, by omega⟩), harg3.read_unread]
  intro a
  fin_cases a
  · rfl
  · exact (Nat.zero_add _).symm
  · rfl

/-- A load of a trip's 1024 rows of a head's lanes of the key (or value) block is that head's rows from `1024 n` on. -/
theorem k_ld (arg : Memref sig .tc .vmem S1x4096x512 .bf16) (harg : arg.IsWhole) (x : Vec Ideal S1x4096x512 .bf16)
    (off : Fin 3 → ℕ) (inb) (n : ℕ) (hn : n < 4) (h : Fin 4) (hoff : off = ![0, 1024 * n, 128 * h.val]) (j : Fin 1024) :
    row (View.readAt (Elt Ideal) arg.view (Rect.unit (s := S1x4096x512) off S1x1024x128.size inb).toLoadRect (harg.unread x)) j
      = krow x h (1024 * n + j.val) := by
  subst hoff
  funext l
  have hj := j.isLt
  have hlt : 1024 * n + j.val < 4096 := by omega
  unfold row krow
  rw [dif_pos hlt, ld_at arg.view (harg.unread x) _ _ inb _ (ix3 0 ⟨1024 * n + j.val, hlt⟩ ⟨128 * h.val + l.val, by omega⟩),
    harg.read_unread]
  intro a
  fin_cases a
  · rfl
  · rfl
  · rfl

/-- A load of a head's rows of the running maximum. -/
theorem m_ld (arg7 : Memref sig .tc .vmem S1024x1 .f32) (f7 : BufTy.Contents (Elt Ideal) arg7.view.ty)
    (off : Fin 2 → ℕ) (inb) (h : Fin 4) (hoff : off = ![256 * h.val, 0]) (r : Fin 256) :
    View.readAt (Elt Ideal) arg7.view (Rect.unit (s := S1024x1) off S256x1.size inb).toLoadRect f7 (ix2 r (0 : Fin 1))
      = arg7.view.read (Elt Ideal) f7 (ix2 (⟨256 * h.val + r.val, by omega⟩ : Fin 1024) (0 : Fin 1)) := by
  subst hoff
  refine ld_at _ _ _ _ inb _ _ fun a => ?_
  fin_cases a <;> rfl

/-- A load of a head's rows of the running weighted sum. -/
theorem a_ld (arg8 : Memref sig .tc .vmem S1024x128 .f32) (f8 : BufTy.Contents (Elt Ideal) arg8.view.ty)
    (off : Fin 2 → ℕ) (inb) (h : Fin 4) (hoff : off = ![256 * h.val, 0]) (r : Fin 256) (l : Fin 128) :
    View.readAt (Elt Ideal) arg8.view (Rect.unit (s := S1024x128) off S256x128.size inb).toLoadRect f8 (ix2 r l)
      = arg8.view.read (Elt Ideal) f8 (ix2 (⟨256 * h.val + r.val, by omega⟩ : Fin 1024) l) := by
  subst hoff
  refine ld_at _ _ _ _ inb _ _ fun a => ?_
  fin_cases a
  · rfl
  · exact (Nat.zero_add _).symm

variable (𝒱 : Variants) (c : Dev nD) (bd : Option 𝒱.V) (i : grid0.Coords)
  (arg3 : Memref sig .tc .vmem S1x256x512 .bf16) (harg3 : arg3.IsWhole)
  (arg4 : Memref sig .tc .vmem S1x4096x512 .bf16) (harg4 : arg4.IsWhole)
  (arg5 : Memref sig .tc .vmem S1x4096x512 .bf16) (harg5 : arg5.IsWhole)
  (arg6 : Memref sig .tc .vmem S1x256x256 .f32) (harg6 : arg6.IsWhole)
  (arg7 : Memref sig .tc .vmem S1024x1 .f32) (harg7 : arg7.IsWhole)
  (arg8 : Memref sig .tc .vmem S1024x128 .f32) (harg8 : arg8.IsWhole)
  (v0 : BitVec 32) (v9 v10 : IVec S256x1024 32) (v34 : BitVec 32)
  (x0 : Vec Ideal S1x256x512 .bf16) (x1 x2 : Vec Ideal S1x4096x512 .bf16)
  (t : Fin (k0_t1_loop i).trips) (f7 : BufTy.Contents (Elt Ideal) arg7.view.ty) (f8 : BufTy.Contents (Elt Ideal) arg8.view.ty)

/-- The trip's mask over a query row. -/
abbrev msk (r : Fin 256) (j : Fin 1024) : EReal := k0_pay2 (F := Ideal) i v0 v9 v10 0#32 1#32 t (ix2 r j)

/-- The first head's maximum after the trip. -/
theorem trip_max0 (r : Fin 256) :
    arg7.view.read (Elt Ideal) (arg7.view.writes (Elt Ideal) f7
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).1) (ix2 (⟨256 * (0 : Fin 4).val + r.val, by omega⟩ : Fin 1024) (0 : Fin 1))
      = mx (arg7.view.read (Elt Ideal) f7 (ix2 (⟨256 * (0 : Fin 4).val + r.val, by omega⟩ : Fin 1024) (0 : Fin 1)))
          (qrow x0 0 r) (fun j => krow x1 0 (1024 * t.val + j.val)) (msk i v0 v9 v10 t r) := by
  have ht : t.val < 4 := Nat.lt_of_lt_of_le t.isLt (k0_t1_abs i).2.1
  have hr := r.isLt
  unfold tripL_k0_t1 trip_k0_t1
  dsimp only
  sl_unfold_words
  refine (View.read_writes_cons_rows_of_not_mem (o := 768) (W := 256) _ _ _ _ _ _ rfl rfl (by left; show 0 + r.val < 768; omega)).trans ?_
  refine (View.read_writes_cons_rows_of_not_mem (o := 512) (W := 256) _ _ _ _ _ _ rfl rfl (by left; show 0 + r.val < 512; omega)).trans ?_
  refine (View.read_writes_cons_rows_of_not_mem (o := 256) (W := 256) _ _ _ _ _ _ rfl rfl (by left; show 0 + r.val < 256; omega)).trans ?_
  refine (View.read_writes_cons_rows_of_mem (o := 0) _ _ _ _ _ _ (ix2 r (0 : Fin 1)) rfl ?_ ?_).trans ?_
  · rfl
  · rfl
  refine (max0_at i v0 v9 v10 0#32 1#32 t _ _ _ r).trans ?_
  congr 1
  · exact m_ld arg7 f7 _ _ 0 rfl r
  · exact q_ld arg3 harg3 x0 _ _ 0 rfl r
  · funext j
    exact k_ld arg4 harg4 x1 _ _ t.val ht 0 (k0_off1_eq i t) j

/-- The first head's weighted sum after the trip. -/
theorem trip_acc0 (r : Fin 256) (l : Fin 128) :
    arg8.view.read (Elt Ideal) (arg8.view.writes (Elt Ideal) f8
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).2) (ix2 (⟨256 * (0 : Fin 4).val + r.val, by omega⟩ : Fin 1024) l)
      = ac (arg7.view.read (Elt Ideal) f7 (ix2 (⟨256 * (0 : Fin 4).val + r.val, by omega⟩ : Fin 1024) (0 : Fin 1)))
          (arg8.view.read (Elt Ideal) f8 (ix2 (⟨256 * (0 : Fin 4).val + r.val, by omega⟩ : Fin 1024) l))
          (qrow x0 0 r) (fun j => krow x1 0 (1024 * t.val + j.val)) (msk i v0 v9 v10 t r)
          (fun j => krow x2 0 (1024 * t.val + j.val) l) := by
  have ht : t.val < 4 := Nat.lt_of_lt_of_le t.isLt (k0_t1_abs i).2.1
  have hr := r.isLt
  unfold tripL_k0_t1 trip_k0_t1
  dsimp only
  sl_unfold_words
  refine (View.read_writes_cons_rows_of_not_mem (o := 768) (W := 256) _ _ _ _ _ _ rfl rfl (by left; show 0 + r.val < 768; omega)).trans ?_
  refine (View.read_writes_cons_rows_of_not_mem (o := 512) (W := 256) _ _ _ _ _ _ rfl rfl (by left; show 0 + r.val < 512; omega)).trans ?_
  refine (View.read_writes_cons_rows_of_not_mem (o := 256) (W := 256) _ _ _ _ _ _ rfl rfl (by left; show 0 + r.val < 256; omega)).trans ?_
  refine (View.read_writes_cons_rows_of_mem (o := 0) _ _ _ _ _ _ (ix2 r l) rfl ?_ ?_).trans ?_
  · rfl
  · rfl
  refine (acc0_at i v0 v9 v10 0#32 1#32 t _ _ _ _ _ r l).trans ?_
  congr 1
  · exact m_ld arg7 f7 _ _ 0 rfl r
  · exact a_ld arg8 f8 _ _ 0 rfl r l
  · exact q_ld arg3 harg3 x0 _ _ 0 rfl r
  · funext j
    exact k_ld arg4 harg4 x1 _ _ t.val ht 0 (k0_off1_eq i t) j
  · funext j
    exact congrFun (k_ld arg5 harg5 x2 _ _ t.val ht 0 (k0_off1_eq i t) j) l

/-- The second head's maximum after the trip. -/
theorem trip_max1 (r : Fin 256) :
    arg7.view.read (Elt Ideal) (arg7.view.writes (Elt Ideal) f7
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).1) (ix2 (⟨256 * (1 : Fin 4).val + r.val, by omega⟩ : Fin 1024) (0 : Fin 1))
      = mx (arg7.view.read (Elt Ideal) f7 (ix2 (⟨256 * (1 : Fin 4).val + r.val, by omega⟩ : Fin 1024) (0 : Fin 1)))
          (qrow x0 1 r) (fun j => krow x1 1 (1024 * t.val + j.val)) (msk i v0 v9 v10 t r) := by
  have ht : t.val < 4 := Nat.lt_of_lt_of_le t.isLt (k0_t1_abs i).2.1
  have hr := r.isLt
  unfold tripL_k0_t1 trip_k0_t1
  dsimp only
  sl_unfold_words
  refine (View.read_writes_cons_rows_of_not_mem (o := 768) (W := 256) _ _ _ _ _ _ rfl rfl (by left; show 256 + r.val < 768; omega)).trans ?_
  refine (View.read_writes_cons_rows_of_not_mem (o := 512) (W := 256) _ _ _ _ _ _ rfl rfl (by left; show 256 + r.val < 512; omega)).trans ?_
  refine (View.read_writes_cons_rows_of_mem (o := 256) _ _ _ _ _ _ (ix2 r (0 : Fin 1)) rfl ?_ ?_).trans ?_
  · rfl
  · rfl
  refine (max1_at (k0_pay2 (F := Ideal) i v0 v9 v10 0#32 1#32 t) _ _ _ r).trans ?_
  congr 1
  · exact m_ld arg7 f7 _ _ 1 rfl r
  · exact q_ld arg3 harg3 x0 _ _ 1 rfl r
  · funext j
    exact k_ld arg4 harg4 x1 _ _ t.val ht 1 (k0_off2_eq i t) j

/-- The second head's weighted sum after the trip. -/
theorem trip_acc1 (r : Fin 256) (l : Fin 128) :
    arg8.view.read (Elt Ideal) (arg8.view.writes (Elt Ideal) f8
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).2) (ix2 (⟨256 * (1 : Fin 4).val + r.val, by omega⟩ : Fin 1024) l)
      = ac (arg7.view.read (Elt Ideal) f7 (ix2 (⟨256 * (1 : Fin 4).val + r.val, by omega⟩ : Fin 1024) (0 : Fin 1)))
          (arg8.view.read (Elt Ideal) f8 (ix2 (⟨256 * (1 : Fin 4).val + r.val, by omega⟩ : Fin 1024) l))
          (qrow x0 1 r) (fun j => krow x1 1 (1024 * t.val + j.val)) (msk i v0 v9 v10 t r)
          (fun j => krow x2 1 (1024 * t.val + j.val) l) := by
  have ht : t.val < 4 := Nat.lt_of_lt_of_le t.isLt (k0_t1_abs i).2.1
  have hr := r.isLt
  unfold tripL_k0_t1 trip_k0_t1
  dsimp only
  sl_unfold_words
  refine (View.read_writes_cons_rows_of_not_mem (o := 768) (W := 256) _ _ _ _ _ _ rfl rfl (by left; show 256 + r.val < 768; omega)).trans ?_
  refine (View.read_writes_cons_rows_of_not_mem (o := 512) (W := 256) _ _ _ _ _ _ rfl rfl (by left; show 256 + r.val < 512; omega)).trans ?_
  refine (View.read_writes_cons_rows_of_mem (o := 256) _ _ _ _ _ _ (ix2 r l) rfl ?_ ?_).trans ?_
  · rfl
  · rfl
  refine (acc1_at (k0_pay2 (F := Ideal) i v0 v9 v10 0#32 1#32 t) _ _ _ _ _ r l).trans ?_
  congr 1
  · exact m_ld arg7 f7 _ _ 1 rfl r
  · exact a_ld arg8 f8 _ _ 1 rfl r l
  · exact q_ld arg3 harg3 x0 _ _ 1 rfl r
  · funext j
    exact k_ld arg4 harg4 x1 _ _ t.val ht 1 (k0_off2_eq i t) j
  · funext j
    exact congrFun (k_ld arg5 harg5 x2 _ _ t.val ht 1 (k0_off2_eq i t) j) l

/-- The third head's maximum after the trip. -/
theorem trip_max2 (r : Fin 256) :
    arg7.view.read (Elt Ideal) (arg7.view.writes (Elt Ideal) f7
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).1) (ix2 (⟨256 * (2 : Fin 4).val + r.val, by omega⟩ : Fin 1024) (0 : Fin 1))
      = mx (arg7.view.read (Elt Ideal) f7 (ix2 (⟨256 * (2 : Fin 4).val + r.val, by omega⟩ : Fin 1024) (0 : Fin 1)))
          (qrow x0 2 r) (fun j => krow x1 2 (1024 * t.val + j.val)) (msk i v0 v9 v10 t r) := by
  have ht : t.val < 4 := Nat.lt_of_lt_of_le t.isLt (k0_t1_abs i).2.1
  have hr := r.isLt
  unfold tripL_k0_t1 trip_k0_t1
  dsimp only
  sl_unfold_words
  refine (View.read_writes_cons_rows_of_not_mem (o := 768) (W := 256) _ _ _ _ _ _ rfl rfl (by left; show 512 + r.val < 768; omega)).trans ?_
  refine (View.read_writes_cons_rows_of_mem (o := 512) _ _ _ _ _ _ (ix2 r (0 : Fin 1)) rfl ?_ ?_).trans ?_
  · rfl
  · rfl
  refine (max2_at (k0_pay2 (F := Ideal) i v0 v9 v10 0#32 1#32 t) _ _ _ r).trans ?_
  congr 1
  · exact m_ld arg7 f7 _ _ 2 rfl r
  · exact q_ld arg3 harg3 x0 _ _ 2 rfl r
  · funext j
    exact k_ld arg4 harg4 x1 _ _ t.val ht 2 (k0_off3_eq i t) j

/-- The third head's weighted sum after the trip. -/
theorem trip_acc2 (r : Fin 256) (l : Fin 128) :
    arg8.view.read (Elt Ideal) (arg8.view.writes (Elt Ideal) f8
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).2) (ix2 (⟨256 * (2 : Fin 4).val + r.val, by omega⟩ : Fin 1024) l)
      = ac (arg7.view.read (Elt Ideal) f7 (ix2 (⟨256 * (2 : Fin 4).val + r.val, by omega⟩ : Fin 1024) (0 : Fin 1)))
          (arg8.view.read (Elt Ideal) f8 (ix2 (⟨256 * (2 : Fin 4).val + r.val, by omega⟩ : Fin 1024) l))
          (qrow x0 2 r) (fun j => krow x1 2 (1024 * t.val + j.val)) (msk i v0 v9 v10 t r)
          (fun j => krow x2 2 (1024 * t.val + j.val) l) := by
  have ht : t.val < 4 := Nat.lt_of_lt_of_le t.isLt (k0_t1_abs i).2.1
  have hr := r.isLt
  unfold tripL_k0_t1 trip_k0_t1
  dsimp only
  sl_unfold_words
  refine (View.read_writes_cons_rows_of_not_mem (o := 768) (W := 256) _ _ _ _ _ _ rfl rfl (by left; show 512 + r.val < 768; omega)).trans ?_
  refine (View.read_writes_cons_rows_of_mem (o := 512) _ _ _ _ _ _ (ix2 r l) rfl ?_ ?_).trans ?_
  · rfl
  · rfl
  refine (acc2_at (k0_pay2 (F := Ideal) i v0 v9 v10 0#32 1#32 t) _ _ _ _ _ r l).trans ?_
  congr 1
  · exact m_ld arg7 f7 _ _ 2 rfl r
  · exact a_ld arg8 f8 _ _ 2 rfl r l
  · exact q_ld arg3 harg3 x0 _ _ 2 rfl r
  · funext j
    exact k_ld arg4 harg4 x1 _ _ t.val ht 2 (k0_off3_eq i t) j
  · funext j
    exact congrFun (k_ld arg5 harg5 x2 _ _ t.val ht 2 (k0_off3_eq i t) j) l

/-- The fourth head's maximum after the trip. -/
theorem trip_max3 (r : Fin 256) :
    arg7.view.read (Elt Ideal) (arg7.view.writes (Elt Ideal) f7
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).1) (ix2 (⟨256 * (3 : Fin 4).val + r.val, by omega⟩ : Fin 1024) (0 : Fin 1))
      = mx (arg7.view.read (Elt Ideal) f7 (ix2 (⟨256 * (3 : Fin 4).val + r.val, by omega⟩ : Fin 1024) (0 : Fin 1)))
          (qrow x0 3 r) (fun j => krow x1 3 (1024 * t.val + j.val)) (msk i v0 v9 v10 t r) := by
  have ht : t.val < 4 := Nat.lt_of_lt_of_le t.isLt (k0_t1_abs i).2.1
  have hr := r.isLt
  unfold tripL_k0_t1 trip_k0_t1
  dsimp only
  sl_unfold_words
  refine (View.read_writes_cons_rows_of_mem (o := 768) _ _ _ _ _ _ (ix2 r (0 : Fin 1)) rfl ?_ ?_).trans ?_
  · rfl
  · rfl
  refine (max3_at (k0_pay2 (F := Ideal) i v0 v9 v10 0#32 1#32 t) _ _ _ r).trans ?_
  congr 1
  · exact m_ld arg7 f7 _ _ 3 rfl r
  · exact q_ld arg3 harg3 x0 _ _ 3 rfl r
  · funext j
    exact k_ld arg4 harg4 x1 _ _ t.val ht 3 (k0_off4_eq i t) j

/-- The fourth head's weighted sum after the trip. -/
theorem trip_acc3 (r : Fin 256) (l : Fin 128) :
    arg8.view.read (Elt Ideal) (arg8.view.writes (Elt Ideal) f8
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).2) (ix2 (⟨256 * (3 : Fin 4).val + r.val, by omega⟩ : Fin 1024) l)
      = ac (arg7.view.read (Elt Ideal) f7 (ix2 (⟨256 * (3 : Fin 4).val + r.val, by omega⟩ : Fin 1024) (0 : Fin 1)))
          (arg8.view.read (Elt Ideal) f8 (ix2 (⟨256 * (3 : Fin 4).val + r.val, by omega⟩ : Fin 1024) l))
          (qrow x0 3 r) (fun j => krow x1 3 (1024 * t.val + j.val)) (msk i v0 v9 v10 t r)
          (fun j => krow x2 3 (1024 * t.val + j.val) l) := by
  have ht : t.val < 4 := Nat.lt_of_lt_of_le t.isLt (k0_t1_abs i).2.1
  have hr := r.isLt
  unfold tripL_k0_t1 trip_k0_t1
  dsimp only
  sl_unfold_words
  refine (View.read_writes_cons_rows_of_mem (o := 768) _ _ _ _ _ _ (ix2 r l) rfl ?_ ?_).trans ?_
  · rfl
  · rfl
  refine (acc3_at (k0_pay2 (F := Ideal) i v0 v9 v10 0#32 1#32 t) _ _ _ _ _ r l).trans ?_
  congr 1
  · exact m_ld arg7 f7 _ _ 3 rfl r
  · exact a_ld arg8 f8 _ _ 3 rfl r l
  · exact q_ld arg3 harg3 x0 _ _ 3 rfl r
  · funext j
    exact k_ld arg4 harg4 x1 _ _ t.val ht 3 (k0_off4_eq i t) j
  · funext j
    exact congrFun (k_ld arg5 harg5 x2 _ _ t.val ht 3 (k0_off4_eq i t) j) l

/-- A head's maximum after the trip. -/
theorem trip_max (h : Fin 4) (r : Fin 256) :
    arg7.view.read (Elt Ideal) (arg7.view.writes (Elt Ideal) f7
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).1) (ix2 (⟨256 * h.val + r.val, by omega⟩ : Fin 1024) (0 : Fin 1))
      = mx (arg7.view.read (Elt Ideal) f7 (ix2 (⟨256 * h.val + r.val, by omega⟩ : Fin 1024) (0 : Fin 1)))
          (qrow x0 h r) (fun j => krow x1 h (1024 * t.val + j.val)) (msk i v0 v9 v10 t r) := by
  match h with
  | 0 => exact trip_max0 𝒱 c bd i arg3 harg3 arg4 harg4 arg5 harg5 arg6 harg6 arg7 harg7 arg8 harg8 v0 v9 v10 v34 x0 x1 x2 t f7 f8 r
  | 1 => exact trip_max1 𝒱 c bd i arg3 harg3 arg4 harg4 arg5 harg5 arg6 harg6 arg7 harg7 arg8 harg8 v0 v9 v10 v34 x0 x1 x2 t f7 f8 r
  | 2 => exact trip_max2 𝒱 c bd i arg3 harg3 arg4 harg4 arg5 harg5 arg6 harg6 arg7 harg7 arg8 harg8 v0 v9 v10 v34 x0 x1 x2 t f7 f8 r
  | 3 => exact trip_max3 𝒱 c bd i arg3 harg3 arg4 harg4 arg5 harg5 arg6 harg6 arg7 harg7 arg8 harg8 v0 v9 v10 v34 x0 x1 x2 t f7 f8 r

/-- A head's weighted sum after the trip. -/
theorem trip_acc (h : Fin 4) (r : Fin 256) (l : Fin 128) :
    arg8.view.read (Elt Ideal) (arg8.view.writes (Elt Ideal) f8
        (tripL_k0_t1 (F := Ideal) 𝒱 c bd i arg3 harg3 arg4 harg4 arg5 harg5 arg6 harg6 arg7 harg7 arg8 harg8 v0 v9 v10 0#32 v34 (harg3.unread x0) (harg4.unread x1) (harg5.unread x2) t f7 f8).2) (ix2 (⟨256 * h.val + r.val, by omega⟩ : Fin 1024) l)
      = ac (arg7.view.read (Elt Ideal) f7 (ix2 (⟨256 * h.val + r.val, by omega⟩ : Fin 1024) (0 : Fin 1)))
          (arg8.view.read (Elt Ideal) f8 (ix2 (⟨256 * h.val + r.val, by omega⟩ : Fin 1024) l))
          (qrow x0 h r) (fun j => krow x1 h (1024 * t.val + j.val)) (msk i v0 v9 v10 t r)
          (fun j => krow x2 h (1024 * t.val + j.val) l) := by
  match h with
  | 0 => exact trip_acc0 𝒱 c bd i arg3 harg3 arg4 harg4 arg5 harg5 arg6 harg6 arg7 harg7 arg8 harg8 v0 v9 v10 v34 x0 x1 x2 t f7 f8 r l
  | 1 => exact trip_acc1 𝒱 c bd i arg3 harg3 arg4 harg4 arg5 harg5 arg6 harg6 arg7 harg7 arg8 harg8 v0 v9 v10 v34 x0 x1 x2 t f7 f8 r l
  | 2 => exact trip_acc2 𝒱 c bd i arg3 harg3 arg4 harg4 arg5 harg5 arg6 harg6 arg7 harg7 arg8 harg8 v0 v9 v10 v34 x0 x1 x2 t f7 f8 r l
  | 3 => exact trip_acc3 𝒱 c bd i arg3 harg3 arg4 harg4 arg5 harg5 arg6 harg6 arg7 harg7 arg8 harg8 v0 v9 v10 v34 x0 x1 x2 t f7 f8 r l

end Cert.KernelIdeal.Attn

end
-- ==== Proof.Online.lean ====
/- The arithmetic of a softmax taken in chunks, over the extended reals. A row has scores `s j` and values `v j`.
   After `n` keys the running maximum is `top s n` and the running sum is `acc s v n`, each weight relative to that
   maximum. A chunk's update of the two is exact (`top_add`, `acc_add`), a key whose score is `⊥` contributes nothing
   (`top_cut`, `acc_cut`), and dividing the sum by the softmax's denominator is the sum of the divided weights
   (`div_sum`). None of it asks anything of the scores or the values. -/
module

public import Idealize.ShloMosaic.PureOps.Ideal
public import Idealize.ShloMosaic.Lib.Pointwise

@[expose] public section

noncomputable section

namespace Online

open Idealize.ShloMosaic

/-- A weight relative to a maximum is a real between 0 and 1. -/
theorem exp_sub_coe {s m : EReal} (h : s ≤ m) : ∃ r : ℝ, 0 ≤ r ∧ r ≤ 1 ∧ Ideal.exp (s - m) = (r : EReal) := by
  induction m with
  | bot =>
    obtain rfl : s = ⊥ := le_bot_iff.mp h
    exact ⟨0, le_rfl, zero_le_one, by rw [EReal.bot_sub]; rfl⟩
  | top =>
    refine ⟨0, le_rfl, zero_le_one, ?_⟩
    have : s - (⊤ : EReal) = ⊥ := by
      rw [sub_eq_add_neg, EReal.neg_top, EReal.add_bot]
    rw [this]; rfl
  | coe m =>
    induction s with
    | bot => exact ⟨0, le_rfl, zero_le_one, by rw [EReal.bot_sub]; rfl⟩
    | top => exact absurd h (by simp)
    | coe s =>
      refine ⟨Real.exp (s - m), (Real.exp_pos _).le, ?_, ?_⟩
      · rw [Real.exp_le_one_iff]; have := EReal.coe_le_coe_iff.mp h; linarith
      · rw [← EReal.coe_sub]; rfl

/-- Rescaling a weight from an old maximum to a new one. -/
theorem exp_rescale {s m m' : EReal} (h : s ≤ m) (h' : m ≤ m') :
    Ideal.exp (m - m') * Ideal.exp (s - m) = Ideal.exp (s - m') := by
  have sub_top : ∀ x : EReal, x - (⊤ : EReal) = ⊥ := fun x => by
    rw [sub_eq_add_neg, EReal.neg_top, EReal.add_bot]
  have e0 : Ideal.exp ⊥ = 0 := rfl
  induction m with
  | bot =>
    obtain rfl : s = ⊥ := le_bot_iff.mp h
    simp only [EReal.bot_sub, e0, mul_zero]
  | top =>
    obtain rfl : m' = ⊤ := top_le_iff.mp h'
    simp only [sub_top, e0, mul_zero]
  | coe m =>
    induction m' with
    | bot => exact absurd h' (by simp)
    | top => simp only [sub_top, e0, zero_mul]
    | coe m' =>
      induction s with
      | bot => simp only [EReal.bot_sub, e0, mul_zero]
      | top => exact absurd h (by simp)
      | coe s =>
        rw [← EReal.coe_sub, ← EReal.coe_sub, ← EReal.coe_sub]
        show ((Real.exp (m - m') : ℝ) : EReal) * ((Real.exp (s - m) : ℝ) : EReal) = ((Real.exp (s - m') : ℝ) : EReal)
        rw [← EReal.coe_mul, ← Real.exp_add]; congr 2; ring

/-- A nonnegative real factor goes into a sum. -/
theorem coe_mul_sum {ι : Type} (S : Finset ι) (f : ι → EReal) {r : ℝ} (hr : 0 ≤ r) :
    (r : EReal) * ∑ j ∈ S, f j = ∑ j ∈ S, (r : EReal) * f j := by
  classical
  induction S using Finset.induction_on with
  | empty => simp
  | insert a S ha ih =>
    rw [Finset.sum_insert ha, Finset.sum_insert ha,
      EReal.left_distrib_of_nonneg_of_ne_top (by exact_mod_cast hr) (EReal.coe_ne_top r), ih]

/-- The same from the right. -/
theorem sum_mul_coe {ι : Type} (S : Finset ι) (f : ι → EReal) {r : ℝ} (hr : 0 ≤ r) :
    (∑ j ∈ S, f j) * (r : EReal) = ∑ j ∈ S, f j * (r : EReal) := by
  rw [mul_comm, coe_mul_sum S f hr]
  exact Finset.sum_congr rfl fun j _ => mul_comm _ _

/-- The maximum of the first `n` scores. -/
def top (s : ℕ → EReal) (n : ℕ) : EReal := (Finset.range n).sup s

/-- The sum of the first `n` values, each weighted relative to the maximum of the first `n` scores. -/
def acc (s v : ℕ → EReal) (n : ℕ) : EReal := ∑ j ∈ Finset.range n, Ideal.exp (s j - top s n) * v j

theorem le_top (s : ℕ → EReal) {n j : ℕ} (h : j < n) : s j ≤ top s n := Finset.le_sup (Finset.mem_range.mpr h)

/-- The maximum after another chunk of `k` keys. -/
theorem top_add (s : ℕ → EReal) (n k : ℕ) :
    top s (n + k) = max (top s n) (Finset.univ.sup fun r : Fin k => s (n + r.val)) := by
  apply le_antisymm
  · refine Finset.sup_le fun j hj => ?_
    have hj' : j < n + k := Finset.mem_range.mp hj
    by_cases h : j < n
    · exact (le_top s h).trans (le_max_left _ _)
    · refine le_trans ?_ (le_max_right _ _)
      have := Finset.le_sup (f := fun r : Fin k => s (n + r.val)) (Finset.mem_univ (⟨j - n, by omega⟩ : Fin k))
      simpa only [Nat.add_sub_cancel' (not_lt.mp h)] using this
  · refine max_le (Finset.sup_le fun j hj => le_top s ?_) (Finset.sup_le fun r _ => le_top s ?_)
    · have := Finset.mem_range.mp hj; omega
    · have := r.isLt; omega

/-- The sum after another chunk of `k` keys: the old sum rescaled, and the chunk's weighted values. -/
theorem acc_add (s v : ℕ → EReal) (n k : ℕ) :
    acc s v (n + k) = Ideal.exp (top s n - top s (n + k)) * acc s v n
      + ∑ r : Fin k, Ideal.exp (s (n + r.val) - top s (n + k)) * v (n + r.val) := by
  have hle : top s n ≤ top s (n + k) := by rw [top_add]; exact le_max_left _ _
  obtain ⟨c, hc, -, hce⟩ := exp_sub_coe hle
  unfold acc
  rw [Finset.sum_range_add, hce, coe_mul_sum _ _ hc, ← hce,
    ← Fin.sum_univ_eq_sum_range (fun r => Ideal.exp (s (n + r) - top s (n + k)) * v (n + r)) k]
  congr 1
  refine Finset.sum_congr rfl fun j hj => ?_
  rw [← mul_assoc, exp_rescale (le_top s (Finset.mem_range.mp hj)) hle]

/-- Keys past `n` whose scores are all `⊥` do not move the maximum. -/
theorem top_cut (s : ℕ → EReal) {n N : ℕ} (h : n ≤ N) (hs : ∀ j, n ≤ j → s j = ⊥) : top s N = top s n := by
  obtain ⟨k, rfl⟩ := Nat.exists_eq_add_of_le h
  rw [top_add]
  refine max_eq_left (Finset.sup_le fun r _ => ?_)
  rw [hs _ (Nat.le_add_right _ _)]; exact bot_le

/-- … nor the sum. -/
theorem acc_cut (s v : ℕ → EReal) {n N : ℕ} (h : n ≤ N) (hs : ∀ j, n ≤ j → s j = ⊥) : acc s v N = acc s v n := by
  have ht := top_cut s h hs
  obtain ⟨k, rfl⟩ := Nat.exists_eq_add_of_le h
  unfold acc
  rw [Finset.sum_range_add, ht]
  have : ∑ r ∈ Finset.range k, Ideal.exp (s (n + r) - top s n) * v (n + r) = 0 :=
    Finset.sum_eq_zero fun r _ => by
      rw [hs _ (Nat.le_add_right _ _), EReal.bot_sub]
      show (0 : EReal) * _ = 0
      rw [zero_mul]
  rw [this, add_zero]

/-- No keys, no maximum and no sum. -/
theorem top_zero (s : ℕ → EReal) : top s 0 = ⊥ := rfl
theorem acc_zero (s v : ℕ → EReal) : acc s v 0 = 0 := rfl

/-- The sum of the weights, kept above a positive real, is a positive real. -/
theorem den_coe (s : ℕ → EReal) (n : ℕ) {e : ℝ} (he : 0 < e) :
    ∃ d : ℝ, 0 < d ∧ max (∑ j ∈ Finset.range n, Ideal.exp (s j - top s n)) (e : EReal) = (d : EReal) := by
  have hf : ∀ j ∈ Finset.range n, ∃ r : ℝ, Ideal.exp (s j - top s n) = (r : EReal) := fun j hj =>
    let ⟨r, _, _, h⟩ := exp_sub_coe (le_top s (Finset.mem_range.mp hj)); ⟨r, h⟩
  have : ∃ d : ℝ, ∑ j ∈ Finset.range n, Ideal.exp (s j - top s n) = (d : EReal) := by
    classical
    generalize Finset.range n = S at hf
    induction S using Finset.induction_on with
    | empty => exact ⟨0, by simp⟩
    | insert a S ha ih =>
      obtain ⟨x, hx⟩ := hf a (Finset.mem_insert_self a S)
      obtain ⟨y, hy⟩ := ih fun j hj => hf j (Finset.mem_insert_of_mem hj)
      exact ⟨x + y, by rw [Finset.sum_insert ha, hx, hy, EReal.coe_add]⟩
  obtain ⟨d, hd⟩ := this
  exact ⟨max d e, lt_max_of_lt_right he, by rw [hd]; exact (EReal.coe_strictMono.monotone.map_max).symm⟩

/-- A weighted sum divided by a positive real is the sum with each weight divided. -/
theorem div_sum {ι : Type} (S : Finset ι) (e v : ι → EReal) {d : ℝ} (hd : 0 < d) :
    Ideal.div (∑ j ∈ S, e j * v j) (d : EReal) = ∑ j ∈ S, Ideal.div (e j) (d : EReal) * v j := by
  rw [Ideal.div_coe hd.ne', sum_mul_coe S _ (one_div_nonneg.mpr hd.le)]
  refine Finset.sum_congr rfl fun j _ => ?_
  rw [Ideal.div_coe hd.ne', mul_assoc, mul_assoc, mul_comm (v j)]

end Online

end
-- ==== Proof.Attn.Loop.lean ====
/- The causal-attention loop over its trips: before trip `k` the scratch holds, for each head and query row, the maximum of
   the first `1024 k` scores and the weighted sum of the first `1024 k` value rows relative to it. -/
module

public import proofs.«01_k».proof.Proof.Attn.Trip
public import proofs.«01_k».proof.Proof.Online

@[expose] public section

set_option maxRecDepth 16384

noncomputable section

namespace Cert.KernelIdeal.Attn

open Idealize.ShloMosaic Idealize.ShloMosaic.TcCoe Cert.KernelIdeal.Gen

/-- The loop's trips: the 1024-key blocks up to the query tile's last row. -/
theorem trips_eq (i : grid0.Coords) : (k0_t1_loop i).trips = (256 * (i 2).val + 1279) / 1024 := by
  have key : ∀ a : Fin 16, (k0_t1_loop (fun b => match b with | 0 => (0 : Fin 4) | 1 => (0 : Fin 4) | 2 => a)).trips
      = (256 * a.val + 1279) / 1024 := by decide +kernel
  exact key (i 2)

/-- The remainder loop has no trip. -/
theorem trips2_eq (i : grid0.Coords) : (k0_t2_loop i).trips = 0 := Nat.le_zero.mp (k0_t2_abs i).2.1

/-- The masked score of query row `r`, at position `p`, of head `h` against key `n`. -/
def score (x0 : Vec Ideal S1x256x512 .bf16) (x1 : Vec Ideal S1x4096x512 .bf16) (h : Fin 4) (r : Fin 256) (p n : ℕ) : EReal :=
  (∑ l : Fin 128, qrow x0 h r l * krow x1 h n l) + if n ≤ p then 0 else ⊥

variable (𝒱 : Variants) (c : Dev nD) (bd : Option 𝒱.V) (i : grid0.Coords)
  (arg3 : Memref sig .tc .vmem S1x256x512 .bf16) (harg3 : arg3.IsWhole)
  (arg4 : Memref sig .tc .vmem S1x4096x512 .bf16) (harg4 : arg4.IsWhole)
  (arg5 : Memref sig .tc .vmem S1x4096x512 .bf16) (harg5 : arg5.IsWhole)
  (arg6 : Memref sig .tc .vmem S1x256x256 .f32) (harg6 : arg6.IsWhole)
  (arg7 : Memref sig .tc .vmem S1024x1 .f32) (harg7 : arg7.IsWhole)
  (arg8 : Memref sig .tc .vmem S1024x128 .f32) (harg8 : arg8.IsWhole)
  (v0 : BitVec 32) (v9 v10 : IVec S256x1024 32) (v34 : BitVec 32)
  (x0 : Vec Ideal S1x256x512 .bf16) (x1 x2 : Vec Ideal S1x4096x512 .bf16)

set_option maxHeartbeats 1000000 in
/-- What the scratch holds before trip `k`. -/
theorem before_trip (G7 : BufTy.Contents (Elt Ideal) arg7.view.ty) (G8 : BufTy.Contents (Elt Ideal) arg8.view.ty)
    (q0 : ℕ) (hv0 : v0 = BitVec.ofNat 32 q0) (hq0 : q0 ≤ 4096)
    (h9 : ∀ (r : Fin 256) (j : Fin 1024), v9 (ix2 r j) = BitVec.ofNat 32 r.val)
    (h10 : ∀ (r : Fin 256) (j : Fin 1024), v10 (ix2 r j) = BitVec.ofNat 32 j.val)
    (h : Fin 4) (r : Fin 256)
    (hG7 : arg7.view.read (Elt Ideal) G7 (ix2 (⟨256 * h.val + r.val, by omega⟩ : Fin 1024) (0 : Fin 1)) = ⊥)
    (hG8 : ∀ l : Fin 128, arg8.view.read (Elt Ideal) G8 (ix2 (⟨256 * h.val + r.val, by omega⟩ : Fin 1024) l) = 0)
    (k : ℕ) (hk : k ≤ (k0_t1_loop i).trips) :
    arg7.view.read (Elt Ideal) (arg7.view.writes (Elt Ideal) G7 (pb_k0_t1 (F := Ideal) 𝒱 c bd i arg3 harg3 arg4 harg4 arg5 harg5 arg6 harg6 arg7 harg7 arg8 harg8 v0 v9 v10 0#32 v34 (harg3.unread x0) (harg4.unread x1) (harg5.unread x2) G7 G8 k).1)
        (ix2 (⟨256 * h.val + r.val, by omega⟩ : Fin 1024) (0 : Fin 1))
      = Online.top (score x0 x1 h r (q0 + r.val)) (1024 * k)
    ∧ ∀ l : Fin 128, arg8.view.read (Elt Ideal) (arg8.view.writes (Elt Ideal) G8 (pb_k0_t1 (F := Ideal) 𝒱 c bd i arg3 harg3 arg4 harg4 arg5 harg5 arg6 harg6 arg7 harg7 arg8 harg8 v0 v9 v10 0#32 v34 (harg3.unread x0) (harg4.unread x1) (harg5.unread x2) G7 G8 k).2)
        (ix2 (⟨256 * h.val + r.val, by omega⟩ : Fin 1024) l)
      = Online.acc (score x0 x1 h r (q0 + r.val)) (fun n => krow x2 h n l) (1024 * k) := by
  induction k with
  | zero => exact ⟨hG7, hG8⟩
  | succ k ih =>
    obtain ⟨ihm, iha⟩ := ih (Nat.le_of_succ_le hk)
    have ht : k < 4 := Nat.lt_of_lt_of_le hk (k0_t1_abs i).2.1
    have hsc : ∀ j : Fin 1024, sc (qrow x0 h r) (fun j => krow x1 h (1024 * k + j.val)) (msk i v0 v9 v10 ⟨k, hk⟩ r) j
        = score x0 x1 h r (q0 + r.val) (1024 * k + j.val) := fun j => by
      unfold sc score msk
      rw [mask_at i v0 v9 v10 ⟨k, hk⟩ q0 hv0 hq0 ht h9 h10]
    have hmx : mx (Online.top (score x0 x1 h r (q0 + r.val)) (1024 * k)) (qrow x0 h r)
        (fun j => krow x1 h (1024 * k + j.val)) (msk i v0 v9 v10 ⟨k, hk⟩ r)
        = Online.top (score x0 x1 h r (q0 + r.val)) (1024 * (k + 1)) := by
      rw [Nat.mul_succ, Online.top_add]
      unfold mx
      simp only [hsc]
    have hs := pb_k0_t1_succ (F := Ideal) 𝒱 c bd i arg3 harg3 arg4 harg4 arg5 harg5 arg6 harg6 arg7 harg7 arg8 harg8 v0 v9 v10 0#32 v34 (harg3.unread x0) (harg4.unread x1) (harg5.unread x2) G7 G8 ⟨k, hk⟩
    refine ⟨?_, fun l => ?_⟩
    · rw [congrArg Prod.fst hs, View.writes_append,
        trip_max 𝒱 c bd i arg3 harg3 arg4 harg4 arg5 harg5 arg6 harg6 arg7 harg7 arg8 harg8 v0 v9 v10 v34 x0 x1 x2 ⟨k, hk⟩]
      rw [ihm]
      exact hmx
    · rw [congrArg Prod.snd hs, View.writes_append,
        trip_acc 𝒱 c bd i arg3 harg3 arg4 harg4 arg5 harg5 arg6 harg6 arg7 harg7 arg8 harg8 v0 v9 v10 v34 x0 x1 x2 ⟨k, hk⟩]
      rw [ihm, iha l]
      unfold ac
      rw [hmx, Nat.mul_succ, Online.acc_add]
      simp only [hsc]

/-- What the weighted sum holds after the loop: the sum over all 4096 keys, the keys past the query contributing nothing. -/
theorem after_loop (G7 : BufTy.Contents (Elt Ideal) arg7.view.ty) (G8 : BufTy.Contents (Elt Ideal) arg8.view.ty)
    (hv0 : v0 = BitVec.ofNat 32 (256 * (i 2).val))
    (h9 : ∀ (r : Fin 256) (j : Fin 1024), v9 (ix2 r j) = BitVec.ofNat 32 r.val)
    (h10 : ∀ (r : Fin 256) (j : Fin 1024), v10 (ix2 r j) = BitVec.ofNat 32 j.val)
    (h : Fin 4) (r : Fin 256)
    (hG7 : arg7.view.read (Elt Ideal) G7 (ix2 (⟨256 * h.val + r.val, by omega⟩ : Fin 1024) (0 : Fin 1)) = ⊥)
    (hG8 : ∀ l : Fin 128, arg8.view.read (Elt Ideal) G8 (ix2 (⟨256 * h.val + r.val, by omega⟩ : Fin 1024) l) = 0)
    (l : Fin 128) :
    arg8.view.read (Elt Ideal) (arg8.view.writes (Elt Ideal) G8 (pb_k0_t1 (F := Ideal) 𝒱 c bd i arg3 harg3 arg4 harg4 arg5 harg5 arg6 harg6 arg7 harg7 arg8 harg8 v0 v9 v10 0#32 v34 (harg3.unread x0) (harg4.unread x1) (harg5.unread x2) G7 G8 (k0_t1_loop i).trips).2)
        (ix2 (⟨256 * h.val + r.val, by omega⟩ : Fin 1024) l)
      = Online.acc (score x0 x1 h r (256 * (i 2).val + r.val)) (fun n => krow x2 h n l) 4096 := by
  have hi : (i 2).val < 16 := (i 2).isLt
  have hr := r.isLt
  have hcut := (before_trip 𝒱 c bd i arg3 harg3 arg4 harg4 arg5 harg5 arg6 harg6 arg7 harg7 arg8 harg8 v0 v9 v10 v34 x0 x1 x2 G7 G8
    (256 * (i 2).val) hv0 (by omega) h9 h10 h r hG7 hG8 _ le_rfl).2 l
  rw [hcut, trips_eq]
  refine (Online.acc_cut _ _ (by omega) fun j hj => ?_).symm
  unfold score
  rw [if_neg (by omega), EReal.add_bot]

end Cert.KernelIdeal.Attn

end
-- ==== Proof.Attn.Out.lean ====
module
public import proofs.«01_k».proof.Proof.Attn.Loop
public import proofs.«01_k».proof.Proof.Gen.KernelIdeal.Value
public import Idealize.ShloMosaic.Lib.WritesUnit
public import Idealize.ShloMosaic.Lib.WordCmp
/-!
The block of the attention that one grid point writes: four heads of 256 query rows, each
entry the weighted sum of the values over the sum of the weights.
-/
@[expose] public section

set_option maxRecDepth 16384

noncomputable section
namespace Cert.KernelIdeal.Attn
open Idealize.ShloMosaic Idealize.ShloMosaic.TcCoe Cert.KernelIdeal.Gen Idealize.ShloMosaic.Tactic

/-- A lane of the output over the denominator of its row. -/
def quot (x : FVec Ideal S256x128 .f32) (r : Fin 256) (d : Fin 64) : EReal :=
  Ideal.div (x (ix2 r (⟨d.val, by omega⟩ : Fin 128)))
    (max (x (ix2 r (⟨64, by omega⟩ : Fin 128))) (Ideal.ofBits .f32 0x0DA24260#32))

theorem pay56_at (x : FVec Ideal S256x128 .f32) (r : Fin 256) (d : Fin 64) :
    k0_pay56 (F := Ideal) x (ix3 0 r d) = quot x r d := by
  unfold quot
  pointwise [k0_pay56]

theorem pay57_at (x : FVec Ideal S256x128 .f32) (r : Fin 256) (d : Fin 64) :
    k0_pay57 (F := Ideal) x (ix3 0 r d) = quot x r d := by
  unfold quot
  pointwise [k0_pay57]

theorem pay58_at (x : FVec Ideal S256x128 .f32) (r : Fin 256) (d : Fin 64) :
    k0_pay58 (F := Ideal) x (ix3 0 r d) = quot x r d := by
  unfold quot
  pointwise [k0_pay58]

theorem pay1_at (x : FVec Ideal S256x128 .f32) (r : Fin 256) (d : Fin 64) :
    k0_pay1 (F := Ideal) x (k0_pay59 x) (ix3 0 r d) = quot x r d := by
  unfold quot
  pointwise [k0_pay1, k0_pay59]

theorem pay38_at (r : Fin 1024) : k0_pay38 (F := Ideal) (ix2 r 0) = ⊥ := by
  pointwise [k0_pay38]
  exact mask_bot

theorem pay39_at (r : Fin 1024) (l : Fin 128) : k0_pay39 (F := Ideal) (ix2 r l) = 0 := by
  pointwise [k0_pay39]

variable (c : Dev nD) (i : grid0.Coords)
  (arg3 : Memref sig .tc .vmem S1x256x512 .bf16) (harg3 : arg3.IsWhole)
  (arg4 : Memref sig .tc .vmem S1x4096x512 .bf16) (harg4 : arg4.IsWhole)
  (arg5 : Memref sig .tc .vmem S1x4096x512 .bf16) (harg5 : arg5.IsWhole)
  (arg6 : Memref sig .tc .vmem S1x256x256 .f32) (harg6 : arg6.IsWhole)
  (arg7 : Memref sig .tc .vmem S1024x1 .f32) (harg7 : arg7.IsWhole)
  (arg8 : Memref sig .tc .vmem S1024x128 .f32) (harg8 : arg8.IsWhole)
  (x0 : Vec Ideal S1x256x512 .bf16) (x1 x2 : Vec Ideal S1x4096x512 .bf16)

/-- The loop without trips writes nothing. -/
theorem loop2_nil (v0 : BitVec 32) (v9 v10 : IVec S256x1024 32) (c0 v34 v35 : BitVec 32) (f3 f4 f5 g7 g8) :
    (pb_k0_t2 (F := Ideal) Variants.none c none i arg3 harg3 arg4 harg4 arg5 harg5 arg6 harg6 arg7 harg7 arg8 harg8 v0 v9 v10 c0 v34 v35 f3 f4 f5 g7 g8 (k0_t2_loop i).trips).2 = [] := by
  rw [trips2_eq]
  rfl

/-- The first position of the query tile. -/
theorem start_at : Scalar.muli (BitVec.ofNat 32 (i 2).val) 256#32 = BitVec.ofNat 32 (256 * (i 2).val) := by
  show BitVec.ofNat 32 (i 2).val * BitVec.ofNat 32 256 = _
  rw [← BitVec.ofNat_mul, Nat.mul_comm]

/-- The row index of the score block. -/
theorem rows_at (r : Fin 256) (j : Fin 1024) : iota .tc S256x1024 32 [0] iota_S256x1024_d0_w32 (ix2 r j) = BitVec.ofNat 32 r.val := by
  pointwise

/-- The column index of the score block. -/
theorem cols_at (r : Fin 256) (j : Fin 1024) : iota .tc S256x1024 32 [1] iota_S256x1024_d1_w32 (ix2 r j) = BitVec.ofNat 32 j.val := by
  pointwise

/-- What the running weighted sum holds when the loop is over and the output is stored. -/
theorem sum_at (𝒱 : Variants) (bd : Option 𝒱.V) (v0 : BitVec 32) (v9 v10 : IVec S256x1024 32) (v34 : BitVec 32)
    (f7 : BufTy.Contents (Elt Ideal) arg7.view.ty) (f8 : BufTy.Contents (Elt Ideal) arg8.view.ty)
    (L : List (View.Piece (Elt Ideal) S1024x128 .f32)) (hL : L = [])
    (hv0 : v0 = BitVec.ofNat 32 (256 * (i 2).val))
    (h9 : ∀ (r : Fin 256) (j : Fin 1024), v9 (ix2 r j) = BitVec.ofNat 32 r.val)
    (h10 : ∀ (r : Fin 256) (j : Fin 1024), v10 (ix2 r j) = BitVec.ofNat 32 j.val)
    (inb7 : ∀ a, (![0, 0] : Fin 2 → ℕ) a + S1024x1.size a ≤ S1024x1.size a) (inb8 : ∀ a, (![0, 0] : Fin 2 → ℕ) a + S1024x128.size a ≤ S1024x128.size a) (h : Fin 4) (r : Fin 256) (l : Fin 128) :
    arg8.view.read (Elt Ideal) (arg8.view.writes (Elt Ideal) f8 (L ++
        ((pb_k0_t1 (F := Ideal) 𝒱 c bd i arg3 harg3 arg4 harg4 arg5 harg5 arg6 harg6 arg7 harg7 arg8 harg8 v0 v9 v10 0#32 v34 (harg3.unread x0) (harg4.unread x1) (harg5.unread x2)
          (arg7.view.writes (Elt Ideal) f7 [⟨Rect.unit ![0, 0] S1024x1.size inb7, k0_pay38 (F := Ideal)⟩])
          (arg8.view.writes (Elt Ideal) f8 [⟨Rect.unit ![0, 0] S1024x128.size inb8, k0_pay39 (F := Ideal)⟩]) (k0_t1_loop i).trips).2
        ++ [⟨Rect.unit ![0, 0] S1024x128.size inb8, k0_pay39 (F := Ideal)⟩])))
        (ix2 (⟨256 * h.val + r.val, by omega⟩ : Fin 1024) l)
      = Online.acc (score x0 x1 h r (256 * (i 2).val + r.val)) (fun n => krow x2 h n l) 4096 := by
  subst hL
  rw [List.nil_append, View.writes_append]
  refine after_loop 𝒱 c bd i arg3 harg3 arg4 harg4 arg5 harg5 arg6 harg6 arg7 harg7 arg8 harg8 v0 v9 v10 v34 x0 x1 x2 _ _ hv0 h9 h10 h r ?_ (fun l => ?_) l
  · refine (View.read_writes_cons_unit_of_mem _ _ _ _ _ _ (ix2 (⟨256 * h.val + r.val, by omega⟩ : Fin 1024) (0 : Fin 1)) rfl fun a => ?_).trans (pay38_at (⟨256 * h.val + r.val, by omega⟩ : Fin 1024))
    fin_cases a
    · exact (Nat.zero_add _).symm
    · rfl
  · refine (View.read_writes_cons_unit_of_mem _ _ _ _ _ _ (ix2 (⟨256 * h.val + r.val, by omega⟩ : Fin 1024) l) rfl fun a => ?_).trans (pay39_at (⟨256 * h.val + r.val, by omega⟩ : Fin 1024) l)
    fin_cases a
    · exact (Nat.zero_add _).symm
    · exact (Nat.zero_add _).symm

/-- The attention of one query row: the weighted sum of one value lane over the sum of the weights (lane 64). -/
def row_out (x0 : Vec Ideal S1x256x512 .bf16) (x1 x2 : Vec Ideal S1x4096x512 .bf16) (p : ℕ) (h : Fin 4) (r : Fin 256) (d : Fin 64) : EReal :=
  Ideal.div (Online.acc (score x0 x1 h r p) (fun n => krow x2 h n (⟨d.val, by omega⟩ : Fin 128)) 4096)
    (max (Online.acc (score x0 x1 h r p) (fun n => krow x2 h n (⟨64, by omega⟩ : Fin 128)) 4096) (Ideal.ofBits .f32 0x0DA24260#32))

set_option maxHeartbeats 1000000 in
/-- Head 0 of the block one grid point writes. -/
theorem out0_at (r : Fin 256) (d : Fin 64) :
    out0_A_3 (F := Ideal) c i arg3 harg3 arg4 harg4 arg5 harg5 arg6 harg6 arg7 harg7 arg8 harg8 x0 x1 x2 (ix3 0 r (⟨0 + d.val, by omega⟩ : Fin 256))
      = row_out x0 x1 x2 (256 * (i 2).val + r.val) 0 r d := by
  have hd := d.isLt
  unfold out0_A_3 kernelRun0_A
  dsimp only
  sl_unfold_words
  refine (View.read_writes_cons_unit_of_not_mem _ _ _ _ _ _ rfl 2 (by left; show 0 + d.val < 192; omega)).trans ?_
  refine (View.read_writes_cons_unit_of_not_mem _ _ _ _ _ _ rfl 2 (by left; show 0 + d.val < 128; omega)).trans ?_
  refine (View.read_writes_cons_unit_of_not_mem _ _ _ _ _ _ rfl 2 (by left; show 0 + d.val < 64; omega)).trans ?_
  refine (View.read_writes_cons_unit_of_mem _ _ _ _ _ _ (ix3 (0 : Fin 1) r d) rfl fun a => ?_).trans ?_
  · fin_cases a
    · rfl
    · exact (Nat.zero_add _).symm
    · rfl
  refine (pay56_at _ r d).trans ?_
  unfold quot row_out
  refine congrArg₂ (fun x y => Ideal.div x (max y (Ideal.ofBits .f32 0x0DA24260#32)))
    ((a_ld arg8 _ _ _ 0 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 0 r _))
    ((a_ld arg8 _ _ _ 0 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 0 r _))

set_option maxHeartbeats 1000000 in
/-- Head 1 of the block one grid point writes. -/
theorem out1_at (r : Fin 256) (d : Fin 64) :
    out0_A_3 (F := Ideal) c i arg3 harg3 arg4 harg4 arg5 harg5 arg6 harg6 arg7 harg7 arg8 harg8 x0 x1 x2 (ix3 0 r (⟨64 + d.val, by omega⟩ : Fin 256))
      = row_out x0 x1 x2 (256 * (i 2).val + r.val) 1 r d := by
  have hd := d.isLt
  unfold out0_A_3 kernelRun0_A
  dsimp only
  sl_unfold_words
  refine (View.read_writes_cons_unit_of_not_mem _ _ _ _ _ _ rfl 2 (by left; show 64 + d.val < 192; omega)).trans ?_
  refine (View.read_writes_cons_unit_of_not_mem _ _ _ _ _ _ rfl 2 (by left; show 64 + d.val < 128; omega)).trans ?_
  refine (View.read_writes_cons_unit_of_mem _ _ _ _ _ _ (ix3 (0 : Fin 1) r d) rfl fun a => ?_).trans ?_
  · fin_cases a
    · rfl
    · exact (Nat.zero_add _).symm
    · rfl
  refine (pay57_at _ r d).trans ?_
  unfold quot row_out
  refine congrArg₂ (fun x y => Ideal.div x (max y (Ideal.ofBits .f32 0x0DA24260#32)))
    ((a_ld arg8 _ _ _ 1 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 1 r _))
    ((a_ld arg8 _ _ _ 1 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 1 r _))

set_option maxHeartbeats 1000000 in
/-- Head 2 of the block one grid point writes. -/
theorem out2_at (r : Fin 256) (d : Fin 64) :
    out0_A_3 (F := Ideal) c i arg3 harg3 arg4 harg4 arg5 harg5 arg6 harg6 arg7 harg7 arg8 harg8 x0 x1 x2 (ix3 0 r (⟨128 + d.val, by omega⟩ : Fin 256))
      = row_out x0 x1 x2 (256 * (i 2).val + r.val) 2 r d := by
  have hd := d.isLt
  unfold out0_A_3 kernelRun0_A
  dsimp only
  sl_unfold_words
  refine (View.read_writes_cons_unit_of_not_mem _ _ _ _ _ _ rfl 2 (by left; show 128 + d.val < 192; omega)).trans ?_
  refine (View.read_writes_cons_unit_of_mem _ _ _ _ _ _ (ix3 (0 : Fin 1) r d) rfl fun a => ?_).trans ?_
  · fin_cases a
    · rfl
    · exact (Nat.zero_add _).symm
    · rfl
  refine (pay58_at _ r d).trans ?_
  unfold quot row_out
  refine congrArg₂ (fun x y => Ideal.div x (max y (Ideal.ofBits .f32 0x0DA24260#32)))
    ((a_ld arg8 _ _ _ 2 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 2 r _))
    ((a_ld arg8 _ _ _ 2 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 2 r _))

set_option maxHeartbeats 1000000 in
/-- Head 3 of the block one grid point writes. -/
theorem out3_at (r : Fin 256) (d : Fin 64) :
    out0_A_3 (F := Ideal) c i arg3 harg3 arg4 harg4 arg5 harg5 arg6 harg6 arg7 harg7 arg8 harg8 x0 x1 x2 (ix3 0 r (⟨192 + d.val, by omega⟩ : Fin 256))
      = row_out x0 x1 x2 (256 * (i 2).val + r.val) 3 r d := by
  have hd := d.isLt
  unfold out0_A_3 kernelRun0_A
  dsimp only
  sl_unfold_words
  refine (View.read_writes_cons_unit_of_mem _ _ _ _ _ _ (ix3 (0 : Fin 1) r d) rfl fun a => ?_).trans ?_
  · fin_cases a
    · rfl
    · exact (Nat.zero_add _).symm
    · rfl
  refine (pay1_at _ r d).trans ?_
  unfold quot row_out
  refine congrArg₂ (fun x y => Ideal.div x (max y (Ideal.ofBits .f32 0x0DA24260#32)))
    ((a_ld arg8 _ _ _ 3 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 3 r _))
    ((a_ld arg8 _ _ _ 3 rfl r _).trans (sum_at c i arg3 harg3 arg4 harg4 arg5 harg5 arg6 harg6 arg7 harg7 arg8 harg8 x0 x1 x2 Variants.none none _ _ _ _ _ _ _
      (loop2_nil c i arg3 harg3 arg4 harg4 arg5 harg5 arg6 harg6 arg7 harg7 arg8 harg8 _ _ _ _ _ _ _ _ _ _ _) (start_at i) rows_at cols_at _ _ 3 r _))

end Cert.KernelIdeal.Attn
end
-- ==== Proof.Attn.Blocks.lean ====
/- Where the blocks of the attention's windows sit in its arrays, and what the operands prepared on the host hold. -/
module
public import proofs.«01_k».proof.Proof.Attn.Out
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section
namespace Cert.KernelIdeal.Attn
open Idealize.ShloMosaic Idealize.ShloMosaic.TcCoe Cert.KernelIdeal.Gen Idealize.ShloMosaic.Tactic

/-- The block indices of the four windows at a grid point (batch, head group, query tile). -/
theorem idx_at : ∀ t : Fin grid0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] := by decide +kernel

variable (m : (ℓ : Loc nD τ sig) → Buf (Elt Ideal) ℓ) (c : Dev nD)

/-- The queries, keys and values as launched, and as prepared for the call. -/
abbrev aq : Vec Ideal S4x4096x16x96 .f32 := m ((c : Thread nD τ).loc main_arg0)
@[inherit_doc aq] abbrev ak : Vec Ideal S4x4096x16x96 .f32 := m ((c : Thread nD τ).loc main_arg1)
@[inherit_doc aq] abbrev av : Vec Ideal S4x4096x16x64 .f32 := m ((c : Thread nD τ).loc main_arg2)
@[inherit_doc aq] abbrev pq : Vec Ideal S4x4096x2048 .bf16 := V m c main_v10
@[inherit_doc aq] abbrev pk : Vec Ideal S4x4096x2048 .bf16 := V m c main_v11
@[inherit_doc aq] abbrev pv : Vec Ideal S4x4096x2048 .bf16 := V m c main_v12

/-- The prepared queries at batch `b`, position `p`, head `h`, lane `l`. -/
theorem q_host (b : Fin 4) (p : Fin 4096) (h : Fin 16) (l : Fin 128) :
    pq m c (ix3 b p (⟨128 * h.val + l.val, by omega⟩ : Fin 2048))
      = if hl : l.val < 96 then aq m c (ix4 b p h (⟨l.val, hl⟩ : Fin 96)) * Ideal.ofBits .f32 0x3DD105EC#32 else 0 := by
  show StableHlo.after [hostOps0, hostOps0_1, hostOps0_2, hostOps0_3, hostOps0_4, hostOps0_5, hostOps0_6].flatten (fun b => m (c, b)) (Proc.tc.devRef main_v10) _ = _
  simp only [hostOps0, hostOps0_1, hostOps0_2, hostOps0_3, hostOps0_4, hostOps0_5, hostOps0_6, List.flatten_cons, List.flatten_nil, List.cons_append, List.nil_append]
  entry_read
  simp only [StableHlo.TRef.toBuf, StableHlo.TRef.ofBuf, cast_cast, cast_eq]
  clean_types
  pointwise
  have hz : FloatOps.sitofp (F := Ideal) .f32 (0#32) = (0 : EReal) := by
    show (((0#32 : BitVec 32).toInt : ℝ) : EReal) = 0
    norm_num
  rw [hz]

theorem k_host (b : Fin 4) (p : Fin 4096) (h : Fin 16) (l : Fin 128) :
    pk m c (ix3 b p (⟨128 * h.val + l.val, by omega⟩ : Fin 2048))
      = if hl : l.val < 96 then ak m c (ix4 b p h (⟨l.val, hl⟩ : Fin 96)) else 0 := by
  show StableHlo.after [hostOps0, hostOps0_1, hostOps0_2, hostOps0_3, hostOps0_4, hostOps0_5, hostOps0_6].flatten (fun b => m (c, b)) (Proc.tc.devRef main_v11) _ = _
  simp only [hostOps0, hostOps0_1, hostOps0_2, hostOps0_3, hostOps0_4, hostOps0_5, hostOps0_6, List.flatten_cons, List.flatten_nil, List.cons_append, List.nil_append]
  entry_read
  simp only [StableHlo.TRef.toBuf, StableHlo.TRef.ofBuf, cast_cast, cast_eq]
  clean_types
  pointwise
  have hz : FloatOps.sitofp (F := Ideal) .f32 (0#32) = (0 : EReal) := by
    show (((0#32 : BitVec 32).toInt : ℝ) : EReal) = 0
    norm_num
  rw [hz]

theorem v_host (b : Fin 4) (p : Fin 4096) (h : Fin 16) (l : Fin 128) :
    pv m c (ix3 b p (⟨128 * h.val + l.val, by omega⟩ : Fin 2048))
      = if hl : l.val < 64 then av m c (ix4 b p h (⟨l.val, hl⟩ : Fin 64)) else if l.val = 64 then 1 else 0 := by
  show StableHlo.after [hostOps0, hostOps0_1, hostOps0_2, hostOps0_3, hostOps0_4, hostOps0_5, hostOps0_6].flatten (fun b => m (c, b)) (Proc.tc.devRef main_v12) _ = _
  simp only [hostOps0, hostOps0_1, hostOps0_2, hostOps0_3, hostOps0_4, hostOps0_5, hostOps0_6, List.flatten_cons, List.flatten_nil, List.cons_append, List.nil_append]
  entry_read
  simp only [StableHlo.TRef.toBuf, StableHlo.TRef.ofBuf, cast_cast, cast_eq]
  clean_types
  pointwise
  have hz : FloatOps.sitofp (F := Ideal) .f32 (0#32) = (0 : EReal) := by
    show (((0#32 : BitVec 32).toInt : ℝ) : EReal) = 0
    norm_num
  rw [hz]
  split_ifs <;> first | rfl | omega

/-- Lane `l` of head `h` of row `n` of an operand, for `n` under 4096; nothing past it. -/
def lane (A : Vec Ideal S4x4096x2048 .bf16) (b : Fin 4) (h : Fin 16) (n : ℕ) (l : Fin 128) : EReal :=
  if hn : n < 4096 then A (ix3 b (⟨n, hn⟩ : Fin 4096) (⟨128 * h.val + l.val, by omega⟩ : Fin 2048)) else 0

/-- The causal attention of head `h` at query position `p`, from the prepared operands: lane `d` of the
weighted sum of the value rows, over the sum of the weights (lane 64 of the value rows is one). -/
def attn (Q K W : Vec Ideal S4x4096x2048 .bf16) (b : Fin 4) (h : Fin 16) (p : ℕ) (d : Fin 64) : EReal :=
  Ideal.div (Online.acc (fun n => (∑ l : Fin 128, lane Q b h p l * lane K b h n l) + if n ≤ p then 0 else ⊥)
      (fun n => lane W b h n (⟨d.val, by omega⟩ : Fin 128)) 4096)
    (max (Online.acc (fun n => (∑ l : Fin 128, lane Q b h p l * lane K b h n l) + if n ≤ p then 0 else ⊥)
      (fun n => lane W b h n (⟨64, by omega⟩ : Fin 128)) 4096) (Ideal.ofBits .f32 0x0DA24260#32))

end Cert.KernelIdeal.Attn

end
-- ==== Proof.Attn.Whole.lean ====
/- The attention's result array, from the blocks its grid points write. -/
module
public import proofs.«01_k».proof.Proof.Attn.Blocks
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section
namespace Cert.KernelIdeal.Attn
open Idealize.ShloMosaic Idealize.ShloMosaic.TcCoe Cert.KernelIdeal.Gen Idealize.ShloMosaic.Tactic

variable (m : (ℓ : Loc nD τ sig) → Buf (Elt Ideal) ℓ) (c : Dev nD)
variable (t : Fin grid0.N)

/-- The batch, the head group and the query tile of a grid point. -/
theorem coords_lt : (grid0.coords t 0).val < 4 ∧ (grid0.coords t 1).val < 4 ∧ (grid0.coords t 2).val < 16 :=
  ⟨(grid0.coords t 0).isLt, (grid0.coords t 1).isLt, (grid0.coords t 2).isLt⟩

/-- A query row of a block is a row of the array the block is cut from. -/
theorem q_read (A : Vec Ideal S4x4096x2048 .bf16) (h : Fin 4) (r : Fin 256) (l : Fin 128) (b : Fin 4) (H : Fin 16)
    (hb : b.val = (grid0.coords t 0).val) (hH : H.val = 4 * (grid0.coords t 1).val + h.val) :
    qrow ((win0_0.blk t).view.read (Elt Ideal) A) h r l = lane A b H (256 * (grid0.coords t 2).val + r.val) l := by
  have hc := coords_lt t
  unfold qrow lane
  rw [dif_pos (by omega)]
  blk_ext [idx_at t]

/-- A key row of a block is a row of the array the block is cut from. -/
theorem k_read (A : Vec Ideal S4x4096x2048 .bf16) (h : Fin 4) (n : ℕ) (l : Fin 128) (b : Fin 4) (H : Fin 16)
    (hb : b.val = (grid0.coords t 0).val) (hH : H.val = 4 * (grid0.coords t 1).val + h.val) :
    krow ((win0_1.blk t).view.read (Elt Ideal) A) h n l = lane A b H n l := by
  have hc := coords_lt t
  unfold krow lane
  split
  · blk_ext [idx_at t]
  · rfl

/-- A value row of a block is a row of the array the block is cut from. -/
theorem v_read (A : Vec Ideal S4x4096x2048 .bf16) (h : Fin 4) (n : ℕ) (l : Fin 128) (b : Fin 4) (H : Fin 16)
    (hb : b.val = (grid0.coords t 0).val) (hH : H.val = 4 * (grid0.coords t 1).val + h.val) :
    krow ((win0_2.blk t).view.read (Elt Ideal) A) h n l = lane A b H n l := by
  have hc := coords_lt t
  unfold krow lane
  split
  · blk_ext [idx_at t]
  · rfl

/-- What a grid point writes for a row is the attention at that row's position. -/
theorem row_read (Q K W : Vec Ideal S4x4096x2048 .bf16) (h : Fin 4) (r : Fin 256) (d : Fin 64) (b : Fin 4) (H : Fin 16)
    (hb : b.val = (grid0.coords t 0).val) (hH : H.val = 4 * (grid0.coords t 1).val + h.val) :
    row_out ((win0_0.blk t).view.read (Elt Ideal) Q) ((win0_1.blk t).view.read (Elt Ideal) K)
        ((win0_2.blk t).view.read (Elt Ideal) W) (256 * (grid0.coords t 2).val + r.val) h r d
      = attn Q K W b H (256 * (grid0.coords t 2).val + r.val) d := by
  unfold row_out attn score
  simp only [q_read t Q h r _ b H hb hH, k_read t K h _ _ b H hb hH, v_read t W h _ _ b H hb hH]

/-- The attention over the whole result array. -/
def whole (Q K W : Vec Ideal S4x4096x2048 .bf16) : Vec Ideal S4x4096x1024 .f32 := fun i =>
  attn Q K W (i 0) (⟨(i 2).val / 64, by have : (i 2).val < 1024 := (i 2).isLt; omega⟩ : Fin 16) (i 1).val
    (⟨(i 2).val % 64, by omega⟩ : Fin 64)

/-- The whole result at an index, by its batch, position, head and lane. -/
theorem whole_at (Q K W : Vec Ideal S4x4096x2048 .bf16) (i : S4x4096x1024.Idx) (b : Fin 4) (H : Fin 16) (p : ℕ) (d : Fin 64)
    (h0 : (i 0).val = b.val) (h1 : (i 1).val = p) (h2 : (i 2).val = 64 * H.val + d.val) :
    whole Q K W i = attn Q K W b H p d := by
  have hd := d.isLt
  unfold whole
  congr 1
  · exact Fin.ext h0
  · exact Fin.ext (by show (i 2).val / 64 = H.val; omega)
  · exact Fin.ext (by show (i 2).val % 64 = d.val; omega)

/-- Any head of the block a grid point writes. -/
theorem out_at (c : Dev nD) (i : grid0.Coords)
    (arg3 : Memref sig .tc .vmem S1x256x512 .bf16) (harg3 : arg3.IsWhole)
    (arg4 : Memref sig .tc .vmem S1x4096x512 .bf16) (harg4 : arg4.IsWhole)
    (arg5 : Memref sig .tc .vmem S1x4096x512 .bf16) (harg5 : arg5.IsWhole)
    (arg6 : Memref sig .tc .vmem S1x256x256 .f32) (harg6 : arg6.IsWhole)
    (arg7 : Memref sig .tc .vmem S1024x1 .f32) (harg7 : arg7.IsWhole)
    (arg8 : Memref sig .tc .vmem S1024x128 .f32) (harg8 : arg8.IsWhole)
    (x0 : Vec Ideal S1x256x512 .bf16) (x1 x2 : Vec Ideal S1x4096x512 .bf16) (h : Fin 4) (r : Fin 256) (d : Fin 64) :
    out0_A_3 (F := Ideal) c i arg3 harg3 arg4 harg4 arg5 harg5 arg6 harg6 arg7 harg7 arg8 harg8 x0 x1 x2
        (ix3 0 r (⟨64 * h.val + d.val, by omega⟩ : Fin 256))
      = row_out x0 x1 x2 (256 * (i 2).val + r.val) h r d := by
  match h with
  | 0 => exact (congrArg _ (congrArg (ix3 0 r) (Fin.ext (by show 64 * 0 + d.val = 0 + d.val; omega)))).trans (out0_at c i arg3 harg3 arg4 harg4 arg5 harg5 arg6 harg6 arg7 harg7 arg8 harg8 x0 x1 x2 r d)
  | 1 => exact out1_at c i arg3 harg3 arg4 harg4 arg5 harg5 arg6 harg6 arg7 harg7 arg8 harg8 x0 x1 x2 r d
  | 2 => exact out2_at c i arg3 harg3 arg4 harg4 arg5 harg5 arg6 harg6 arg7 harg7 arg8 harg8 x0 x1 x2 r d
  | 3 => exact out3_at c i arg3 harg3 arg4 harg4 arg5 harg5 arg6 harg6 arg7 harg7 arg8 harg8 x0 x1 x2 r d

/-- After the run, the result array holds the attention. -/
theorem final : (dats m 0 c).arrAt 3 cfg0.N = whole (pq m c) (pk m c) (pv m c) := by
  refine (dats m 0 c).arrAt_eq_of_covers 3 _ (by decide +kernel) fun t hf y => ?_
  rw [after0_3]
  unfold outsAt0
  have e0 : iblk m c 0 t = (win0_0.blk t).view.read (Elt Ideal) (pq m c) := rfl
  have e1 : iblk m c 1 t = (win0_1.blk t).view.read (Elt Ideal) (pk m c) := rfl
  have e2 : iblk m c 2 t = (win0_2.blk t).view.read (Elt Ideal) (pv m c) := rfl
  rw [e0, e1, e2]
  generalize pq m c = Q
  generalize pk m c = K
  generalize pv m c = W
  blk_simp
  have hc := coords_lt t
  have y0 : (y 0).val < 1 := (y 0).isLt
  have y1 : (y 1).val < 256 := (y 1).isLt
  have y2 : (y 2).val < 256 := (y 2).isLt
  have hy : y = ix3 (0 : Fin 1) (⟨(y 1).val, y1⟩ : Fin 256)
      (⟨64 * (⟨(y 2).val / 64, by omega⟩ : Fin 4).val + (⟨(y 2).val % 64, by omega⟩ : Fin 64).val, by
        show 64 * ((y 2).val / 64) + (y 2).val % 64 < 256; omega⟩ : Fin 256) := by
    funext a
    refine Fin.ext ?_
    fin_cases a
    · show (y 0).val = 0
      omega
    · rfl
    · show (y 2).val = 64 * ((y 2).val / 64) + (y 2).val % 64
      omega
  refine (congrArg _ hy).trans ((out_at _ _ _ _ _ _ _ _ _ _ _ _ _ _ _ _ _ _ _ _).trans ?_)
  refine (row_read t Q K W _ _ _ (⟨(grid0.coords t 0).val, hc.1⟩ : Fin 4)
    (⟨4 * (grid0.coords t 1).val + (y 2).val / 64, by omega⟩ : Fin 16) rfl rfl).trans ?_
  refine (whole_at Q K W _ _ _ _ _ ?_ ?_ ?_).symm
  · blk_simp [idx_at t]
  · blk_simp [idx_at t]
    simp only
    omega
  · blk_simp [idx_at t]
    show (grid0.coords t 1).val * 256 + (y 2).val = 64 * (4 * (grid0.coords t 1).val + (y 2).val / 64) + (y 2).val % 64
    omega

end Cert.KernelIdeal.Attn

end
-- ==== Proof.Attn.Plain.lean ====
/- Causal softmax attention of one query row, as a formula over the extended reals, and the two ways of computing it that
   are to be compared: the sum of the weighted values over the sum of the weights, and the sum of the normalised weights
   times the values. -/
module

public import proofs.«01_k».proof.Proof.Online
public import Idealize.ShloMosaic.Lib.Pointwise

@[expose] public section

noncomputable section

namespace Plain

open Idealize.ShloMosaic

/-- The scale of the scores. -/
abbrev scale : EReal := Ideal.ofBits .f32 0x3DD105EC#32
/-- The least denominator. -/
abbrev least : EReal := Ideal.ofBits .f32 0x0DA24260#32

/-- The scale is a nonnegative real. -/
theorem scale_coe : ∃ r : ℝ, 0 ≤ r ∧ scale = (r : EReal) := by
  refine ⟨_, ?_, by simp [Ideal.ofBits, Ideal.ieee, -EReal.coe_mul]; rfl⟩
  norm_num

/-- The least denominator is a positive real. -/
theorem least_coe : ∃ r : ℝ, 0 < r ∧ least = (r : EReal) := by
  refine ⟨_, ?_, by simp [Ideal.ofBits, Ideal.ieee, -EReal.coe_mul]; rfl⟩
  norm_num

variable (q : Fin 96 → EReal) (k : ℕ → Fin 96 → EReal) (v : ℕ → EReal) (p : ℕ)

/-- The scaled score against key `n`, −∞ for a key past the query's position `p`. -/
def score (n : ℕ) : EReal := if n ≤ p then (∑ x : Fin 96, q x * k n x) * scale else ⊥

/-- The sum of the weights over the first 4096 keys, at least `least`. -/
def den : EReal := max (∑ n ∈ Finset.range 4096, Ideal.exp (score q k p n - Online.top (score q k p) 4096)) least

/-- The attention of the row: the normalised weights times the values, summed. -/
def attend : EReal := ∑ n ∈ Finset.range 4096, v n * Ideal.div (Ideal.exp (score q k p n - Online.top (score q k p) 4096)) (den q k p)

/-- The weighted sum of the values over the sum of the weights is the attention. -/
theorem attend_eq (one : ℕ → EReal) (h1 : ∀ n, n < 4096 → one n = 1) :
    Ideal.div (Online.acc (score q k p) v 4096) (max (Online.acc (score q k p) one 4096) least) = attend q k v p := by
  have hd : Online.acc (score q k p) one 4096 = ∑ n ∈ Finset.range 4096, Ideal.exp (score q k p n - Online.top (score q k p) 4096) :=
    Finset.sum_congr rfl fun n hn => by rw [h1 n (Finset.mem_range.mp hn), mul_one]
  obtain ⟨e, he, hle⟩ := least_coe
  obtain ⟨d, hd0, hde⟩ := Online.den_coe (score q k p) 4096 he
  rw [hd]
  unfold attend den
  rw [hle, hde]
  exact (Online.div_sum _ _ _ hd0).trans (Finset.sum_congr rfl fun n _ => mul_comm _ _)

/-- A score from padded lanes: the queries scaled beforehand, the lanes past the 96th zero. -/
theorem score_lanes (n : ℕ) :
    (∑ l : Fin 128, (if hl : l.val < 96 then q ⟨l.val, hl⟩ * scale else 0) * (if hl : l.val < 96 then k n ⟨l.val, hl⟩ else 0))
      + (if n ≤ p then 0 else ⊥) = score q k p n := by
  obtain ⟨c, hc, hce⟩ := scale_coe
  have hs : (∑ l : Fin 128, (if hl : l.val < 96 then q ⟨l.val, hl⟩ * scale else 0) * (if hl : l.val < 96 then k n ⟨l.val, hl⟩ else 0))
      = (∑ x : Fin 96, q x * k n x) * scale := by
    rw [hce, Online.sum_mul_coe _ _ hc, Fin.sum_univ_add (a := 96) (b := 32)]
    have h2 : ∀ x : Fin 32, ¬ (Fin.natAdd 96 x).val < 96 := fun x => by show ¬ (96 + x.val < 96); omega
    rw [Finset.sum_congr (s₁ := (Finset.univ : Finset (Fin 32))) rfl (fun x _ => by rw [dif_neg (h2 x), zero_mul] : ∀ x ∈ Finset.univ, _ = (0 : EReal)),
      Finset.sum_const_zero, add_zero]
    refine Finset.sum_congr rfl fun x _ => ?_
    have hx : (Fin.castAdd 32 x).val < 96 := x.isLt
    rw [dif_pos hx, dif_pos hx]
    show q x * c * k n x = q x * k n x * c
    rw [mul_assoc, mul_comm (c : EReal), ← mul_assoc]
  rw [hs]
  unfold score
  split
  · rw [add_zero]
  · rw [EReal.add_bot]

end Plain

end
-- ==== Proof.Attn.Ref.lean ====
/- The reference's attention read element by element. -/
module

public import proofs.«01_k».proof.Proof.Gen.ReferenceIdeal.Run
public import proofs.«01_k».proof.Proof.Attn.Plain
public import Idealize.ShloMosaic.Lib.Pointwise
public import Idealize.ShloMosaic.Lib.Tactic.CleanTypes
public import Idealize.ShloMosaic.Lib.WordCmp

@[expose] public section

set_option maxRecDepth 16384

noncomputable section

namespace Cert.ReferenceIdeal.Attn

open Idealize.ShloMosaic Idealize.ShloMosaic.TcCoe Cert.ReferenceIdeal.Gen Idealize.ShloMosaic.Tactic

variable (m : (ℓ : Loc nD τ sig) → Buf (Elt Ideal) ℓ) (c : Dev nD)

/-- The queries at the launch, -/
abbrev aq : Vec Ideal S4x4096x16x96 .f32 := m ((c.tc : Thread nD τ).loc main_arg0)
/-- the keys -/
abbrev ak : Vec Ideal S4x4096x16x96 .f32 := m ((c.tc : Thread nD τ).loc main_arg1)
/-- and the values. -/
abbrev av : Vec Ideal S4x4096x16x64 .f32 := m ((c.tc : Thread nD τ).loc main_arg2)

/-- A maximum folded from −∞ is the supremum. -/
theorem fold_max {ι : Type} (S : Finset ι) (f : ι → EReal) :
    Finset.fold max (Ideal.ofBits .f32 4286578688#32) f S = S.sup f := by
  have hb : Ideal.ofBits .f32 4286578688#32 = (⊥ : EReal) := by simp [Ideal.ofBits, Ideal.ieee]
  rw [hb]
  rfl

/-- A choice by the causal comparison. -/
theorem sel (x p : Fin 4096) (a b : EReal) :
    Scalar.select (IntOp.cmpi CmpIPredicate.sle (BitVec.ofNat 32 x.val) (BitVec.ofNat 32 p.val)) a b = if x.val ≤ p.val then a else b := by
  rw [WordCmp.cmpi_sle_ofNat (by omega) (by omega)]
  by_cases h : x.val ≤ p.val
  · rw [if_pos h, decide_eq_true h]; rfl
  · rw [if_neg h, decide_eq_false h]; rfl

/-- A sum over the 4096 keys, as a sum over a range. -/
theorem sum_range (f : ℕ → EReal) : (∑ x : Fin 4096, f x.val) = ∑ n ∈ Finset.range 4096, f n := Fin.sum_univ_eq_sum_range f 4096

/-- A supremum over the 4096 keys, as a supremum over a range. -/
theorem sup_range (f : ℕ → EReal) : (Finset.univ.sup fun x : Fin 4096 => f x.val) = Online.top f 4096 := by
  refine le_antisymm (Finset.sup_le fun x _ => Online.le_top f x.isLt) (Finset.sup_le fun n hn => ?_)
  exact Finset.le_sup (f := fun x : Fin 4096 => f x.val) (Finset.mem_univ (⟨n, Finset.mem_range.mp hn⟩ : Fin 4096))

/-- Key `n` of head `h`, zero past the last. -/
def key (K : Vec Ideal S4x4096x16x96 .f32) (b : Fin 4) (h : Fin 16) (n : ℕ) (x : Fin 96) : EReal :=
  if hn : n < 4096 then K (ix4 b ⟨n, hn⟩ h x) else 0

/-- Lane `d` of the value of key `n` of head `h`, zero past the last. -/
def val (W : Vec Ideal S4x4096x16x64 .f32) (b : Fin 4) (h : Fin 16) (d : Fin 64) (n : ℕ) : EReal :=
  if hn : n < 4096 then W (ix4 b ⟨n, hn⟩ h d) else 0

/-- The attention of position `p` of sequence `b`, head `h`, lane `d`. -/
def attend (Q K : Vec Ideal S4x4096x16x96 .f32) (W : Vec Ideal S4x4096x16x64 .f32) (b : Fin 4) (p : Fin 4096) (h : Fin 16) (d : Fin 64) : EReal :=
  Plain.attend (fun x => Q (ix4 b p h x)) (key K b h) (val W b h d) p.val

/-- The weights of keys the query does not see are zero either way. -/
theorem wt (q : Fin 96 → EReal) (k : ℕ → Fin 96 → EReal) (n p : ℕ) (t : EReal) :
    (if n ≤ p then Ideal.exp (Plain.score q k p n - t) else 0) = Ideal.exp (Plain.score q k p n - t) := by
  split
  · rfl
  · rename_i h
    rw [Plain.score, if_neg h, EReal.bot_sub]
    rfl

/-- The reference's result is the attention. -/
theorem ref_at (b : Fin 4) (p : Fin 4096) (h : Fin 16) (d : Fin 64) :
    Value.res_out0 (F := Ideal) m c (ix3 b p (⟨64 * h.val + d.val, by omega⟩ : Fin 1024)) = attend (aq m c) (ak m c) (av m c) b p h d := by
  have key_at : ∀ x : Fin 4096, ∀ y, key (ak m c) b h x.val y = ak m c (ix4 b x h y) := fun x y => dif_pos x.isLt
  have val_at : ∀ x : Fin 4096, val (av m c) b h d x.val = av m c (ix4 b x h d) := fun x => dif_pos x.isLt
  have hsc : ∀ x : Fin 4096, (if x.val ≤ p.val then (∑ y, aq m c (ix4 b p h y) * ak m c (ix4 b x h y)) * Plain.scale else ⊥)
      = Plain.score (fun y => aq m c (ix4 b p h y)) (key (ak m c) b h) p.val x.val := fun x => by
    simp only [Plain.score, key_at]
  have htop : (Finset.univ.sup fun x : Fin 4096 => Plain.score (fun y => aq m c (ix4 b p h y)) (key (ak m c) b h) p.val x.val)
      = Online.top (Plain.score (fun y => aq m c (ix4 b p h y)) (key (ak m c) b h) p.val) 4096 := sup_range _
  have hb : (FloatOps.ofBits .f32 4286578688#32 : Ideal .f32) = (⊥ : EReal) := by
    show Ideal.ofBits .f32 4286578688#32 = _
    simp [Ideal.ofBits, Ideal.ieee]
  have h0 : (FloatOps.ofBits .f32 0#32 : Ideal .f32) = (0 : EReal) := Ideal.ofBits_zero_f32
  show Value.res_main_v24 (F := Ideal) m c _ = _
  unfold Value.res_main_v24
  clean_types
  pointwise
  simp only [fold_max, sel, id_eq, constant, hb, h0]
  refine Eq.trans (b := ∑ x : Fin 4096, av m c (ix4 b x h d) * Ideal.div
      (if x.val ≤ p.val then Ideal.exp ((if x.val ≤ p.val then (∑ y, aq m c (ix4 b p h y) * ak m c (ix4 b x h y)) * Plain.scale else ⊥)
        - Finset.univ.sup fun x : Fin 4096 => if x.val ≤ p.val then (∑ y, aq m c (ix4 b p h y) * ak m c (ix4 b x h y)) * Plain.scale else ⊥) else 0)
      (max (∑ x : Fin 4096, if x.val ≤ p.val then Ideal.exp ((if x.val ≤ p.val then (∑ y, aq m c (ix4 b p h y) * ak m c (ix4 b x h y)) * Plain.scale else ⊥)
        - Finset.univ.sup fun x : Fin 4096 => if x.val ≤ p.val then (∑ y, aq m c (ix4 b p h y) * ak m c (ix4 b x h y)) * Plain.scale else ⊥) else 0)
        Plain.least)) rfl ?_
  simp only [hsc]
  rw [htop]
  simp only [wt]
  unfold attend Plain.attend Plain.den
  rw [← sum_range, ← sum_range]
  simp only [val_at]

end Cert.ReferenceIdeal.Attn

end
-- ==== Proof.Attn.Same.lean ====
/- The kernel's attention and the reference's are one: given the same arguments, the two results agree at every index. -/
module

public import proofs.«01_k».proof.Proof.Attn.Whole
public import proofs.«01_k».proof.Proof.Attn.Ref

@[expose] public section

set_option maxRecDepth 16384

noncomputable section

namespace Cert.KernelIdeal.Attn

open Idealize.ShloMosaic Idealize.ShloMosaic.TcCoe Cert.KernelIdeal.Gen Idealize.ShloMosaic.Tactic

variable (m : (ℓ : Loc nD τ sig) → Buf (Elt Ideal) ℓ) (c : Dev nD)

/-- The kernel's attention of the prepared operands is the attention of the launched ones. -/
theorem attn_at (b : Fin 4) (p : Fin 4096) (h : Fin 16) (d : Fin 64) :
    attn (pq m c) (pk m c) (pv m c) b h p.val d = Cert.ReferenceIdeal.Attn.attend (aq m c) (ak m c) (av m c) b p h d := by
  have hq : ∀ l : Fin 128, lane (pq m c) b h p.val l = if hl : l.val < 96 then aq m c (ix4 b p h ⟨l.val, hl⟩) * Plain.scale else 0 :=
    fun l => (dif_pos p.isLt).trans (q_host m c b p h l)
  have hk : ∀ n (l : Fin 128), lane (pk m c) b h n l = if hl : l.val < 96 then Cert.ReferenceIdeal.Attn.key (ak m c) b h n ⟨l.val, hl⟩ else 0 := by
    intro n l
    unfold lane Cert.ReferenceIdeal.Attn.key
    by_cases hn : n < 4096
    · rw [dif_pos hn, k_host m c b ⟨n, hn⟩ h l]
      simp only [dif_pos hn]
    · simp only [dif_neg hn, dite_eq_ite, ite_self]
  have hv : (fun n => lane (pv m c) b h n (⟨d.val, by omega⟩ : Fin 128)) = Cert.ReferenceIdeal.Attn.val (av m c) b h d := by
    funext n
    unfold lane Cert.ReferenceIdeal.Attn.val
    by_cases hn : n < 4096
    · rw [dif_pos hn, dif_pos hn]
      exact (v_host m c b ⟨n, hn⟩ h (⟨d.val, by omega⟩ : Fin 128)).trans (dif_pos d.isLt)
    · rw [dif_neg hn, dif_neg hn]
  have h1 : ∀ n, n < 4096 → lane (pv m c) b h n (⟨64, by omega⟩ : Fin 128) = 1 := fun n hn =>
    (dif_pos hn).trans ((v_host m c b ⟨n, hn⟩ h (⟨64, by omega⟩ : Fin 128)).trans ((dif_neg (by simp)).trans (if_pos rfl)))
  have hs : (fun n => (∑ l : Fin 128, lane (pq m c) b h p.val l * lane (pk m c) b h n l) + if n ≤ p.val then 0 else ⊥)
      = Plain.score (fun x => aq m c (ix4 b p h x)) (Cert.ReferenceIdeal.Attn.key (ak m c) b h) p.val := by
    funext n
    rw [← Plain.score_lanes]
    simp only [hq, hk]
  unfold attn
  rw [hs, hv]
  exact Plain.attend_eq _ _ _ _ _ h1

/-- The two results agree, the arguments being the same. -/
theorem same (m' : (ℓ : Loc Cert.ReferenceIdeal.nD Cert.ReferenceIdeal.τ Cert.ReferenceIdeal.sig) → Buf (Elt Ideal) ℓ) (c' : Dev Cert.ReferenceIdeal.nD)
    (h0 : Cert.ReferenceIdeal.Attn.aq m' c' = aq m c) (h1 : Cert.ReferenceIdeal.Attn.ak m' c' = ak m c) (h2 : Cert.ReferenceIdeal.Attn.av m' c' = av m c) :
    (whole (pq m c) (pk m c) (pv m c) : S4x4096x1024.Idx → EReal) = Cert.ReferenceIdeal.Value.res_out0 (F := Ideal) m' c' := by
  funext i
  have hi : (i 2).val < 1024 := (i 2).isLt
  obtain ⟨h, d, hd⟩ : ∃ (h : Fin 16) (d : Fin 64), (i 2).val = 64 * h.val + d.val :=
    ⟨⟨(i 2).val / 64, by omega⟩, ⟨(i 2).val % 64, by omega⟩, by show _ = 64 * ((i 2).val / 64) + (i 2).val % 64; omega⟩
  have e : i = ix3 (i 0 : Fin 4) (i 1 : Fin 4096) (⟨64 * h.val + d.val, by omega⟩ : Fin 1024) := by
    funext k
    fin_cases k
    · rfl
    · rfl
    · exact Fin.ext hd
  rw [whole_at (pq m c) (pk m c) (pv m c) i (i 0) h (i 1).val d rfl rfl hd]
  refine (attn_at m c (i 0) (i 1) h d).trans ?_
  rw [← h0, ← h1, ← h2]
  refine (Cert.ReferenceIdeal.Attn.ref_at m' c' (i 0) (i 1) h d).symm.trans ?_
  exact congrArg _ e.symm

end Cert.KernelIdeal.Attn

end
-- ==== Proof.Attn.Algebra.lean ====
/- The attention's algebraic claim, from the two runs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Attn.Same
public import Idealize.ShloMosaic.Lib.Claim

@[expose] public section

noncomputable section

namespace Cert.Proof.Attn

open Idealize.ShloMosaic Idealize.SL.Sem

/-- From memories that agree on queries, keys and values, kernel and reference both run and end with equal results. -/
theorem algebraic : Cert.algebraic_KernelIdeal_ReferenceIdeal := by
  intro m g m' g' _ hagree
  refine ⟨fun c => Cert.KernelIdeal.Attn.whole (Cert.KernelIdeal.Attn.pq m c) (Cert.KernelIdeal.Attn.pk m c) (Cert.KernelIdeal.Attn.pv m c), ?_, ?_⟩
  · refine (θ_run _ _ _).mono (fun r h c => ?_) (Cert.KernelIdeal.Value.run_blocks m g)
    obtain ⟨h0, h1⟩ := h c
    exact ⟨h0.trans (Cert.KernelIdeal.Attn.final m c), h1⟩
  · refine (θ_run _ _ _).mono (fun r h c => ?_) (Cert.ReferenceIdeal.Value.run m' g')
    obtain ⟨h0, h1⟩ := h c
    obtain ⟨a0, a1, a2⟩ := hagree c
    exact ⟨h0.trans (Cert.KernelIdeal.Attn.same m c m' c a0 a1 a2).symm, h1⟩

end Cert.Proof.Attn

end
-- ==== Proof.Tail.Row.lean ====
/- One row of a layer's tail, as formulas over the extended reals: the layer norm, the gated feed-forward sum and the gated layer
   embedding. -/
module

public import Idealize.ShloMosaic.Lib.Pointwise

@[expose] public section

noncomputable section

namespace TailRow

open Idealize.ShloMosaic

/-- The residual weight. -/
abbrev alpha : EReal := Ideal.ofBits .f32 0x3FD744FD#32
/-- The row's length. -/
abbrev width : EReal := Ideal.ofBits .f32 0x44800000#32
/-- The layer norm's variance offset. -/
abbrev eps : EReal := Ideal.ofBits .f32 0x3727C5AC#32

/-- The mean of a row of 1024. -/
def mean (x : Fin 1024 → EReal) : EReal := Ideal.div (∑ k, x k) width

/-- The layer norm of a row, scaled by `g` and shifted by `b`. -/
def norm (x g b : Fin 1024 → EReal) (j : Fin 1024) : EReal :=
  (x j - mean x) * Ideal.rsqrt (mean (fun k => (x k - mean x) * (x k - mean x)) + eps) * g j + b j

/-- The product of a row with a matrix. -/
def prod {n : ℕ} {k : ℕ} (x : Fin n → EReal) (w : Fin n → Fin k → EReal) (j : Fin k) : EReal := ∑ l, x l * w l j

/-- The row after the attention: the norm of the weighted residual plus the projected attention. -/
def first (a x : Fin 1024 → EReal) (wo : Fin 1024 → Fin 1024 → EReal) (g b : Fin 1024 → EReal) : Fin 1024 → EReal :=
  norm (fun j => alpha * x j + prod a wo j) g b

/-- One hidden unit of the feed-forward layer: the gate, its sigmoid, and the other factor. -/
def unit {k : ℕ} (h : Fin 1024 → EReal) (wg wu : Fin 1024 → Fin k → EReal) (f : Fin k) : EReal :=
  prod h wg f * Ideal.logistic (prod h wg f) * prod h wu f

/-- The feed-forward sum over `k` hidden units. -/
def ffn {k : ℕ} (h : Fin 1024 → EReal) (wg wu : Fin 1024 → Fin k → EReal) (wd : Fin k → Fin 1024 → EReal) (j : Fin 1024) : EReal :=
  ∑ f, unit h wg wu f * wd f j

/-- The row after the feed-forward layer, whose sum is `s`. -/
def second (h s g b : Fin 1024 → EReal) : Fin 1024 → EReal := norm (fun j => alpha * h j + s j) g b

/-- The row with the gated layer embedding added. -/
def gated (h : Fin 1024 → EReal) (pwg : Fin 1024 → Fin 1024 → EReal) (p : Fin 256 → EReal) (pwp : Fin 256 → Fin 1024 → EReal) (j : Fin 1024) : EReal :=
  h j + Ideal.logistic (prod h pwg j) * prod p pwp j

/-- The tail of a row. -/
def tail (a x : Fin 1024 → EReal) (p : Fin 256 → EReal) (wo : Fin 1024 → Fin 1024 → EReal) (g1 b1 g2 b2 : Fin 1024 → EReal)
    (wg wu : Fin 1024 → Fin 2816 → EReal) (wd : Fin 2816 → Fin 1024 → EReal) (pwg : Fin 1024 → Fin 1024 → EReal) (pwp : Fin 256 → Fin 1024 → EReal) :
    Fin 1024 → EReal :=
  gated (second (first a x wo g1 b1) (ffn (first a x wo g1 b1) wg wu wd) g2 b2) pwg p pwp

/-- Columns `[o, o + 256)` of a matrix of 2816 columns. -/
def cols (w : Fin 1024 → Fin 2816 → EReal) (c : Fin 11) (l : Fin 1024) (f : Fin 256) : EReal := w l ⟨256 * c.val + f.val, by omega⟩

/-- Rows `[o, o + 256)` of a matrix of 2816 rows. -/
def rows (w : Fin 2816 → Fin 1024 → EReal) (c : Fin 11) (f : Fin 256) (j : Fin 1024) : EReal := w ⟨256 * c.val + f.val, by omega⟩ j

/-- The feed-forward sum over 2816 hidden units is the sum of the sums over its eleven chunks of 256. -/
theorem ffn_chunks (h : Fin 1024 → EReal) (wg wu : Fin 1024 → Fin 2816 → EReal) (wd : Fin 2816 → Fin 1024 → EReal) (j : Fin 1024) :
    ffn h wg wu wd j = ∑ c : Fin 11, ffn h (cols wg c) (cols wu c) (rows wd c) j := by
  unfold ffn
  rw [← Finset.sum_product', Finset.univ_product_univ]
  refine (Fintype.sum_equiv (finProdFinEquiv (m := 11) (n := 256)) _ _ fun q => ?_).symm
  have e : (finProdFinEquiv q : Fin (11 * 256)) = (⟨256 * q.1.val + q.2.val, by omega⟩ : Fin 2816) := by
    refine Fin.ext ?_
    show q.2.val + 256 * q.1.val = 256 * q.1.val + q.2.val
    omega
  rw [e]
  rfl

end TailRow

end
-- ==== Proof.Tail.Pay.lean ====
/- The tail's payloads read element by element, as the row formulas. -/
module

public import proofs.«01_k».proof.Proof.Gen.Kernel2Ideal.Skeleton
public import proofs.«01_k».proof.Proof.Tail.Row
public import Idealize.ShloMosaic.Lib.Pointwise

@[expose] public section

set_option maxRecDepth 16384

noncomputable section

namespace Cert.Kernel2Ideal.Tail

open Idealize.ShloMosaic Idealize.ShloMosaic.TcCoe Cert.Kernel2Ideal.Gen Idealize.ShloMosaic.Tactic TailRow

/-- Row `r` of a block of `k` columns. -/
abbrev row {n k : ℕ} (v : (⟨2, ![n, k]⟩ : Shape).Idx → EReal) (r : Fin n) (l : Fin k) : EReal := v (ix2 r l)

/-- A block as a matrix. -/
abbrev mat {n k : ℕ} (v : (⟨2, ![n, k]⟩ : Shape).Idx → EReal) (l : Fin n) (j : Fin k) : EReal := v (ix2 l j)

variable (r : Fin 512) (j : Fin 1024) (f : Fin 256)

/-- The first norm of row `r`. -/
theorem pay2_at (v0 v1 : Vec Ideal S512x1024 .f32) (v3 : Vec Ideal S1024x1024 .bf16) (v9 v11 : Vec Ideal S1x1024 .f32) :
    k0_pay2 (F := Ideal) v0 v1 v3 v9 v11 (ix2 r j) = first (row v0 r) (row v1 r) (mat v3) (row v9 0) (row v11 0) j := by
  pointwise [k0_pay2]
  rfl

/-- The same, as the products read it. -/
theorem pay3_at (v0 v1 : Vec Ideal S512x1024 .f32) (v3 : Vec Ideal S1024x1024 .bf16) (v9 v11 : Vec Ideal S1x1024 .f32) :
    k0_pay3 (F := Ideal) v0 v1 v3 v9 v11 (ix2 r j) = first (row v0 r) (row v1 r) (mat v3) (row v9 0) (row v11 0) j := pay2_at r j v0 v1 v3 v9 v11

/-- The feed-forward sum starts at zero. -/
theorem pay4_at : k0_pay4 (F := Ideal) (ix2 r j) = (0 : EReal) := by
  pointwise [k0_pay4]

/-- A gate's product. -/
theorem pay5_at (v0 v1 : Vec Ideal S512x1024 .f32) (v3 : Vec Ideal S1024x1024 .bf16) (v9 v11 : Vec Ideal S1x1024 .f32) (v35 : Vec Ideal S1024x256 .bf16) :
    k0_pay5 (F := Ideal) v0 v1 v3 v9 v11 v35 (ix2 r f) = prod (row (k0_pay3 (F := Ideal) v0 v1 v3 v9 v11) r) (mat v35) f := by
  unfold k0_pay5
  generalize k0_pay3 (F := Ideal) v0 v1 v3 v9 v11 = v33
  pointwise
  rfl

/-- A gate's product. -/
theorem pay10_at (v33 : FVec Ideal S512x1024 .bf16) (v105 : Vec Ideal S1024x256 .bf16) :
    k0_pay10 (F := Ideal) v33 v105 (ix2 r f) = prod (row v33 r) (mat v105) f := by
  pointwise [k0_pay10]
  rfl

/-- A hidden unit. -/
theorem pay7_at (v33 : FVec Ideal S512x1024 .bf16) (v63 v66 : Vec Ideal S1024x256 .bf16) :
    k0_pay7 (F := Ideal) v33 v63 v66 (ix2 r f) = unit (row v33 r) (mat v63) (mat v66) f := by
  pointwise [k0_pay7]
  rfl

/-- A hidden unit. -/
theorem pay14_at (v33 : FVec Ideal S512x1024 .bf16) (v175 v178 : Vec Ideal S1024x256 .bf16) :
    k0_pay14 (F := Ideal) v33 v175 v178 (ix2 r f) = unit (row v33 r) (mat v175) (mat v178) f := by
  pointwise [k0_pay14]
  rfl

/-- Down-projection rows, as loaded. -/
theorem pay8_at (v73 : Vec Ideal S256x1024 .bf16) : k0_pay8 (F := Ideal) v73 (ix2 f j) = v73 (ix2 f j) := by
  pointwise [k0_pay8]

/-- Gate columns, as loaded. -/
theorem pay11_at (l : Fin 1024) (v108 : Vec Ideal S1024x256 .bf16) : k0_pay11 (F := Ideal) v108 (ix2 l f) = v108 (ix2 l f) := by
  pointwise [k0_pay11]

/-- Two chunks added to the sum, the first chunk's gate product given. -/
theorem pay6_at (v33 : FVec Ideal S512x1024 .bf16) (v34 : FVec Ideal S512x1024 .f32) (v37 : FVec Ideal S512x256 .f32) (v35 v38 : Vec Ideal S1024x256 .bf16)
    (v45 : Vec Ideal S256x1024 .bf16) (v49 v52 : Vec Ideal S1024x256 .bf16) (v59 : Vec Ideal S256x1024 .bf16)
    (h : ∀ f, v37 (ix2 r f) = prod (row v33 r) (mat v35) f) :
    k0_pay6 (F := Ideal) v33 v34 v37 v38 v45 v49 v52 v59 (ix2 r j)
      = v34 (ix2 r j) + ffn (row v33 r) (mat v35) (mat v38) (mat v45) j + ffn (row v33 r) (mat v49) (mat v52) (mat v59) j := by
  pointwise [k0_pay6]
  simp only [h]
  rfl

/-- Three chunks added to the sum, the first chunk's hidden units given. -/
theorem pay9_at (v33 : FVec Ideal S512x1024 .bf16) (v62 : FVec Ideal S512x1024 .f32) (v72 : FVec Ideal S512x256 .bf16) (v74 : FVec Ideal S256x1024 .bf16)
    (v77 v80 : Vec Ideal S1024x256 .bf16) (v87 : Vec Ideal S256x1024 .bf16) (v91 v94 : Vec Ideal S1024x256 .bf16) (v101 : Vec Ideal S256x1024 .bf16) :
    k0_pay9 (F := Ideal) v33 v62 v72 v74 v77 v80 v87 v91 v94 v101 (ix2 r j)
      = v62 (ix2 r j) + (∑ f, row v72 r f * mat v74 f j) + ffn (row v33 r) (mat v77) (mat v80) (mat v87) j
        + ffn (row v33 r) (mat v91) (mat v94) (mat v101) j := by
  pointwise [k0_pay9]
  rfl

/-- Three chunks added to the sum, the first chunk's gate product given. -/
theorem pay12_at (v33 : FVec Ideal S512x1024 .bf16) (v104 : FVec Ideal S512x1024 .f32) (v107 : FVec Ideal S512x256 .f32) (v109 : FVec Ideal S1024x256 .bf16)
    (v105 : Vec Ideal S1024x256 .bf16) (v115 : Vec Ideal S256x1024 .bf16) (v119 v122 : Vec Ideal S1024x256 .bf16) (v129 : Vec Ideal S256x1024 .bf16)
    (v133 v136 : Vec Ideal S1024x256 .bf16) (v143 : Vec Ideal S256x1024 .bf16) (h : ∀ f, v107 (ix2 r f) = prod (row v33 r) (mat v105) f) :
    k0_pay12 (F := Ideal) v33 v104 v107 v109 (constant S512x256 .f32 0x00000000#32) v115 v119 v122 v129 v133 v136 v143 (ix2 r j)
      = v104 (ix2 r j) + ffn (row v33 r) (mat v105) (mat v109) (mat v115) j + ffn (row v33 r) (mat v119) (mat v122) (mat v129) j
        + ffn (row v33 r) (mat v133) (mat v136) (mat v143) j := by
  pointwise [k0_pay12]
  simp only [h]
  rfl

/-- Two chunks added to the sum. -/
theorem pay13_at (v33 : FVec Ideal S512x1024 .bf16) (v146 : FVec Ideal S512x1024 .f32)
    (v147 v150 : Vec Ideal S1024x256 .bf16) (v157 : Vec Ideal S256x1024 .bf16) (v161 v164 : Vec Ideal S1024x256 .bf16) (v171 : Vec Ideal S256x1024 .bf16) :
    k0_pay13 (F := Ideal) v33 v146 v147 v150 v157 v161 v164 v171 (ix2 r j)
      = v146 (ix2 r j) + ffn (row v33 r) (mat v147) (mat v150) (mat v157) j + ffn (row v33 r) (mat v161) (mat v164) (mat v171) j := by
  pointwise [k0_pay13]
  rfl

/-- The second norm of row `r`, the last chunk's hidden units given. -/
theorem pay15_at (v32 v174 : FVec Ideal S512x1024 .f32) (v184 : FVec Ideal S512x256 .bf16) (v185 : Vec Ideal S256x1024 .bf16) (v192 v194 : Vec Ideal S1x1024 .f32) :
    k0_pay15 (F := Ideal) v32 v174 v184 v185 v192 v194 (ix2 r j)
      = second (row v32 r) (fun j => v174 (ix2 r j) + ∑ f, row v184 r f * mat v185 f j) (row v192 0) (row v194 0) j := by
  pointwise [k0_pay15]
  rfl

/-- The gate of the layer embedding. -/
theorem pay16_at (v32 v174 : FVec Ideal S512x1024 .f32) (v184 : FVec Ideal S512x256 .bf16) (v185 : Vec Ideal S256x1024 .bf16) (v192 v194 : Vec Ideal S1x1024 .f32)
    (v217 : Vec Ideal S1024x1024 .bf16) :
    k0_pay16 (F := Ideal) v32 v174 v184 v185 v192 v194 v217 (ix2 r j)
      = Ideal.logistic (prod (row (k0_pay15 (F := Ideal) v32 v174 v184 v185 v192 v194) r) (mat v217) j) := by
  unfold k0_pay16
  generalize k0_pay15 (F := Ideal) v32 v174 v184 v185 v192 v194 = v215
  pointwise
  rfl

/-- The layer embedding's row. -/
theorem pay17_at (v221 : Vec Ideal S1x512x256 .f32) : k0_pay17 (F := Ideal) v221 (ix2 r f) = v221 (ix3 0 r f) := by
  pointwise [k0_pay17]

/-- The row with the gated layer embedding added. -/
theorem pay1_at (v215 v220 : FVec Ideal S512x1024 .f32) (v223 : FVec Ideal S512x256 .bf16) (v224 : Vec Ideal S256x1024 .bf16) :
    k0_pay1 (F := Ideal) v215 v220 v223 v224 (ix2 r j) = v215 (ix2 r j) + v220 (ix2 r j) * prod (row v223 r) (mat v224) j := by
  pointwise [k0_pay1]
  rfl

end Cert.Kernel2Ideal.Tail

end
-- ==== Proof.Tail.Out.lean ====
/- The block one grid point of the tail writes, element by element. -/
module

public import proofs.«01_k».proof.Proof.Gen.Kernel2Ideal.Frame
public import proofs.«01_k».proof.Proof.Tail.Pay
public import Idealize.ShloMosaic.Lib.Pipeline.ValueKit.Basic
public import Idealize.ShloMosaic.Lib.Pipeline.ValueKit.Tiles

@[expose] public section

set_option maxRecDepth 16384

noncomputable section

namespace Cert.Kernel2Ideal.Tail

open Idealize.ShloMosaic Idealize.ShloMosaic.TcCoe Cert.Kernel2Ideal.Gen Idealize.ShloMosaic.Tactic TailRow

/-- A sum of eleven terms, in order. -/
theorem sum_eleven (F : Fin 11 → EReal) : ∑ c, F c = 0 + F 0 + F 1 + F 2 + F 3 + F 4 + F 5 + F 6 + F 7 + F 8 + F 9 + F 10 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_zero]
  rfl

/-- A load of 256 columns is a chunk of the matrix. -/
theorem ld_cols (x : Vec Ideal S1024x2816 .bf16) (o : ℕ) (inb) (c : Fin 11) (ho : o = 256 * c.val) :
    mat (View.ld (Val := Elt Ideal) (e' := .bf16) x (Rect.unit (s := S1024x2816) ![0, o] S1024x256.size inb)) = cols (mat x) c := by
  funext l f
  refine View.ld_unit_apply_of _ _ _ _ _ _ fun a => ?_
  fin_cases a
  · exact (Nat.zero_add _).symm
  · show 256 * c.val + f.val = o + f.val
    rw [ho]

/-- A load of 256 rows is a chunk of the matrix. -/
theorem ld_rows (x : Vec Ideal S2816x1024 .bf16) (o : ℕ) (inb) (c : Fin 11) (ho : o = 256 * c.val) :
    mat (View.ld (Val := Elt Ideal) (e' := .bf16) x (Rect.unit (s := S2816x1024) ![o, 0] S256x1024.size inb)) = rows (mat x) c := by
  funext f j
  refine View.ld_unit_apply_of _ _ _ _ _ _ fun a => ?_
  fin_cases a
  · show 256 * c.val + f.val = o + f.val
    rw [ho]
  · exact (Nat.zero_add _).symm

variable (x0 x1 : Vec Ideal S512x1024 .f32) (x2 : Vec Ideal S1x512x256 .f32) (x3 : Vec Ideal S1024x1024 .bf16) (x4 x5 x6 x7 : Vec Ideal S1x1024 .f32)
  (x8 x9 : Vec Ideal S1024x2816 .bf16) (x10 : Vec Ideal S2816x1024 .bf16) (x11 : Vec Ideal S1024x1024 .bf16) (x12 : Vec Ideal S256x1024 .bf16)
  (r : Fin 512) (j : Fin 1024)

theorem z2 : ∀ a : Fin 2, (![0, 0] : Fin 2 → ℕ) a = 0 := by decide
theorem z3 : ∀ a : Fin 3, (![0, 0, 0] : Fin 3 → ℕ) a = 0 := by decide

/-- The row after the first norm. -/
theorem pay18_row : row (k0_pay18 (F := Ideal) x0 x1 x2 x3 x4 x5 x6 x7 x8 x9 x10 x11 x12) r = first (row x0 r) (row x1 r) (mat x3) (row x4 0) (row x5 0) := by
  funext j
  unfold k0_pay18
  rw [View.ld_unit_lit _ x0 z2, View.ld_unit_lit _ x1 z2, View.ld_unit_lit _ x3 z2, View.ld_unit_lit _ x4 z2, View.ld_unit_lit _ x5 z2]
  exact pay2_at r j x0 x1 x3 x4 x5

/-- The same, as the products read it. -/
theorem pay19_row : row (k0_pay19 (F := Ideal) x0 x1 x2 x3 x4 x5 x6 x7 x8 x9 x10 x11 x12) r = first (row x0 r) (row x1 r) (mat x3) (row x4 0) (row x5 0) :=
  pay18_row x0 x1 x2 x3 x4 x5 x6 x7 x8 x9 x10 x11 x12 r

/-- The last chunk's hidden units. -/
theorem pay21_at (f : Fin 256) : k0_pay21 (F := Ideal) x0 x1 x2 x3 x4 x5 x6 x7 x8 x9 x10 x11 x12 (ix2 r f)
    = unit (first (row x0 r) (row x1 r) (mat x3) (row x4 0) (row x5 0)) (cols (mat x8) 10) (cols (mat x9) 10) f := by
  unfold k0_pay21
  refine (pay14_at r f _ _ _).trans ?_
  rw [pay19_row, ld_cols x8 2560 _ 10 rfl, ld_cols x9 2560 _ 10 rfl]

/-- The sum of the first ten chunks. -/
theorem pay20_at : k0_pay20 (F := Ideal) x0 x1 x2 x3 x4 x5 x6 x7 x8 x9 x10 x11 x12 (ix2 r j)
    = (fun h => let F := fun c : Fin 11 => ffn h (cols (mat x8) c) (cols (mat x9) c) (rows (mat x10) c) j
        0 + F 0 + F 1 + F 2 + F 3 + F 4 + F 5 + F 6 + F 7 + F 8 + F 9)
      (first (row x0 r) (row x1 r) (mat x3) (row x4 0) (row x5 0)) := by
  have hrow := pay19_row x0 x1 x2 x3 x4 x5 x6 x7 x8 x9 x10 x11 x12 r
  have hp5 : k0_pay3 (F := Ideal) (View.ld x0 r0_0) (View.ld x1 r0_0) (View.ld x3 r0_1) (View.ld x4 r0_2) (View.ld x5 r0_2)
      = k0_pay19 (F := Ideal) x0 x1 x2 x3 x4 x5 x6 x7 x8 x9 x10 x11 x12 := rfl
  unfold k0_pay20
  generalize k0_pay19 (F := Ideal) x0 x1 x2 x3 x4 x5 x6 x7 x8 x9 x10 x11 x12 = h at hrow hp5 ⊢
  refine (pay13_at r j _ _ _ _ _ _ _ _).trans ?_
  rw [pay12_at r j _ _ _ _ (View.ld x8 r0_13) _ _ _ _ _ _ _ (fun f => pay10_at r f _ _)]
  rw [pay9_at r j _ _ _ _ _ _ _ _ _ _]
  rw [pay6_at r j _ _ _ (View.ld x8 r0_3) _ _ _ _ _ (fun f => (pay5_at r f _ _ _ _ _ _).trans (by rw [hp5]))]
  rw [pay4_at]
  have e11 : mat (k0_pay11 (F := Ideal) (View.ld x9 r0_13)) = mat (View.ld x9 r0_13) := by
    funext l f
    exact pay11_at f l _
  have e7 : row (k0_pay7 (F := Ideal) h (View.ld x8 r0_7) (View.ld x9 r0_7)) r = unit (row h r) (mat (View.ld x8 r0_7)) (mat (View.ld x9 r0_7)) := by
    funext f
    exact pay7_at r f _ _ _
  have e8 : mat (k0_pay8 (F := Ideal) (View.ld x10 r0_8)) = mat (View.ld x10 r0_8) := by
    funext f j
    exact pay8_at j f _
  rw [e11, e7, e8, hrow]
  rw [ld_cols x8 0 _ 0 rfl, ld_cols x9 0 _ 0 rfl, ld_rows x10 0 _ 0 rfl]
  rw [ld_cols x8 256 _ 1 rfl, ld_cols x9 256 _ 1 rfl, ld_rows x10 256 _ 1 rfl]
  rw [ld_cols x8 512 _ 2 rfl, ld_cols x9 512 _ 2 rfl, ld_rows x10 512 _ 2 rfl]
  rw [ld_cols x8 768 _ 3 rfl, ld_cols x9 768 _ 3 rfl, ld_rows x10 768 _ 3 rfl]
  rw [ld_cols x8 1024 _ 4 rfl, ld_cols x9 1024 _ 4 rfl, ld_rows x10 1024 _ 4 rfl]
  rw [ld_cols x8 1280 _ 5 rfl, ld_cols x9 1280 _ 5 rfl, ld_rows x10 1280 _ 5 rfl]
  rw [ld_cols x8 1536 _ 6 rfl, ld_cols x9 1536 _ 6 rfl, ld_rows x10 1536 _ 6 rfl]
  rw [ld_cols x8 1792 _ 7 rfl, ld_cols x9 1792 _ 7 rfl, ld_rows x10 1792 _ 7 rfl]
  rw [ld_cols x8 2048 _ 8 rfl, ld_cols x9 2048 _ 8 rfl, ld_rows x10 2048 _ 8 rfl]
  rw [ld_cols x8 2304 _ 9 rfl, ld_cols x9 2304 _ 9 rfl, ld_rows x10 2304 _ 9 rfl]
  rfl

/-- The block a grid point writes: row `r` is the tail of its row. -/
theorem out_at : out0_13 (F := Ideal) x0 x1 x2 x3 x4 x5 x6 x7 x8 x9 x10 x11 x12 (ix2 r j)
    = tail (row x0 r) (row x1 r) (fun f => x2 (ix3 0 r f)) (mat x3) (row x4 0) (row x5 0) (row x6 0) (row x7 0)
        (mat x8) (mat x9) (mat x10) (mat x11) (mat x12) j := by
  have h15 : row (k0_pay15 (F := Ideal) (k0_pay18 (F := Ideal) x0 x1 x2 x3 x4 x5 x6 x7 x8 x9 x10 x11 x12)
        (k0_pay20 (F := Ideal) x0 x1 x2 x3 x4 x5 x6 x7 x8 x9 x10 x11 x12) (k0_pay21 (F := Ideal) x0 x1 x2 x3 x4 x5 x6 x7 x8 x9 x10 x11 x12)
        (View.ld x10 r0_24) (View.ld x6 r0_2) (View.ld x7 r0_2)) r
      = second (first (row x0 r) (row x1 r) (mat x3) (row x4 0) (row x5 0))
          (ffn (first (row x0 r) (row x1 r) (mat x3) (row x4 0) (row x5 0)) (mat x8) (mat x9) (mat x10)) (row x6 0) (row x7 0) := by
    funext j
    refine (pay15_at r j _ _ _ _ _ _).trans ?_
    have e21 : row (k0_pay21 (F := Ideal) x0 x1 x2 x3 x4 x5 x6 x7 x8 x9 x10 x11 x12) r
        = unit (first (row x0 r) (row x1 r) (mat x3) (row x4 0) (row x5 0)) (cols (mat x8) 10) (cols (mat x9) 10) := by
      funext f
      exact pay21_at x0 x1 x2 x3 x4 x5 x6 x7 x8 x9 x10 x11 x12 r f
    rw [pay18_row, e21, ld_rows x10 2560 _ 10 rfl, View.ld_unit_lit _ x6 z2, View.ld_unit_lit _ x7 z2]
    congr 1
    funext k
    rw [pay20_at, ffn_chunks, sum_eleven]
    rfl
  unfold out0_13
  rw [View.canon_cons_unit_lit _ _ _ z2]
  refine (pay1_at r j _ _ _ _).trans ?_
  rw [pay16_at, h15, View.ld_unit_lit _ x11 z2, View.ld_unit_lit _ x12 z2, View.ld_unit_lit _ x2 z3]
  have e17 : row (k0_pay17 (F := Ideal) x2) r = fun f => x2 (ix3 0 r f) := by
    funext f
    exact pay17_at r f x2
  rw [e17]
  have h15' := congrFun h15 j
  rw [show ∀ v : FVec Ideal S512x1024 .f32, row v r j = v (ix2 r j) from fun _ => rfl] at h15'
  rw [h15']
  rfl

end Cert.Kernel2Ideal.Tail

end
-- ==== Proof.Tail.Whole.lean ====
/- The tail's result array, from the blocks its grid points write, and what the operands prepared on the host hold. -/
module

public import proofs.«01_k».proof.Proof.Gen.Kernel2Ideal.Value
public import proofs.«01_k».proof.Proof.Tail.Out
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel2Ideal.Tail

open Idealize.ShloMosaic Idealize.ShloMosaic.TcCoe Cert.Kernel2Ideal.Gen Idealize.ShloMosaic.Tactic TailRow

/-- The block indices of the windows at a grid point. -/
theorem idx_at : ∀ t : Fin grid0.N,
    win0_0.index t = ![t.val, 0] ∧ win0_1.index t = ![t.val, 0] ∧ win0_2.index t = ![3, t.val, 0] ∧ win0_13.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] := by decide +kernel

/-- Two arrays of two axes agree where they agree at every pair of indices. -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

variable (t : Fin grid0.N) (r : Fin 512) (j : Fin 1024) (f : Fin 256)

/-- A row of the attention's block is a row of the array. -/
theorem a_read (A : Vec Ideal S16384x1024 .f32) (p : Fin 16384) (hp : p.val = 512 * t.val + r.val) :
    row ((win0_0.blk t).view.read (Elt Ideal) A) r = row A p := by
  funext j
  show (win0_0.blk t).view.read (Elt Ideal) A (ix2 r j) = A (ix2 p j)
  blk_ext [idx_at t]

/-- A row of the residual's block is a row of the array. -/
theorem x_read (A : Vec Ideal S16384x1024 .f32) (p : Fin 16384) (hp : p.val = 512 * t.val + r.val) :
    row ((win0_1.blk t).view.read (Elt Ideal) A) r = row A p := by
  funext j
  show (win0_1.blk t).view.read (Elt Ideal) A (ix2 r j) = A (ix2 p j)
  blk_ext [idx_at t]

/-- A row of the layer embeddings' block is a row of the last layer's slab. -/
theorem p_read (A : Vec Ideal S4x16384x256 .f32) (p : Fin 16384) (hp : p.val = 512 * t.val + r.val) :
    (win0_2.blk t).view.read (Elt Ideal) A (ix3 0 r f) = A (ix3 3 p f) := by
  blk_ext [idx_at t]

/-- A block of this operand is all of it. -/
theorem w3_read (A : Vec Ideal S1024x1024 .bf16) : (win0_3.blk t).view.read (Elt Ideal) A = A := by
  refine ext_ix2 fun a b => ?_
  blk_ext [idx_at t]

/-- A block of this operand is all of it. -/
theorem w4_read (A : Vec Ideal S1x1024 .f32) : (win0_4.blk t).view.read (Elt Ideal) A = A := by
  refine ext_ix2 fun a b => ?_
  blk_ext [idx_at t]

/-- A block of this operand is all of it. -/
theorem w5_read (A : Vec Ideal S1x1024 .f32) : (win0_5.blk t).view.read (Elt Ideal) A = A := by
  refine ext_ix2 fun a b => ?_
  blk_ext [idx_at t]

/-- A block of this operand is all of it. -/
theorem w6_read (A : Vec Ideal S1x1024 .f32) : (win0_6.blk t).view.read (Elt Ideal) A = A := by
  refine ext_ix2 fun a b => ?_
  blk_ext [idx_at t]

/-- A block of this operand is all of it. -/
theorem w7_read (A : Vec Ideal S1x1024 .f32) : (win0_7.blk t).view.read (Elt Ideal) A = A := by
  refine ext_ix2 fun a b => ?_
  blk_ext [idx_at t]

/-- A block of this operand is all of it. -/
theorem w8_read (A : Vec Ideal S1024x2816 .bf16) : (win0_8.blk t).view.read (Elt Ideal) A = A := by
  refine ext_ix2 fun a b => ?_
  blk_ext [idx_at t]

/-- A block of this operand is all of it. -/
theorem w9_read (A : Vec Ideal S1024x2816 .bf16) : (win0_9.blk t).view.read (Elt Ideal) A = A := by
  refine ext_ix2 fun a b => ?_
  blk_ext [idx_at t]

/-- A block of this operand is all of it. -/
theorem w10_read (A : Vec Ideal S2816x1024 .bf16) : (win0_10.blk t).view.read (Elt Ideal) A = A := by
  refine ext_ix2 fun a b => ?_
  blk_ext [idx_at t]

/-- A block of this operand is all of it. -/
theorem w11_read (A : Vec Ideal S1024x1024 .bf16) : (win0_11.blk t).view.read (Elt Ideal) A = A := by
  refine ext_ix2 fun a b => ?_
  blk_ext [idx_at t]

/-- A block of this operand is all of it. -/
theorem w12_read (A : Vec Ideal S256x1024 .bf16) : (win0_12.blk t).view.read (Elt Ideal) A = A := by
  refine ext_ix2 fun a b => ?_
  blk_ext [idx_at t]

/-- The tail over the whole result array. -/
def whole (A X : Vec Ideal S16384x1024 .f32) (P : Vec Ideal S4x16384x256 .f32) (wo : Vec Ideal S1024x1024 .bf16) (g1 b1 g2 b2 : Vec Ideal S1x1024 .f32)
    (wg wu : Vec Ideal S1024x2816 .bf16) (wd : Vec Ideal S2816x1024 .bf16) (pwg : Vec Ideal S1024x1024 .bf16) (pwp : Vec Ideal S256x1024 .bf16) :
    Vec Ideal S16384x1024 .f32 := fun i =>
  tail (row A (i 0)) (row X (i 0)) (fun f => P (ix3 3 (i 0 : Fin 16384) f)) (mat wo) (row g1 0) (row b1 0) (row g2 0) (row b2 0)
    (mat wg) (mat wu) (mat wd) (mat pwg) (mat pwp) (i 1)

/-- The whole result at an index, by its position and lane. -/
theorem whole_at (A X : Vec Ideal S16384x1024 .f32) (P : Vec Ideal S4x16384x256 .f32) (wo : Vec Ideal S1024x1024 .bf16) (g1 b1 g2 b2 : Vec Ideal S1x1024 .f32)
    (wg wu : Vec Ideal S1024x2816 .bf16) (wd : Vec Ideal S2816x1024 .bf16) (pwg : Vec Ideal S1024x1024 .bf16) (pwp : Vec Ideal S256x1024 .bf16)
    (i : S16384x1024.Idx) (p : Fin 16384) (h0 : (i 0).val = p.val) (h1 : (i 1).val = j.val) :
    whole A X P wo g1 b1 g2 b2 wg wu wd pwg pwp i = tail (row A p) (row X p) (fun f => P (ix3 3 p f)) (mat wo) (row g1 0) (row b1 0) (row g2 0) (row b2 0)
      (mat wg) (mat wu) (mat wd) (mat pwg) (mat pwp) j := by
  have e0 : (i 0 : Fin 16384) = p := Fin.ext h0
  have e1 : (i 1 : Fin 1024) = j := Fin.ext h1
  unfold whole
  rw [e0, e1]

variable (m : (ℓ : Loc nD τ sig) → Buf (Elt Ideal) ℓ) (c : Dev nD)

/-- The attention's output, the residual stream and the layer embeddings as the call reads them, -/
abbrev qa : Vec Ideal S16384x1024 .f32 := V m c main_arg0
@[inherit_doc qa] abbrev qx : Vec Ideal S16384x1024 .f32 := V m c main_arg1
@[inherit_doc qa] abbrev qp : Vec Ideal S4x16384x256 .f32 := V m c main_arg2
/-- and the weights as prepared for it. -/
abbrev qwo : Vec Ideal S1024x1024 .bf16 := V m c main_v0
@[inherit_doc qwo] abbrev qg1 : Vec Ideal S1x1024 .f32 := V m c main_v1
@[inherit_doc qwo] abbrev qb1 : Vec Ideal S1x1024 .f32 := V m c main_v2
@[inherit_doc qwo] abbrev qg2 : Vec Ideal S1x1024 .f32 := V m c main_v3
@[inherit_doc qwo] abbrev qb2 : Vec Ideal S1x1024 .f32 := V m c main_v4
@[inherit_doc qwo] abbrev qwg : Vec Ideal S1024x2816 .bf16 := V m c main_v5
@[inherit_doc qwo] abbrev qwu : Vec Ideal S1024x2816 .bf16 := V m c main_v6
@[inherit_doc qwo] abbrev qwd : Vec Ideal S2816x1024 .bf16 := V m c main_v7
@[inherit_doc qwo] abbrev qpwg : Vec Ideal S1024x1024 .bf16 := V m c main_v8
@[inherit_doc qwo] abbrev qpwp : Vec Ideal S256x1024 .bf16 := V m c main_v9

/-- After the run, the result array holds the tail. -/
theorem final : (dats m 0 c).arrAt 13 cfg0.N = whole (qa m c) (qx m c) (qp m c) (qwo m c) (qg1 m c) (qb1 m c) (qg2 m c) (qb2 m c) (qwg m c) (qwu m c) (qwd m c) (qpwg m c) (qpwp m c) := by
  refine (dats m 0 c).arrAt_eq_of_covers 13 _ (by decide +kernel) fun t hf y => ?_
  rw [after0_13]
  have e0 : iblk m c 0 t = (win0_0.blk t).view.read (Elt Ideal) (qa m c) := rfl
  have e1 : iblk m c 1 t = (win0_1.blk t).view.read (Elt Ideal) (qx m c) := rfl
  have e2 : iblk m c 2 t = (win0_2.blk t).view.read (Elt Ideal) (qp m c) := rfl
  have e3 : iblk m c 3 t = (win0_3.blk t).view.read (Elt Ideal) (qwo m c) := rfl
  have e4 : iblk m c 4 t = (win0_4.blk t).view.read (Elt Ideal) (qg1 m c) := rfl
  have e5 : iblk m c 5 t = (win0_5.blk t).view.read (Elt Ideal) (qb1 m c) := rfl
  have e6 : iblk m c 6 t = (win0_6.blk t).view.read (Elt Ideal) (qg2 m c) := rfl
  have e7 : iblk m c 7 t = (win0_7.blk t).view.read (Elt Ideal) (qb2 m c) := rfl
  have e8 : iblk m c 8 t = (win0_8.blk t).view.read (Elt Ideal) (qwg m c) := rfl
  have e9 : iblk m c 9 t = (win0_9.blk t).view.read (Elt Ideal) (qwu m c) := rfl
  have e10 : iblk m c 10 t = (win0_10.blk t).view.read (Elt Ideal) (qwd m c) := rfl
  have e11 : iblk m c 11 t = (win0_11.blk t).view.read (Elt Ideal) (qpwg m c) := rfl
  have e12 : iblk m c 12 t = (win0_12.blk t).view.read (Elt Ideal) (qpwp m c) := rfl
  rw [e0, e1, e2, e3, e4, e5, e6, e7, e8, e9, e10, e11, e12]
  generalize qa m c = A
  generalize qx m c = X
  generalize qp m c = P
  generalize qwo m c = Wwo
  generalize qg1 m c = Wg1
  generalize qb1 m c = Wb1
  generalize qg2 m c = Wg2
  generalize qb2 m c = Wb2
  generalize qwg m c = Wwg
  generalize qwu m c = Wwu
  generalize qwd m c = Wwd
  generalize qpwg m c = Wpwg
  generalize qpwp m c = Wpwp
  rw [w3_read, w4_read, w5_read, w6_read, w7_read, w8_read, w9_read, w10_read, w11_read, w12_read]
  blk_simp
  have ht : t.val < 32 := t.isLt
  have y0 : (y 0).val < 512 := (y 0).isLt
  have y1 : (y 1).val < 1024 := (y 1).isLt
  have hy : y = ix2 (⟨(y 0).val, y0⟩ : Fin 512) (⟨(y 1).val, y1⟩ : Fin 1024) := by
    funext a
    fin_cases a <;> rfl
  refine (congrArg _ hy).trans ((out_at _ _ _ _ _ _ _ _ _ _ _ _ _ _ _).trans ?_)
  have ha := a_read t (⟨(y 0).val, y0⟩ : Fin 512) A (⟨512 * t.val + (y 0).val, by omega⟩ : Fin 16384) rfl
  have hx := x_read t (⟨(y 0).val, y0⟩ : Fin 512) X (⟨512 * t.val + (y 0).val, by omega⟩ : Fin 16384) rfl
  have hp := fun f => p_read t (⟨(y 0).val, y0⟩ : Fin 512) f P (⟨512 * t.val + (y 0).val, by omega⟩ : Fin 16384) rfl
  rw [ha, hx, funext hp]
  refine (whole_at _ _ _ _ _ _ _ _ _ _ _ _ _ _ _ _ ?_ ?_).symm
  · blk_simp [idx_at t]
    show t.val * 512 + (y 0).val = 512 * t.val + (y 0).val
    omega
  · blk_simp [idx_at t]

/-- The call reads this argument as launched. -/
theorem a_host : qa m c = m ((c : Thread nD τ).loc main_arg0) := by
  show StableHlo.after hostOps0 (fun b => m (c, b)) (Proc.tc.devRef main_arg0) = _
  entry_read
  rfl

/-- The call reads this argument as launched. -/
theorem x_host : qx m c = m ((c : Thread nD τ).loc main_arg1) := by
  show StableHlo.after hostOps0 (fun b => m (c, b)) (Proc.tc.devRef main_arg1) = _
  entry_read
  rfl

/-- The call reads this argument as launched. -/
theorem p_host : qp m c = m ((c : Thread nD τ).loc main_arg2) := by
  show StableHlo.after hostOps0 (fun b => m (c, b)) (Proc.tc.devRef main_arg2) = _
  entry_read
  rfl

/-- A weight matrix, as launched. -/
theorem wo_host (a : Fin 1024) (b : Fin 1024) : qwo m c (ix2 a b) = (m ((c : Thread nD τ).loc main_arg3) : S1024x1024.Idx → EReal) (ix2 a b) := by
  show StableHlo.after hostOps0 (fun b => m (c, b)) (Proc.tc.devRef main_v0) _ = _
  entry_read
  clean_types
  pointwise

/-- A norm's scale or shift, as launched. -/
theorem g1_host (b : Fin 1024) : qg1 m c (ix2 0 b) = (m ((c : Thread nD τ).loc main_arg4) : S1024.Idx → EReal) (ix1 b) := by
  show StableHlo.after hostOps0 (fun b => m (c, b)) (Proc.tc.devRef main_v1) _ = _
  entry_read
  clean_types
  pointwise

/-- A norm's scale or shift, as launched. -/
theorem b1_host (b : Fin 1024) : qb1 m c (ix2 0 b) = (m ((c : Thread nD τ).loc main_arg5) : S1024.Idx → EReal) (ix1 b) := by
  show StableHlo.after hostOps0 (fun b => m (c, b)) (Proc.tc.devRef main_v2) _ = _
  entry_read
  clean_types
  pointwise

/-- A norm's scale or shift, as launched. -/
theorem g2_host (b : Fin 1024) : qg2 m c (ix2 0 b) = (m ((c : Thread nD τ).loc main_arg6) : S1024.Idx → EReal) (ix1 b) := by
  show StableHlo.after hostOps0 (fun b => m (c, b)) (Proc.tc.devRef main_v3) _ = _
  entry_read
  clean_types
  pointwise

/-- A norm's scale or shift, as launched. -/
theorem b2_host (b : Fin 1024) : qb2 m c (ix2 0 b) = (m ((c : Thread nD τ).loc main_arg7) : S1024.Idx → EReal) (ix1 b) := by
  show StableHlo.after hostOps0 (fun b => m (c, b)) (Proc.tc.devRef main_v4) _ = _
  entry_read
  clean_types
  pointwise

/-- A weight matrix, as launched. -/
theorem wg_host (a : Fin 1024) (b : Fin 2816) : qwg m c (ix2 a b) = (m ((c : Thread nD τ).loc main_arg8) : S1024x2816.Idx → EReal) (ix2 a b) := by
  show StableHlo.after hostOps0 (fun b => m (c, b)) (Proc.tc.devRef main_v5) _ = _
  entry_read
  clean_types
  pointwise

/-- A weight matrix, as launched. -/
theorem wu_host (a : Fin 1024) (b : Fin 2816) : qwu m c (ix2 a b) = (m ((c : Thread nD τ).loc main_arg9) : S1024x2816.Idx → EReal) (ix2 a b) := by
  show StableHlo.after hostOps0 (fun b => m (c, b)) (Proc.tc.devRef main_v6) _ = _
  entry_read
  clean_types
  pointwise

/-- A weight matrix, as launched. -/
theorem wd_host (a : Fin 2816) (b : Fin 1024) : qwd m c (ix2 a b) = (m ((c : Thread nD τ).loc main_arg10) : S2816x1024.Idx → EReal) (ix2 a b) := by
  show StableHlo.after hostOps0 (fun b => m (c, b)) (Proc.tc.devRef main_v7) _ = _
  entry_read
  clean_types
  pointwise

/-- A weight matrix, as launched. -/
theorem pwg_host (a : Fin 1024) (b : Fin 1024) : qpwg m c (ix2 a b) = (m ((c : Thread nD τ).loc main_arg11) : S1024x1024.Idx → EReal) (ix2 a b) := by
  show StableHlo.after hostOps0 (fun b => m (c, b)) (Proc.tc.devRef main_v8) _ = _
  entry_read
  clean_types
  pointwise

/-- A weight matrix, as launched. -/
theorem pwp_host (a : Fin 256) (b : Fin 1024) : qpwp m c (ix2 a b) = (m ((c : Thread nD τ).loc main_arg12) : S256x1024.Idx → EReal) (ix2 a b) := by
  show StableHlo.after hostOps0 (fun b => m (c, b)) (Proc.tc.devRef main_v9) _ = _
  entry_read
  clean_types
  pointwise

end Cert.Kernel2Ideal.Tail

end
-- ==== Proof.Tail.Ref.lean ====
/- The reference's tail read element by element. -/
module

public import proofs.«01_k».proof.Proof.Gen.Reference2Ideal.Run
public import proofs.«01_k».proof.Proof.Tail.Row
public import Idealize.ShloMosaic.Lib.Pointwise
public import Idealize.ShloMosaic.Lib.Tactic.CleanTypes

@[expose] public section

set_option maxRecDepth 16384

noncomputable section

namespace Cert.Reference2Ideal.Tail

open Idealize.ShloMosaic Idealize.ShloMosaic.TcCoe Cert.Reference2Ideal.Gen Idealize.ShloMosaic.Tactic TailRow

/-- The arrays the program reads, by argument. -/
structure Args where
  a : S16384x1024.Idx → EReal
  x : S16384x1024.Idx → EReal
  p : S4x16384x256.Idx → EReal
  wo : S1024x1024.Idx → EReal
  g1 : S1024.Idx → EReal
  b1 : S1024.Idx → EReal
  g2 : S1024.Idx → EReal
  b2 : S1024.Idx → EReal
  wg : S1024x2816.Idx → EReal
  wu : S1024x2816.Idx → EReal
  wd : S2816x1024.Idx → EReal
  pwg : S1024x1024.Idx → EReal
  pwp : S256x1024.Idx → EReal

/-- Those a valuation holds. -/
abbrev args (W : Valuation τ sig (Elt Ideal)) : Args where
  a := W (Proc.devRef .tc main_arg0)
  x := W (Proc.devRef .tc main_arg1)
  p := W (Proc.devRef .tc main_arg2)
  wo := W (Proc.devRef .tc main_arg3)
  g1 := W (Proc.devRef .tc main_arg4)
  b1 := W (Proc.devRef .tc main_arg5)
  g2 := W (Proc.devRef .tc main_arg6)
  b2 := W (Proc.devRef .tc main_arg7)
  wg := W (Proc.devRef .tc main_arg8)
  wu := W (Proc.devRef .tc main_arg9)
  wd := W (Proc.devRef .tc main_arg10)
  pwg := W (Proc.devRef .tc main_arg11)
  pwp := W (Proc.devRef .tc main_arg12)

/-- A matrix or a vector, by its indices. -/
abbrev mat {n k : ℕ} (v : (⟨2, ![n, k]⟩ : Shape).Idx → EReal) (l : Fin n) (j : Fin k) : EReal := v (ix2 l j)
@[inherit_doc mat] abbrev vec {k : ℕ} (v : (⟨1, ![k]⟩ : Shape).Idx → EReal) (j : Fin k) : EReal := v (ix1 j)

variable (W : Valuation τ sig (Elt Ideal)) (r : Fin 16384) (j : Fin 1024)

/-- The program's named steps, as functions of their indices: the rows before the norms, -/
abbrev s3 : S16384x1024.Idx → EReal := Value.res_main_v3 (F := Ideal) W
@[inherit_doc s3] abbrev s35 : S16384x1024.Idx → EReal := Value.res_main_v35 (F := Ideal) W
/-- their means, -/
abbrev s7 : S16384x1.Idx → EReal := Value.res_main_v7 (F := Ideal) W
@[inherit_doc s7] abbrev s39 : S16384x1.Idx → EReal := Value.res_main_v39 (F := Ideal) W
/-- the rows less their means -/
abbrev s9 : S16384x1024.Idx → EReal := Value.res_main_v9 (F := Ideal) W
@[inherit_doc s9] abbrev s41 : S16384x1024.Idx → EReal := Value.res_main_v41 (F := Ideal) W
/-- and the rows after the norms. -/
abbrev s27 : S16384x1024.Idx → EReal := Value.res_main_v27 (F := Ideal) W
@[inherit_doc s27] abbrev s59 : S16384x1024.Idx → EReal := Value.res_main_v59 (F := Ideal) W

/-- The row before the first norm. -/
theorem v3_at : s3 W (ix2 r j)
    = alpha * (args W).x (ix2 r j) + prod (mat (args W).a r) (mat (args W).wo) j := by
  show Value.res_main_v3 (F := Ideal) W _ = _
  unfold Value.res_main_v3
  clean_types
  pointwise
  rfl

/-- Its mean. -/
theorem v7_at : s7 W (ix2 r 0) = mean (mat (s3 W) r) := by
  show Value.res_main_v7 (F := Ideal) W _ = _
  unfold Value.res_main_v7
  clean_types
  pointwise
  rfl

/-- The row less its mean. -/
theorem v9_at : s9 W (ix2 r j)
    = s3 W (ix2 r j) - mean (mat (s3 W) r) := by
  rw [← v7_at]
  show Value.res_main_v9 (F := Ideal) W _ = _
  unfold Value.res_main_v9
  clean_types
  pointwise

/-- The row after the first norm. -/
theorem v27_at : s27 W (ix2 r j)
    = norm (mat (s3 W) r) (vec (args W).g1) (vec (args W).b1) j := by
  have h9 := v9_at W r
  have h7 := v7_at W r
  dsimp only [s9, s7, s3, s27] at h9 h7 ⊢
  unfold Value.res_main_v27
  generalize Value.res_main_v9 (F := Ideal) W = v9 at *
  generalize Value.res_main_v7 (F := Ideal) W = v7 at *
  generalize Value.res_main_v3 (F := Ideal) W = v3 at *
  clean_types
  pointwise
  simp only [h9, h7]
  rfl

/-- The first norm's row, from the arguments. -/
theorem v27_row : mat (s27 W) r
    = first (mat (args W).a r) (mat (args W).x r) (mat (args W).wo) (vec (args W).g1) (vec (args W).b1) := by
  funext j
  refine (v27_at W r j).trans ?_
  unfold first
  congr 1
  funext k
  exact v3_at W r k

/-- The row before the second norm. -/
theorem v35_at : s35 W (ix2 r j)
    = alpha * s27 W (ix2 r j)
      + ffn (mat (s27 W) r) (mat (args W).wg) (mat (args W).wu) (mat (args W).wd) j := by
  dsimp only [s35, s27]
  unfold Value.res_main_v35 Value.res_main_v30
  generalize Value.res_main_v27 (F := Ideal) W = v27 at *
  clean_types
  pointwise
  rfl

/-- Its mean. -/
theorem v39_at : s39 W (ix2 r 0) = mean (mat (s35 W) r) := by
  show Value.res_main_v39 (F := Ideal) W _ = _
  unfold Value.res_main_v39
  clean_types
  pointwise
  rfl

/-- The row less its mean. -/
theorem v41_at : s41 W (ix2 r j)
    = s35 W (ix2 r j) - mean (mat (s35 W) r) := by
  rw [← v39_at]
  show Value.res_main_v41 (F := Ideal) W _ = _
  unfold Value.res_main_v41
  clean_types
  pointwise

/-- The row after the second norm. -/
theorem v59_at : s59 W (ix2 r j)
    = norm (mat (s35 W) r) (vec (args W).g2) (vec (args W).b2) j := by
  have h9 := v41_at W r
  have h7 := v39_at W r
  dsimp only [s41, s39, s35, s59] at h9 h7 ⊢
  unfold Value.res_main_v59
  generalize Value.res_main_v41 (F := Ideal) W = v9 at *
  generalize Value.res_main_v39 (F := Ideal) W = v7 at *
  generalize Value.res_main_v35 (F := Ideal) W = v3 at *
  clean_types
  pointwise
  simp only [h9, h7]
  rfl

/-- The second norm's row, from the first's. -/
theorem v59_row : mat (s59 W) r
    = second (mat (s27 W) r)
        (ffn (mat (s27 W) r) (mat (args W).wg) (mat (args W).wu) (mat (args W).wd)) (vec (args W).g2) (vec (args W).b2) := by
  funext j
  refine (v59_at W r j).trans ?_
  unfold second
  congr 1
  funext k
  exact v35_at W r k

/-- The tail of one row, from the arguments. -/
def tail_of (A : Args) (r : Fin 16384) (j : Fin 1024) : EReal :=
  tail (mat A.a r) (mat A.x r) (fun f => A.p (ix3 3 r f)) (mat A.wo) (vec A.g1) (vec A.b1) (vec A.g2) (vec A.b2) (mat A.wg) (mat A.wu) (mat A.wd) (mat A.pwg) (mat A.pwp) j

/-- The result from the second norm's rows. -/
def result (v59 : FVec Ideal S16384x1024 .f32) (p : FVec Ideal S4x16384x256 .f32) (wg : FVec Ideal S1024x1024 .f32) (wp : FVec Ideal S256x1024 .f32) :
    FVec Ideal S16384x1024 .f32 :=
  addf v59 (mulf (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (Host.dotGeneral dot_S16384x1024_S1024x1024_S16384x1024_1_0_0_1_n_n none v59 wg)))))
    (Host.dotGeneral dot_S16384x256_S256x1024_S16384x1024_1_0_0_1_n_n none
      (shapeCast _ (extractStridedSlice S1x16384x256 ![3, 0, 0] p slices_S4x16384x256_S1x16384x256_3_0_0) shapeCasts_S1x16384x256_S16384x256) wp))

/-- The result at a row and a lane. -/
theorem result_at (v59 : FVec Ideal S16384x1024 .f32) (p : FVec Ideal S4x16384x256 .f32) (wg : FVec Ideal S1024x1024 .f32) (wp : FVec Ideal S256x1024 .f32) :
    result v59 p wg wp (ix2 r j) = gated (mat v59 r) (mat wg) (fun f => p (ix3 3 r f)) (mat wp) j := by
  unfold result
  pointwise
  rfl

/-- The reference's result is the tail. -/
theorem ref_at : result (s59 W) (args W).p (args W).pwg (args W).pwp (ix2 r j) = tail_of (args W) r j := by
  refine (result_at r j _ _ _ _).trans ?_
  rw [v59_row, v27_row]
  rfl

end Cert.Reference2Ideal.Tail

end
-- ==== Proof.Tail.Same.lean ====
/- The kernel's tail and the reference's are one: given the same arguments, the two results agree at every index. -/
module

public import proofs.«01_k».proof.Proof.Tail.Whole
public import proofs.«01_k».proof.Proof.Tail.Ref

@[expose] public section

set_option maxRecDepth 16384

noncomputable section

namespace Cert.Kernel2Ideal.Tail

open Idealize.ShloMosaic Idealize.ShloMosaic.TcCoe Cert.Kernel2Ideal.Gen Idealize.ShloMosaic.Tactic TailRow

variable (m : (ℓ : Loc nD τ sig) → Buf (Elt Ideal) ℓ) (c : Dev nD)

/-- The launched arguments. -/
abbrev launched : Cert.Reference2Ideal.Tail.Args where
  a := m ((c : Thread nD τ).loc main_arg0)
  x := m ((c : Thread nD τ).loc main_arg1)
  p := m ((c : Thread nD τ).loc main_arg2)
  wo := m ((c : Thread nD τ).loc main_arg3)
  g1 := m ((c : Thread nD τ).loc main_arg4)
  b1 := m ((c : Thread nD τ).loc main_arg5)
  g2 := m ((c : Thread nD τ).loc main_arg6)
  b2 := m ((c : Thread nD τ).loc main_arg7)
  wg := m ((c : Thread nD τ).loc main_arg8)
  wu := m ((c : Thread nD τ).loc main_arg9)
  wd := m ((c : Thread nD τ).loc main_arg10)
  pwg := m ((c : Thread nD τ).loc main_arg11)
  pwp := m ((c : Thread nD τ).loc main_arg12)

/-- The kernel's tail of the prepared operands is the tail of the launched ones. -/
theorem whole_eq (p : Fin 16384) (j : Fin 1024) :
    whole (qa m c) (qx m c) (qp m c) (qwo m c) (qg1 m c) (qb1 m c) (qg2 m c) (qb2 m c) (qwg m c) (qwu m c) (qwd m c) (qpwg m c) (qpwp m c) (ix2 p j)
      = Cert.Reference2Ideal.Tail.tail_of (launched m c) p j := by
  refine (whole_at j _ _ _ _ _ _ _ _ _ _ _ _ _ _ p rfl rfl).trans ?_
  have e_wo : mat (qwo m c) = Cert.Reference2Ideal.Tail.mat (launched m c).wo := funext fun a => funext fun b => wo_host m c a b
  have e_g1 : row (qg1 m c) 0 = Cert.Reference2Ideal.Tail.vec (launched m c).g1 := funext fun b => g1_host m c b
  have e_b1 : row (qb1 m c) 0 = Cert.Reference2Ideal.Tail.vec (launched m c).b1 := funext fun b => b1_host m c b
  have e_g2 : row (qg2 m c) 0 = Cert.Reference2Ideal.Tail.vec (launched m c).g2 := funext fun b => g2_host m c b
  have e_b2 : row (qb2 m c) 0 = Cert.Reference2Ideal.Tail.vec (launched m c).b2 := funext fun b => b2_host m c b
  have e_wg : mat (qwg m c) = Cert.Reference2Ideal.Tail.mat (launched m c).wg := funext fun a => funext fun b => wg_host m c a b
  have e_wu : mat (qwu m c) = Cert.Reference2Ideal.Tail.mat (launched m c).wu := funext fun a => funext fun b => wu_host m c a b
  have e_wd : mat (qwd m c) = Cert.Reference2Ideal.Tail.mat (launched m c).wd := funext fun a => funext fun b => wd_host m c a b
  have e_pwg : mat (qpwg m c) = Cert.Reference2Ideal.Tail.mat (launched m c).pwg := funext fun a => funext fun b => pwg_host m c a b
  have e_pwp : mat (qpwp m c) = Cert.Reference2Ideal.Tail.mat (launched m c).pwp := funext fun a => funext fun b => pwp_host m c a b
  rw [a_host, x_host, p_host, e_wo, e_g1, e_b1, e_g2, e_b2, e_wg, e_wu, e_wd, e_pwg, e_pwp]
  rfl

/-- The two results agree, the arguments being the same. -/
theorem same (W : Valuation Cert.Reference2Ideal.τ Cert.Reference2Ideal.sig (Elt Ideal)) (h : Cert.Reference2Ideal.Tail.args W = launched m c) :
    (whole (qa m c) (qx m c) (qp m c) (qwo m c) (qg1 m c) (qb1 m c) (qg2 m c) (qb2 m c) (qwg m c) (qwu m c) (qwd m c) (qpwg m c) (qpwp m c) : S16384x1024.Idx → EReal)
      = Cert.Reference2Ideal.Tail.result (Cert.Reference2Ideal.Tail.s59 W) (Cert.Reference2Ideal.Tail.args W).p (Cert.Reference2Ideal.Tail.args W).pwg
          (Cert.Reference2Ideal.Tail.args W).pwp := by
  refine ext_ix2 (n := 16384) (k := 1024) fun p j => ?_
  rw [whole_eq, Cert.Reference2Ideal.Tail.ref_at, h]

end Cert.Kernel2Ideal.Tail

end
-- ==== Proof.Tail.Algebra.lean ====
/- The value claim of a layer's tail. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Tail.Same
public import Idealize.ShloMosaic.Lib.Claim

@[expose] public section

namespace Cert.Proof.Tail

open Idealize.ShloMosaic Idealize.ShloMosaic.TcCoe Idealize.SL Idealize.SL.Sem

/-- Over the extended reals the kernel's tail and the reference's are equal: from the same arguments both end, and their results agree. -/
theorem algebraic : Cert.algebraic_Kernel2Ideal_Reference2Ideal := by
  intro m g m' g' _ hagree
  refine ⟨fun c => Cert.Kernel2Ideal.Tail.whole (Cert.Kernel2Ideal.Tail.qa m c) (Cert.Kernel2Ideal.Tail.qx m c) (Cert.Kernel2Ideal.Tail.qp m c) (Cert.Kernel2Ideal.Tail.qwo m c) (Cert.Kernel2Ideal.Tail.qg1 m c) (Cert.Kernel2Ideal.Tail.qb1 m c) (Cert.Kernel2Ideal.Tail.qg2 m c) (Cert.Kernel2Ideal.Tail.qb2 m c) (Cert.Kernel2Ideal.Tail.qwg m c) (Cert.Kernel2Ideal.Tail.qwu m c) (Cert.Kernel2Ideal.Tail.qwd m c) (Cert.Kernel2Ideal.Tail.qpwg m c) (Cert.Kernel2Ideal.Tail.qpwp m c), ?_, ?_⟩
  · refine (θ_run _ _ _).mono (fun r h c => ?_) (Cert.Kernel2Ideal.Value.run_blocks m g)
    obtain ⟨h0, h1⟩ := h c
    exact ⟨h0.trans (Cert.Kernel2Ideal.Tail.final m c), h1⟩
  · refine (θ_run _ _ _).mono (fun r h c => ?_) (Cert.Reference2Ideal.Value.run m' g')
    obtain ⟨h0, h1⟩ := h c
    obtain ⟨a0, a1, a2, a3, a4, a5, a6, a7, a8, a9, a10, a11, a12⟩ := hagree c
    refine ⟨h0.trans (Cert.Kernel2Ideal.Tail.same m c (StableHlo.launchContents m' c) ?_).symm, h1⟩
    show Cert.Reference2Ideal.Tail.Args.mk (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) (m' ((c.tc : Thread _ _).loc Cert.Reference2Ideal.main_arg8)) (m' ((c.tc : Thread _ _).loc Cert.Reference2Ideal.main_arg9)) (m' ((c.tc : Thread _ _).loc Cert.Reference2Ideal.main_arg10)) (m' ((c.tc : Thread _ _).loc Cert.Reference2Ideal.main_arg11)) (m' ((c.tc : Thread _ _).loc Cert.Reference2Ideal.main_arg12)) = _
    rw [a0, a1, a2, a3, a4, a5, a6, a7, a8, a9, a10, a11, a12]

end Cert.Proof.Tail
-- ==== Proof.Nsa.Value.lean ====
/- The projections of the sparse-attention layer: what the call's blocks hold, its result arrays, the operands prepared for it, and its results over
   the launched arguments. -/
module

public import proofs.«01_k».proof.Proof.Gen.Kernel3Ideal.Value
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel3Ideal.Nsa

open Idealize.ShloMosaic Idealize.ShloMosaic.TcCoe Cert.Kernel3Ideal.Gen Idealize.ShloMosaic.Tactic

/-- Arrays of two axes agree where they agree at every pair of indices, -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

/-- and of three at every triple. -/
theorem ext_ix3 {n k l : ℕ} {A B : (⟨3, ![n, k, l]⟩ : Shape).Idx → EReal}
    (h : ∀ (a : Fin n) (b : Fin k) (d : Fin l), A (ix3 a b d) = B (ix3 a b d)) : A = B := by
  funext i
  have e : i = ix3 (i 0 : Fin n) (i 1 : Fin k) (i 2 : Fin l) := by
    funext a
    fin_cases a <;> rfl
  rw [e]
  exact h _ _ _

/-- The zero offsets. -/
theorem z2 : ∀ a, (![0, 0] : Fin 2 → ℕ) a = 0 := by decide
@[inherit_doc z2] theorem z3 : ∀ a, (![0, 0, 0] : Fin 3 → ℕ) a = 0 := by decide

/-- The block indices of the windows at a grid point. -/
theorem idx_at : ∀ t : Fin grid0.N,
    win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val / 16, 0, t.val % 16]
    ∧ win0_10.index t = ![t.val / 16, 0, t.val % 16] := by decide +kernel

/-! ## The payloads -/

/-- A block's product with a weight block. -/
theorem pay_6_at (x : Vec Ideal S256x1024 .f32) (w : Vec Ideal S1024x1024 .bf16) (r : Fin 256) (f : Fin 1024) :
    k0_pay3 (F := Ideal) x w (ix2 r f) = ∑ l, x (ix2 r l) * w (ix2 l f) := by
  pointwise [k0_pay3, k0_pay2]

/-- A block's product with a weight block. -/
theorem pay_7_at (x : Vec Ideal S256x1024 .f32) (w : Vec Ideal S1024x128 .bf16) (r : Fin 256) (f : Fin 128) :
    k0_pay4 (F := Ideal) x w (ix2 r f) = ∑ l, x (ix2 r l) * w (ix2 l f) := by
  pointwise [k0_pay4, k0_pay2]

/-- A block's product with a weight block. -/
theorem pay_8_at (x : Vec Ideal S256x1024 .f32) (w : Vec Ideal S1024x48 .bf16) (r : Fin 256) (f : Fin 48) :
    k0_pay5 (F := Ideal) x w (ix2 r f) = ∑ l, x (ix2 r l) * w (ix2 l f) := by
  pointwise [k0_pay5, k0_pay2]

/-- A block's product with a weight block. -/
theorem pay_9_at (x : Vec Ideal S256x1024 .f32) (w : Vec Ideal S256x1024 .bf16) (r : Fin 256) (f : Fin 256) :
    k0_pay6 (F := Ideal) x w (ix3 0 f r) = ∑ l, w (ix2 f l) * x (ix2 r l) := by
  pointwise [k0_pay6, k0_pay2]

/-- A block's product with a weight block. -/
theorem pay_10_at (x : Vec Ideal S256x1024 .f32) (w : Vec Ideal S128x1024 .bf16) (r : Fin 256) (f : Fin 128) :
    k0_pay1 (F := Ideal) (k0_pay7 x w) (ix3 0 f r) = ∑ l, w (ix2 f l) * x (ix2 r l) := by
  pointwise [k0_pay1, k0_pay7, k0_pay2]

/-! ## The blocks -/

/-- A row of the input's block is a row of the input. -/
theorem x_read (t : Fin grid0.N) (r : Fin 256) (l : Fin 1024) (A : Vec Ideal S16384x1024 .f32) (p : Fin 16384) (hp : p.val = 256 * t.val + r.val) :
    (win0_0.blk t).view.read (Elt Ideal) A (ix2 r l) = A (ix2 p l) := by
  blk_ext [idx_at t]

/-- A block of this weight is all of it. -/
theorem w1_read (t : Fin grid0.N) (A : Vec Ideal S1024x1024 .bf16) : (win0_1.blk t).view.read (Elt Ideal) A = A := by
  refine ext_ix2 fun a b => ?_
  blk_ext [idx_at t]

/-- A block of this weight is all of it. -/
theorem w2_read (t : Fin grid0.N) (A : Vec Ideal S1024x128 .bf16) : (win0_2.blk t).view.read (Elt Ideal) A = A := by
  refine ext_ix2 fun a b => ?_
  blk_ext [idx_at t]

/-- A block of this weight is all of it. -/
theorem w3_read (t : Fin grid0.N) (A : Vec Ideal S1024x48 .bf16) : (win0_3.blk t).view.read (Elt Ideal) A = A := by
  refine ext_ix2 fun a b => ?_
  blk_ext [idx_at t]

/-- A block of this weight is all of it. -/
theorem w4_read (t : Fin grid0.N) (A : Vec Ideal S256x1024 .bf16) : (win0_4.blk t).view.read (Elt Ideal) A = A := by
  refine ext_ix2 fun a b => ?_
  blk_ext [idx_at t]

/-- A block of this weight is all of it. -/
theorem w5_read (t : Fin grid0.N) (A : Vec Ideal S128x1024 .bf16) : (win0_5.blk t).view.read (Elt Ideal) A = A := by
  refine ext_ix2 fun a b => ?_
  blk_ext [idx_at t]

/-- The input's product with a weight, by rows, -/
def rowsOf {n : ℕ} (A : S16384x1024.Idx → EReal) (W : (⟨2, ![1024, n]⟩ : Shape).Idx → EReal) : (⟨2, ![16384, n]⟩ : Shape).Idx → EReal :=
  fun i => ∑ l, A (ix2 (i 0 : Fin 16384) l) * W (ix2 l (i 1 : Fin n))

/-- and feature by feature, a batch element's positions along the last axis. -/
def colsOf {n : ℕ} (A : S16384x1024.Idx → EReal) (W : (⟨2, ![n, 1024]⟩ : Shape).Idx → EReal) : (⟨3, ![4, n, 4096]⟩ : Shape).Idx → EReal :=
  fun i => ∑ l, W (ix2 (i 1 : Fin n) l) * A (ix2 ⟨4096 * (i 0).val + (i 2).val, by
    have h0 : (i 0).val < 4 := (i 0).isLt
    have h2 : (i 2).val < 4096 := (i 2).isLt
    omega⟩ l)

/-- Both at an index, by its position and feature. -/
theorem rowsOf_at {n : ℕ} (A : S16384x1024.Idx → EReal) (W : (⟨2, ![1024, n]⟩ : Shape).Idx → EReal) (i : (⟨2, ![16384, n]⟩ : Shape).Idx)
    (p : Fin 16384) (f : Fin n) (h0 : (i 0).val = p.val) (h1 : (i 1).val = f.val) : rowsOf A W i = ∑ l, A (ix2 p l) * W (ix2 l f) := by
  have e0 : (i 0 : Fin 16384) = p := Fin.ext h0
  have e1 : (i 1 : Fin n) = f := Fin.ext h1
  unfold rowsOf
  rw [e0, e1]

@[inherit_doc rowsOf_at]
theorem colsOf_at {n : ℕ} (A : S16384x1024.Idx → EReal) (W : (⟨2, ![n, 1024]⟩ : Shape).Idx → EReal) (i : (⟨3, ![4, n, 4096]⟩ : Shape).Idx)
    (p : Fin 16384) (f : Fin n) (h0 : 4096 * (i 0).val + (i 2).val = p.val) (h1 : (i 1).val = f.val) :
    colsOf A W i = ∑ l, W (ix2 f l) * A (ix2 p l) := by
  have e1 : (i 1 : Fin n) = f := Fin.ext h1
  unfold colsOf
  rw [e1]
  refine Finset.sum_congr rfl fun l _ => ?_
  congr 2
  exact congrArg (fun q => ix2 q l) (Fin.ext h0)

variable (m : (ℓ : Loc nD τ sig) → Buf (Elt Ideal) ℓ) (c : Dev nD)

/-- The input and the weights as the call reads them. -/
abbrev qx : Vec Ideal S16384x1024 .f32 := V m c main_v12
@[inherit_doc qx] abbrev q1 : Vec Ideal S1024x1024 .bf16 := V m c main_v1
@[inherit_doc qx] abbrev q2 : Vec Ideal S1024x128 .bf16 := V m c main_v5
@[inherit_doc qx] abbrev q3 : Vec Ideal S1024x48 .bf16 := V m c main_v3
@[inherit_doc qx] abbrev q4 : Vec Ideal S256x1024 .bf16 := V m c main_v8
@[inherit_doc qx] abbrev q5 : Vec Ideal S128x1024 .bf16 := V m c main_v11

/-! ## The result arrays -/

/-- After the run, this result array holds the product with its weight. -/
theorem final6 : (dats m 0 c).arrAt 6 cfg0.N = rowsOf (qx m c) (q1 m c) := by
  refine (dats m 0 c).arrAt_eq_of_covers 6 _ (by decide +kernel) fun t hf y => ?_
  rw [after0_6]
  have e0 : iblk m c 0 t = (win0_0.blk t).view.read (Elt Ideal) (qx m c) := rfl
  have e1 : iblk m c 1 t = (win0_1.blk t).view.read (Elt Ideal) (q1 m c) := rfl
  unfold out0_6
  rw [e0, e1]
  generalize qx m c = A
  generalize q1 m c = W
  rw [w1_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 1024 := (y 1).isLt
  have hy : y = ix2 (⟨(y 0).val, y0⟩ : Fin 256) (⟨(y 1).val, y1⟩ : Fin 1024) := by
    funext a
    fin_cases a <;> rfl
  refine (congrArg _ hy).trans ((pay_6_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 1024))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final7 : (dats m 0 c).arrAt 7 cfg0.N = rowsOf (qx m c) (q2 m c) := by
  refine (dats m 0 c).arrAt_eq_of_covers 7 _ (by decide +kernel) fun t hf y => ?_
  rw [after0_7]
  have e0 : iblk m c 0 t = (win0_0.blk t).view.read (Elt Ideal) (qx m c) := rfl
  have e1 : iblk m c 2 t = (win0_2.blk t).view.read (Elt Ideal) (q2 m c) := rfl
  unfold out0_7
  rw [e0, e1]
  generalize qx m c = A
  generalize q2 m c = W
  rw [w2_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 128 := (y 1).isLt
  have hy : y = ix2 (⟨(y 0).val, y0⟩ : Fin 256) (⟨(y 1).val, y1⟩ : Fin 128) := by
    funext a
    fin_cases a <;> rfl
  refine (congrArg _ hy).trans ((pay_7_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 128))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final8 : (dats m 0 c).arrAt 8 cfg0.N = rowsOf (qx m c) (q3 m c) := by
  refine (dats m 0 c).arrAt_eq_of_covers 8 _ (by decide +kernel) fun t hf y => ?_
  rw [after0_8]
  have e0 : iblk m c 0 t = (win0_0.blk t).view.read (Elt Ideal) (qx m c) := rfl
  have e1 : iblk m c 3 t = (win0_3.blk t).view.read (Elt Ideal) (q3 m c) := rfl
  unfold out0_8
  rw [e0, e1]
  generalize qx m c = A
  generalize q3 m c = W
  rw [w3_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 48 := (y 1).isLt
  have hy : y = ix2 (⟨(y 0).val, y0⟩ : Fin 256) (⟨(y 1).val, y1⟩ : Fin 48) := by
    funext a
    fin_cases a <;> rfl
  refine (congrArg _ hy).trans ((pay_8_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 48))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final9 : (dats m 0 c).arrAt 9 cfg0.N = colsOf (qx m c) (q4 m c) := by
  refine (dats m 0 c).arrAt_eq_of_covers 9 _ (by decide +kernel) fun t hf y => ?_
  rw [after0_9]
  have e0 : iblk m c 0 t = (win0_0.blk t).view.read (Elt Ideal) (qx m c) := rfl
  have e1 : iblk m c 4 t = (win0_4.blk t).view.read (Elt Ideal) (q4 m c) := rfl
  unfold out0_9
  rw [e0, e1]
  generalize qx m c = A
  generalize q4 m c = W
  rw [w4_read, View.canon_cons_unit_lit _ _ _ z3, View.ld_unit_lit _ _ z2, View.ld_unit_lit _ _ z2]
  blk_simp
  have ht : t.val < 64 := t.isLt
  have y0 : (y 0).val < 1 := (y 0).isLt
  have y1 : (y 1).val < 256 := (y 1).isLt
  have y2 : (y 2).val < 256 := (y 2).isLt
  have hy : y = ix3 (0 : Fin 1) (⟨(y 1).val, y1⟩ : Fin 256) (⟨(y 2).val, y2⟩ : Fin 256) := by
    funext a
    fin_cases a
    · exact Fin.ext (by show (y 0).val = 0; omega)
    · rfl
    · rfl
  refine (congrArg _ hy).trans ((pay_9_at _ _ _ _).trans ?_)
  have hx := fun l => x_read t (⟨(y 2).val, y2⟩ : Fin 256) l A (⟨256 * t.val + (y 2).val, by omega⟩ : Fin 16384) rfl
  rw [Finset.sum_congr rfl fun l _ => congrArg (W (ix2 (⟨(y 1).val, y1⟩ : Fin 256) l) * ·) (hx l)]
  refine (colsOf_at _ _ _ _ _ ?_ ?_).symm
  · blk_simp [idx_at t]
    show 4096 * (t.val / 16) + (t.val % 16 * 256 + (y 2).val) = 256 * t.val + (y 2).val
    omega
  · blk_simp [idx_at t]

/-- After the run, this result array holds the product with its weight. -/
theorem final10 : (dats m 0 c).arrAt 10 cfg0.N = colsOf (qx m c) (q5 m c) := by
  refine (dats m 0 c).arrAt_eq_of_covers 10 _ (by decide +kernel) fun t hf y => ?_
  rw [after0_10]
  have e0 : iblk m c 0 t = (win0_0.blk t).view.read (Elt Ideal) (qx m c) := rfl
  have e1 : iblk m c 5 t = (win0_5.blk t).view.read (Elt Ideal) (q5 m c) := rfl
  unfold out0_10
  rw [e0, e1]
  generalize qx m c = A
  generalize q5 m c = W
  rw [w5_read, View.canon_cons_unit_lit _ _ _ z3, View.ld_unit_lit _ _ z2, View.ld_unit_lit _ _ z2]
  blk_simp
  have ht : t.val < 64 := t.isLt
  have y0 : (y 0).val < 1 := (y 0).isLt
  have y1 : (y 1).val < 128 := (y 1).isLt
  have y2 : (y 2).val < 256 := (y 2).isLt
  have hy : y = ix3 (0 : Fin 1) (⟨(y 1).val, y1⟩ : Fin 128) (⟨(y 2).val, y2⟩ : Fin 256) := by
    funext a
    fin_cases a
    · exact Fin.ext (by show (y 0).val = 0; omega)
    · rfl
    · rfl
  refine (congrArg _ hy).trans ((pay_10_at _ _ _ _).trans ?_)
  have hx := fun l => x_read t (⟨(y 2).val, y2⟩ : Fin 256) l A (⟨256 * t.val + (y 2).val, by omega⟩ : Fin 16384) rfl
  rw [Finset.sum_congr rfl fun l _ => congrArg (W (ix2 (⟨(y 1).val, y1⟩ : Fin 128) l) * ·) (hx l)]
  refine (colsOf_at _ _ _ _ _ ?_ ?_).symm
  · blk_simp [idx_at t]
    show 4096 * (t.val / 16) + (t.val % 16 * 256 + (y 2).val) = 256 * t.val + (y 2).val
    omega
  · blk_simp [idx_at t]

/-! ## The operands, and the results over the launched arguments -/

/-- The input's rows, batch element by batch element. -/
theorem x_host (p : Fin 16384) (l : Fin 1024) :
    qx m c (ix2 p l) = (m ((c : Thread nD τ).loc main_arg0) : S4x4096x1024.Idx → EReal)
      (ix3 ⟨p.val / 4096, by omega⟩ ⟨p.val % 4096, by omega⟩ l) := by
  show StableHlo.after hostOps0 (fun b => m (c, b)) (Proc.tc.devRef main_v12) _ = _
  entry_read
  clean_types
  pointwise

/-- A weight's columns are columns of the launched weight. -/
theorem w1_host (a : Fin 1024) (b : Fin 1024) : q1 m c (ix2 a b) = (m ((c : Thread nD τ).loc main_arg1) : S1024x1456.Idx → EReal) (ix2 a ⟨0 + b.val, by omega⟩) := by
  show StableHlo.after hostOps0 (fun b => m (c, b)) (Proc.tc.devRef main_v1) _ = _
  entry_read
  clean_types
  pointwise

/-- A weight's columns are columns of the launched weight. -/
theorem w2_host (a : Fin 1024) (b : Fin 128) : q2 m c (ix2 a b) = (m ((c : Thread nD τ).loc main_arg1) : S1024x1456.Idx → EReal) (ix2 a ⟨1024 + b.val, by omega⟩) := by
  show StableHlo.after hostOps0 (fun b => m (c, b)) (Proc.tc.devRef main_v5) _ = _
  entry_read
  clean_types
  pointwise

/-- A weight's columns are columns of the launched weight. -/
theorem w3_host (a : Fin 1024) (b : Fin 48) : q3 m c (ix2 a b) = (m ((c : Thread nD τ).loc main_arg1) : S1024x1456.Idx → EReal) (ix2 a ⟨1408 + b.val, by omega⟩) := by
  show StableHlo.after hostOps0 (fun b => m (c, b)) (Proc.tc.devRef main_v3) _ = _
  entry_read
  clean_types
  pointwise

/-- A weight's columns are columns of the launched weight. -/
theorem w4_host (a : Fin 1024) (b : Fin 256) : q4 m c (ix2 b a) = (m ((c : Thread nD τ).loc main_arg1) : S1024x1456.Idx → EReal) (ix2 a ⟨1024 + b.val, by omega⟩) := by
  show StableHlo.after hostOps0 (fun b => m (c, b)) (Proc.tc.devRef main_v8) _ = _
  entry_read
  clean_types
  pointwise

/-- A weight's columns are columns of the launched weight. -/
theorem w5_host (a : Fin 1024) (b : Fin 128) : q5 m c (ix2 b a) = (m ((c : Thread nD τ).loc main_arg1) : S1024x1456.Idx → EReal) (ix2 a ⟨1280 + b.val, by omega⟩) := by
  show StableHlo.after hostOps0 (fun b => m (c, b)) (Proc.tc.devRef main_v11) _ = _
  entry_read
  clean_types
  pointwise

/-- One feature of one position: the input's row times a column of the weight. -/
def feat (x : S4x4096x1024.Idx → EReal) (w : S1024x1456.Idx → EReal) (b : Fin 4) (s : Fin 4096) (f : Fin 1456) : EReal :=
  ∑ l, x (ix3 b s l) * w (ix2 l f)

/-- The launched arguments. -/
abbrev lx : S4x4096x1024.Idx → EReal := m ((c : Thread nD τ).loc main_arg0)
@[inherit_doc lx] abbrev lw : S1024x1456.Idx → EReal := m ((c : Thread nD τ).loc main_arg1)

/-- The result rows over the launched arguments. -/
theorem value6 (p : Fin 16384) (f : Fin 1024) : rowsOf (qx m c) (q1 m c) (ix2 p f)
    = feat (lx m c) (lw m c) ⟨p.val / 4096, by omega⟩ ⟨p.val % 4096, by omega⟩ ⟨0 + f.val, by omega⟩ := by
  refine (rowsOf_at _ _ _ p f rfl rfl).trans (Finset.sum_congr rfl fun l _ => ?_)
  rw [x_host, w1_host]

/-- The result rows over the launched arguments. -/
theorem value7 (p : Fin 16384) (f : Fin 128) : rowsOf (qx m c) (q2 m c) (ix2 p f)
    = feat (lx m c) (lw m c) ⟨p.val / 4096, by omega⟩ ⟨p.val % 4096, by omega⟩ ⟨1024 + f.val, by omega⟩ := by
  refine (rowsOf_at _ _ _ p f rfl rfl).trans (Finset.sum_congr rfl fun l _ => ?_)
  rw [x_host, w2_host]

/-- The result rows over the launched arguments. -/
theorem value8 (p : Fin 16384) (f : Fin 48) : rowsOf (qx m c) (q3 m c) (ix2 p f)
    = feat (lx m c) (lw m c) ⟨p.val / 4096, by omega⟩ ⟨p.val % 4096, by omega⟩ ⟨1408 + f.val, by omega⟩ := by
  refine (rowsOf_at _ _ _ p f rfl rfl).trans (Finset.sum_congr rfl fun l _ => ?_)
  rw [x_host, w3_host]

/-- The result's features over the launched arguments. -/
theorem value9 (b : Fin 4) (f : Fin 256) (s : Fin 4096) : colsOf (qx m c) (q4 m c) (ix3 b f s)
    = feat (lx m c) (lw m c) b s ⟨1024 + f.val, by omega⟩ := by
  refine (colsOf_at _ _ _ ⟨4096 * b.val + s.val, by omega⟩ f rfl rfl).trans (Finset.sum_congr rfl fun l _ => ?_)
  rw [x_host, w4_host, mul_comm]
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

/-- The result's features over the launched arguments. -/
theorem value10 (b : Fin 4) (f : Fin 128) (s : Fin 4096) : colsOf (qx m c) (q5 m c) (ix3 b f s)
    = feat (lx m c) (lw m c) b s ⟨1280 + f.val, by omega⟩ := by
  refine (colsOf_at _ _ _ ⟨4096 * b.val + s.val, by omega⟩ f rfl rfl).trans (Finset.sum_congr rfl fun l _ => ?_)
  rw [x_host, w5_host, mul_comm]
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

end Cert.Kernel3Ideal.Nsa

end
-- ==== Proof.Nsa.Algebra.lean ====
/- The value claim of the projections of the sparse-attention layer. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Nsa.Value

@[expose] public section

set_option maxRecDepth 16384

noncomputable section

namespace Cert.Reference3Ideal.Nsa

open Idealize.ShloMosaic Idealize.ShloMosaic.TcCoe Cert.Reference3Ideal.Gen Idealize.ShloMosaic.Tactic
open Cert.Kernel3Ideal.Nsa (feat ext_ix2 ext_ix3)

/-- The reference's result, from its arguments, -/
def result6 (x : FVec Ideal S4x4096x1024 .f32) (w : FVec Ideal S1024x1456 .f32) : FVec Ideal S16384x1024 .f32 :=
  shapeCast _ (extractStridedSlice S4x4096x1024 ![0, 0, 0] (Host.dotGeneral dot_S4x4096x1024_S1024x1456_S4x4096x1456_2_0_01_1_n_n none x w) slices_S4x4096x1456_S4x4096x1024_0_0_0) shapeCasts_S4x4096x1024_S16384x1024

/-- holds the products of the input's rows with the weight's columns. -/
theorem result6_at (x : FVec Ideal S4x4096x1024 .f32) (w : FVec Ideal S1024x1456 .f32) (p : Fin 16384) (f : Fin 1024) :
    result6 x w (ix2 p f) = feat x w ⟨p.val / 4096, by omega⟩ ⟨p.val % 4096, by omega⟩ ⟨0 + f.val, by omega⟩ := by
  unfold result6 feat
  pointwise

/-- The reference's result, from its arguments, -/
def result7 (x : FVec Ideal S4x4096x1024 .f32) (w : FVec Ideal S1024x1456 .f32) : FVec Ideal S16384x128 .f32 :=
  shapeCast _ (extractStridedSlice S4x4096x128 ![0, 0, 1024] (Host.dotGeneral dot_S4x4096x1024_S1024x1456_S4x4096x1456_2_0_01_1_n_n none x w) slices_S4x4096x1456_S4x4096x128_0_0_1024) shapeCasts_S4x4096x128_S16384x128

/-- holds the products of the input's rows with the weight's columns. -/
theorem result7_at (x : FVec Ideal S4x4096x1024 .f32) (w : FVec Ideal S1024x1456 .f32) (p : Fin 16384) (f : Fin 128) :
    result7 x w (ix2 p f) = feat x w ⟨p.val / 4096, by omega⟩ ⟨p.val % 4096, by omega⟩ ⟨1024 + f.val, by omega⟩ := by
  unfold result7 feat
  pointwise

/-- The reference's result, from its arguments, -/
def result8 (x : FVec Ideal S4x4096x1024 .f32) (w : FVec Ideal S1024x1456 .f32) : FVec Ideal S16384x48 .f32 :=
  shapeCast _ (extractStridedSlice S4x4096x48 ![0, 0, 1408] (Host.dotGeneral dot_S4x4096x1024_S1024x1456_S4x4096x1456_2_0_01_1_n_n none x w) slices_S4x4096x1456_S4x4096x48_0_0_1408) shapeCasts_S4x4096x48_S16384x48

/-- holds the products of the input's rows with the weight's columns. -/
theorem result8_at (x : FVec Ideal S4x4096x1024 .f32) (w : FVec Ideal S1024x1456 .f32) (p : Fin 16384) (f : Fin 48) :
    result8 x w (ix2 p f) = feat x w ⟨p.val / 4096, by omega⟩ ⟨p.val % 4096, by omega⟩ ⟨1408 + f.val, by omega⟩ := by
  unfold result8 feat
  pointwise

/-- The reference's result, from its arguments, -/
def result9 (x : FVec Ideal S4x4096x1024 .f32) (w : FVec Ideal S1024x1456 .f32) : FVec Ideal S4x256x4096 .f32 :=
  transpose S4x256x4096 [0, 2, 1] (extractStridedSlice S4x4096x256 ![0, 0, 1024] (Host.dotGeneral dot_S4x4096x1024_S1024x1456_S4x4096x1456_2_0_01_1_n_n none x w) slices_S4x4096x1456_S4x4096x256_0_0_1024) transposes_S4x4096x256_S4x256x4096_0_2_1

/-- holds the products of the input's rows with the weight's columns. -/
theorem result9_at (x : FVec Ideal S4x4096x1024 .f32) (w : FVec Ideal S1024x1456 .f32) (b : Fin 4) (f : Fin 256) (s : Fin 4096) :
    result9 x w (ix3 b f s) = feat x w b s ⟨1024 + f.val, by omega⟩ := by
  unfold result9 feat
  pointwise

/-- The reference's result, from its arguments, -/
def result10 (x : FVec Ideal S4x4096x1024 .f32) (w : FVec Ideal S1024x1456 .f32) : FVec Ideal S4x128x4096 .f32 :=
  transpose S4x128x4096 [0, 2, 1] (extractStridedSlice S4x4096x128 ![0, 0, 1280] (Host.dotGeneral dot_S4x4096x1024_S1024x1456_S4x4096x1456_2_0_01_1_n_n none x w) slices_S4x4096x1456_S4x4096x128_0_0_1280) transposes_S4x4096x128_S4x128x4096_0_2_1

/-- holds the products of the input's rows with the weight's columns. -/
theorem result10_at (x : FVec Ideal S4x4096x1024 .f32) (w : FVec Ideal S1024x1456 .f32) (b : Fin 4) (f : Fin 128) (s : Fin 4096) :
    result10 x w (ix3 b f s) = feat x w b s ⟨1280 + f.val, by omega⟩ := by
  unfold result10 feat
  pointwise

end Cert.Reference3Ideal.Nsa

namespace Cert.Proof.Nsa

open Idealize.ShloMosaic Idealize.ShloMosaic.TcCoe Idealize.SL Idealize.SL.Sem
open Cert.Kernel3Ideal.Nsa (ext_ix2 ext_ix3)

/-- Over the extended reals the kernel's projections and the reference's are equal: from the same arguments both end, and their results agree. -/
theorem algebraic : Cert.algebraic_Kernel3Ideal_Reference3Ideal := by
  intro m g m' g' _ hagree
  refine ⟨fun c => Cert.Kernel3Ideal.Nsa.rowsOf (Cert.Kernel3Ideal.Nsa.qx m c) (Cert.Kernel3Ideal.Nsa.q1 m c), fun c => Cert.Kernel3Ideal.Nsa.rowsOf (Cert.Kernel3Ideal.Nsa.qx m c) (Cert.Kernel3Ideal.Nsa.q2 m c), fun c => Cert.Kernel3Ideal.Nsa.rowsOf (Cert.Kernel3Ideal.Nsa.qx m c) (Cert.Kernel3Ideal.Nsa.q3 m c), fun c => Cert.Kernel3Ideal.Nsa.colsOf (Cert.Kernel3Ideal.Nsa.qx m c) (Cert.Kernel3Ideal.Nsa.q4 m c), fun c => Cert.Kernel3Ideal.Nsa.colsOf (Cert.Kernel3Ideal.Nsa.qx m c) (Cert.Kernel3Ideal.Nsa.q5 m c), ?_, ?_⟩
  · refine (θ_run _ _ _).mono (fun r h c => ?_) (Cert.Kernel3Ideal.Value.run_blocks m g)
    obtain ⟨h0, h1, h2, h3, h4, hr⟩ := h c
    exact ⟨h0.trans (Cert.Kernel3Ideal.Nsa.final6 m c), h1.trans (Cert.Kernel3Ideal.Nsa.final7 m c), h2.trans (Cert.Kernel3Ideal.Nsa.final8 m c), h3.trans (Cert.Kernel3Ideal.Nsa.final9 m c), h4.trans (Cert.Kernel3Ideal.Nsa.final10 m c), hr⟩
  · refine (θ_run _ _ _).mono (fun r h c => ?_) (Cert.Reference3Ideal.Value.run m' g')
    obtain ⟨h0, h1, h2, h3, h4, hr⟩ := h c
    obtain ⟨a0, a1⟩ := hagree c
    refine ⟨h0.trans ?_, h1.trans ?_, h2.trans ?_, h3.trans ?_, h4.trans ?_, hr⟩
    · refine ext_ix2 (n := 16384) (k := 1024) fun p f => ?_
      refine Eq.trans ?_ (Cert.Kernel3Ideal.Nsa.value6 m c p f).symm
      refine (Cert.Reference3Ideal.Nsa.result6_at _ _ p f).trans ?_
      rw [a0, a1]
    · refine ext_ix2 (n := 16384) (k := 128) fun p f => ?_
      refine Eq.trans ?_ (Cert.Kernel3Ideal.Nsa.value7 m c p f).symm
      refine (Cert.Reference3Ideal.Nsa.result7_at _ _ p f).trans ?_
      rw [a0, a1]
    · refine ext_ix2 (n := 16384) (k := 48) fun p f => ?_
      refine Eq.trans ?_ (Cert.Kernel3Ideal.Nsa.value8 m c p f).symm
      refine (Cert.Reference3Ideal.Nsa.result8_at _ _ p f).trans ?_
      rw [a0, a1]
    · refine ext_ix3 (n := 4) (k := 256) (l := 4096) fun b f s => ?_
      refine Eq.trans ?_ (Cert.Kernel3Ideal.Nsa.value9 m c b f s).symm
      refine (Cert.Reference3Ideal.Nsa.result9_at _ _ b f s).trans ?_
      rw [a0, a1]
    · refine ext_ix3 (n := 4) (k := 128) (l := 4096) fun b f s => ?_
      refine Eq.trans ?_ (Cert.Kernel3Ideal.Nsa.value10 m c b f s).symm
      refine (Cert.Reference3Ideal.Nsa.result10_at _ _ b f s).trans ?_
      rw [a0, a1]

end Cert.Proof.Nsa

end
-- ==== Proof.Sb.Value.lean ====
/- The projections of the stick-breaking layer: what the call's blocks hold, its result arrays, the operands prepared for it, and its results over
   the launched arguments. -/
module

public import proofs.«01_k».proof.Proof.Gen.Kernel4Ideal.Value
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel4Ideal.Sb

open Idealize.ShloMosaic Idealize.ShloMosaic.TcCoe Cert.Kernel4Ideal.Gen Idealize.ShloMosaic.Tactic

/-- Arrays of two axes agree where they agree at every pair of indices, -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

/-- and of three at every triple. -/
theorem ext_ix3 {n k l : ℕ} {A B : (⟨3, ![n, k, l]⟩ : Shape).Idx → EReal}
    (h : ∀ (a : Fin n) (b : Fin k) (d : Fin l), A (ix3 a b d) = B (ix3 a b d)) : A = B := by
  funext i
  have e : i = ix3 (i 0 : Fin n) (i 1 : Fin k) (i 2 : Fin l) := by
    funext a
    fin_cases a <;> rfl
  rw [e]
  exact h _ _ _

/-- The zero offsets. -/
theorem z2 : ∀ a, (![0, 0] : Fin 2 → ℕ) a = 0 := by decide
@[inherit_doc z2] theorem z3 : ∀ a, (![0, 0, 0] : Fin 3 → ℕ) a = 0 := by decide

/-- The block indices of the windows at a grid point. -/
theorem idx_at : ∀ t : Fin grid0.N,
    win0_0.index t = ![t.val, 0]
    ∧ win0_1.index t = ![0, 0]
    ∧ win0_2.index t = ![0, 0]
    ∧ win0_3.index t = ![t.val, 0]
    ∧ win0_4.index t = ![t.val / 16, 0, t.val % 16] := by decide +kernel

/-! ## The payloads -/

/-- A block's product with a weight block. -/
theorem pay_3_at (x : Vec Ideal S256x1024 .f32) (w : Vec Ideal S1024x1024 .bf16) (r : Fin 256) (f : Fin 1024) :
    k0_pay2 (F := Ideal) x w (ix2 r f) = ∑ l, x (ix2 r l) * w (ix2 l f) := by
  pointwise [k0_pay2, k0_pay1]

/-- A block's product with a weight block. -/
theorem pay_4_at (x : Vec Ideal S256x1024 .f32) (w : Vec Ideal S512x1024 .bf16) (r : Fin 256) (f : Fin 512) :
    k0_pay3 (F := Ideal) x w (ix3 0 f r) = ∑ l, w (ix2 f l) * x (ix2 r l) := by
  pointwise [k0_pay3, k0_pay1]

/-! ## The blocks -/

/-- A row of the input's block is a row of the input. -/
theorem x_read (t : Fin grid0.N) (r : Fin 256) (l : Fin 1024) (A : Vec Ideal S16384x1024 .f32) (p : Fin 16384) (hp : p.val = 256 * t.val + r.val) :
    (win0_0.blk t).view.read (Elt Ideal) A (ix2 r l) = A (ix2 p l) := by
  blk_ext [idx_at t]

/-- A block of this weight is all of it. -/
theorem w1_read (t : Fin grid0.N) (A : Vec Ideal S1024x1024 .bf16) : (win0_1.blk t).view.read (Elt Ideal) A = A := by
  refine ext_ix2 fun a b => ?_
  blk_ext [idx_at t]

/-- A block of this weight is all of it. -/
theorem w2_read (t : Fin grid0.N) (A : Vec Ideal S512x1024 .bf16) : (win0_2.blk t).view.read (Elt Ideal) A = A := by
  refine ext_ix2 fun a b => ?_
  blk_ext [idx_at t]

/-- The input's product with a weight, by rows, -/
def rowsOf {n : ℕ} (A : S16384x1024.Idx → EReal) (W : (⟨2, ![1024, n]⟩ : Shape).Idx → EReal) : (⟨2, ![16384, n]⟩ : Shape).Idx → EReal :=
  fun i => ∑ l, A (ix2 (i 0 : Fin 16384) l) * W (ix2 l (i 1 : Fin n))

/-- and feature by feature, a batch element's positions along the last axis. -/
def colsOf {n : ℕ} (A : S16384x1024.Idx → EReal) (W : (⟨2, ![n, 1024]⟩ : Shape).Idx → EReal) : (⟨3, ![4, n, 4096]⟩ : Shape).Idx → EReal :=
  fun i => ∑ l, W (ix2 (i 1 : Fin n) l) * A (ix2 ⟨4096 * (i 0).val + (i 2).val, by
    have h0 : (i 0).val < 4 := (i 0).isLt
    have h2 : (i 2).val < 4096 := (i 2).isLt
    omega⟩ l)

/-- Both at an index, by its position and feature. -/
theorem rowsOf_at {n : ℕ} (A : S16384x1024.Idx → EReal) (W : (⟨2, ![1024, n]⟩ : Shape).Idx → EReal) (i : (⟨2, ![16384, n]⟩ : Shape).Idx)
    (p : Fin 16384) (f : Fin n) (h0 : (i 0).val = p.val) (h1 : (i 1).val = f.val) : rowsOf A W i = ∑ l, A (ix2 p l) * W (ix2 l f) := by
  have e0 : (i 0 : Fin 16384) = p := Fin.ext h0
  have e1 : (i 1 : Fin n) = f := Fin.ext h1
  unfold rowsOf
  rw [e0, e1]

@[inherit_doc rowsOf_at]
theorem colsOf_at {n : ℕ} (A : S16384x1024.Idx → EReal) (W : (⟨2, ![n, 1024]⟩ : Shape).Idx → EReal) (i : (⟨3, ![4, n, 4096]⟩ : Shape).Idx)
    (p : Fin 16384) (f : Fin n) (h0 : 4096 * (i 0).val + (i 2).val = p.val) (h1 : (i 1).val = f.val) :
    colsOf A W i = ∑ l, W (ix2 f l) * A (ix2 p l) := by
  have e1 : (i 1 : Fin n) = f := Fin.ext h1
  unfold colsOf
  rw [e1]
  refine Finset.sum_congr rfl fun l _ => ?_
  congr 2
  exact congrArg (fun q => ix2 q l) (Fin.ext h0)

variable (m : (ℓ : Loc nD τ sig) → Buf (Elt Ideal) ℓ) (c : Dev nD)

/-- The input and the weights as the call reads them. -/
abbrev qx : Vec Ideal S16384x1024 .f32 := V m c main_v0
@[inherit_doc qx] abbrev q1 : Vec Ideal S1024x1024 .bf16 := V m c main_v2
@[inherit_doc qx] abbrev q2 : Vec Ideal S512x1024 .bf16 := V m c main_v5

/-! ## The result arrays -/

/-- After the run, this result array holds the product with its weight. -/
theorem final3 : (dats m 0 c).arrAt 3 cfg0.N = rowsOf (qx m c) (q1 m c) := by
  refine (dats m 0 c).arrAt_eq_of_covers 3 _ (by decide +kernel) fun t hf y => ?_
  rw [after0_3]
  have e0 : iblk m c 0 t = (win0_0.blk t).view.read (Elt Ideal) (qx m c) := rfl
  have e1 : iblk m c 1 t = (win0_1.blk t).view.read (Elt Ideal) (q1 m c) := rfl
  unfold out0_3
  rw [e0, e1]
  generalize qx m c = A
  generalize q1 m c = W
  rw [w1_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 1024 := (y 1).isLt
  have hy : y = ix2 (⟨(y 0).val, y0⟩ : Fin 256) (⟨(y 1).val, y1⟩ : Fin 1024) := by
    funext a
    fin_cases a <;> rfl
  refine (congrArg _ hy).trans ((pay_3_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 1024))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final4 : (dats m 0 c).arrAt 4 cfg0.N = colsOf (qx m c) (q2 m c) := by
  refine (dats m 0 c).arrAt_eq_of_covers 4 _ (by decide +kernel) fun t hf y => ?_
  rw [after0_4]
  have e0 : iblk m c 0 t = (win0_0.blk t).view.read (Elt Ideal) (qx m c) := rfl
  have e1 : iblk m c 2 t = (win0_2.blk t).view.read (Elt Ideal) (q2 m c) := rfl
  unfold out0_4
  rw [e0, e1]
  generalize qx m c = A
  generalize q2 m c = W
  rw [w2_read, View.canon_cons_unit_lit _ _ _ z3, View.ld_unit_lit _ _ z2, View.ld_unit_lit _ _ z2]
  blk_simp
  have ht : t.val < 64 := t.isLt
  have y0 : (y 0).val < 1 := (y 0).isLt
  have y1 : (y 1).val < 512 := (y 1).isLt
  have y2 : (y 2).val < 256 := (y 2).isLt
  have hy : y = ix3 (0 : Fin 1) (⟨(y 1).val, y1⟩ : Fin 512) (⟨(y 2).val, y2⟩ : Fin 256) := by
    funext a
    fin_cases a
    · exact Fin.ext (by show (y 0).val = 0; omega)
    · rfl
    · rfl
  refine (congrArg _ hy).trans ((pay_4_at _ _ _ _).trans ?_)
  have hx := fun l => x_read t (⟨(y 2).val, y2⟩ : Fin 256) l A (⟨256 * t.val + (y 2).val, by omega⟩ : Fin 16384) rfl
  rw [Finset.sum_congr rfl fun l _ => congrArg (W (ix2 (⟨(y 1).val, y1⟩ : Fin 512) l) * ·) (hx l)]
  refine (colsOf_at _ _ _ _ _ ?_ ?_).symm
  · blk_simp [idx_at t]
    show 4096 * (t.val / 16) + (t.val % 16 * 256 + (y 2).val) = 256 * t.val + (y 2).val
    omega
  · blk_simp [idx_at t]

/-! ## The operands, and the results over the launched arguments -/

/-- The input's rows, batch element by batch element. -/
theorem x_host (p : Fin 16384) (l : Fin 1024) :
    qx m c (ix2 p l) = (m ((c : Thread nD τ).loc main_arg0) : S4x4096x1024.Idx → EReal)
      (ix3 ⟨p.val / 4096, by omega⟩ ⟨p.val % 4096, by omega⟩ l) := by
  show StableHlo.after hostOps0 (fun b => m (c, b)) (Proc.tc.devRef main_v0) _ = _
  entry_read
  clean_types
  pointwise

/-- A weight's columns are columns of the launched weight. -/
theorem w1_host (a : Fin 1024) (b : Fin 1024) : q1 m c (ix2 a b) = (m ((c : Thread nD τ).loc main_arg1) : S1024x1536.Idx → EReal) (ix2 a ⟨0 + b.val, by omega⟩) := by
  show StableHlo.after hostOps0 (fun b => m (c, b)) (Proc.tc.devRef main_v2) _ = _
  entry_read
  clean_types
  pointwise

/-- A weight's columns are columns of the launched weight. -/
theorem w2_host (a : Fin 1024) (b : Fin 512) : q2 m c (ix2 b a) = (m ((c : Thread nD τ).loc main_arg1) : S1024x1536.Idx → EReal) (ix2 a ⟨1024 + b.val, by omega⟩) := by
  show StableHlo.after hostOps0 (fun b => m (c, b)) (Proc.tc.devRef main_v5) _ = _
  entry_read
  clean_types
  pointwise

/-- One feature of one position: the input's row times a column of the weight. -/
def feat (x : S4x4096x1024.Idx → EReal) (w : S1024x1536.Idx → EReal) (b : Fin 4) (s : Fin 4096) (f : Fin 1536) : EReal :=
  ∑ l, x (ix3 b s l) * w (ix2 l f)

/-- The launched arguments. -/
abbrev lx : S4x4096x1024.Idx → EReal := m ((c : Thread nD τ).loc main_arg0)
@[inherit_doc lx] abbrev lw : S1024x1536.Idx → EReal := m ((c : Thread nD τ).loc main_arg1)

/-- The result rows over the launched arguments. -/
theorem value3 (p : Fin 16384) (f : Fin 1024) : rowsOf (qx m c) (q1 m c) (ix2 p f)
    = feat (lx m c) (lw m c) ⟨p.val / 4096, by omega⟩ ⟨p.val % 4096, by omega⟩ ⟨0 + f.val, by omega⟩ := by
  refine (rowsOf_at _ _ _ p f rfl rfl).trans (Finset.sum_congr rfl fun l _ => ?_)
  rw [x_host, w1_host]

/-- The result's features over the launched arguments. -/
theorem value4 (b : Fin 4) (f : Fin 512) (s : Fin 4096) : colsOf (qx m c) (q2 m c) (ix3 b f s)
    = feat (lx m c) (lw m c) b s ⟨1024 + f.val, by omega⟩ := by
  refine (colsOf_at _ _ _ ⟨4096 * b.val + s.val, by omega⟩ f rfl rfl).trans (Finset.sum_congr rfl fun l _ => ?_)
  rw [x_host, w2_host, mul_comm]
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

end Cert.Kernel4Ideal.Sb

end
-- ==== Proof.Sb.Algebra.lean ====
/- The value claim of the projections of the stick-breaking layer. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Sb.Value

@[expose] public section

set_option maxRecDepth 16384

noncomputable section

namespace Cert.Reference4Ideal.Sb

open Idealize.ShloMosaic Idealize.ShloMosaic.TcCoe Cert.Reference4Ideal.Gen Idealize.ShloMosaic.Tactic
open Cert.Kernel4Ideal.Sb (feat ext_ix2 ext_ix3)

/-- The reference's result, from its arguments, -/
def result3 (x : FVec Ideal S4x4096x1024 .f32) (w : FVec Ideal S1024x1536 .f32) : FVec Ideal S16384x1024 .f32 :=
  shapeCast _ (extractStridedSlice S4x4096x1024 ![0, 0, 0] (Host.dotGeneral dot_S4x4096x1024_S1024x1536_S4x4096x1536_2_0_01_1_n_n none x w) slices_S4x4096x1536_S4x4096x1024_0_0_0) shapeCasts_S4x4096x1024_S16384x1024

/-- holds the products of the input's rows with the weight's columns. -/
theorem result3_at (x : FVec Ideal S4x4096x1024 .f32) (w : FVec Ideal S1024x1536 .f32) (p : Fin 16384) (f : Fin 1024) :
    result3 x w (ix2 p f) = feat x w ⟨p.val / 4096, by omega⟩ ⟨p.val % 4096, by omega⟩ ⟨0 + f.val, by omega⟩ := by
  unfold result3 feat
  pointwise

/-- The reference's result, from its arguments, -/
def result4 (x : FVec Ideal S4x4096x1024 .f32) (w : FVec Ideal S1024x1536 .f32) : FVec Ideal S4x512x4096 .f32 :=
  transpose S4x512x4096 [0, 2, 1] (extractStridedSlice S4x4096x512 ![0, 0, 1024] (Host.dotGeneral dot_S4x4096x1024_S1024x1536_S4x4096x1536_2_0_01_1_n_n none x w) slices_S4x4096x1536_S4x4096x512_0_0_1024) transposes_S4x4096x512_S4x512x4096_0_2_1

/-- holds the products of the input's rows with the weight's columns. -/
theorem result4_at (x : FVec Ideal S4x4096x1024 .f32) (w : FVec Ideal S1024x1536 .f32) (b : Fin 4) (f : Fin 512) (s : Fin 4096) :
    result4 x w (ix3 b f s) = feat x w b s ⟨1024 + f.val, by omega⟩ := by
  unfold result4 feat
  pointwise

end Cert.Reference4Ideal.Sb

namespace Cert.Proof.Sb

open Idealize.ShloMosaic Idealize.ShloMosaic.TcCoe Idealize.SL Idealize.SL.Sem
open Cert.Kernel4Ideal.Sb (ext_ix2 ext_ix3)

/-- Over the extended reals the kernel's projections and the reference's are equal: from the same arguments both end, and their results agree. -/
theorem algebraic : Cert.algebraic_Kernel4Ideal_Reference4Ideal := by
  intro m g m' g' _ hagree
  refine ⟨fun c => Cert.Kernel4Ideal.Sb.rowsOf (Cert.Kernel4Ideal.Sb.qx m c) (Cert.Kernel4Ideal.Sb.q1 m c), fun c => Cert.Kernel4Ideal.Sb.colsOf (Cert.Kernel4Ideal.Sb.qx m c) (Cert.Kernel4Ideal.Sb.q2 m c), ?_, ?_⟩
  · refine (θ_run _ _ _).mono (fun r h c => ?_) (Cert.Kernel4Ideal.Value.run_blocks m g)
    obtain ⟨h0, h1, hr⟩ := h c
    exact ⟨h0.trans (Cert.Kernel4Ideal.Sb.final3 m c), h1.trans (Cert.Kernel4Ideal.Sb.final4 m c), hr⟩
  · refine (θ_run _ _ _).mono (fun r h c => ?_) (Cert.Reference4Ideal.Value.run m' g')
    obtain ⟨h0, h1, hr⟩ := h c
    obtain ⟨a0, a1⟩ := hagree c
    refine ⟨h0.trans ?_, h1.trans ?_, hr⟩
    · refine ext_ix2 (n := 16384) (k := 1024) fun p f => ?_
      refine Eq.trans ?_ (Cert.Kernel4Ideal.Sb.value3 m c p f).symm
      refine (Cert.Reference4Ideal.Sb.result3_at _ _ p f).trans ?_
      rw [a0, a1]
    · refine ext_ix3 (n := 4) (k := 512) (l := 4096) fun b f s => ?_
      refine Eq.trans ?_ (Cert.Kernel4Ideal.Sb.value4 m c b f s).symm
      refine (Cert.Reference4Ideal.Sb.result4_at _ _ b f s).trans ?_
      rw [a0, a1]

end Cert.Proof.Sb

end
-- ==== Proof.Dil.Value.lean ====
/- The projections of the dilated layer: what the call's blocks hold, its result arrays, the operands prepared for it, and its results over
   the launched arguments. -/
module

public import proofs.«01_k».proof.Proof.Gen.Kernel5Ideal.Value
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel5Ideal.Dil

open Idealize.ShloMosaic Idealize.ShloMosaic.TcCoe Cert.Kernel5Ideal.Gen Idealize.ShloMosaic.Tactic

/-- Arrays of two axes agree where they agree at every pair of indices, -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

/-- and of three at every triple. -/
theorem ext_ix3 {n k l : ℕ} {A B : (⟨3, ![n, k, l]⟩ : Shape).Idx → EReal}
    (h : ∀ (a : Fin n) (b : Fin k) (d : Fin l), A (ix3 a b d) = B (ix3 a b d)) : A = B := by
  funext i
  have e : i = ix3 (i 0 : Fin n) (i 1 : Fin k) (i 2 : Fin l) := by
    funext a
    fin_cases a <;> rfl
  rw [e]
  exact h _ _ _

/-- The zero offsets. -/
theorem z2 : ∀ a, (![0, 0] : Fin 2 → ℕ) a = 0 := by decide
@[inherit_doc z2] theorem z3 : ∀ a, (![0, 0, 0] : Fin 3 → ℕ) a = 0 := by decide

/-- The block indices of the windows at a grid point. -/
theorem idx_at : ∀ t : Fin grid0.N,
    win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val / 16, 0, t.val % 16]
    ∧ win0_17.index t = ![t.val / 16, 0, t.val % 16]
    ∧ win0_18.index t = ![t.val / 16, 0, t.val % 16] := by decide +kernel

/-! ## The payloads -/

/-- A block's product with a weight block. -/
theorem pay_10_at (x : Vec Ideal S256x1024 .f32) (w : Vec Ideal S1024x1024 .bf16) (r : Fin 256) (f : Fin 1024) :
    k0_pay6 (F := Ideal) x w (ix2 r f) = ∑ l, x (ix2 r l) * w (ix2 l f) := by
  pointwise [k0_pay6, k0_pay5]

/-- A block's product with a weight block. -/
theorem pay_11_at (x : Vec Ideal S256x1024 .f32) (w : Vec Ideal S1024x512 .bf16) (r : Fin 256) (f : Fin 512) :
    k0_pay7 (F := Ideal) x w (ix2 r f) = ∑ l, x (ix2 r l) * w (ix2 l f) := by
  pointwise [k0_pay7, k0_pay5]

/-- A block's product with a weight block. -/
theorem pay_12_at (x : Vec Ideal S256x1024 .f32) (w : Vec Ideal S1024x1024 .bf16) (r : Fin 256) (f : Fin 1024) :
    k0_pay8 (F := Ideal) x w (ix2 r f) = ∑ l, x (ix2 r l) * w (ix2 l f) := by
  pointwise [k0_pay8, k0_pay5]

/-- A block's product with a weight block. -/
theorem pay_13_at (x : Vec Ideal S256x1024 .f32) (w : Vec Ideal S1024x512 .bf16) (r : Fin 256) (f : Fin 512) :
    k0_pay9 (F := Ideal) x w (ix2 r f) = ∑ l, x (ix2 r l) * w (ix2 l f) := by
  pointwise [k0_pay9, k0_pay5]

/-- A block's product with a weight block. -/
theorem pay_14_at (x : Vec Ideal S256x1024 .f32) (w : Vec Ideal S1024x1024 .bf16) (r : Fin 256) (f : Fin 1024) :
    k0_pay10 (F := Ideal) x w (ix2 r f) = ∑ l, x (ix2 r l) * w (ix2 l f) := by
  pointwise [k0_pay10, k0_pay5]

/-- A block's product with a weight block. -/
theorem pay_15_at (x : Vec Ideal S256x1024 .f32) (w : Vec Ideal S1024x512 .bf16) (r : Fin 256) (f : Fin 512) :
    k0_pay1 (F := Ideal) (k0_pay5 x) (k0_pay11 w) (ix2 r f) = ∑ l, x (ix2 r l) * w (ix2 l f) := by
  pointwise [k0_pay1, k0_pay5, k0_pay11]

/-- A block's product with a weight block. -/
theorem pay_16_at (x : Vec Ideal S256x1024 .f32) (w : Vec Ideal S512x1024 .bf16) (r : Fin 256) (f : Fin 512) :
    k0_pay2 (F := Ideal) (k0_pay5 x) w (ix3 0 f r) = ∑ l, w (ix2 f l) * x (ix2 r l) := by
  pointwise [k0_pay2, k0_pay5]

/-- A block's product with a weight block. -/
theorem pay_17_at (x : Vec Ideal S256x1024 .f32) (w : Vec Ideal S512x1024 .bf16) (r : Fin 256) (f : Fin 512) :
    k0_pay3 (F := Ideal) (k0_pay5 x) w (ix3 0 f r) = ∑ l, w (ix2 f l) * x (ix2 r l) := by
  pointwise [k0_pay3, k0_pay5]

/-- A block's product with a weight block. -/
theorem pay_18_at (x : Vec Ideal S256x1024 .f32) (w : Vec Ideal S512x1024 .bf16) (r : Fin 256) (f : Fin 512) :
    k0_pay4 (F := Ideal) (k0_pay5 x) w (ix3 0 f r) = ∑ l, w (ix2 f l) * x (ix2 r l) := by
  pointwise [k0_pay4, k0_pay5]

/-! ## The blocks -/

/-- A row of the input's block is a row of the input. -/
theorem x_read (t : Fin grid0.N) (r : Fin 256) (l : Fin 1024) (A : Vec Ideal S16384x1024 .f32) (p : Fin 16384) (hp : p.val = 256 * t.val + r.val) :
    (win0_0.blk t).view.read (Elt Ideal) A (ix2 r l) = A (ix2 p l) := by
  blk_ext [idx_at t]

/-- A block of this weight is all of it. -/
theorem w1_read (t : Fin grid0.N) (A : Vec Ideal S1024x1024 .bf16) : (win0_1.blk t).view.read (Elt Ideal) A = A := by
  refine ext_ix2 fun a b => ?_
  blk_ext [idx_at t]

/-- A block of this weight is all of it. -/
theorem w2_read (t : Fin grid0.N) (A : Vec Ideal S1024x512 .bf16) : (win0_2.blk t).view.read (Elt Ideal) A = A := by
  refine ext_ix2 fun a b => ?_
  blk_ext [idx_at t]

/-- A block of this weight is all of it. -/
theorem w3_read (t : Fin grid0.N) (A : Vec Ideal S1024x1024 .bf16) : (win0_3.blk t).view.read (Elt Ideal) A = A := by
  refine ext_ix2 fun a b => ?_
  blk_ext [idx_at t]

/-- A block of this weight is all of it. -/
theorem w4_read (t : Fin grid0.N) (A : Vec Ideal S1024x512 .bf16) : (win0_4.blk t).view.read (Elt Ideal) A = A := by
  refine ext_ix2 fun a b => ?_
  blk_ext [idx_at t]

/-- A block of this weight is all of it. -/
theorem w5_read (t : Fin grid0.N) (A : Vec Ideal S1024x1024 .bf16) : (win0_5.blk t).view.read (Elt Ideal) A = A := by
  refine ext_ix2 fun a b => ?_
  blk_ext [idx_at t]

/-- A block of this weight is all of it. -/
theorem w6_read (t : Fin grid0.N) (A : Vec Ideal S1024x512 .bf16) : (win0_6.blk t).view.read (Elt Ideal) A = A := by
  refine ext_ix2 fun a b => ?_
  blk_ext [idx_at t]

/-- A block of this weight is all of it. -/
theorem w7_read (t : Fin grid0.N) (A : Vec Ideal S512x1024 .bf16) : (win0_7.blk t).view.read (Elt Ideal) A = A := by
  refine ext_ix2 fun a b => ?_
  blk_ext [idx_at t]

/-- A block of this weight is all of it. -/
theorem w8_read (t : Fin grid0.N) (A : Vec Ideal S512x1024 .bf16) : (win0_8.blk t).view.read (Elt Ideal) A = A := by
  refine ext_ix2 fun a b => ?_
  blk_ext [idx_at t]

/-- A block of this weight is all of it. -/
theorem w9_read (t : Fin grid0.N) (A : Vec Ideal S512x1024 .bf16) : (win0_9.blk t).view.read (Elt Ideal) A = A := by
  refine ext_ix2 fun a b => ?_
  blk_ext [idx_at t]

/-- The input's product with a weight, by rows, -/
def rowsOf {n : ℕ} (A : S16384x1024.Idx → EReal) (W : (⟨2, ![1024, n]⟩ : Shape).Idx → EReal) : (⟨2, ![16384, n]⟩ : Shape).Idx → EReal :=
  fun i => ∑ l, A (ix2 (i 0 : Fin 16384) l) * W (ix2 l (i 1 : Fin n))

/-- and feature by feature, a batch element's positions along the last axis. -/
def colsOf {n : ℕ} (A : S16384x1024.Idx → EReal) (W : (⟨2, ![n, 1024]⟩ : Shape).Idx → EReal) : (⟨3, ![4, n, 4096]⟩ : Shape).Idx → EReal :=
  fun i => ∑ l, W (ix2 (i 1 : Fin n) l) * A (ix2 ⟨4096 * (i 0).val + (i 2).val, by
    have h0 : (i 0).val < 4 := (i 0).isLt
    have h2 : (i 2).val < 4096 := (i 2).isLt
    omega⟩ l)

/-- Both at an index, by its position and feature. -/
theorem rowsOf_at {n : ℕ} (A : S16384x1024.Idx → EReal) (W : (⟨2, ![1024, n]⟩ : Shape).Idx → EReal) (i : (⟨2, ![16384, n]⟩ : Shape).Idx)
    (p : Fin 16384) (f : Fin n) (h0 : (i 0).val = p.val) (h1 : (i 1).val = f.val) : rowsOf A W i = ∑ l, A (ix2 p l) * W (ix2 l f) := by
  have e0 : (i 0 : Fin 16384) = p := Fin.ext h0
  have e1 : (i 1 : Fin n) = f := Fin.ext h1
  unfold rowsOf
  rw [e0, e1]

@[inherit_doc rowsOf_at]
theorem colsOf_at {n : ℕ} (A : S16384x1024.Idx → EReal) (W : (⟨2, ![n, 1024]⟩ : Shape).Idx → EReal) (i : (⟨3, ![4, n, 4096]⟩ : Shape).Idx)
    (p : Fin 16384) (f : Fin n) (h0 : 4096 * (i 0).val + (i 2).val = p.val) (h1 : (i 1).val = f.val) :
    colsOf A W i = ∑ l, W (ix2 f l) * A (ix2 p l) := by
  have e1 : (i 1 : Fin n) = f := Fin.ext h1
  unfold colsOf
  rw [e1]
  refine Finset.sum_congr rfl fun l _ => ?_
  congr 2
  exact congrArg (fun q => ix2 q l) (Fin.ext h0)

variable (m : (ℓ : Loc nD τ sig) → Buf (Elt Ideal) ℓ) (c : Dev nD)

/-- The input and the weights as the call reads them. -/
abbrev qx : Vec Ideal S16384x1024 .f32 := V m c main_v31
@[inherit_doc qx] abbrev q1 : Vec Ideal S1024x1024 .bf16 := V m c main_v3
@[inherit_doc qx] abbrev q2 : Vec Ideal S1024x512 .bf16 := V m c main_v6
@[inherit_doc qx] abbrev q3 : Vec Ideal S1024x1024 .bf16 := V m c main_v13
@[inherit_doc qx] abbrev q4 : Vec Ideal S1024x512 .bf16 := V m c main_v16
@[inherit_doc qx] abbrev q5 : Vec Ideal S1024x1024 .bf16 := V m c main_v23
@[inherit_doc qx] abbrev q6 : Vec Ideal S1024x512 .bf16 := V m c main_v26
@[inherit_doc qx] abbrev q7 : Vec Ideal S512x1024 .bf16 := V m c main_v10
@[inherit_doc qx] abbrev q8 : Vec Ideal S512x1024 .bf16 := V m c main_v20
@[inherit_doc qx] abbrev q9 : Vec Ideal S512x1024 .bf16 := V m c main_v30

/-! ## The result arrays -/

/-- After the run, this result array holds the product with its weight. -/
theorem final10 : (dats m 0 c).arrAt 10 cfg0.N = rowsOf (qx m c) (q1 m c) := by
  refine (dats m 0 c).arrAt_eq_of_covers 10 _ (by decide +kernel) fun t hf y => ?_
  rw [after0_10]
  have e0 : iblk m c 0 t = (win0_0.blk t).view.read (Elt Ideal) (qx m c) := rfl
  have e1 : iblk m c 1 t = (win0_1.blk t).view.read (Elt Ideal) (q1 m c) := rfl
  unfold out0_10
  rw [e0, e1]
  generalize qx m c = A
  generalize q1 m c = W
  rw [w1_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 1024 := (y 1).isLt
  have hy : y = ix2 (⟨(y 0).val, y0⟩ : Fin 256) (⟨(y 1).val, y1⟩ : Fin 1024) := by
    funext a
    fin_cases a <;> rfl
  refine (congrArg _ hy).trans ((pay_10_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 1024))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final11 : (dats m 0 c).arrAt 11 cfg0.N = rowsOf (qx m c) (q2 m c) := by
  refine (dats m 0 c).arrAt_eq_of_covers 11 _ (by decide +kernel) fun t hf y => ?_
  rw [after0_11]
  have e0 : iblk m c 0 t = (win0_0.blk t).view.read (Elt Ideal) (qx m c) := rfl
  have e1 : iblk m c 2 t = (win0_2.blk t).view.read (Elt Ideal) (q2 m c) := rfl
  unfold out0_11
  rw [e0, e1]
  generalize qx m c = A
  generalize q2 m c = W
  rw [w2_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 512 := (y 1).isLt
  have hy : y = ix2 (⟨(y 0).val, y0⟩ : Fin 256) (⟨(y 1).val, y1⟩ : Fin 512) := by
    funext a
    fin_cases a <;> rfl
  refine (congrArg _ hy).trans ((pay_11_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 512))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final12 : (dats m 0 c).arrAt 12 cfg0.N = rowsOf (qx m c) (q3 m c) := by
  refine (dats m 0 c).arrAt_eq_of_covers 12 _ (by decide +kernel) fun t hf y => ?_
  rw [after0_12]
  have e0 : iblk m c 0 t = (win0_0.blk t).view.read (Elt Ideal) (qx m c) := rfl
  have e1 : iblk m c 3 t = (win0_3.blk t).view.read (Elt Ideal) (q3 m c) := rfl
  unfold out0_12
  rw [e0, e1]
  generalize qx m c = A
  generalize q3 m c = W
  rw [w3_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 1024 := (y 1).isLt
  have hy : y = ix2 (⟨(y 0).val, y0⟩ : Fin 256) (⟨(y 1).val, y1⟩ : Fin 1024) := by
    funext a
    fin_cases a <;> rfl
  refine (congrArg _ hy).trans ((pay_12_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 1024))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final13 : (dats m 0 c).arrAt 13 cfg0.N = rowsOf (qx m c) (q4 m c) := by
  refine (dats m 0 c).arrAt_eq_of_covers 13 _ (by decide +kernel) fun t hf y => ?_
  rw [after0_13]
  have e0 : iblk m c 0 t = (win0_0.blk t).view.read (Elt Ideal) (qx m c) := rfl
  have e1 : iblk m c 4 t = (win0_4.blk t).view.read (Elt Ideal) (q4 m c) := rfl
  unfold out0_13
  rw [e0, e1]
  generalize qx m c = A
  generalize q4 m c = W
  rw [w4_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 512 := (y 1).isLt
  have hy : y = ix2 (⟨(y 0).val, y0⟩ : Fin 256) (⟨(y 1).val, y1⟩ : Fin 512) := by
    funext a
    fin_cases a <;> rfl
  refine (congrArg _ hy).trans ((pay_13_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 512))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final14 : (dats m 0 c).arrAt 14 cfg0.N = rowsOf (qx m c) (q5 m c) := by
  refine (dats m 0 c).arrAt_eq_of_covers 14 _ (by decide +kernel) fun t hf y => ?_
  rw [after0_14]
  have e0 : iblk m c 0 t = (win0_0.blk t).view.read (Elt Ideal) (qx m c) := rfl
  have e1 : iblk m c 5 t = (win0_5.blk t).view.read (Elt Ideal) (q5 m c) := rfl
  unfold out0_14
  rw [e0, e1]
  generalize qx m c = A
  generalize q5 m c = W
  rw [w5_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 1024 := (y 1).isLt
  have hy : y = ix2 (⟨(y 0).val, y0⟩ : Fin 256) (⟨(y 1).val, y1⟩ : Fin 1024) := by
    funext a
    fin_cases a <;> rfl
  refine (congrArg _ hy).trans ((pay_14_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 1024))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final15 : (dats m 0 c).arrAt 15 cfg0.N = rowsOf (qx m c) (q6 m c) := by
  refine (dats m 0 c).arrAt_eq_of_covers 15 _ (by decide +kernel) fun t hf y => ?_
  rw [after0_15]
  have e0 : iblk m c 0 t = (win0_0.blk t).view.read (Elt Ideal) (qx m c) := rfl
  have e1 : iblk m c 6 t = (win0_6.blk t).view.read (Elt Ideal) (q6 m c) := rfl
  unfold out0_15 k0_pay12
  rw [e0, e1]
  generalize qx m c = A
  generalize q6 m c = W
  rw [w6_read, View.canon_cons_unit_lit _ _ _ z2, View.ld_unit_lit _ _ z2, View.ld_unit_lit _ _ z2]
  blk_simp
  have ht : t.val < 64 := t.isLt
  have y0 : (y 0).val < 256 := (y 0).isLt
  have y1 : (y 1).val < 512 := (y 1).isLt
  have hy : y = ix2 (⟨(y 0).val, y0⟩ : Fin 256) (⟨(y 1).val, y1⟩ : Fin 512) := by
    funext a
    fin_cases a <;> rfl
  refine (congrArg _ hy).trans ((pay_15_at _ _ _ _).trans ?_)
  have hx := fun l => x_read t (⟨(y 0).val, y0⟩ : Fin 256) l A (⟨256 * t.val + (y 0).val, by omega⟩ : Fin 16384) rfl
  rw [Finset.sum_congr rfl fun l _ => congrArg (· * W (ix2 l (⟨(y 1).val, y1⟩ : Fin 512))) (hx l)]
  refine (rowsOf_at _ _ _ _ _ ?_ ?_).symm
  · blk_simp [idx_at t]
    show t.val * 256 + (y 0).val = 256 * t.val + (y 0).val
    omega
  · blk_simp [idx_at t]

/-- After the run, this result array holds the product with its weight. -/
theorem final16 : (dats m 0 c).arrAt 16 cfg0.N = colsOf (qx m c) (q7 m c) := by
  refine (dats m 0 c).arrAt_eq_of_covers 16 _ (by decide +kernel) fun t hf y => ?_
  rw [after0_16]
  have e0 : iblk m c 0 t = (win0_0.blk t).view.read (Elt Ideal) (qx m c) := rfl
  have e1 : iblk m c 7 t = (win0_7.blk t).view.read (Elt Ideal) (q7 m c) := rfl
  unfold out0_16 k0_pay12
  rw [e0, e1]
  generalize qx m c = A
  generalize q7 m c = W
  rw [w7_read, View.canon_cons_unit_lit _ _ _ z3, View.ld_unit_lit _ _ z2, View.ld_unit_lit _ _ z2]
  blk_simp
  have ht : t.val < 64 := t.isLt
  have y0 : (y 0).val < 1 := (y 0).isLt
  have y1 : (y 1).val < 512 := (y 1).isLt
  have y2 : (y 2).val < 256 := (y 2).isLt
  have hy : y = ix3 (0 : Fin 1) (⟨(y 1).val, y1⟩ : Fin 512) (⟨(y 2).val, y2⟩ : Fin 256) := by
    funext a
    fin_cases a
    · exact Fin.ext (by show (y 0).val = 0; omega)
    · rfl
    · rfl
  refine (congrArg _ hy).trans ((pay_16_at _ _ _ _).trans ?_)
  have hx := fun l => x_read t (⟨(y 2).val, y2⟩ : Fin 256) l A (⟨256 * t.val + (y 2).val, by omega⟩ : Fin 16384) rfl
  rw [Finset.sum_congr rfl fun l _ => congrArg (W (ix2 (⟨(y 1).val, y1⟩ : Fin 512) l) * ·) (hx l)]
  refine (colsOf_at _ _ _ _ _ ?_ ?_).symm
  · blk_simp [idx_at t]
    show 4096 * (t.val / 16) + (t.val % 16 * 256 + (y 2).val) = 256 * t.val + (y 2).val
    omega
  · blk_simp [idx_at t]

/-- After the run, this result array holds the product with its weight. -/
theorem final17 : (dats m 0 c).arrAt 17 cfg0.N = colsOf (qx m c) (q8 m c) := by
  refine (dats m 0 c).arrAt_eq_of_covers 17 _ (by decide +kernel) fun t hf y => ?_
  rw [after0_17]
  have e0 : iblk m c 0 t = (win0_0.blk t).view.read (Elt Ideal) (qx m c) := rfl
  have e1 : iblk m c 8 t = (win0_8.blk t).view.read (Elt Ideal) (q8 m c) := rfl
  unfold out0_17 k0_pay12
  rw [e0, e1]
  generalize qx m c = A
  generalize q8 m c = W
  rw [w8_read, View.canon_cons_unit_lit _ _ _ z3, View.ld_unit_lit _ _ z2, View.ld_unit_lit _ _ z2]
  blk_simp
  have ht : t.val < 64 := t.isLt
  have y0 : (y 0).val < 1 := (y 0).isLt
  have y1 : (y 1).val < 512 := (y 1).isLt
  have y2 : (y 2).val < 256 := (y 2).isLt
  have hy : y = ix3 (0 : Fin 1) (⟨(y 1).val, y1⟩ : Fin 512) (⟨(y 2).val, y2⟩ : Fin 256) := by
    funext a
    fin_cases a
    · exact Fin.ext (by show (y 0).val = 0; omega)
    · rfl
    · rfl
  refine (congrArg _ hy).trans ((pay_17_at _ _ _ _).trans ?_)
  have hx := fun l => x_read t (⟨(y 2).val, y2⟩ : Fin 256) l A (⟨256 * t.val + (y 2).val, by omega⟩ : Fin 16384) rfl
  rw [Finset.sum_congr rfl fun l _ => congrArg (W (ix2 (⟨(y 1).val, y1⟩ : Fin 512) l) * ·) (hx l)]
  refine (colsOf_at _ _ _ _ _ ?_ ?_).symm
  · blk_simp [idx_at t]
    show 4096 * (t.val / 16) + (t.val % 16 * 256 + (y 2).val) = 256 * t.val + (y 2).val
    omega
  · blk_simp [idx_at t]

/-- After the run, this result array holds the product with its weight. -/
theorem final18 : (dats m 0 c).arrAt 18 cfg0.N = colsOf (qx m c) (q9 m c) := by
  refine (dats m 0 c).arrAt_eq_of_covers 18 _ (by decide +kernel) fun t hf y => ?_
  rw [after0_18]
  have e0 : iblk m c 0 t = (win0_0.blk t).view.read (Elt Ideal) (qx m c) := rfl
  have e1 : iblk m c 9 t = (win0_9.blk t).view.read (Elt Ideal) (q9 m c) := rfl
  unfold out0_18 k0_pay12
  rw [e0, e1]
  generalize qx m c = A
  generalize q9 m c = W
  rw [w9_read, View.canon_cons_unit_lit _ _ _ z3, View.ld_unit_lit _ _ z2, View.ld_unit_lit _ _ z2]
  blk_simp
  have ht : t.val < 64 := t.isLt
  have y0 : (y 0).val < 1 := (y 0).isLt
  have y1 : (y 1).val < 512 := (y 1).isLt
  have y2 : (y 2).val < 256 := (y 2).isLt
  have hy : y = ix3 (0 : Fin 1) (⟨(y 1).val, y1⟩ : Fin 512) (⟨(y 2).val, y2⟩ : Fin 256) := by
    funext a
    fin_cases a
    · exact Fin.ext (by show (y 0).val = 0; omega)
    · rfl
    · rfl
  refine (congrArg _ hy).trans ((pay_18_at _ _ _ _).trans ?_)
  have hx := fun l => x_read t (⟨(y 2).val, y2⟩ : Fin 256) l A (⟨256 * t.val + (y 2).val, by omega⟩ : Fin 16384) rfl
  rw [Finset.sum_congr rfl fun l _ => congrArg (W (ix2 (⟨(y 1).val, y1⟩ : Fin 512) l) * ·) (hx l)]
  refine (colsOf_at _ _ _ _ _ ?_ ?_).symm
  · blk_simp [idx_at t]
    show 4096 * (t.val / 16) + (t.val % 16 * 256 + (y 2).val) = 256 * t.val + (y 2).val
    omega
  · blk_simp [idx_at t]

/-! ## The operands, and the results over the launched arguments -/

/-- The input's rows, batch element by batch element. -/
theorem x_host (p : Fin 16384) (l : Fin 1024) :
    qx m c (ix2 p l) = (m ((c : Thread nD τ).loc main_arg0) : S4x4096x1024.Idx → EReal)
      (ix3 ⟨p.val / 4096, by omega⟩ ⟨p.val % 4096, by omega⟩ l) := by
  show StableHlo.after hostOps0 (fun b => m (c, b)) (Proc.tc.devRef main_v31) _ = _
  entry_read
  clean_types
  pointwise

/-- A weight's columns are columns of the launched weight. -/
theorem w1_host (a : Fin 1024) (b : Fin 1024) : q1 m c (ix2 a b) = (m ((c : Thread nD τ).loc main_arg1) : S1024x4608.Idx → EReal) (ix2 a ⟨0 + b.val, by omega⟩) := by
  show StableHlo.after hostOps0 (fun b => m (c, b)) (Proc.tc.devRef main_v3) _ = _
  entry_read
  clean_types
  pointwise

/-- A weight's columns are columns of the launched weight. -/
theorem w2_host (a : Fin 1024) (b : Fin 512) : q2 m c (ix2 a b) = (m ((c : Thread nD τ).loc main_arg1) : S1024x4608.Idx → EReal) (ix2 a ⟨1024 + b.val, by omega⟩) := by
  show StableHlo.after hostOps0 (fun b => m (c, b)) (Proc.tc.devRef main_v6) _ = _
  entry_read
  clean_types
  pointwise

/-- A weight's columns are columns of the launched weight. -/
theorem w3_host (a : Fin 1024) (b : Fin 1024) : q3 m c (ix2 a b) = (m ((c : Thread nD τ).loc main_arg1) : S1024x4608.Idx → EReal) (ix2 a ⟨1536 + b.val, by omega⟩) := by
  show StableHlo.after hostOps0 (fun b => m (c, b)) (Proc.tc.devRef main_v13) _ = _
  entry_read
  clean_types
  pointwise

/-- A weight's columns are columns of the launched weight. -/
theorem w4_host (a : Fin 1024) (b : Fin 512) : q4 m c (ix2 a b) = (m ((c : Thread nD τ).loc main_arg1) : S1024x4608.Idx → EReal) (ix2 a ⟨1536 + (1024 + b.val), by omega⟩) := by
  show StableHlo.after hostOps0 (fun b => m (c, b)) (Proc.tc.devRef main_v16) _ = _
  entry_read
  clean_types
  pointwise

/-- A weight's columns are columns of the launched weight. -/
theorem w5_host (a : Fin 1024) (b : Fin 1024) : q5 m c (ix2 a b) = (m ((c : Thread nD τ).loc main_arg1) : S1024x4608.Idx → EReal) (ix2 a ⟨3072 + b.val, by omega⟩) := by
  show StableHlo.after hostOps0 (fun b => m (c, b)) (Proc.tc.devRef main_v23) _ = _
  entry_read
  clean_types
  pointwise

/-- A weight's columns are columns of the launched weight. -/
theorem w6_host (a : Fin 1024) (b : Fin 512) : q6 m c (ix2 a b) = (m ((c : Thread nD τ).loc main_arg1) : S1024x4608.Idx → EReal) (ix2 a ⟨3072 + (1024 + b.val), by omega⟩) := by
  show StableHlo.after hostOps0 (fun b => m (c, b)) (Proc.tc.devRef main_v26) _ = _
  entry_read
  clean_types
  pointwise

/-- A weight's columns are columns of the launched weight. -/
theorem w7_host (a : Fin 1024) (b : Fin 512) : q7 m c (ix2 b a) = (m ((c : Thread nD τ).loc main_arg1) : S1024x4608.Idx → EReal) (ix2 a ⟨1024 + b.val, by omega⟩) := by
  show StableHlo.after hostOps0 (fun b => m (c, b)) (Proc.tc.devRef main_v10) _ = _
  entry_read
  clean_types
  pointwise

/-- A weight's columns are columns of the launched weight. -/
theorem w8_host (a : Fin 1024) (b : Fin 512) : q8 m c (ix2 b a) = (m ((c : Thread nD τ).loc main_arg1) : S1024x4608.Idx → EReal) (ix2 a ⟨1536 + (1024 + b.val), by omega⟩) := by
  show StableHlo.after hostOps0 (fun b => m (c, b)) (Proc.tc.devRef main_v20) _ = _
  entry_read
  clean_types
  pointwise

/-- A weight's columns are columns of the launched weight. -/
theorem w9_host (a : Fin 1024) (b : Fin 512) : q9 m c (ix2 b a) = (m ((c : Thread nD τ).loc main_arg1) : S1024x4608.Idx → EReal) (ix2 a ⟨3072 + (1024 + b.val), by omega⟩) := by
  show StableHlo.after hostOps0 (fun b => m (c, b)) (Proc.tc.devRef main_v30) _ = _
  entry_read
  clean_types
  pointwise

/-- One feature of one position: the input's row times a column of the weight. -/
def feat (x : S4x4096x1024.Idx → EReal) (w : S1024x4608.Idx → EReal) (b : Fin 4) (s : Fin 4096) (f : Fin 4608) : EReal :=
  ∑ l, x (ix3 b s l) * w (ix2 l f)

/-- The launched arguments. -/
abbrev lx : S4x4096x1024.Idx → EReal := m ((c : Thread nD τ).loc main_arg0)
@[inherit_doc lx] abbrev lw : S1024x4608.Idx → EReal := m ((c : Thread nD τ).loc main_arg1)

/-- The result rows over the launched arguments. -/
theorem value10 (p : Fin 16384) (f : Fin 1024) : rowsOf (qx m c) (q1 m c) (ix2 p f)
    = feat (lx m c) (lw m c) ⟨p.val / 4096, by omega⟩ ⟨p.val % 4096, by omega⟩ ⟨0 + f.val, by omega⟩ := by
  refine (rowsOf_at _ _ _ p f rfl rfl).trans (Finset.sum_congr rfl fun l _ => ?_)
  rw [x_host, w1_host]

/-- The result rows over the launched arguments. -/
theorem value11 (p : Fin 16384) (f : Fin 512) : rowsOf (qx m c) (q2 m c) (ix2 p f)
    = feat (lx m c) (lw m c) ⟨p.val / 4096, by omega⟩ ⟨p.val % 4096, by omega⟩ ⟨1024 + f.val, by omega⟩ := by
  refine (rowsOf_at _ _ _ p f rfl rfl).trans (Finset.sum_congr rfl fun l _ => ?_)
  rw [x_host, w2_host]

/-- The result rows over the launched arguments. -/
theorem value12 (p : Fin 16384) (f : Fin 1024) : rowsOf (qx m c) (q3 m c) (ix2 p f)
    = feat (lx m c) (lw m c) ⟨p.val / 4096, by omega⟩ ⟨p.val % 4096, by omega⟩ ⟨1536 + f.val, by omega⟩ := by
  refine (rowsOf_at _ _ _ p f rfl rfl).trans (Finset.sum_congr rfl fun l _ => ?_)
  rw [x_host, w3_host]

/-- The result rows over the launched arguments. -/
theorem value13 (p : Fin 16384) (f : Fin 512) : rowsOf (qx m c) (q4 m c) (ix2 p f)
    = feat (lx m c) (lw m c) ⟨p.val / 4096, by omega⟩ ⟨p.val % 4096, by omega⟩ ⟨1536 + (1024 + f.val), by omega⟩ := by
  refine (rowsOf_at _ _ _ p f rfl rfl).trans (Finset.sum_congr rfl fun l _ => ?_)
  rw [x_host, w4_host]

/-- The result rows over the launched arguments. -/
theorem value14 (p : Fin 16384) (f : Fin 1024) : rowsOf (qx m c) (q5 m c) (ix2 p f)
    = feat (lx m c) (lw m c) ⟨p.val / 4096, by omega⟩ ⟨p.val % 4096, by omega⟩ ⟨3072 + f.val, by omega⟩ := by
  refine (rowsOf_at _ _ _ p f rfl rfl).trans (Finset.sum_congr rfl fun l _ => ?_)
  rw [x_host, w5_host]

/-- The result rows over the launched arguments. -/
theorem value15 (p : Fin 16384) (f : Fin 512) : rowsOf (qx m c) (q6 m c) (ix2 p f)
    = feat (lx m c) (lw m c) ⟨p.val / 4096, by omega⟩ ⟨p.val % 4096, by omega⟩ ⟨3072 + (1024 + f.val), by omega⟩ := by
  refine (rowsOf_at _ _ _ p f rfl rfl).trans (Finset.sum_congr rfl fun l _ => ?_)
  rw [x_host, w6_host]

/-- The result's features over the launched arguments. -/
theorem value16 (b : Fin 4) (f : Fin 512) (s : Fin 4096) : colsOf (qx m c) (q7 m c) (ix3 b f s)
    = feat (lx m c) (lw m c) b s ⟨1024 + f.val, by omega⟩ := by
  refine (colsOf_at _ _ _ ⟨4096 * b.val + s.val, by omega⟩ f rfl rfl).trans (Finset.sum_congr rfl fun l _ => ?_)
  rw [x_host, w7_host, mul_comm]
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

/-- The result's features over the launched arguments. -/
theorem value17 (b : Fin 4) (f : Fin 512) (s : Fin 4096) : colsOf (qx m c) (q8 m c) (ix3 b f s)
    = feat (lx m c) (lw m c) b s ⟨1536 + (1024 + f.val), by omega⟩ := by
  refine (colsOf_at _ _ _ ⟨4096 * b.val + s.val, by omega⟩ f rfl rfl).trans (Finset.sum_congr rfl fun l _ => ?_)
  rw [x_host, w8_host, mul_comm]
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

/-- The result's features over the launched arguments. -/
theorem value18 (b : Fin 4) (f : Fin 512) (s : Fin 4096) : colsOf (qx m c) (q9 m c) (ix3 b f s)
    = feat (lx m c) (lw m c) b s ⟨3072 + (1024 + f.val), by omega⟩ := by
  refine (colsOf_at _ _ _ ⟨4096 * b.val + s.val, by omega⟩ f rfl rfl).trans (Finset.sum_congr rfl fun l _ => ?_)
  rw [x_host, w9_host, mul_comm]
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

end Cert.Kernel5Ideal.Dil

end
-- ==== Proof.Dil.Algebra.lean ====
/- The value claim of the projections of the dilated layer. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Dil.Value

@[expose] public section

set_option maxRecDepth 16384

noncomputable section

namespace Cert.Reference5Ideal.Dil

open Idealize.ShloMosaic Idealize.ShloMosaic.TcCoe Cert.Reference5Ideal.Gen Idealize.ShloMosaic.Tactic
open Cert.Kernel5Ideal.Dil (feat ext_ix2 ext_ix3)

/-- The reference's result, from its arguments, -/
def result10 (x : FVec Ideal S4x4096x1024 .f32) (w : FVec Ideal S1024x4608 .f32) : FVec Ideal S16384x1024 .f32 :=
  shapeCast _ (shapeCast _ (extractStridedSlice S4x4096x1x1024 ![0, 0, 0, 0] (shapeCast _ (Host.dotGeneral dot_S4x4096x1024_S1024x4608_S4x4096x4608_2_0_01_1_n_n none x w) shapeCasts_S4x4096x4608_S4x4096x3x1536) slices_S4x4096x3x1536_S4x4096x1x1024_0_0_0_0) shapeCasts_S4x4096x1x1024_S4x4096x1024) shapeCasts_S4x4096x1024_S16384x1024

/-- holds the products of the input's rows with the weight's columns. -/
theorem result10_at (x : FVec Ideal S4x4096x1024 .f32) (w : FVec Ideal S1024x4608 .f32) (p : Fin 16384) (f : Fin 1024) :
    result10 x w (ix2 p f) = feat x w ⟨p.val / 4096, by omega⟩ ⟨p.val % 4096, by omega⟩ ⟨0 + f.val, by omega⟩ := by
  unfold result10 feat
  pointwise

/-- The reference's result, from its arguments, -/
def result11 (x : FVec Ideal S4x4096x1024 .f32) (w : FVec Ideal S1024x4608 .f32) : FVec Ideal S16384x512 .f32 :=
  shapeCast _ (shapeCast _ (extractStridedSlice S4x4096x1x512 ![0, 0, 0, 1024] (shapeCast _ (Host.dotGeneral dot_S4x4096x1024_S1024x4608_S4x4096x4608_2_0_01_1_n_n none x w) shapeCasts_S4x4096x4608_S4x4096x3x1536) slices_S4x4096x3x1536_S4x4096x1x512_0_0_0_1024) shapeCasts_S4x4096x1x512_S4x4096x512) shapeCasts_S4x4096x512_S16384x512

/-- holds the products of the input's rows with the weight's columns. -/
theorem result11_at (x : FVec Ideal S4x4096x1024 .f32) (w : FVec Ideal S1024x4608 .f32) (p : Fin 16384) (f : Fin 512) :
    result11 x w (ix2 p f) = feat x w ⟨p.val / 4096, by omega⟩ ⟨p.val % 4096, by omega⟩ ⟨1024 + f.val, by omega⟩ := by
  unfold result11 feat
  pointwise

/-- The reference's result, from its arguments, -/
def result12 (x : FVec Ideal S4x4096x1024 .f32) (w : FVec Ideal S1024x4608 .f32) : FVec Ideal S16384x1024 .f32 :=
  shapeCast _ (shapeCast _ (extractStridedSlice S4x4096x1x1024 ![0, 0, 1, 0] (shapeCast _ (Host.dotGeneral dot_S4x4096x1024_S1024x4608_S4x4096x4608_2_0_01_1_n_n none x w) shapeCasts_S4x4096x4608_S4x4096x3x1536) slices_S4x4096x3x1536_S4x4096x1x1024_0_0_1_0) shapeCasts_S4x4096x1x1024_S4x4096x1024) shapeCasts_S4x4096x1024_S16384x1024

/-- holds the products of the input's rows with the weight's columns. -/
theorem result12_at (x : FVec Ideal S4x4096x1024 .f32) (w : FVec Ideal S1024x4608 .f32) (p : Fin 16384) (f : Fin 1024) :
    result12 x w (ix2 p f) = feat x w ⟨p.val / 4096, by omega⟩ ⟨p.val % 4096, by omega⟩ ⟨1536 + f.val, by omega⟩ := by
  unfold result12 feat
  pointwise

/-- The reference's result, from its arguments, -/
def result13 (x : FVec Ideal S4x4096x1024 .f32) (w : FVec Ideal S1024x4608 .f32) : FVec Ideal S16384x512 .f32 :=
  shapeCast _ (shapeCast _ (extractStridedSlice S4x4096x1x512 ![0, 0, 1, 1024] (shapeCast _ (Host.dotGeneral dot_S4x4096x1024_S1024x4608_S4x4096x4608_2_0_01_1_n_n none x w) shapeCasts_S4x4096x4608_S4x4096x3x1536) slices_S4x4096x3x1536_S4x4096x1x512_0_0_1_1024) shapeCasts_S4x4096x1x512_S4x4096x512) shapeCasts_S4x4096x512_S16384x512

/-- holds the products of the input's rows with the weight's columns. -/
theorem result13_at (x : FVec Ideal S4x4096x1024 .f32) (w : FVec Ideal S1024x4608 .f32) (p : Fin 16384) (f : Fin 512) :
    result13 x w (ix2 p f) = feat x w ⟨p.val / 4096, by omega⟩ ⟨p.val % 4096, by omega⟩ ⟨1536 + (1024 + f.val), by omega⟩ := by
  unfold result13 feat
  pointwise

/-- The reference's result, from its arguments, -/
def result14 (x : FVec Ideal S4x4096x1024 .f32) (w : FVec Ideal S1024x4608 .f32) : FVec Ideal S16384x1024 .f32 :=
  shapeCast _ (shapeCast _ (extractStridedSlice S4x4096x1x1024 ![0, 0, 2, 0] (shapeCast _ (Host.dotGeneral dot_S4x4096x1024_S1024x4608_S4x4096x4608_2_0_01_1_n_n none x w) shapeCasts_S4x4096x4608_S4x4096x3x1536) slices_S4x4096x3x1536_S4x4096x1x1024_0_0_2_0) shapeCasts_S4x4096x1x1024_S4x4096x1024) shapeCasts_S4x4096x1024_S16384x1024

/-- holds the products of the input's rows with the weight's columns. -/
theorem result14_at (x : FVec Ideal S4x4096x1024 .f32) (w : FVec Ideal S1024x4608 .f32) (p : Fin 16384) (f : Fin 1024) :
    result14 x w (ix2 p f) = feat x w ⟨p.val / 4096, by omega⟩ ⟨p.val % 4096, by omega⟩ ⟨3072 + f.val, by omega⟩ := by
  unfold result14 feat
  pointwise

/-- The reference's result, from its arguments, -/
def result15 (x : FVec Ideal S4x4096x1024 .f32) (w : FVec Ideal S1024x4608 .f32) : FVec Ideal S16384x512 .f32 :=
  shapeCast _ (shapeCast _ (extractStridedSlice S4x4096x1x512 ![0, 0, 2, 1024] (shapeCast _ (Host.dotGeneral dot_S4x4096x1024_S1024x4608_S4x4096x4608_2_0_01_1_n_n none x w) shapeCasts_S4x4096x4608_S4x4096x3x1536) slices_S4x4096x3x1536_S4x4096x1x512_0_0_2_1024) shapeCasts_S4x4096x1x512_S4x4096x512) shapeCasts_S4x4096x512_S16384x512

/-- holds the products of the input's rows with the weight's columns. -/
theorem result15_at (x : FVec Ideal S4x4096x1024 .f32) (w : FVec Ideal S1024x4608 .f32) (p : Fin 16384) (f : Fin 512) :
    result15 x w (ix2 p f) = feat x w ⟨p.val / 4096, by omega⟩ ⟨p.val % 4096, by omega⟩ ⟨3072 + (1024 + f.val), by omega⟩ := by
  unfold result15 feat
  pointwise

/-- The reference's result, from its arguments, -/
def result16 (x : FVec Ideal S4x4096x1024 .f32) (w : FVec Ideal S1024x4608 .f32) : FVec Ideal S4x512x4096 .f32 :=
  transpose S4x512x4096 [0, 2, 1] (shapeCast _ (extractStridedSlice S4x4096x1x512 ![0, 0, 0, 1024] (shapeCast _ (Host.dotGeneral dot_S4x4096x1024_S1024x4608_S4x4096x4608_2_0_01_1_n_n none x w) shapeCasts_S4x4096x4608_S4x4096x3x1536) slices_S4x4096x3x1536_S4x4096x1x512_0_0_0_1024) shapeCasts_S4x4096x1x512_S4x4096x512) transposes_S4x4096x512_S4x512x4096_0_2_1

/-- holds the products of the input's rows with the weight's columns. -/
theorem result16_at (x : FVec Ideal S4x4096x1024 .f32) (w : FVec Ideal S1024x4608 .f32) (b : Fin 4) (f : Fin 512) (s : Fin 4096) :
    result16 x w (ix3 b f s) = feat x w b s ⟨1024 + f.val, by omega⟩ := by
  unfold result16 feat
  pointwise

/-- The reference's result, from its arguments, -/
def result17 (x : FVec Ideal S4x4096x1024 .f32) (w : FVec Ideal S1024x4608 .f32) : FVec Ideal S4x512x4096 .f32 :=
  transpose S4x512x4096 [0, 2, 1] (shapeCast _ (extractStridedSlice S4x4096x1x512 ![0, 0, 1, 1024] (shapeCast _ (Host.dotGeneral dot_S4x4096x1024_S1024x4608_S4x4096x4608_2_0_01_1_n_n none x w) shapeCasts_S4x4096x4608_S4x4096x3x1536) slices_S4x4096x3x1536_S4x4096x1x512_0_0_1_1024) shapeCasts_S4x4096x1x512_S4x4096x512) transposes_S4x4096x512_S4x512x4096_0_2_1

/-- holds the products of the input's rows with the weight's columns. -/
theorem result17_at (x : FVec Ideal S4x4096x1024 .f32) (w : FVec Ideal S1024x4608 .f32) (b : Fin 4) (f : Fin 512) (s : Fin 4096) :
    result17 x w (ix3 b f s) = feat x w b s ⟨1536 + (1024 + f.val), by omega⟩ := by
  unfold result17 feat
  pointwise

/-- The reference's result, from its arguments, -/
def result18 (x : FVec Ideal S4x4096x1024 .f32) (w : FVec Ideal S1024x4608 .f32) : FVec Ideal S4x512x4096 .f32 :=
  transpose S4x512x4096 [0, 2, 1] (shapeCast _ (extractStridedSlice S4x4096x1x512 ![0, 0, 2, 1024] (shapeCast _ (Host.dotGeneral dot_S4x4096x1024_S1024x4608_S4x4096x4608_2_0_01_1_n_n none x w) shapeCasts_S4x4096x4608_S4x4096x3x1536) slices_S4x4096x3x1536_S4x4096x1x512_0_0_2_1024) shapeCasts_S4x4096x1x512_S4x4096x512) transposes_S4x4096x512_S4x512x4096_0_2_1

/-- holds the products of the input's rows with the weight's columns. -/
theorem result18_at (x : FVec Ideal S4x4096x1024 .f32) (w : FVec Ideal S1024x4608 .f32) (b : Fin 4) (f : Fin 512) (s : Fin 4096) :
    result18 x w (ix3 b f s) = feat x w b s ⟨3072 + (1024 + f.val), by omega⟩ := by
  unfold result18 feat
  pointwise

end Cert.Reference5Ideal.Dil

namespace Cert.Proof.Dil

open Idealize.ShloMosaic Idealize.ShloMosaic.TcCoe Idealize.SL Idealize.SL.Sem
open Cert.Kernel5Ideal.Dil (ext_ix2 ext_ix3)

/-- Over the extended reals the kernel's projections and the reference's are equal: from the same arguments both end, and their results agree. -/
theorem algebraic : Cert.algebraic_Kernel5Ideal_Reference5Ideal := by
  intro m g m' g' _ hagree
  refine ⟨fun c => Cert.Kernel5Ideal.Dil.rowsOf (Cert.Kernel5Ideal.Dil.qx m c) (Cert.Kernel5Ideal.Dil.q1 m c), fun c => Cert.Kernel5Ideal.Dil.rowsOf (Cert.Kernel5Ideal.Dil.qx m c) (Cert.Kernel5Ideal.Dil.q2 m c), fun c => Cert.Kernel5Ideal.Dil.rowsOf (Cert.Kernel5Ideal.Dil.qx m c) (Cert.Kernel5Ideal.Dil.q3 m c), fun c => Cert.Kernel5Ideal.Dil.rowsOf (Cert.Kernel5Ideal.Dil.qx m c) (Cert.Kernel5Ideal.Dil.q4 m c), fun c => Cert.Kernel5Ideal.Dil.rowsOf (Cert.Kernel5Ideal.Dil.qx m c) (Cert.Kernel5Ideal.Dil.q5 m c), fun c => Cert.Kernel5Ideal.Dil.rowsOf (Cert.Kernel5Ideal.Dil.qx m c) (Cert.Kernel5Ideal.Dil.q6 m c), fun c => Cert.Kernel5Ideal.Dil.colsOf (Cert.Kernel5Ideal.Dil.qx m c) (Cert.Kernel5Ideal.Dil.q7 m c), fun c => Cert.Kernel5Ideal.Dil.colsOf (Cert.Kernel5Ideal.Dil.qx m c) (Cert.Kernel5Ideal.Dil.q8 m c), fun c => Cert.Kernel5Ideal.Dil.colsOf (Cert.Kernel5Ideal.Dil.qx m c) (Cert.Kernel5Ideal.Dil.q9 m c), ?_, ?_⟩
  · refine (θ_run _ _ _).mono (fun r h c => ?_) (Cert.Kernel5Ideal.Value.run_blocks m g)
    obtain ⟨h0, h1, h2, h3, h4, h5, h6, h7, h8, hr⟩ := h c
    exact ⟨h0.trans (Cert.Kernel5Ideal.Dil.final10 m c), h1.trans (Cert.Kernel5Ideal.Dil.final11 m c), h2.trans (Cert.Kernel5Ideal.Dil.final12 m c), h3.trans (Cert.Kernel5Ideal.Dil.final13 m c), h4.trans (Cert.Kernel5Ideal.Dil.final14 m c), h5.trans (Cert.Kernel5Ideal.Dil.final15 m c), h6.trans (Cert.Kernel5Ideal.Dil.final16 m c), h7.trans (Cert.Kernel5Ideal.Dil.final17 m c), h8.trans (Cert.Kernel5Ideal.Dil.final18 m c), hr⟩
  · refine (θ_run _ _ _).mono (fun r h c => ?_) (Cert.Reference5Ideal.Value.run m' g')
    obtain ⟨h0, h1, h2, h3, h4, h5, h6, h7, h8, hr⟩ := h c
    obtain ⟨a0, a1⟩ := hagree c
    refine ⟨h0.trans ?_, h1.trans ?_, h2.trans ?_, h3.trans ?_, h4.trans ?_, h5.trans ?_, h6.trans ?_, h7.trans ?_, h8.trans ?_, hr⟩
    · refine ext_ix2 (n := 16384) (k := 1024) fun p f => ?_
      refine Eq.trans ?_ (Cert.Kernel5Ideal.Dil.value10 m c p f).symm
      refine (Cert.Reference5Ideal.Dil.result10_at _ _ p f).trans ?_
      rw [a0, a1]
    · refine ext_ix2 (n := 16384) (k := 512) fun p f => ?_
      refine Eq.trans ?_ (Cert.Kernel5Ideal.Dil.value11 m c p f).symm
      refine (Cert.Reference5Ideal.Dil.result11_at _ _ p f).trans ?_
      rw [a0, a1]
    · refine ext_ix2 (n := 16384) (k := 1024) fun p f => ?_
      refine Eq.trans ?_ (Cert.Kernel5Ideal.Dil.value12 m c p f).symm
      refine (Cert.Reference5Ideal.Dil.result12_at _ _ p f).trans ?_
      rw [a0, a1]
    · refine ext_ix2 (n := 16384) (k := 512) fun p f => ?_
      refine Eq.trans ?_ (Cert.Kernel5Ideal.Dil.value13 m c p f).symm
      refine (Cert.Reference5Ideal.Dil.result13_at _ _ p f).trans ?_
      rw [a0, a1]
    · refine ext_ix2 (n := 16384) (k := 1024) fun p f => ?_
      refine Eq.trans ?_ (Cert.Kernel5Ideal.Dil.value14 m c p f).symm
      refine (Cert.Reference5Ideal.Dil.result14_at _ _ p f).trans ?_
      rw [a0, a1]
    · refine ext_ix2 (n := 16384) (k := 512) fun p f => ?_
      refine Eq.trans ?_ (Cert.Kernel5Ideal.Dil.value15 m c p f).symm
      refine (Cert.Reference5Ideal.Dil.result15_at _ _ p f).trans ?_
      rw [a0, a1]
    · refine ext_ix3 (n := 4) (k := 512) (l := 4096) fun b f s => ?_
      refine Eq.trans ?_ (Cert.Kernel5Ideal.Dil.value16 m c b f s).symm
      refine (Cert.Reference5Ideal.Dil.result16_at _ _ b f s).trans ?_
      rw [a0, a1]
    · refine ext_ix3 (n := 4) (k := 512) (l := 4096) fun b f s => ?_
      refine Eq.trans ?_ (Cert.Kernel5Ideal.Dil.value17 m c b f s).symm
      refine (Cert.Reference5Ideal.Dil.result17_at _ _ b f s).trans ?_
      rw [a0, a1]
    · refine ext_ix3 (n := 4) (k := 512) (l := 4096) fun b f s => ?_
      refine Eq.trans ?_ (Cert.Kernel5Ideal.Dil.value18 m c b f s).symm
      refine (Cert.Reference5Ideal.Dil.result18_at _ _ b f s).trans ?_
      rw [a0, a1]

end Cert.Proof.Dil

end
-- ==== Proof.Sample.Pay.lean ====
/- The sample rows: the tail's payloads read element by element, as the row formulas. -/
module

public import proofs.«01_k».proof.Proof.Gen.Kernel6Ideal.Skeleton
public import proofs.«01_k».proof.Proof.Tail.Row
public import Idealize.ShloMosaic.Lib.Pointwise

@[expose] public section

set_option maxRecDepth 16384

noncomputable section

namespace Cert.Kernel6Ideal.Sample

open Idealize.ShloMosaic Idealize.ShloMosaic.TcCoe Cert.Kernel6Ideal.Gen Idealize.ShloMosaic.Tactic TailRow

/-- Row `r` of a block of `k` columns. -/
abbrev row {n k : ℕ} (v : (⟨2, ![n, k]⟩ : Shape).Idx → EReal) (r : Fin n) (l : Fin k) : EReal := v (ix2 r l)

/-- A block as a matrix. -/
abbrev mat {n k : ℕ} (v : (⟨2, ![n, k]⟩ : Shape).Idx → EReal) (l : Fin n) (j : Fin k) : EReal := v (ix2 l j)

variable (r : Fin 128) (j : Fin 1024) (f : Fin 256)

/-- The first norm of row `r`. -/
theorem pay2_at (v0 v1 : Vec Ideal S128x1024 .f32) (v3 : Vec Ideal S1024x1024 .bf16) (v9 v11 : Vec Ideal S1x1024 .f32) :
    k0_pay2 (F := Ideal) v0 v1 v3 v9 v11 (ix2 r j) = first (row v0 r) (row v1 r) (mat v3) (row v9 0) (row v11 0) j := by
  pointwise [k0_pay2]
  rfl

/-- The same, as the products read it. -/
theorem pay3_at (v0 v1 : Vec Ideal S128x1024 .f32) (v3 : Vec Ideal S1024x1024 .bf16) (v9 v11 : Vec Ideal S1x1024 .f32) :
    k0_pay3 (F := Ideal) v0 v1 v3 v9 v11 (ix2 r j) = first (row v0 r) (row v1 r) (mat v3) (row v9 0) (row v11 0) j := pay2_at r j v0 v1 v3 v9 v11

/-- The feed-forward sum starts at zero. -/
theorem pay4_at : k0_pay4 (F := Ideal) (ix2 r j) = (0 : EReal) := by
  pointwise [k0_pay4]

/-- A gate's product. -/
theorem pay5_at (v0 v1 : Vec Ideal S128x1024 .f32) (v3 : Vec Ideal S1024x1024 .bf16) (v9 v11 : Vec Ideal S1x1024 .f32) (v35 : Vec Ideal S1024x256 .bf16) :
    k0_pay5 (F := Ideal) v0 v1 v3 v9 v11 v35 (ix2 r f) = prod (row (k0_pay3 (F := Ideal) v0 v1 v3 v9 v11) r) (mat v35) f := by
  unfold k0_pay5
  generalize k0_pay3 (F := Ideal) v0 v1 v3 v9 v11 = v33
  pointwise
  rfl

/-- A gate's product. -/
theorem pay10_at (v33 : FVec Ideal S128x1024 .bf16) (v105 : Vec Ideal S1024x256 .bf16) :
    k0_pay10 (F := Ideal) v33 v105 (ix2 r f) = prod (row v33 r) (mat v105) f := by
  pointwise [k0_pay10]
  rfl

/-- A hidden unit. -/
theorem pay7_at (v33 : FVec Ideal S128x1024 .bf16) (v63 v66 : Vec Ideal S1024x256 .bf16) :
    k0_pay7 (F := Ideal) v33 v63 v66 (ix2 r f) = unit (row v33 r) (mat v63) (mat v66) f := by
  pointwise [k0_pay7]
  rfl

/-- A hidden unit. -/
theorem pay14_at (v33 : FVec Ideal S128x1024 .bf16) (v175 v178 : Vec Ideal S1024x256 .bf16) :
    k0_pay14 (F := Ideal) v33 v175 v178 (ix2 r f) = unit (row v33 r) (mat v175) (mat v178) f := by
  pointwise [k0_pay14]
  rfl

/-- Down-projection rows, as loaded. -/
theorem pay8_at (v73 : Vec Ideal S256x1024 .bf16) : k0_pay8 (F := Ideal) v73 (ix2 f j) = v73 (ix2 f j) := by
  pointwise [k0_pay8]

/-- Gate columns, as loaded. -/
theorem pay11_at (l : Fin 1024) (v108 : Vec Ideal S1024x256 .bf16) : k0_pay11 (F := Ideal) v108 (ix2 l f) = v108 (ix2 l f) := by
  pointwise [k0_pay11]

/-- Two chunks added to the sum, the first chunk's gate product given. -/
theorem pay6_at (v33 : FVec Ideal S128x1024 .bf16) (v34 : FVec Ideal S128x1024 .f32) (v37 : FVec Ideal S128x256 .f32) (v35 v38 : Vec Ideal S1024x256 .bf16)
    (v45 : Vec Ideal S256x1024 .bf16) (v49 v52 : Vec Ideal S1024x256 .bf16) (v59 : Vec Ideal S256x1024 .bf16)
    (h : ∀ f, v37 (ix2 r f) = prod (row v33 r) (mat v35) f) :
    k0_pay6 (F := Ideal) v33 v34 v37 v38 v45 v49 v52 v59 (ix2 r j)
      = v34 (ix2 r j) + ffn (row v33 r) (mat v35) (mat v38) (mat v45) j + ffn (row v33 r) (mat v49) (mat v52) (mat v59) j := by
  pointwise [k0_pay6]
  simp only [h]
  rfl

/-- Three chunks added to the sum, the first chunk's hidden units given. -/
theorem pay9_at (v33 : FVec Ideal S128x1024 .bf16) (v62 : FVec Ideal S128x1024 .f32) (v72 : FVec Ideal S128x256 .bf16) (v74 : FVec Ideal S256x1024 .bf16)
    (v77 v80 : Vec Ideal S1024x256 .bf16) (v87 : Vec Ideal S256x1024 .bf16) (v91 v94 : Vec Ideal S1024x256 .bf16) (v101 : Vec Ideal S256x1024 .bf16) :
    k0_pay9 (F := Ideal) v33 v62 v72 v74 v77 v80 v87 v91 v94 v101 (ix2 r j)
      = v62 (ix2 r j) + (∑ f, row v72 r f * mat v74 f j) + ffn (row v33 r) (mat v77) (mat v80) (mat v87) j
        + ffn (row v33 r) (mat v91) (mat v94) (mat v101) j := by
  pointwise [k0_pay9]
  rfl

/-- Three chunks added to the sum, the first chunk's gate product given. -/
theorem pay12_at (v33 : FVec Ideal S128x1024 .bf16) (v104 : FVec Ideal S128x1024 .f32) (v107 : FVec Ideal S128x256 .f32) (v109 : FVec Ideal S1024x256 .bf16)
    (v105 : Vec Ideal S1024x256 .bf16) (v115 : Vec Ideal S256x1024 .bf16) (v119 v122 : Vec Ideal S1024x256 .bf16) (v129 : Vec Ideal S256x1024 .bf16)
    (v133 v136 : Vec Ideal S1024x256 .bf16) (v143 : Vec Ideal S256x1024 .bf16) (h : ∀ f, v107 (ix2 r f) = prod (row v33 r) (mat v105) f) :
    k0_pay12 (F := Ideal) v33 v104 v107 v109 (constant S128x256 .f32 0x00000000#32) v115 v119 v122 v129 v133 v136 v143 (ix2 r j)
      = v104 (ix2 r j) + ffn (row v33 r) (mat v105) (mat v109) (mat v115) j + ffn (row v33 r) (mat v119) (mat v122) (mat v129) j
        + ffn (row v33 r) (mat v133) (mat v136) (mat v143) j := by
  pointwise [k0_pay12]
  simp only [h]
  rfl

/-- Two chunks added to the sum. -/
theorem pay13_at (v33 : FVec Ideal S128x1024 .bf16) (v146 : FVec Ideal S128x1024 .f32)
    (v147 v150 : Vec Ideal S1024x256 .bf16) (v157 : Vec Ideal S256x1024 .bf16) (v161 v164 : Vec Ideal S1024x256 .bf16) (v171 : Vec Ideal S256x1024 .bf16) :
    k0_pay13 (F := Ideal) v33 v146 v147 v150 v157 v161 v164 v171 (ix2 r j)
      = v146 (ix2 r j) + ffn (row v33 r) (mat v147) (mat v150) (mat v157) j + ffn (row v33 r) (mat v161) (mat v164) (mat v171) j := by
  pointwise [k0_pay13]
  rfl

/-- The second norm of row `r`, the last chunk's hidden units given. -/
theorem pay15_at (v32 v174 : FVec Ideal S128x1024 .f32) (v184 : FVec Ideal S128x256 .bf16) (v185 : Vec Ideal S256x1024 .bf16) (v192 v194 : Vec Ideal S1x1024 .f32) :
    k0_pay15 (F := Ideal) v32 v174 v184 v185 v192 v194 (ix2 r j)
      = second (row v32 r) (fun j => v174 (ix2 r j) + ∑ f, row v184 r f * mat v185 f j) (row v192 0) (row v194 0) j := by
  pointwise [k0_pay15]
  rfl

/-- The gate of the layer embedding. -/
theorem pay16_at (v32 v174 : FVec Ideal S128x1024 .f32) (v184 : FVec Ideal S128x256 .bf16) (v185 : Vec Ideal S256x1024 .bf16) (v192 v194 : Vec Ideal S1x1024 .f32)
    (v217 : Vec Ideal S1024x1024 .bf16) :
    k0_pay16 (F := Ideal) v32 v174 v184 v185 v192 v194 v217 (ix2 r j)
      = Ideal.logistic (prod (row (k0_pay15 (F := Ideal) v32 v174 v184 v185 v192 v194) r) (mat v217) j) := by
  unfold k0_pay16
  generalize k0_pay15 (F := Ideal) v32 v174 v184 v185 v192 v194 = v215
  pointwise
  rfl

/-- The layer embedding's row. -/
theorem pay17_at (v221 : Vec Ideal S1x128x256 .f32) : k0_pay17 (F := Ideal) v221 (ix2 r f) = v221 (ix3 0 r f) := by
  pointwise [k0_pay17]

/-- The row with the gated layer embedding added. -/
theorem pay1_at (v215 v220 : FVec Ideal S128x1024 .f32) (v223 : FVec Ideal S128x256 .bf16) (v224 : Vec Ideal S256x1024 .bf16) :
    k0_pay1 (F := Ideal) v215 v220 v223 v224 (ix2 r j) = v215 (ix2 r j) + v220 (ix2 r j) * prod (row v223 r) (mat v224) j := by
  pointwise [k0_pay1]
  rfl

end Cert.Kernel6Ideal.Sample

end
-- ==== Proof.Sample.Out.lean ====
/- The block one grid point of the tail writes, element by element. -/
module

public import proofs.«01_k».proof.Proof.Gen.Kernel6Ideal.Frame
public import proofs.«01_k».proof.Proof.Sample.Pay
public import Idealize.ShloMosaic.Lib.Pipeline.ValueKit.Basic
public import Idealize.ShloMosaic.Lib.Pipeline.ValueKit.Tiles

@[expose] public section

set_option maxRecDepth 16384

noncomputable section

namespace Cert.Kernel6Ideal.Sample

open Idealize.ShloMosaic Idealize.ShloMosaic.TcCoe Cert.Kernel6Ideal.Gen Idealize.ShloMosaic.Tactic TailRow

/-- A sum of eleven terms, in order. -/
theorem sum_eleven (F : Fin 11 → EReal) : ∑ c, F c = 0 + F 0 + F 1 + F 2 + F 3 + F 4 + F 5 + F 6 + F 7 + F 8 + F 9 + F 10 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_zero]
  rfl

/-- A load of 256 columns is a chunk of the matrix. -/
theorem ld_cols (x : Vec Ideal S1024x2816 .bf16) (o : ℕ) (inb) (c : Fin 11) (ho : o = 256 * c.val) :
    mat (View.ld (Val := Elt Ideal) (e' := .bf16) x (Rect.unit (s := S1024x2816) ![0, o] S1024x256.size inb)) = cols (mat x) c := by
  funext l f
  refine View.ld_unit_apply_of _ _ _ _ _ _ fun a => ?_
  fin_cases a
  · exact (Nat.zero_add _).symm
  · show 256 * c.val + f.val = o + f.val
    rw [ho]

/-- A load of 256 rows is a chunk of the matrix. -/
theorem ld_rows (x : Vec Ideal S2816x1024 .bf16) (o : ℕ) (inb) (c : Fin 11) (ho : o = 256 * c.val) :
    mat (View.ld (Val := Elt Ideal) (e' := .bf16) x (Rect.unit (s := S2816x1024) ![o, 0] S256x1024.size inb)) = rows (mat x) c := by
  funext f j
  refine View.ld_unit_apply_of _ _ _ _ _ _ fun a => ?_
  fin_cases a
  · show 256 * c.val + f.val = o + f.val
    rw [ho]
  · exact (Nat.zero_add _).symm

variable (x0 x1 : Vec Ideal S128x1024 .f32) (x2 : Vec Ideal S1x128x256 .f32) (x3 : Vec Ideal S1024x1024 .bf16) (x4 x5 x6 x7 : Vec Ideal S1x1024 .f32)
  (x8 x9 : Vec Ideal S1024x2816 .bf16) (x10 : Vec Ideal S2816x1024 .bf16) (x11 : Vec Ideal S1024x1024 .bf16) (x12 : Vec Ideal S256x1024 .bf16)
  (r : Fin 128) (j : Fin 1024)

theorem z2 : ∀ a : Fin 2, (![0, 0] : Fin 2 → ℕ) a = 0 := by decide
theorem z3 : ∀ a : Fin 3, (![0, 0, 0] : Fin 3 → ℕ) a = 0 := by decide

/-- The row after the first norm. -/
theorem pay18_row : row (k0_pay18 (F := Ideal) x0 x1 x2 x3 x4 x5 x6 x7 x8 x9 x10 x11 x12) r = first (row x0 r) (row x1 r) (mat x3) (row x4 0) (row x5 0) := by
  funext j
  unfold k0_pay18
  rw [View.ld_unit_lit _ x0 z2, View.ld_unit_lit _ x1 z2, View.ld_unit_lit _ x3 z2, View.ld_unit_lit _ x4 z2, View.ld_unit_lit _ x5 z2]
  exact pay2_at r j x0 x1 x3 x4 x5

/-- The same, as the products read it. -/
theorem pay19_row : row (k0_pay19 (F := Ideal) x0 x1 x2 x3 x4 x5 x6 x7 x8 x9 x10 x11 x12) r = first (row x0 r) (row x1 r) (mat x3) (row x4 0) (row x5 0) :=
  pay18_row x0 x1 x2 x3 x4 x5 x6 x7 x8 x9 x10 x11 x12 r

/-- The last chunk's hidden units. -/
theorem pay21_at (f : Fin 256) : k0_pay21 (F := Ideal) x0 x1 x2 x3 x4 x5 x6 x7 x8 x9 x10 x11 x12 (ix2 r f)
    = unit (first (row x0 r) (row x1 r) (mat x3) (row x4 0) (row x5 0)) (cols (mat x8) 10) (cols (mat x9) 10) f := by
  unfold k0_pay21
  refine (pay14_at r f _ _ _).trans ?_
  rw [pay19_row, ld_cols x8 2560 _ 10 rfl, ld_cols x9 2560 _ 10 rfl]

/-- The sum of the first ten chunks. -/
theorem pay20_at : k0_pay20 (F := Ideal) x0 x1 x2 x3 x4 x5 x6 x7 x8 x9 x10 x11 x12 (ix2 r j)
    = (fun h => let F := fun c : Fin 11 => ffn h (cols (mat x8) c) (cols (mat x9) c) (rows (mat x10) c) j
        0 + F 0 + F 1 + F 2 + F 3 + F 4 + F 5 + F 6 + F 7 + F 8 + F 9)
      (first (row x0 r) (row x1 r) (mat x3) (row x4 0) (row x5 0)) := by
  have hrow := pay19_row x0 x1 x2 x3 x4 x5 x6 x7 x8 x9 x10 x11 x12 r
  have hp5 : k0_pay3 (F := Ideal) (View.ld x0 r0_0) (View.ld x1 r0_0) (View.ld x3 r0_1) (View.ld x4 r0_2) (View.ld x5 r0_2)
      = k0_pay19 (F := Ideal) x0 x1 x2 x3 x4 x5 x6 x7 x8 x9 x10 x11 x12 := rfl
  unfold k0_pay20
  generalize k0_pay19 (F := Ideal) x0 x1 x2 x3 x4 x5 x6 x7 x8 x9 x10 x11 x12 = h at hrow hp5 ⊢
  refine (pay13_at r j _ _ _ _ _ _ _ _).trans ?_
  rw [pay12_at r j _ _ _ _ (View.ld x8 r0_13) _ _ _ _ _ _ _ (fun f => pay10_at r f _ _)]
  rw [pay9_at r j _ _ _ _ _ _ _ _ _ _]
  rw [pay6_at r j _ _ _ (View.ld x8 r0_3) _ _ _ _ _ (fun f => (pay5_at r f _ _ _ _ _ _).trans (by rw [hp5]))]
  rw [pay4_at]
  have e11 : mat (k0_pay11 (F := Ideal) (View.ld x9 r0_13)) = mat (View.ld x9 r0_13) := by
    funext l f
    exact pay11_at f l _
  have e7 : row (k0_pay7 (F := Ideal) h (View.ld x8 r0_7) (View.ld x9 r0_7)) r = unit (row h r) (mat (View.ld x8 r0_7)) (mat (View.ld x9 r0_7)) := by
    funext f
    exact pay7_at r f _ _ _
  have e8 : mat (k0_pay8 (F := Ideal) (View.ld x10 r0_8)) = mat (View.ld x10 r0_8) := by
    funext f j
    exact pay8_at j f _
  rw [e11, e7, e8, hrow]
  rw [ld_cols x8 0 _ 0 rfl, ld_cols x9 0 _ 0 rfl, ld_rows x10 0 _ 0 rfl]
  rw [ld_cols x8 256 _ 1 rfl, ld_cols x9 256 _ 1 rfl, ld_rows x10 256 _ 1 rfl]
  rw [ld_cols x8 512 _ 2 rfl, ld_cols x9 512 _ 2 rfl, ld_rows x10 512 _ 2 rfl]
  rw [ld_cols x8 768 _ 3 rfl, ld_cols x9 768 _ 3 rfl, ld_rows x10 768 _ 3 rfl]
  rw [ld_cols x8 1024 _ 4 rfl, ld_cols x9 1024 _ 4 rfl, ld_rows x10 1024 _ 4 rfl]
  rw [ld_cols x8 1280 _ 5 rfl, ld_cols x9 1280 _ 5 rfl, ld_rows x10 1280 _ 5 rfl]
  rw [ld_cols x8 1536 _ 6 rfl, ld_cols x9 1536 _ 6 rfl, ld_rows x10 1536 _ 6 rfl]
  rw [ld_cols x8 1792 _ 7 rfl, ld_cols x9 1792 _ 7 rfl, ld_rows x10 1792 _ 7 rfl]
  rw [ld_cols x8 2048 _ 8 rfl, ld_cols x9 2048 _ 8 rfl, ld_rows x10 2048 _ 8 rfl]
  rw [ld_cols x8 2304 _ 9 rfl, ld_cols x9 2304 _ 9 rfl, ld_rows x10 2304 _ 9 rfl]
  rfl

/-- The block a grid point writes: row `r` is the tail of its row. -/
theorem out_at : out0_13 (F := Ideal) x0 x1 x2 x3 x4 x5 x6 x7 x8 x9 x10 x11 x12 (ix2 r j)
    = tail (row x0 r) (row x1 r) (fun f => x2 (ix3 0 r f)) (mat x3) (row x4 0) (row x5 0) (row x6 0) (row x7 0)
        (mat x8) (mat x9) (mat x10) (mat x11) (mat x12) j := by
  have h15 : row (k0_pay15 (F := Ideal) (k0_pay18 (F := Ideal) x0 x1 x2 x3 x4 x5 x6 x7 x8 x9 x10 x11 x12)
        (k0_pay20 (F := Ideal) x0 x1 x2 x3 x4 x5 x6 x7 x8 x9 x10 x11 x12) (k0_pay21 (F := Ideal) x0 x1 x2 x3 x4 x5 x6 x7 x8 x9 x10 x11 x12)
        (View.ld x10 r0_24) (View.ld x6 r0_2) (View.ld x7 r0_2)) r
      = second (first (row x0 r) (row x1 r) (mat x3) (row x4 0) (row x5 0))
          (ffn (first (row x0 r) (row x1 r) (mat x3) (row x4 0) (row x5 0)) (mat x8) (mat x9) (mat x10)) (row x6 0) (row x7 0) := by
    funext j
    refine (pay15_at r j _ _ _ _ _ _).trans ?_
    have e21 : row (k0_pay21 (F := Ideal) x0 x1 x2 x3 x4 x5 x6 x7 x8 x9 x10 x11 x12) r
        = unit (first (row x0 r) (row x1 r) (mat x3) (row x4 0) (row x5 0)) (cols (mat x8) 10) (cols (mat x9) 10) := by
      funext f
      exact pay21_at x0 x1 x2 x3 x4 x5 x6 x7 x8 x9 x10 x11 x12 r f
    rw [pay18_row, e21, ld_rows x10 2560 _ 10 rfl, View.ld_unit_lit _ x6 z2, View.ld_unit_lit _ x7 z2]
    congr 1
    funext k
    rw [pay20_at, ffn_chunks, sum_eleven]
    rfl
  unfold out0_13
  rw [View.canon_cons_unit_lit _ _ _ z2]
  refine (pay1_at r j _ _ _ _).trans ?_
  rw [pay16_at, h15, View.ld_unit_lit _ x11 z2, View.ld_unit_lit _ x12 z2, View.ld_unit_lit _ x2 z3]
  have e17 : row (k0_pay17 (F := Ideal) x2) r = fun f => x2 (ix3 0 r f) := by
    funext f
    exact pay17_at r f x2
  rw [e17]
  have h15' := congrFun h15 j
  rw [show ∀ v : FVec Ideal S128x1024 .f32, row v r j = v (ix2 r j) from fun _ => rfl] at h15'
  rw [h15']
  rfl

end Cert.Kernel6Ideal.Sample

end
-- ==== Proof.Sample.Whole.lean ====
/- The sample rows: the tail's result array, from the blocks its grid points write, and what the operands prepared on the host hold. -/
module

public import proofs.«01_k».proof.Proof.Gen.Kernel6Ideal.Value
public import proofs.«01_k».proof.Proof.Sample.Out
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel6Ideal.Sample

open Idealize.ShloMosaic Idealize.ShloMosaic.TcCoe Cert.Kernel6Ideal.Gen Idealize.ShloMosaic.Tactic TailRow

/-- The block indices of the windows at a grid point. -/
theorem idx_at : ∀ t : Fin grid0.N,
    win0_0.index t = ![t.val, 0] ∧ win0_1.index t = ![t.val, 0] ∧ win0_2.index t = ![3, t.val, 0] ∧ win0_13.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] := by decide +kernel

/-- Two arrays of two axes agree where they agree at every pair of indices. -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

variable (t : Fin grid0.N) (r : Fin 128) (j : Fin 1024) (f : Fin 256)

/-- A row of the attention's block is a row of the array. -/
theorem a_read (A : Vec Ideal S128x1024 .f32) (p : Fin 128) (hp : p.val = 128 * t.val + r.val) :
    row ((win0_0.blk t).view.read (Elt Ideal) A) r = row A p := by
  funext j
  show (win0_0.blk t).view.read (Elt Ideal) A (ix2 r j) = A (ix2 p j)
  blk_ext [idx_at t]

/-- A row of the residual's block is a row of the array. -/
theorem x_read (A : Vec Ideal S128x1024 .f32) (p : Fin 128) (hp : p.val = 128 * t.val + r.val) :
    row ((win0_1.blk t).view.read (Elt Ideal) A) r = row A p := by
  funext j
  show (win0_1.blk t).view.read (Elt Ideal) A (ix2 r j) = A (ix2 p j)
  blk_ext [idx_at t]

/-- A row of the layer embeddings' block is a row of the last layer's slab. -/
theorem p_read (A : Vec Ideal S4x128x256 .f32) (p : Fin 128) (hp : p.val = 128 * t.val + r.val) :
    (win0_2.blk t).view.read (Elt Ideal) A (ix3 0 r f) = A (ix3 3 p f) := by
  blk_ext [idx_at t]

/-- A block of this operand is all of it. -/
theorem w3_read (A : Vec Ideal S1024x1024 .bf16) : (win0_3.blk t).view.read (Elt Ideal) A = A := by
  refine ext_ix2 fun a b => ?_
  blk_ext [idx_at t]

/-- A block of this operand is all of it. -/
theorem w4_read (A : Vec Ideal S1x1024 .f32) : (win0_4.blk t).view.read (Elt Ideal) A = A := by
  refine ext_ix2 fun a b => ?_
  blk_ext [idx_at t]

/-- A block of this operand is all of it. -/
theorem w5_read (A : Vec Ideal S1x1024 .f32) : (win0_5.blk t).view.read (Elt Ideal) A = A := by
  refine ext_ix2 fun a b => ?_
  blk_ext [idx_at t]

/-- A block of this operand is all of it. -/
theorem w6_read (A : Vec Ideal S1x1024 .f32) : (win0_6.blk t).view.read (Elt Ideal) A = A := by
  refine ext_ix2 fun a b => ?_
  blk_ext [idx_at t]

/-- A block of this operand is all of it. -/
theorem w7_read (A : Vec Ideal S1x1024 .f32) : (win0_7.blk t).view.read (Elt Ideal) A = A := by
  refine ext_ix2 fun a b => ?_
  blk_ext [idx_at t]

/-- A block of this operand is all of it. -/
theorem w8_read (A : Vec Ideal S1024x2816 .bf16) : (win0_8.blk t).view.read (Elt Ideal) A = A := by
  refine ext_ix2 fun a b => ?_
  blk_ext [idx_at t]

/-- A block of this operand is all of it. -/
theorem w9_read (A : Vec Ideal S1024x2816 .bf16) : (win0_9.blk t).view.read (Elt Ideal) A = A := by
  refine ext_ix2 fun a b => ?_
  blk_ext [idx_at t]

/-- A block of this operand is all of it. -/
theorem w10_read (A : Vec Ideal S2816x1024 .bf16) : (win0_10.blk t).view.read (Elt Ideal) A = A := by
  refine ext_ix2 fun a b => ?_
  blk_ext [idx_at t]

/-- A block of this operand is all of it. -/
theorem w11_read (A : Vec Ideal S1024x1024 .bf16) : (win0_11.blk t).view.read (Elt Ideal) A = A := by
  refine ext_ix2 fun a b => ?_
  blk_ext [idx_at t]

/-- A block of this operand is all of it. -/
theorem w12_read (A : Vec Ideal S256x1024 .bf16) : (win0_12.blk t).view.read (Elt Ideal) A = A := by
  refine ext_ix2 fun a b => ?_
  blk_ext [idx_at t]

/-- The tail over the whole result array. -/
def whole (A X : Vec Ideal S128x1024 .f32) (P : Vec Ideal S4x128x256 .f32) (wo : Vec Ideal S1024x1024 .bf16) (g1 b1 g2 b2 : Vec Ideal S1x1024 .f32)
    (wg wu : Vec Ideal S1024x2816 .bf16) (wd : Vec Ideal S2816x1024 .bf16) (pwg : Vec Ideal S1024x1024 .bf16) (pwp : Vec Ideal S256x1024 .bf16) :
    Vec Ideal S128x1024 .f32 := fun i =>
  tail (row A (i 0)) (row X (i 0)) (fun f => P (ix3 3 (i 0 : Fin 128) f)) (mat wo) (row g1 0) (row b1 0) (row g2 0) (row b2 0)
    (mat wg) (mat wu) (mat wd) (mat pwg) (mat pwp) (i 1)

/-- The whole result at an index, by its position and lane. -/
theorem whole_at (A X : Vec Ideal S128x1024 .f32) (P : Vec Ideal S4x128x256 .f32) (wo : Vec Ideal S1024x1024 .bf16) (g1 b1 g2 b2 : Vec Ideal S1x1024 .f32)
    (wg wu : Vec Ideal S1024x2816 .bf16) (wd : Vec Ideal S2816x1024 .bf16) (pwg : Vec Ideal S1024x1024 .bf16) (pwp : Vec Ideal S256x1024 .bf16)
    (i : S128x1024.Idx) (p : Fin 128) (h0 : (i 0).val = p.val) (h1 : (i 1).val = j.val) :
    whole A X P wo g1 b1 g2 b2 wg wu wd pwg pwp i = tail (row A p) (row X p) (fun f => P (ix3 3 p f)) (mat wo) (row g1 0) (row b1 0) (row g2 0) (row b2 0)
      (mat wg) (mat wu) (mat wd) (mat pwg) (mat pwp) j := by
  have e0 : (i 0 : Fin 128) = p := Fin.ext h0
  have e1 : (i 1 : Fin 1024) = j := Fin.ext h1
  unfold whole
  rw [e0, e1]

variable (m : (ℓ : Loc nD τ sig) → Buf (Elt Ideal) ℓ) (c : Dev nD)

/-- The attention's output, the residual stream and the layer embeddings as the call reads them, -/
abbrev qa : Vec Ideal S128x1024 .f32 := V m c main_arg0
@[inherit_doc qa] abbrev qx : Vec Ideal S128x1024 .f32 := V m c main_arg1
@[inherit_doc qa] abbrev qp : Vec Ideal S4x128x256 .f32 := V m c main_arg2
/-- and the weights as prepared for it. -/
abbrev qwo : Vec Ideal S1024x1024 .bf16 := V m c main_v0
@[inherit_doc qwo] abbrev qg1 : Vec Ideal S1x1024 .f32 := V m c main_v1
@[inherit_doc qwo] abbrev qb1 : Vec Ideal S1x1024 .f32 := V m c main_v2
@[inherit_doc qwo] abbrev qg2 : Vec Ideal S1x1024 .f32 := V m c main_v3
@[inherit_doc qwo] abbrev qb2 : Vec Ideal S1x1024 .f32 := V m c main_v4
@[inherit_doc qwo] abbrev qwg : Vec Ideal S1024x2816 .bf16 := V m c main_v5
@[inherit_doc qwo] abbrev qwu : Vec Ideal S1024x2816 .bf16 := V m c main_v6
@[inherit_doc qwo] abbrev qwd : Vec Ideal S2816x1024 .bf16 := V m c main_v7
@[inherit_doc qwo] abbrev qpwg : Vec Ideal S1024x1024 .bf16 := V m c main_v8
@[inherit_doc qwo] abbrev qpwp : Vec Ideal S256x1024 .bf16 := V m c main_v9

/-- After the run, the result array holds the tail. -/
theorem final : (dats m 0 c).arrAt 13 cfg0.N = whole (qa m c) (qx m c) (qp m c) (qwo m c) (qg1 m c) (qb1 m c) (qg2 m c) (qb2 m c) (qwg m c) (qwu m c) (qwd m c) (qpwg m c) (qpwp m c) := by
  refine (dats m 0 c).arrAt_eq_of_covers 13 _ (by decide +kernel) fun t hf y => ?_
  rw [after0_13]
  have e0 : iblk m c 0 t = (win0_0.blk t).view.read (Elt Ideal) (qa m c) := rfl
  have e1 : iblk m c 1 t = (win0_1.blk t).view.read (Elt Ideal) (qx m c) := rfl
  have e2 : iblk m c 2 t = (win0_2.blk t).view.read (Elt Ideal) (qp m c) := rfl
  have e3 : iblk m c 3 t = (win0_3.blk t).view.read (Elt Ideal) (qwo m c) := rfl
  have e4 : iblk m c 4 t = (win0_4.blk t).view.read (Elt Ideal) (qg1 m c) := rfl
  have e5 : iblk m c 5 t = (win0_5.blk t).view.read (Elt Ideal) (qb1 m c) := rfl
  have e6 : iblk m c 6 t = (win0_6.blk t).view.read (Elt Ideal) (qg2 m c) := rfl
  have e7 : iblk m c 7 t = (win0_7.blk t).view.read (Elt Ideal) (qb2 m c) := rfl
  have e8 : iblk m c 8 t = (win0_8.blk t).view.read (Elt Ideal) (qwg m c) := rfl
  have e9 : iblk m c 9 t = (win0_9.blk t).view.read (Elt Ideal) (qwu m c) := rfl
  have e10 : iblk m c 10 t = (win0_10.blk t).view.read (Elt Ideal) (qwd m c) := rfl
  have e11 : iblk m c 11 t = (win0_11.blk t).view.read (Elt Ideal) (qpwg m c) := rfl
  have e12 : iblk m c 12 t = (win0_12.blk t).view.read (Elt Ideal) (qpwp m c) := rfl
  rw [e0, e1, e2, e3, e4, e5, e6, e7, e8, e9, e10, e11, e12]
  generalize qa m c = A
  generalize qx m c = X
  generalize qp m c = P
  generalize qwo m c = Wwo
  generalize qg1 m c = Wg1
  generalize qb1 m c = Wb1
  generalize qg2 m c = Wg2
  generalize qb2 m c = Wb2
  generalize qwg m c = Wwg
  generalize qwu m c = Wwu
  generalize qwd m c = Wwd
  generalize qpwg m c = Wpwg
  generalize qpwp m c = Wpwp
  rw [w3_read, w4_read, w5_read, w6_read, w7_read, w8_read, w9_read, w10_read, w11_read, w12_read]
  blk_simp
  have ht : t.val < 1 := t.isLt
  have y0 : (y 0).val < 128 := (y 0).isLt
  have y1 : (y 1).val < 1024 := (y 1).isLt
  have hy : y = ix2 (⟨(y 0).val, y0⟩ : Fin 128) (⟨(y 1).val, y1⟩ : Fin 1024) := by
    funext a
    fin_cases a <;> rfl
  refine (congrArg _ hy).trans ((out_at _ _ _ _ _ _ _ _ _ _ _ _ _ _ _).trans ?_)
  have ha := a_read t (⟨(y 0).val, y0⟩ : Fin 128) A (⟨128 * t.val + (y 0).val, by omega⟩ : Fin 128) rfl
  have hx := x_read t (⟨(y 0).val, y0⟩ : Fin 128) X (⟨128 * t.val + (y 0).val, by omega⟩ : Fin 128) rfl
  have hp := fun f => p_read t (⟨(y 0).val, y0⟩ : Fin 128) f P (⟨128 * t.val + (y 0).val, by omega⟩ : Fin 128) rfl
  rw [ha, hx, funext hp]
  refine (whole_at _ _ _ _ _ _ _ _ _ _ _ _ _ _ _ _ ?_ ?_).symm
  · blk_simp [idx_at t]
    show (y 0).val = 128 * 0 + (y 0).val
    omega
  · blk_simp [idx_at t]

/-- The call reads this argument as launched. -/
theorem a_host : qa m c = m ((c : Thread nD τ).loc main_arg0) := by
  show StableHlo.after hostOps0 (fun b => m (c, b)) (Proc.tc.devRef main_arg0) = _
  entry_read
  rfl

/-- The call reads this argument as launched. -/
theorem x_host : qx m c = m ((c : Thread nD τ).loc main_arg1) := by
  show StableHlo.after hostOps0 (fun b => m (c, b)) (Proc.tc.devRef main_arg1) = _
  entry_read
  rfl

/-- The call reads this argument as launched. -/
theorem p_host : qp m c = m ((c : Thread nD τ).loc main_arg2) := by
  show StableHlo.after hostOps0 (fun b => m (c, b)) (Proc.tc.devRef main_arg2) = _
  entry_read
  rfl

/-- A weight matrix, as launched. -/
theorem wo_host (a : Fin 1024) (b : Fin 1024) : qwo m c (ix2 a b) = (m ((c : Thread nD τ).loc main_arg3) : S1024x1024.Idx → EReal) (ix2 a b) := by
  show StableHlo.after hostOps0 (fun b => m (c, b)) (Proc.tc.devRef main_v0) _ = _
  entry_read
  clean_types
  pointwise

/-- A norm's scale or shift, as launched. -/
theorem g1_host (b : Fin 1024) : qg1 m c (ix2 0 b) = (m ((c : Thread nD τ).loc main_arg4) : S1024.Idx → EReal) (ix1 b) := by
  show StableHlo.after hostOps0 (fun b => m (c, b)) (Proc.tc.devRef main_v1) _ = _
  entry_read
  clean_types
  pointwise

/-- A norm's scale or shift, as launched. -/
theorem b1_host (b : Fin 1024) : qb1 m c (ix2 0 b) = (m ((c : Thread nD τ).loc main_arg5) : S1024.Idx → EReal) (ix1 b) := by
  show StableHlo.after hostOps0 (fun b => m (c, b)) (Proc.tc.devRef main_v2) _ = _
  entry_read
  clean_types
  pointwise

/-- A norm's scale or shift, as launched. -/
theorem g2_host (b : Fin 1024) : qg2 m c (ix2 0 b) = (m ((c : Thread nD τ).loc main_arg6) : S1024.Idx → EReal) (ix1 b) := by
  show StableHlo.after hostOps0 (fun b => m (c, b)) (Proc.tc.devRef main_v3) _ = _
  entry_read
  clean_types
  pointwise

/-- A norm's scale or shift, as launched. -/
theorem b2_host (b : Fin 1024) : qb2 m c (ix2 0 b) = (m ((c : Thread nD τ).loc main_arg7) : S1024.Idx → EReal) (ix1 b) := by
  show StableHlo.after hostOps0 (fun b => m (c, b)) (Proc.tc.devRef main_v4) _ = _
  entry_read
  clean_types
  pointwise

/-- A weight matrix, as launched. -/
theorem wg_host (a : Fin 1024) (b : Fin 2816) : qwg m c (ix2 a b) = (m ((c : Thread nD τ).loc main_arg8) : S1024x2816.Idx → EReal) (ix2 a b) := by
  show StableHlo.after hostOps0 (fun b => m (c, b)) (Proc.tc.devRef main_v5) _ = _
  entry_read
  clean_types
  pointwise

/-- A weight matrix, as launched. -/
theorem wu_host (a : Fin 1024) (b : Fin 2816) : qwu m c (ix2 a b) = (m ((c : Thread nD τ).loc main_arg9) : S1024x2816.Idx → EReal) (ix2 a b) := by
  show StableHlo.after hostOps0 (fun b => m (c, b)) (Proc.tc.devRef main_v6) _ = _
  entry_read
  clean_types
  pointwise

/-- A weight matrix, as launched. -/
theorem wd_host (a : Fin 2816) (b : Fin 1024) : qwd m c (ix2 a b) = (m ((c : Thread nD τ).loc main_arg10) : S2816x1024.Idx → EReal) (ix2 a b) := by
  show StableHlo.after hostOps0 (fun b => m (c, b)) (Proc.tc.devRef main_v7) _ = _
  entry_read
  clean_types
  pointwise

/-- A weight matrix, as launched. -/
theorem pwg_host (a : Fin 1024) (b : Fin 1024) : qpwg m c (ix2 a b) = (m ((c : Thread nD τ).loc main_arg11) : S1024x1024.Idx → EReal) (ix2 a b) := by
  show StableHlo.after hostOps0 (fun b => m (c, b)) (Proc.tc.devRef main_v8) _ = _
  entry_read
  clean_types
  pointwise

/-- A weight matrix, as launched. -/
theorem pwp_host (a : Fin 256) (b : Fin 1024) : qpwp m c (ix2 a b) = (m ((c : Thread nD τ).loc main_arg12) : S256x1024.Idx → EReal) (ix2 a b) := by
  show StableHlo.after hostOps0 (fun b => m (c, b)) (Proc.tc.devRef main_v9) _ = _
  entry_read
  clean_types
  pointwise

end Cert.Kernel6Ideal.Sample

end
-- ==== Proof.Sample.Ref.lean ====
/- The reference's tail read element by element. -/
module

public import proofs.«01_k».proof.Proof.Gen.Reference6Ideal.Run
public import proofs.«01_k».proof.Proof.Tail.Row
public import Idealize.ShloMosaic.Lib.Pointwise
public import Idealize.ShloMosaic.Lib.Tactic.CleanTypes

@[expose] public section

set_option maxRecDepth 16384

noncomputable section

namespace Cert.Reference6Ideal.Sample

open Idealize.ShloMosaic Idealize.ShloMosaic.TcCoe Cert.Reference6Ideal.Gen Idealize.ShloMosaic.Tactic TailRow

/-- The arrays the program reads, by argument. -/
structure Args where
  a : S128x1024.Idx → EReal
  x : S128x1024.Idx → EReal
  p : S4x128x256.Idx → EReal
  wo : S1024x1024.Idx → EReal
  g1 : S1024.Idx → EReal
  b1 : S1024.Idx → EReal
  g2 : S1024.Idx → EReal
  b2 : S1024.Idx → EReal
  wg : S1024x2816.Idx → EReal
  wu : S1024x2816.Idx → EReal
  wd : S2816x1024.Idx → EReal
  pwg : S1024x1024.Idx → EReal
  pwp : S256x1024.Idx → EReal

/-- Those a valuation holds. -/
abbrev args (W : Valuation τ sig (Elt Ideal)) : Args where
  a := W (Proc.devRef .tc main_arg0)
  x := W (Proc.devRef .tc main_arg1)
  p := W (Proc.devRef .tc main_arg2)
  wo := W (Proc.devRef .tc main_arg3)
  g1 := W (Proc.devRef .tc main_arg4)
  b1 := W (Proc.devRef .tc main_arg5)
  g2 := W (Proc.devRef .tc main_arg6)
  b2 := W (Proc.devRef .tc main_arg7)
  wg := W (Proc.devRef .tc main_arg8)
  wu := W (Proc.devRef .tc main_arg9)
  wd := W (Proc.devRef .tc main_arg10)
  pwg := W (Proc.devRef .tc main_arg11)
  pwp := W (Proc.devRef .tc main_arg12)

/-- A matrix or a vector, by its indices. -/
abbrev mat {n k : ℕ} (v : (⟨2, ![n, k]⟩ : Shape).Idx → EReal) (l : Fin n) (j : Fin k) : EReal := v (ix2 l j)
@[inherit_doc mat] abbrev vec {k : ℕ} (v : (⟨1, ![k]⟩ : Shape).Idx → EReal) (j : Fin k) : EReal := v (ix1 j)

variable (W : Valuation τ sig (Elt Ideal)) (r : Fin 128) (j : Fin 1024)

/-- The program's named steps, as functions of their indices: the rows before the norms, -/
abbrev s3 : S128x1024.Idx → EReal := Value.res_main_v3 (F := Ideal) W
@[inherit_doc s3] abbrev s35 : S128x1024.Idx → EReal := Value.res_main_v35 (F := Ideal) W
/-- their means, -/
abbrev s7 : S128x1.Idx → EReal := Value.res_main_v7 (F := Ideal) W
@[inherit_doc s7] abbrev s39 : S128x1.Idx → EReal := Value.res_main_v39 (F := Ideal) W
/-- the rows less their means -/
abbrev s9 : S128x1024.Idx → EReal := Value.res_main_v9 (F := Ideal) W
@[inherit_doc s9] abbrev s41 : S128x1024.Idx → EReal := Value.res_main_v41 (F := Ideal) W
/-- and the rows after the norms. -/
abbrev s27 : S128x1024.Idx → EReal := Value.res_main_v27 (F := Ideal) W
@[inherit_doc s27] abbrev s59 : S128x1024.Idx → EReal := Value.res_main_v59 (F := Ideal) W

/-- The row before the first norm. -/
theorem v3_at : s3 W (ix2 r j)
    = alpha * (args W).x (ix2 r j) + prod (mat (args W).a r) (mat (args W).wo) j := by
  show Value.res_main_v3 (F := Ideal) W _ = _
  unfold Value.res_main_v3
  clean_types
  pointwise
  rfl

/-- Its mean. -/
theorem v7_at : s7 W (ix2 r 0) = mean (mat (s3 W) r) := by
  show Value.res_main_v7 (F := Ideal) W _ = _
  unfold Value.res_main_v7
  clean_types
  pointwise
  rfl

/-- The row less its mean. -/
theorem v9_at : s9 W (ix2 r j)
    = s3 W (ix2 r j) - mean (mat (s3 W) r) := by
  rw [← v7_at]
  show Value.res_main_v9 (F := Ideal) W _ = _
  unfold Value.res_main_v9
  clean_types
  pointwise

/-- The row after the first norm. -/
theorem v27_at : s27 W (ix2 r j)
    = norm (mat (s3 W) r) (vec (args W).g1) (vec (args W).b1) j := by
  have h9 := v9_at W r
  have h7 := v7_at W r
  dsimp only [s9, s7, s3, s27] at h9 h7 ⊢
  unfold Value.res_main_v27
  generalize Value.res_main_v9 (F := Ideal) W = v9 at *
  generalize Value.res_main_v7 (F := Ideal) W = v7 at *
  generalize Value.res_main_v3 (F := Ideal) W = v3 at *
  clean_types
  pointwise
  simp only [h9, h7]
  rfl

/-- The first norm's row, from the arguments. -/
theorem v27_row : mat (s27 W) r
    = first (mat (args W).a r) (mat (args W).x r) (mat (args W).wo) (vec (args W).g1) (vec (args W).b1) := by
  funext j
  refine (v27_at W r j).trans ?_
  unfold first
  congr 1
  funext k
  exact v3_at W r k

/-- The row before the second norm. -/
theorem v35_at : s35 W (ix2 r j)
    = alpha * s27 W (ix2 r j)
      + ffn (mat (s27 W) r) (mat (args W).wg) (mat (args W).wu) (mat (args W).wd) j := by
  dsimp only [s35, s27]
  unfold Value.res_main_v35 Value.res_main_v30
  generalize Value.res_main_v27 (F := Ideal) W = v27 at *
  clean_types
  pointwise
  rfl

/-- Its mean. -/
theorem v39_at : s39 W (ix2 r 0) = mean (mat (s35 W) r) := by
  show Value.res_main_v39 (F := Ideal) W _ = _
  unfold Value.res_main_v39
  clean_types
  pointwise
  rfl

/-- The row less its mean. -/
theorem v41_at : s41 W (ix2 r j)
    = s35 W (ix2 r j) - mean (mat (s35 W) r) := by
  rw [← v39_at]
  show Value.res_main_v41 (F := Ideal) W _ = _
  unfold Value.res_main_v41
  clean_types
  pointwise

/-- The row after the second norm. -/
theorem v59_at : s59 W (ix2 r j)
    = norm (mat (s35 W) r) (vec (args W).g2) (vec (args W).b2) j := by
  have h9 := v41_at W r
  have h7 := v39_at W r
  dsimp only [s41, s39, s35, s59] at h9 h7 ⊢
  unfold Value.res_main_v59
  generalize Value.res_main_v41 (F := Ideal) W = v9 at *
  generalize Value.res_main_v39 (F := Ideal) W = v7 at *
  generalize Value.res_main_v35 (F := Ideal) W = v3 at *
  clean_types
  pointwise
  simp only [h9, h7]
  rfl

/-- The second norm's row, from the first's. -/
theorem v59_row : mat (s59 W) r
    = second (mat (s27 W) r)
        (ffn (mat (s27 W) r) (mat (args W).wg) (mat (args W).wu) (mat (args W).wd)) (vec (args W).g2) (vec (args W).b2) := by
  funext j
  refine (v59_at W r j).trans ?_
  unfold second
  congr 1
  funext k
  exact v35_at W r k

/-- The tail of one row, from the arguments. -/
def tail_of (A : Args) (r : Fin 128) (j : Fin 1024) : EReal :=
  tail (mat A.a r) (mat A.x r) (fun f => A.p (ix3 3 r f)) (mat A.wo) (vec A.g1) (vec A.b1) (vec A.g2) (vec A.b2) (mat A.wg) (mat A.wu) (mat A.wd) (mat A.pwg) (mat A.pwp) j

/-- The result from the second norm's rows. -/
def result (v59 : FVec Ideal S128x1024 .f32) (p : FVec Ideal S4x128x256 .f32) (wg : FVec Ideal S1024x1024 .f32) (wp : FVec Ideal S256x1024 .f32) :
    FVec Ideal S128x1024 .f32 :=
  addf v59 (mulf (Host.divf (broadcastInDim S128x1024 ![] bcast_S_S128x1024 (constant S_ .f32 0x3F800000#32))
      (addf (broadcastInDim S128x1024 ![] bcast_S_S128x1024 (constant S_ .f32 0x3F800000#32))
        (Host.exp (Host.negf (Host.dotGeneral dot_S128x1024_S1024x1024_S128x1024_1_0_0_1_n_n none v59 wg)))))
    (Host.dotGeneral dot_S128x256_S256x1024_S128x1024_1_0_0_1_n_n none
      (shapeCast _ (extractStridedSlice S1x128x256 ![3, 0, 0] p slices_S4x128x256_S1x128x256_3_0_0) shapeCasts_S1x128x256_S128x256) wp))

/-- The result at a row and a lane. -/
theorem result_at (v59 : FVec Ideal S128x1024 .f32) (p : FVec Ideal S4x128x256 .f32) (wg : FVec Ideal S1024x1024 .f32) (wp : FVec Ideal S256x1024 .f32) :
    result v59 p wg wp (ix2 r j) = gated (mat v59 r) (mat wg) (fun f => p (ix3 3 r f)) (mat wp) j := by
  unfold result
  pointwise
  rfl

/-- The reference's result is the tail. -/
theorem ref_at : result (s59 W) (args W).p (args W).pwg (args W).pwp (ix2 r j) = tail_of (args W) r j := by
  refine (result_at r j _ _ _ _).trans ?_
  rw [v59_row, v27_row]
  rfl

end Cert.Reference6Ideal.Sample

end
-- ==== Proof.Sample.Same.lean ====
/- The kernel's tail and the reference's are one: given the same arguments, the two results agree at every index. -/
module

public import proofs.«01_k».proof.Proof.Sample.Whole
public import proofs.«01_k».proof.Proof.Sample.Ref

@[expose] public section

set_option maxRecDepth 16384

noncomputable section

namespace Cert.Kernel6Ideal.Sample

open Idealize.ShloMosaic Idealize.ShloMosaic.TcCoe Cert.Kernel6Ideal.Gen Idealize.ShloMosaic.Tactic TailRow

variable (m : (ℓ : Loc nD τ sig) → Buf (Elt Ideal) ℓ) (c : Dev nD)

/-- The launched arguments. -/
abbrev launched : Cert.Reference6Ideal.Sample.Args where
  a := m ((c : Thread nD τ).loc main_arg0)
  x := m ((c : Thread nD τ).loc main_arg1)
  p := m ((c : Thread nD τ).loc main_arg2)
  wo := m ((c : Thread nD τ).loc main_arg3)
  g1 := m ((c : Thread nD τ).loc main_arg4)
  b1 := m ((c : Thread nD τ).loc main_arg5)
  g2 := m ((c : Thread nD τ).loc main_arg6)
  b2 := m ((c : Thread nD τ).loc main_arg7)
  wg := m ((c : Thread nD τ).loc main_arg8)
  wu := m ((c : Thread nD τ).loc main_arg9)
  wd := m ((c : Thread nD τ).loc main_arg10)
  pwg := m ((c : Thread nD τ).loc main_arg11)
  pwp := m ((c : Thread nD τ).loc main_arg12)

/-- The kernel's tail of the prepared operands is the tail of the launched ones. -/
theorem whole_eq (p : Fin 128) (j : Fin 1024) :
    whole (qa m c) (qx m c) (qp m c) (qwo m c) (qg1 m c) (qb1 m c) (qg2 m c) (qb2 m c) (qwg m c) (qwu m c) (qwd m c) (qpwg m c) (qpwp m c) (ix2 p j)
      = Cert.Reference6Ideal.Sample.tail_of (launched m c) p j := by
  refine (whole_at j _ _ _ _ _ _ _ _ _ _ _ _ _ _ p rfl rfl).trans ?_
  have e_wo : mat (qwo m c) = Cert.Reference6Ideal.Sample.mat (launched m c).wo := funext fun a => funext fun b => wo_host m c a b
  have e_g1 : row (qg1 m c) 0 = Cert.Reference6Ideal.Sample.vec (launched m c).g1 := funext fun b => g1_host m c b
  have e_b1 : row (qb1 m c) 0 = Cert.Reference6Ideal.Sample.vec (launched m c).b1 := funext fun b => b1_host m c b
  have e_g2 : row (qg2 m c) 0 = Cert.Reference6Ideal.Sample.vec (launched m c).g2 := funext fun b => g2_host m c b
  have e_b2 : row (qb2 m c) 0 = Cert.Reference6Ideal.Sample.vec (launched m c).b2 := funext fun b => b2_host m c b
  have e_wg : mat (qwg m c) = Cert.Reference6Ideal.Sample.mat (launched m c).wg := funext fun a => funext fun b => wg_host m c a b
  have e_wu : mat (qwu m c) = Cert.Reference6Ideal.Sample.mat (launched m c).wu := funext fun a => funext fun b => wu_host m c a b
  have e_wd : mat (qwd m c) = Cert.Reference6Ideal.Sample.mat (launched m c).wd := funext fun a => funext fun b => wd_host m c a b
  have e_pwg : mat (qpwg m c) = Cert.Reference6Ideal.Sample.mat (launched m c).pwg := funext fun a => funext fun b => pwg_host m c a b
  have e_pwp : mat (qpwp m c) = Cert.Reference6Ideal.Sample.mat (launched m c).pwp := funext fun a => funext fun b => pwp_host m c a b
  rw [a_host, x_host, p_host, e_wo, e_g1, e_b1, e_g2, e_b2, e_wg, e_wu, e_wd, e_pwg, e_pwp]
  rfl

/-- The two results agree, the arguments being the same. -/
theorem same (W : Valuation Cert.Reference6Ideal.τ Cert.Reference6Ideal.sig (Elt Ideal)) (h : Cert.Reference6Ideal.Sample.args W = launched m c) :
    (whole (qa m c) (qx m c) (qp m c) (qwo m c) (qg1 m c) (qb1 m c) (qg2 m c) (qb2 m c) (qwg m c) (qwu m c) (qwd m c) (qpwg m c) (qpwp m c) : S128x1024.Idx → EReal)
      = Cert.Reference6Ideal.Sample.result (Cert.Reference6Ideal.Sample.s59 W) (Cert.Reference6Ideal.Sample.args W).p (Cert.Reference6Ideal.Sample.args W).pwg
          (Cert.Reference6Ideal.Sample.args W).pwp := by
  refine ext_ix2 (n := 128) (k := 1024) fun p j => ?_
  rw [whole_eq, Cert.Reference6Ideal.Sample.ref_at, h]

end Cert.Kernel6Ideal.Sample

end
-- ==== Proof.Sample.Algebra.lean ====
/- The value claim of a layer's tail on the sample rows. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Sample.Same
public import Idealize.ShloMosaic.Lib.Claim

@[expose] public section

namespace Cert.Proof.Sample

open Idealize.ShloMosaic Idealize.ShloMosaic.TcCoe Idealize.SL Idealize.SL.Sem

/-- Over the extended reals the kernel's tail and the reference's are equal: from the same arguments both end, and their results agree. -/
theorem algebraic : Cert.algebraic_Kernel6Ideal_Reference6Ideal := by
  intro m g m' g' _ hagree
  refine ⟨fun c => Cert.Kernel6Ideal.Sample.whole (Cert.Kernel6Ideal.Sample.qa m c) (Cert.Kernel6Ideal.Sample.qx m c) (Cert.Kernel6Ideal.Sample.qp m c) (Cert.Kernel6Ideal.Sample.qwo m c) (Cert.Kernel6Ideal.Sample.qg1 m c) (Cert.Kernel6Ideal.Sample.qb1 m c) (Cert.Kernel6Ideal.Sample.qg2 m c) (Cert.Kernel6Ideal.Sample.qb2 m c) (Cert.Kernel6Ideal.Sample.qwg m c) (Cert.Kernel6Ideal.Sample.qwu m c) (Cert.Kernel6Ideal.Sample.qwd m c) (Cert.Kernel6Ideal.Sample.qpwg m c) (Cert.Kernel6Ideal.Sample.qpwp m c), ?_, ?_⟩
  · refine (θ_run _ _ _).mono (fun r h c => ?_) (Cert.Kernel6Ideal.Value.run_blocks m g)
    obtain ⟨h0, h1⟩ := h c
    exact ⟨h0.trans (Cert.Kernel6Ideal.Sample.final m c), h1⟩
  · refine (θ_run _ _ _).mono (fun r h c => ?_) (Cert.Reference6Ideal.Value.run m' g')
    obtain ⟨h0, h1⟩ := h c
    obtain ⟨a0, a1, a2, a3, a4, a5, a6, a7, a8, a9, a10, a11, a12⟩ := hagree c
    refine ⟨h0.trans (Cert.Kernel6Ideal.Sample.same m c (StableHlo.launchContents m' c) ?_).symm, h1⟩
    show Cert.Reference6Ideal.Sample.Args.mk (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4)) (m' ((c.tc : Thread _ _).loc Cert.Reference6Ideal.main_arg5)) (m' ((c.tc : Thread _ _).loc Cert.Reference6Ideal.main_arg6)) (m' ((c.tc : Thread _ _).loc Cert.Reference6Ideal.main_arg7)) (m' ((c.tc : Thread _ _).loc Cert.Reference6Ideal.main_arg8)) (m' ((c.tc : Thread _ _).loc Cert.Reference6Ideal.main_arg9)) (m' ((c.tc : Thread _ _).loc Cert.Reference6Ideal.main_arg10)) (m' ((c.tc : Thread _ _).loc Cert.Reference6Ideal.main_arg11)) (m' ((c.tc : Thread _ _).loc Cert.Reference6Ideal.main_arg12)) = _
    rw [a0, a1, a2, a3, a4, a5, a6, a7, a8, a9, a10, a11, a12]

end Cert.Proof.Sample
-- ==== Proof.Merge.Mix.lean ====
/- The mix of three attentions of one row: each head's three outputs weighed by the softmax of their three log-sum-exps. -/
module

public import proofs.«01_k».proof.Proof.Tail.Row

@[expose] public section

noncomputable section

namespace TailRow

open Idealize.ShloMosaic

/-- The greatest of three. -/
def top (l : Fin 3 → EReal) : EReal := max (max (l 0) (l 1)) (l 2)

/-- The softmax weight of one of three. -/
def weight (l : Fin 3 → EReal) (g : Fin 3) : EReal :=
  Ideal.div (Ideal.exp (l g - top l)) (Ideal.exp (l 0 - top l) + Ideal.exp (l 1 - top l) + Ideal.exp (l 2 - top l))

/-- The head of a lane: 64 lanes each, the head's number as a lane of the log-sum-exps. -/
abbrev head (j : Fin 1024) : Fin 128 := ⟨j.val / 64, by omega⟩

/-- The mixed row. -/
def mixed (o : Fin 3 → Fin 1024 → EReal) (l : Fin 3 → Fin 128 → EReal) (j : Fin 1024) : EReal :=
  ∑ g, weight (fun g => l g (head j)) g * o g j

/-- Three rows as one family. -/
abbrev three {n : ℕ} (a b c : Fin n → EReal) : Fin 3 → Fin n → EReal := ![a, b, c]

end TailRow

end
-- ==== Proof.Merge.Pay.lean ====
/- The tail of the three-way mix: its payloads read element by element, as the row formulas. -/
module

public import proofs.«01_k».proof.Proof.Gen.Kernel8Ideal.Skeleton
public import proofs.«01_k».proof.Proof.Merge.Mix
public import Idealize.ShloMosaic.Lib.Pointwise

@[expose] public section

set_option maxRecDepth 16384

noncomputable section

namespace Cert.Kernel8Ideal.Merge

open Idealize.ShloMosaic Idealize.ShloMosaic.TcCoe Cert.Kernel8Ideal.Gen Idealize.ShloMosaic.Tactic TailRow

/-- Row `r` of a block of `k` columns. -/
abbrev row {n k : ℕ} (v : (⟨2, ![n, k]⟩ : Shape).Idx → EReal) (r : Fin n) (l : Fin k) : EReal := v (ix2 r l)

/-- A block as a matrix. -/
abbrev mat {n k : ℕ} (v : (⟨2, ![n, k]⟩ : Shape).Idx → EReal) (l : Fin n) (j : Fin k) : EReal := v (ix2 l j)

variable (r : Fin 512) (j : Fin 1024) (f : Fin 256) (d : Fin 64)

/-- The weights of the first attention. -/
theorem pay6_at (l0 l1 l2 : Vec Ideal S512x128 .f32) (h : Fin 128) :
    k0_pay6 (F := Ideal) l0 l1 l2 (ix2 r h) = weight (fun g => three (row l0 r) (row l1 r) (row l2 r) g h) 0 := by
  pointwise [k0_pay6, k0_pay5, k0_pay4, k0_pay3, k0_pay2, k0_pay1]
  rfl

/-- The weights of the second attention. -/
theorem pay7_at (l0 l1 l2 : Vec Ideal S512x128 .f32) (h : Fin 128) :
    k0_pay7 (F := Ideal) l0 l1 l2 (ix2 r h) = weight (fun g => three (row l0 r) (row l1 r) (row l2 r) g h) 1 := by
  pointwise [k0_pay7, k0_pay5, k0_pay4, k0_pay3, k0_pay2, k0_pay1]
  rfl

/-- The weights of the third attention. -/
theorem pay8_at (l0 l1 l2 : Vec Ideal S512x128 .f32) (h : Fin 128) :
    k0_pay8 (F := Ideal) l0 l1 l2 (ix2 r h) = weight (fun g => three (row l0 r) (row l1 r) (row l2 r) g h) 2 := by
  pointwise [k0_pay8, k0_pay5, k0_pay4, k0_pay3, k0_pay2, k0_pay1]
  rfl

/-- One head's mix at a row and a lane: the weights' lane `n` times the head's lanes of the three attentions. -/
abbrev part (w0 w1 w2 : FVec Ideal S512x128 .f32) (a0 a1 a2 : Vec Ideal S512x64 .f32) (n : Fin 128) : EReal :=
  w0 (ix2 r n) * a0 (ix2 r d) + w1 (ix2 r n) * a1 (ix2 r d) + w2 (ix2 r n) * a2 (ix2 r d)

variable (w0 w1 w2 : FVec Ideal S512x128 .f32) (a0 a1 a2 : Vec Ideal S512x64 .f32) (l0 l1 l2 : Vec Ideal S512x128 .f32)

/-- Head 0. -/
theorem pay9_at : k0_pay9 (F := Ideal) l0 l1 l2 a0 a1 a2 (ix2 r d)
    = part r d (k0_pay6 (F := Ideal) l0 l1 l2) (k0_pay7 (F := Ideal) l0 l1 l2) (k0_pay8 (F := Ideal) l0 l1 l2) a0 a1 a2 0 := by
  unfold k0_pay9
  generalize k0_pay6 (F := Ideal) l0 l1 l2 = w0
  generalize k0_pay7 (F := Ideal) l0 l1 l2 = w1
  generalize k0_pay8 (F := Ideal) l0 l1 l2 = w2
  pointwise

/-- Head 1. -/
theorem pay12_at : k0_pay12 (F := Ideal) (k0_pay10 (F := Ideal) l0 l1 l2 a0 a1) (k0_pay11 (F := Ideal) l0 l1 l2) a2 (ix2 r d)
    = part r d (k0_pay6 (F := Ideal) l0 l1 l2) (k0_pay7 (F := Ideal) l0 l1 l2) (k0_pay8 (F := Ideal) l0 l1 l2) a0 a1 a2 1 := by
  unfold k0_pay12 k0_pay11 k0_pay10
  generalize k0_pay6 (F := Ideal) l0 l1 l2 = w0
  generalize k0_pay7 (F := Ideal) l0 l1 l2 = w1
  generalize k0_pay8 (F := Ideal) l0 l1 l2 = w2
  pointwise

/-- Head 2. -/
theorem pay13_at : k0_pay13 (F := Ideal) w0 w1 w2 a0 a1 a2 (ix2 r d) = part r d w0 w1 w2 a0 a1 a2 2 := by
  pointwise [k0_pay13]

/-- Head 3. -/
theorem pay14_at : k0_pay14 (F := Ideal) w0 w1 w2 a0 a1 a2 (ix2 r d) = part r d w0 w1 w2 a0 a1 a2 3 := by
  pointwise [k0_pay14]

/-- Head 5. -/
theorem pay18_at : k0_pay18 (F := Ideal) w0 w1 w2 a0 a1 a2 (ix2 r d) = part r d w0 w1 w2 a0 a1 a2 5 := by
  pointwise [k0_pay18]

/-- Head 6. -/
theorem pay19_at : k0_pay19 (F := Ideal) w0 w1 w2 a0 a1 a2 (ix2 r d) = part r d w0 w1 w2 a0 a1 a2 6 := by
  pointwise [k0_pay19]

/-- Head 8. -/
theorem pay23_at : k0_pay23 (F := Ideal) w0 w1 w2 a0 a1 a2 (ix2 r d) = part r d w0 w1 w2 a0 a1 a2 8 := by
  pointwise [k0_pay23]

/-- Head 9. -/
theorem pay24_at : k0_pay24 (F := Ideal) w0 w1 w2 a0 a1 a2 (ix2 r d) = part r d w0 w1 w2 a0 a1 a2 9 := by
  pointwise [k0_pay24]

/-- Head 11. -/
theorem pay28_at : k0_pay28 (F := Ideal) w0 w1 w2 a0 a1 a2 (ix2 r d) = part r d w0 w1 w2 a0 a1 a2 11 := by
  pointwise [k0_pay28]

/-- Head 12. -/
theorem pay29_at : k0_pay29 (F := Ideal) w0 w1 w2 a0 a1 a2 (ix2 r d) = part r d w0 w1 w2 a0 a1 a2 12 := by
  pointwise [k0_pay29]

/-- Head 4. -/
theorem pay17_at : k0_pay17 (F := Ideal) (k0_pay15 (F := Ideal) w0 w1 a0 a1) (k0_pay16 (F := Ideal) w2) a2 (ix2 r d) = part r d w0 w1 w2 a0 a1 a2 4 := by
  pointwise [k0_pay17, k0_pay16, k0_pay15]

/-- Head 7. -/
theorem pay22_at : k0_pay22 (F := Ideal) (k0_pay20 (F := Ideal) w0 w1 a0 a1) (k0_pay21 (F := Ideal) w2) a2 (ix2 r d) = part r d w0 w1 w2 a0 a1 a2 7 := by
  pointwise [k0_pay22, k0_pay21, k0_pay20]

/-- Head 10. -/
theorem pay27_at : k0_pay27 (F := Ideal) (k0_pay25 (F := Ideal) w0 w1 a0 a1) (k0_pay26 (F := Ideal) w2) a2 (ix2 r d) = part r d w0 w1 w2 a0 a1 a2 10 := by
  pointwise [k0_pay27, k0_pay26, k0_pay25]

/-- Head 13, as it is added up where the heads are joined. -/
def head13 : FVec Ideal S512x64 .f32 :=
  addf (k0_pay30 (F := Ideal) w0 w1 a0 a1) (mulf (broadcastTo S512x64 (k0_pay31 (F := Ideal) w2) broadcasts_S512x1_S512x64) a2)

/-- Head 14, as it is added up where the heads are joined. -/
def head14 : FVec Ideal S512x64 .f32 :=
  addf (addf (mulf (broadcastTo S512x64 (extractStridedSlice S512x1 ![0, 14] w0 slices_S512x128_o0_14_S512x1) broadcasts_S512x1_S512x64) a0)
      (mulf (broadcastTo S512x64 (extractStridedSlice S512x1 ![0, 14] w1 slices_S512x128_o0_14_S512x1) broadcasts_S512x1_S512x64) a1))
    (mulf (broadcastTo S512x64 (extractStridedSlice S512x1 ![0, 14] w2 slices_S512x128_o0_14_S512x1) broadcasts_S512x1_S512x64) a2)

/-- Head 15, as it is added up where the heads are joined. -/
def head15 : FVec Ideal S512x64 .f32 :=
  addf (addf (mulf (broadcastTo S512x64 (extractStridedSlice S512x1 ![0, 15] w0 slices_S512x128_o0_15_S512x1) broadcasts_S512x1_S512x64) a0)
      (mulf (broadcastTo S512x64 (extractStridedSlice S512x1 ![0, 15] w1 slices_S512x128_o0_15_S512x1) broadcasts_S512x1_S512x64) a1))
    (mulf (broadcastTo S512x64 (extractStridedSlice S512x1 ![0, 15] w2 slices_S512x128_o0_15_S512x1) broadcasts_S512x1_S512x64) a2)

theorem head13_at : head13 w0 w1 w2 a0 a1 a2 (ix2 r d) = part r d w0 w1 w2 a0 a1 a2 13 := by
  pointwise [head13, k0_pay30, k0_pay31]

theorem head14_at : head14 w0 w1 w2 a0 a1 a2 (ix2 r d) = part r d w0 w1 w2 a0 a1 a2 14 := by
  pointwise [head14]

theorem head15_at : head15 w0 w1 w2 a0 a1 a2 (ix2 r d) = part r d w0 w1 w2 a0 a1 a2 15 := by
  pointwise [head15]

/-- Sixteen heads side by side. -/
abbrev cat (v : Fin 16 → FVec Ideal S512x64 .f32) : FVec Ideal S512x1024 .f32 :=
  concatenate S512x1024 1 [⟨S512x64, v 0⟩, ⟨S512x64, v 1⟩, ⟨S512x64, v 2⟩, ⟨S512x64, v 3⟩, ⟨S512x64, v 4⟩, ⟨S512x64, v 5⟩, ⟨S512x64, v 6⟩, ⟨S512x64, v 7⟩, ⟨S512x64, v 8⟩, ⟨S512x64, v 9⟩, ⟨S512x64, v 10⟩, ⟨S512x64, v 11⟩, ⟨S512x64, v 12⟩, ⟨S512x64, v 13⟩, ⟨S512x64, v 14⟩, ⟨S512x64, v 15⟩]
    concatenates_S512x64_S512x64_S512x64_S512x64_S512x64_S512x64_S512x64_S512x64_S512x64_S512x64_S512x64_S512x64_S512x64_S512x64_S512x64_S512x64_S512x1024_d1

/-- Lane `j` of the joined heads is lane `j % 64` of head `j / 64`. -/
theorem cat_at (v : Fin 16 → FVec Ideal S512x64 .f32) : cat v (ix2 r j) = v ⟨j.val / 64, by omega⟩ (ix2 r (⟨j.val % 64, by omega⟩ : Fin 64)) :=
  concatenate_ofFn_apply (t := S512x1024) (s₁ := S512x64) (1 : Fin 2) v
    concatenates_S512x64_S512x64_S512x64_S512x64_S512x64_S512x64_S512x64_S512x64_S512x64_S512x64_S512x64_S512x64_S512x64_S512x64_S512x64_S512x64_S512x1024_d1
    rfl 64 rfl (ix2 r j) ⟨j.val / 64, by omega⟩ rfl (ix2 r (⟨j.val % 64, by omega⟩ : Fin 64)) (by rfl) (by
      intro b hb
      fin_cases b
      · rfl
      · exact absurd rfl hb)

/-- The weighted residual plus the joined heads' projection. -/
def joined (v : FVec Ideal S512x1024 .f32) (x : Vec Ideal S512x1024 .f32) (w : Vec Ideal S1024x1024 .bf16) : FVec Ideal S512x1024 .f32 :=
  addf (mulf (broadcast S512x1024 (Scalar.ofBits .f32 0x3FD744FD#32)) x)
    (matmul (φ₂ := .bf16) dot_S512x1024_S1024x1024_S512x1024_1_0_0_1_n_n none (truncf .bf16 v bitsLt_bf16_f32) (shapeCast (α := Ideal .bf16) S1024x1024 w shapeCasts_S1024x1024_S1024x1024)
      (constant S512x1024 .f32 0x00000000#32))

theorem joined_at (v : FVec Ideal S512x1024 .f32) (x : Vec Ideal S512x1024 .f32) (w : Vec Ideal S1024x1024 .bf16) :
    joined v x w (ix2 r j) = alpha * x (ix2 r j) + prod (row v r) (mat w) j := by
  pointwise [joined]
  rfl

/-- The row before the first norm. -/
theorem pay32_eq (v : Fin 13 → FVec Ideal S512x64 .f32) (b13 b14 b15 c13 c14 c15 e13 e14 e15 : Vec Ideal S512x64 .f32) (x : Vec Ideal S512x1024 .f32) (w : Vec Ideal S1024x1024 .bf16) :
    k0_pay32 (F := Ideal) w0 w1 w2 (v 0) (v 1) (v 2) (v 3) (v 4) (v 5) (v 6) (v 7) (v 8) (v 9) (v 10) (v 11) (v 12) (k0_pay30 (F := Ideal) w0 w1 b13 c13) (k0_pay31 (F := Ideal) w2) e13
        b14 c14 e14 b15 c15 e15 x w
      = joined (cat ![v 0, v 1, v 2, v 3, v 4, v 5, v 6, v 7, v 8, v 9, v 10, v 11, v 12, head13 w0 w1 w2 b13 c13 e13, head14 w0 w1 w2 b14 c14 e14, head15 w0 w1 w2 b15 c15 e15]) x w := rfl

/-- The first norm of row `r`. -/
theorem pay33_at (v248 : FVec Ideal S512x1024 .f32) (v249 v251 : Vec Ideal S1x1024 .f32) :
    k0_pay33 (F := Ideal) v248 v249 v251 (ix2 r j) = norm (row v248 r) (row v249 0) (row v251 0) j := by
  pointwise [k0_pay33]
  rfl

/-- The same, as the products read it. -/
theorem pay34_at (v248 : FVec Ideal S512x1024 .f32) (v249 v251 : Vec Ideal S1x1024 .f32) :
    k0_pay34 (F := Ideal) v248 v249 v251 (ix2 r j) = norm (row v248 r) (row v249 0) (row v251 0) j := pay33_at r j v248 v249 v251

/-- The first chunk of the feed-forward sum. -/
theorem pay35_at (v248 : FVec Ideal S512x1024 .f32) (v249 v251 : Vec Ideal S1x1024 .f32) (v275 v278 : Vec Ideal S1024x256 .bf16) (v285 : Vec Ideal S256x1024 .bf16) :
    k0_pay35 (F := Ideal) v248 v249 v251 v275 v278 v285 (ix2 r j) = ffn (row (k0_pay34 (F := Ideal) v248 v249 v251) r) (mat v275) (mat v278) (mat v285) j := by
  unfold k0_pay35
  generalize k0_pay34 (F := Ideal) v248 v249 v251 = v273
  pointwise
  rfl

/-- Two chunks added to the sum. -/
theorem pay36_at (v273 : FVec Ideal S512x1024 .bf16) (v288 : FVec Ideal S512x1024 .f32) (v289 v292 : Vec Ideal S1024x256 .bf16) (v299 : Vec Ideal S256x1024 .bf16)
    (v303 v306 : Vec Ideal S1024x256 .bf16) (v313 : Vec Ideal S256x1024 .bf16) :
    k0_pay36 (F := Ideal) v273 v288 v289 v292 v299 v303 v306 v313 (ix2 r j)
      = v288 (ix2 r j) + ffn (row v273 r) (mat v289) (mat v292) (mat v299) j + ffn (row v273 r) (mat v303) (mat v306) (mat v313) j := by
  pointwise [k0_pay36]
  rfl

/-- A hidden unit. -/
theorem pay37_at (v273 : FVec Ideal S512x1024 .bf16) (v317 v320 : Vec Ideal S1024x256 .bf16) :
    k0_pay37 (F := Ideal) v273 v317 v320 (ix2 r f) = unit (row v273 r) (mat v317) (mat v320) f := by
  pointwise [k0_pay37]
  rfl

/-- Three chunks added to the sum, the first chunk's hidden units given. -/
theorem pay38_at (v273 : FVec Ideal S512x1024 .bf16) (v316 : FVec Ideal S512x1024 .f32) (v326 : FVec Ideal S512x256 .bf16) (v327 : Vec Ideal S256x1024 .bf16)
    (v331 v334 : Vec Ideal S1024x256 .bf16) (v341 : Vec Ideal S256x1024 .bf16) (v345 v348 : Vec Ideal S1024x256 .bf16) (v355 : Vec Ideal S256x1024 .bf16) :
    k0_pay38 (F := Ideal) v273 v316 v326 v327 v331 v334 v341 v345 v348 v355 (ix2 r j)
      = v316 (ix2 r j) + (∑ f, row v326 r f * mat v327 f j) + ffn (row v273 r) (mat v331) (mat v334) (mat v341) j
        + ffn (row v273 r) (mat v345) (mat v348) (mat v355) j := by
  pointwise [k0_pay38]
  rfl

/-- A gate's product. -/
theorem pay39_at (v273 : FVec Ideal S512x1024 .bf16) (v359 : Vec Ideal S1024x256 .bf16) :
    k0_pay39 (F := Ideal) v273 v359 (ix2 r f) = prod (row v273 r) (mat v359) f := by
  pointwise [k0_pay39]
  rfl

/-- Two chunks added to the sum, the first chunk's gate product given. -/
theorem pay40_at (v273 : FVec Ideal S512x1024 .bf16) (v358 : FVec Ideal S512x1024 .f32) (v361 : FVec Ideal S512x256 .f32) (v359 v362 : Vec Ideal S1024x256 .bf16)
    (v369 : Vec Ideal S256x1024 .bf16) (v373 v376 : Vec Ideal S1024x256 .bf16) (v383 : Vec Ideal S256x1024 .bf16)
    (h : ∀ f, v361 (ix2 r f) = prod (row v273 r) (mat v359) f) :
    k0_pay40 (F := Ideal) v273 v358 v361 v362 v369 v373 v376 v383 (ix2 r j)
      = v358 (ix2 r j) + ffn (row v273 r) (mat v359) (mat v362) (mat v369) j + ffn (row v273 r) (mat v373) (mat v376) (mat v383) j := by
  pointwise [k0_pay40]
  simp only [h]
  rfl

/-- One chunk. -/
theorem pay41_at (v273 : FVec Ideal S512x1024 .bf16) (v387 v390 : Vec Ideal S1024x256 .bf16) (v397 : Vec Ideal S256x1024 .bf16) :
    k0_pay41 (F := Ideal) v273 v387 v390 v397 (ix2 r j) = ffn (row v273 r) (mat v387) (mat v390) (mat v397) j := by
  pointwise [k0_pay41]
  rfl

/-- The row before the second norm: the weighted row plus the sum, one chunk given and two more. -/
theorem pay42_at (v272 : FVec Ideal S512x1024 .f32) (v273 : FVec Ideal S512x1024 .bf16) (v386 v399 : FVec Ideal S512x1024 .f32)
    (v401 v404 : Vec Ideal S1024x256 .bf16) (v411 : Vec Ideal S256x1024 .bf16) (v415 v418 : Vec Ideal S1024x256 .bf16) (v425 : Vec Ideal S256x1024 .bf16) :
    k0_pay42 (F := Ideal) v272 v273 v386 v399 v401 v404 v411 v415 v418 v425 (ix2 r j)
      = alpha * v272 (ix2 r j) + (v386 (ix2 r j) + v399 (ix2 r j) + ffn (row v273 r) (mat v401) (mat v404) (mat v411) j
        + ffn (row v273 r) (mat v415) (mat v418) (mat v425) j) := by
  pointwise [k0_pay42]
  rfl

/-- A norm's scale, as loaded. -/
theorem pay43_at (v : Vec Ideal S1x1024 .f32) : k0_pay43 (F := Ideal) v (ix2 0 j) = v (ix2 0 j) := by
  pointwise [k0_pay43]

/-- A norm's shift, as loaded. -/
theorem pay44_at (v : Vec Ideal S1x1024 .f32) : k0_pay44 (F := Ideal) v (ix2 0 j) = v (ix2 0 j) := by
  pointwise [k0_pay44]

/-- The second norm's row with the gated layer embedding added. -/
theorem pay45_at (v431 : FVec Ideal S512x1024 .f32) (v433 v435 : FVec Ideal S1x1024 .f32) (v457 : Vec Ideal S1024x1024 .bf16) (v461 : Vec Ideal S1x512x256 .f32)
    (v464 : Vec Ideal S256x1024 .bf16) :
    k0_pay45 (F := Ideal) v431 v433 v435 v457 v461 v464 (ix2 r j)
      = gated (norm (row v431 r) (row v433 0) (row v435 0)) (mat v457) (fun f => v461 (ix3 0 r f)) (mat v464) j := by
  pointwise [k0_pay45]
  rfl

end Cert.Kernel8Ideal.Merge

end
-- ==== Proof.Merge.Out.lean ====
/- The block one grid point of the three-way mix's tail writes, element by element. -/
module

public import proofs.«01_k».proof.Proof.Gen.Kernel8Ideal.Frame
public import proofs.«01_k».proof.Proof.Merge.Pay
public import Idealize.ShloMosaic.Lib.Pipeline.ValueKit.Basic
public import Idealize.ShloMosaic.Lib.Pipeline.ValueKit.Tiles

@[expose] public section

set_option maxRecDepth 16384

noncomputable section

namespace Cert.Kernel8Ideal.Merge

open Idealize.ShloMosaic Idealize.ShloMosaic.TcCoe Cert.Kernel8Ideal.Gen Idealize.ShloMosaic.Tactic TailRow

/-- A sum of eleven terms, in order. -/
theorem sum_eleven (F : Fin 11 → EReal) : ∑ c, F c = 0 + F 0 + F 1 + F 2 + F 3 + F 4 + F 5 + F 6 + F 7 + F 8 + F 9 + F 10 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_zero]
  rfl

/-- A load of 256 columns is a chunk of the matrix. -/
theorem ld_cols (x : Vec Ideal S1024x2816 .bf16) (o : ℕ) (inb) (c : Fin 11) (ho : o = 256 * c.val) :
    mat (View.ld (Val := Elt Ideal) (e' := .bf16) x (Rect.unit (s := S1024x2816) ![0, o] S1024x256.size inb)) = cols (mat x) c := by
  funext l f
  refine View.ld_unit_apply_of _ _ _ _ _ _ fun a => ?_
  fin_cases a
  · exact (Nat.zero_add _).symm
  · show 256 * c.val + f.val = o + f.val
    rw [ho]

/-- A load of 256 rows is a chunk of the matrix. -/
theorem ld_rows (x : Vec Ideal S2816x1024 .bf16) (o : ℕ) (inb) (c : Fin 11) (ho : o = 256 * c.val) :
    mat (View.ld (Val := Elt Ideal) (e' := .bf16) x (Rect.unit (s := S2816x1024) ![o, 0] S256x1024.size inb)) = rows (mat x) c := by
  funext f j
  refine View.ld_unit_apply_of _ _ _ _ _ _ fun a => ?_
  fin_cases a
  · show 256 * c.val + f.val = o + f.val
    rw [ho]
  · exact (Nat.zero_add _).symm

variable (x0 x1 x2 : Vec Ideal S512x1024 .f32) (x3 x4 x5 : Vec Ideal S512x128 .f32) (x6 : Vec Ideal S512x1024 .f32) (x7 : Vec Ideal S1x512x256 .f32)
  (x8 : Vec Ideal S1024x1024 .bf16) (x9 x10 x11 x12 : Vec Ideal S1x1024 .f32) (x13 x14 : Vec Ideal S1024x2816 .bf16) (x15 : Vec Ideal S2816x1024 .bf16)
  (x16 : Vec Ideal S1024x1024 .bf16) (x17 : Vec Ideal S256x1024 .bf16) (r : Fin 512) (j : Fin 1024)

theorem z2 : ∀ a : Fin 2, (![0, 0] : Fin 2 → ℕ) a = 0 := by decide
theorem z3 : ∀ a : Fin 3, (![0, 0, 0] : Fin 3 → ℕ) a = 0 := by decide

/-- Row `r`'s mix of the three attentions. -/
abbrev mixrow : Fin 1024 → EReal := mixed (three (row x0 r) (row x1 r) (row x2 r)) (three (row x3 r) (row x4 r) (row x5 r))

/-- The weights, from the blocks. -/
theorem w0_at (n : Fin 128) : (k0_pay46 (F := Ideal) x0 x1 x2 x3 x4 x5 x6 x7 x8 x9 x10 x11 x12 x13 x14 x15 x16 x17) (ix2 r n) = weight (fun g => three (row x3 r) (row x4 r) (row x5 r) g n) 0 := by
  unfold k0_pay46
  rw [View.ld_unit_lit _ x3 z2, View.ld_unit_lit _ x4 z2, View.ld_unit_lit _ x5 z2]
  exact pay6_at r x3 x4 x5 n

/-- The weights, from the blocks. -/
theorem w1_at (n : Fin 128) : (k0_pay47 (F := Ideal) x0 x1 x2 x3 x4 x5 x6 x7 x8 x9 x10 x11 x12 x13 x14 x15 x16 x17) (ix2 r n) = weight (fun g => three (row x3 r) (row x4 r) (row x5 r) g n) 1 := by
  unfold k0_pay47
  rw [View.ld_unit_lit _ x3 z2, View.ld_unit_lit _ x4 z2, View.ld_unit_lit _ x5 z2]
  exact pay7_at r x3 x4 x5 n

/-- The weights, from the blocks. -/
theorem w2_at (n : Fin 128) : (k0_pay48 (F := Ideal) x0 x1 x2 x3 x4 x5 x6 x7 x8 x9 x10 x11 x12 x13 x14 x15 x16 x17) (ix2 r n) = weight (fun g => three (row x3 r) (row x4 r) (row x5 r) g n) 2 := by
  unfold k0_pay48
  rw [View.ld_unit_lit _ x3 z2, View.ld_unit_lit _ x4 z2, View.ld_unit_lit _ x5 z2]
  exact pay8_at r x3 x4 x5 n

/-- A load of 64 lanes is a head's lanes. -/
theorem ld_head (x : Vec Ideal S512x1024 .f32) (o : ℕ) (inb) (n : Fin 128) (ho : o = 64 * n.val) (d : Fin 64) (hb : 64 * n.val + d.val < 1024) :
    View.ld (Val := Elt Ideal) (e' := .f32) x (Rect.unit (s := S512x1024) ![0, o] S512x64.size inb) (ix2 r d) = x (ix2 r (⟨64 * n.val + d.val, hb⟩ : Fin 1024)) := by
  refine View.ld_unit_apply_of _ _ _ _ _ _ fun a => ?_
  fin_cases a
  · exact (Nat.zero_add _).symm
  · show 64 * n.val + d.val = o + d.val
    rw [ho]

/-- A head's mix at a lane is the mixed row's lane. -/
theorem part_at (o : ℕ) (inb0) (inb1) (inb2) (n : Fin 128) (ho : o = 64 * n.val) (d : Fin 64) (hb : 64 * n.val + d.val < 1024) :
    part r d (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17)
      (View.ld x0 (Rect.unit (s := S512x1024) ![0, o] S512x64.size inb0)) (View.ld x1 (Rect.unit (s := S512x1024) ![0, o] S512x64.size inb1))
      (View.ld x2 (Rect.unit (s := S512x1024) ![0, o] S512x64.size inb2)) n
      = mixrow x0 x1 x2 x3 x4 x5 r (⟨64 * n.val + d.val, hb⟩ : Fin 1024) := by
  have hh : head (⟨64 * n.val + d.val, hb⟩ : Fin 1024) = n := Fin.ext (by show (64 * n.val + d.val) / 64 = n.val; omega)
  unfold part mixrow mixed
  rw [Fin.sum_univ_three, hh, w0_at, w1_at, w2_at, ld_head r x0 o inb0 n ho d hb, ld_head r x1 o inb1 n ho d hb, ld_head r x2 o inb2 n ho d hb]
  rfl

/-- The row before the first norm. -/
theorem pay49_at : k0_pay49 (F := Ideal) x0 x1 x2 x3 x4 x5 x6 x7 x8 x9 x10 x11 x12 x13 x14 x15 x16 x17 (ix2 r j) = alpha * x6 (ix2 r j) + prod (mixrow x0 x1 x2 x3 x4 x5 r) (mat x8) j := by
  unfold k0_pay49
  refine (congrFun (pay32_eq (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17)
    ![
      k0_pay9 (F := Ideal) (View.ld x3 r0_0) (View.ld x4 r0_0) (View.ld x5 r0_0) (View.ld x0 r0_1) (View.ld x1 r0_1) (View.ld x2 r0_1),
      k0_pay12 (F := Ideal) (k0_pay10 (F := Ideal) (View.ld x3 r0_0) (View.ld x4 r0_0) (View.ld x5 r0_0) (View.ld x0 r0_2) (View.ld x1 r0_2)) (k0_pay11 (F := Ideal) (View.ld x3 r0_0) (View.ld x4 r0_0) (View.ld x5 r0_0)) (View.ld x2 r0_2),
      k0_pay13 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_3) (View.ld x1 r0_3) (View.ld x2 r0_3),
      k0_pay14 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_4) (View.ld x1 r0_4) (View.ld x2 r0_4),
      k0_pay17 (F := Ideal) (k0_pay15 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (View.ld x0 r0_5) (View.ld x1 r0_5)) (k0_pay16 (F := Ideal) (k0_pay48 (F := Ideal) x0 x1 x2 x3 x4 x5 x6 x7 x8 x9 x10 x11 x12 x13 x14 x15 x16 x17)) (View.ld x2 r0_5),
      k0_pay18 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_6) (View.ld x1 r0_6) (View.ld x2 r0_6),
      k0_pay19 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_7) (View.ld x1 r0_7) (View.ld x2 r0_7),
      k0_pay22 (F := Ideal) (k0_pay20 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (View.ld x0 r0_8) (View.ld x1 r0_8)) (k0_pay21 (F := Ideal) (k0_pay48 (F := Ideal) x0 x1 x2 x3 x4 x5 x6 x7 x8 x9 x10 x11 x12 x13 x14 x15 x16 x17)) (View.ld x2 r0_8),
      k0_pay23 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_9) (View.ld x1 r0_9) (View.ld x2 r0_9),
      k0_pay24 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_10) (View.ld x1 r0_10) (View.ld x2 r0_10),
      k0_pay27 (F := Ideal) (k0_pay25 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (View.ld x0 r0_11) (View.ld x1 r0_11)) (k0_pay26 (F := Ideal) (k0_pay48 (F := Ideal) x0 x1 x2 x3 x4 x5 x6 x7 x8 x9 x10 x11 x12 x13 x14 x15 x16 x17)) (View.ld x2 r0_11),
      k0_pay28 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_12) (View.ld x1 r0_12) (View.ld x2 r0_12),
      k0_pay29 (F := Ideal) (k0_pay46 (F := Ideal) x0 x1 x2 x3 x4 x5 x6 x7 x8 x9 x10 x11 x12 x13 x14 x15 x16 x17) (k0_pay47 (F := Ideal) x0 x1 x2 x3 x4 x5 x6 x7 x8 x9 x10 x11 x12 x13 x14 x15 x16 x17) (k0_pay48 (F := Ideal) x0 x1 x2 x3 x4 x5 x6 x7 x8 x9 x10 x11 x12 x13 x14 x15 x16 x17) (View.ld x0 r0_13) (View.ld x1 r0_13) (View.ld x2 r0_13)]
    _ _ _ _ _ _ _ _ _ _ _) (ix2 r j)).trans ?_
  refine (joined_at r j _ _ _).trans ?_
  rw [View.ld_unit_lit _ x6 z2, View.ld_unit_lit _ x8 z2]
  refine congrArg (fun z => alpha * x6 (ix2 r j) + prod z (mat x8) j) (funext fun k => ?_)
  refine (cat_at r k _).trans ?_
  obtain ⟨n, d, hn, hd, hb, hk⟩ : ∃ (n : Fin 16) (d : Fin 64), (⟨k.val / 64, by omega⟩ : Fin 16) = n ∧ (⟨k.val % 64, by omega⟩ : Fin 64) = d
      ∧ ∃ hb : 64 * n.val + d.val < 1024, k = (⟨64 * n.val + d.val, hb⟩ : Fin 1024) :=
    ⟨_, _, rfl, rfl, by show 64 * (k.val / 64) + k.val % 64 < 1024; omega, Fin.ext (by show k.val = 64 * (k.val / 64) + k.val % 64; omega)⟩
  rw [hn, hd, hk]
  clear hn hd hk
  fin_cases n
  · exact (pay9_at r d _ _ _ _ _ _).trans (part_at x0 x1 x2 x3 x4 x5 x6 x7 x8 x9 x10 x11 x12 x13 x14 x15 x16 x17 r 0 _ _ _ 0 rfl d hb)
  · exact (pay12_at r d _ _ _ _ _ _).trans (part_at x0 x1 x2 x3 x4 x5 x6 x7 x8 x9 x10 x11 x12 x13 x14 x15 x16 x17 r 64 _ _ _ 1 rfl d hb)
  · exact (pay13_at r d _ _ _ _ _ _).trans (part_at x0 x1 x2 x3 x4 x5 x6 x7 x8 x9 x10 x11 x12 x13 x14 x15 x16 x17 r 128 _ _ _ 2 rfl d hb)
  · exact (pay14_at r d _ _ _ _ _ _).trans (part_at x0 x1 x2 x3 x4 x5 x6 x7 x8 x9 x10 x11 x12 x13 x14 x15 x16 x17 r 192 _ _ _ 3 rfl d hb)
  · exact (pay17_at r d _ _ _ _ _ _).trans (part_at x0 x1 x2 x3 x4 x5 x6 x7 x8 x9 x10 x11 x12 x13 x14 x15 x16 x17 r 256 _ _ _ 4 rfl d hb)
  · exact (pay18_at r d _ _ _ _ _ _).trans (part_at x0 x1 x2 x3 x4 x5 x6 x7 x8 x9 x10 x11 x12 x13 x14 x15 x16 x17 r 320 _ _ _ 5 rfl d hb)
  · exact (pay19_at r d _ _ _ _ _ _).trans (part_at x0 x1 x2 x3 x4 x5 x6 x7 x8 x9 x10 x11 x12 x13 x14 x15 x16 x17 r 384 _ _ _ 6 rfl d hb)
  · exact (pay22_at r d _ _ _ _ _ _).trans (part_at x0 x1 x2 x3 x4 x5 x6 x7 x8 x9 x10 x11 x12 x13 x14 x15 x16 x17 r 448 _ _ _ 7 rfl d hb)
  · exact (pay23_at r d _ _ _ _ _ _).trans (part_at x0 x1 x2 x3 x4 x5 x6 x7 x8 x9 x10 x11 x12 x13 x14 x15 x16 x17 r 512 _ _ _ 8 rfl d hb)
  · exact (pay24_at r d _ _ _ _ _ _).trans (part_at x0 x1 x2 x3 x4 x5 x6 x7 x8 x9 x10 x11 x12 x13 x14 x15 x16 x17 r 576 _ _ _ 9 rfl d hb)
  · exact (pay27_at r d _ _ _ _ _ _).trans (part_at x0 x1 x2 x3 x4 x5 x6 x7 x8 x9 x10 x11 x12 x13 x14 x15 x16 x17 r 640 _ _ _ 10 rfl d hb)
  · exact (pay28_at r d _ _ _ _ _ _).trans (part_at x0 x1 x2 x3 x4 x5 x6 x7 x8 x9 x10 x11 x12 x13 x14 x15 x16 x17 r 704 _ _ _ 11 rfl d hb)
  · exact (pay29_at r d _ _ _ _ _ _).trans (part_at x0 x1 x2 x3 x4 x5 x6 x7 x8 x9 x10 x11 x12 x13 x14 x15 x16 x17 r 768 _ _ _ 12 rfl d hb)
  · exact (head13_at r d _ _ _ _ _ _).trans (part_at x0 x1 x2 x3 x4 x5 x6 x7 x8 x9 x10 x11 x12 x13 x14 x15 x16 x17 r 832 _ _ _ 13 rfl d hb)
  · exact (head14_at r d _ _ _ _ _ _).trans (part_at x0 x1 x2 x3 x4 x5 x6 x7 x8 x9 x10 x11 x12 x13 x14 x15 x16 x17 r 896 _ _ _ 14 rfl d hb)
  · exact (head15_at r d _ _ _ _ _ _).trans (part_at x0 x1 x2 x3 x4 x5 x6 x7 x8 x9 x10 x11 x12 x13 x14 x15 x16 x17 r 960 _ _ _ 15 rfl d hb)

/-- The row after the first norm. -/
theorem pay50_row : row (k0_pay50 (F := Ideal) x0 x1 x2 x3 x4 x5 x6 x7 x8 x9 x10 x11 x12 x13 x14 x15 x16 x17) r = first (mixrow x0 x1 x2 x3 x4 x5 r) (row x6 r) (mat x8) (row x9 0) (row x10 0) := by
  funext j
  unfold k0_pay50
  refine (pay34_at r j _ _ _).trans ?_
  rw [View.ld_unit_lit _ x9 z2, View.ld_unit_lit _ x10 z2]
  exact congrArg (fun z => norm z (row x9 0) (row x10 0) j) (funext fun k => pay49_at x0 x1 x2 x3 x4 x5 x6 x7 x8 x9 x10 x11 x12 x13 x14 x15 x16 x17 r k)

/-- The row before the second norm. -/
theorem pre_at : k0_pay42 (F := Ideal) (k0_pay33 (F := Ideal) (k0_pay49 (F := Ideal) x0 x1 x2 x3 x4 x5 x6 x7 x8 x9 x10 x11 x12 x13 x14 x15 x16 x17) (View.ld x9 r0_19) (View.ld x10 r0_19)) (k0_pay50 (F := Ideal) x0 x1 x2 x3 x4 x5 x6 x7 x8 x9 x10 x11 x12 x13 x14 x15 x16 x17)
      (k0_pay40 (F := Ideal) (k0_pay50 (F := Ideal) x0 x1 x2 x3 x4 x5 x6 x7 x8 x9 x10 x11 x12 x13 x14 x15 x16 x17)
        (k0_pay38 (F := Ideal) (k0_pay50 (F := Ideal) x0 x1 x2 x3 x4 x5 x6 x7 x8 x9 x10 x11 x12 x13 x14 x15 x16 x17)
          (k0_pay36 (F := Ideal) (k0_pay50 (F := Ideal) x0 x1 x2 x3 x4 x5 x6 x7 x8 x9 x10 x11 x12 x13 x14 x15 x16 x17)
            (k0_pay35 (F := Ideal) (k0_pay49 (F := Ideal) x0 x1 x2 x3 x4 x5 x6 x7 x8 x9 x10 x11 x12 x13 x14 x15 x16 x17) (View.ld x9 r0_19) (View.ld x10 r0_19) (View.ld x13 r0_20) (View.ld x14 r0_20) (View.ld x15 r0_21))
            (View.ld x13 r0_22) (View.ld x14 r0_22) (View.ld x15 r0_23) (View.ld x13 r0_24) (View.ld x14 r0_24) (View.ld x15 r0_25))
          (k0_pay37 (F := Ideal) (k0_pay50 (F := Ideal) x0 x1 x2 x3 x4 x5 x6 x7 x8 x9 x10 x11 x12 x13 x14 x15 x16 x17) (View.ld x13 r0_26) (View.ld x14 r0_26))
          (View.ld x15 r0_27) (View.ld x13 r0_28) (View.ld x14 r0_28) (View.ld x15 r0_29) (View.ld x13 r0_30) (View.ld x14 r0_30) (View.ld x15 r0_31))
        (k0_pay39 (F := Ideal) (k0_pay50 (F := Ideal) x0 x1 x2 x3 x4 x5 x6 x7 x8 x9 x10 x11 x12 x13 x14 x15 x16 x17) (View.ld x13 r0_32))
        (View.ld x14 r0_32) (View.ld x15 r0_33) (View.ld x13 r0_34) (View.ld x14 r0_34) (View.ld x15 r0_35))
      (k0_pay41 (F := Ideal) (k0_pay50 (F := Ideal) x0 x1 x2 x3 x4 x5 x6 x7 x8 x9 x10 x11 x12 x13 x14 x15 x16 x17) (View.ld x13 r0_36) (View.ld x14 r0_36) (View.ld x15 r0_37))
      (View.ld x13 r0_38) (View.ld x14 r0_38) (View.ld x15 r0_39) (View.ld x13 r0_40) (View.ld x14 r0_40) (View.ld x15 r0_41) (ix2 r j)
    = (fun h => alpha * h j + ffn h (mat x13) (mat x14) (mat x15) j) (first (mixrow x0 x1 x2 x3 x4 x5 r) (row x6 r) (mat x8) (row x9 0) (row x10 0)) := by
  have hrow := pay50_row x0 x1 x2 x3 x4 x5 x6 x7 x8 x9 x10 x11 x12 x13 x14 x15 x16 x17 r
  have h33 : row (k0_pay33 (F := Ideal) (k0_pay49 (F := Ideal) x0 x1 x2 x3 x4 x5 x6 x7 x8 x9 x10 x11 x12 x13 x14 x15 x16 x17) (View.ld x9 r0_19) (View.ld x10 r0_19)) r = (first (mixrow x0 x1 x2 x3 x4 x5 r) (row x6 r) (mat x8) (row x9 0) (row x10 0)) := hrow
  have h34 : k0_pay34 (F := Ideal) (k0_pay49 (F := Ideal) x0 x1 x2 x3 x4 x5 x6 x7 x8 x9 x10 x11 x12 x13 x14 x15 x16 x17) (View.ld x9 r0_19) (View.ld x10 r0_19) = k0_pay50 (F := Ideal) x0 x1 x2 x3 x4 x5 x6 x7 x8 x9 x10 x11 x12 x13 x14 x15 x16 x17 := rfl
  have h35 := pay35_at r j (k0_pay49 (F := Ideal) x0 x1 x2 x3 x4 x5 x6 x7 x8 x9 x10 x11 x12 x13 x14 x15 x16 x17) (View.ld x9 r0_19) (View.ld x10 r0_19) (View.ld x13 r0_20) (View.ld x14 r0_20) (View.ld x15 r0_21)
  rw [h34] at h35
  have h33' := congrFun h33 j
  rw [show ∀ v : FVec Ideal S512x1024 .f32, row v r j = v (ix2 r j) from fun _ => rfl] at h33'
  generalize k0_pay33 (F := Ideal) (k0_pay49 (F := Ideal) x0 x1 x2 x3 x4 x5 x6 x7 x8 x9 x10 x11 x12 x13 x14 x15 x16 x17) (View.ld x9 r0_19) (View.ld x10 r0_19) = g at h33' ⊢
  generalize k0_pay35 (F := Ideal) (k0_pay49 (F := Ideal) x0 x1 x2 x3 x4 x5 x6 x7 x8 x9 x10 x11 x12 x13 x14 x15 x16 x17) (View.ld x9 r0_19) (View.ld x10 r0_19) (View.ld x13 r0_20) (View.ld x14 r0_20) (View.ld x15 r0_21) = s at h35 ⊢
  generalize k0_pay50 (F := Ideal) x0 x1 x2 x3 x4 x5 x6 x7 x8 x9 x10 x11 x12 x13 x14 x15 x16 x17 = h at hrow h35 ⊢
  refine (pay42_at r j _ _ _ _ _ _ _ _ _ _).trans ?_
  rw [pay40_at r j _ _ _ (View.ld x13 r0_32) _ _ _ _ _ (fun f => pay39_at r f _ _)]
  rw [pay38_at r j _ _ _ _ _ _ _ _ _ _, pay36_at r j _ _ _ _ _ _ _ _, pay41_at r j _ _ _ _, h35, h33']
  have e37 : row (k0_pay37 (F := Ideal) h (View.ld x13 r0_26) (View.ld x14 r0_26)) r = unit (row h r) (mat (View.ld x13 r0_26)) (mat (View.ld x14 r0_26)) := by
    funext f
    exact pay37_at r f _ _ _
  rw [e37, hrow]
  rw [ld_cols x13 0 _ 0 rfl, ld_cols x14 0 _ 0 rfl, ld_rows x15 0 _ 0 rfl]
  rw [ld_cols x13 256 _ 1 rfl, ld_cols x14 256 _ 1 rfl, ld_rows x15 256 _ 1 rfl]
  rw [ld_cols x13 512 _ 2 rfl, ld_cols x14 512 _ 2 rfl, ld_rows x15 512 _ 2 rfl]
  rw [ld_cols x13 768 _ 3 rfl, ld_cols x14 768 _ 3 rfl, ld_rows x15 768 _ 3 rfl]
  rw [ld_cols x13 1024 _ 4 rfl, ld_cols x14 1024 _ 4 rfl, ld_rows x15 1024 _ 4 rfl]
  rw [ld_cols x13 1280 _ 5 rfl, ld_cols x14 1280 _ 5 rfl, ld_rows x15 1280 _ 5 rfl]
  rw [ld_cols x13 1536 _ 6 rfl, ld_cols x14 1536 _ 6 rfl, ld_rows x15 1536 _ 6 rfl]
  rw [ld_cols x13 1792 _ 7 rfl, ld_cols x14 1792 _ 7 rfl, ld_rows x15 1792 _ 7 rfl]
  rw [ld_cols x13 2048 _ 8 rfl, ld_cols x14 2048 _ 8 rfl, ld_rows x15 2048 _ 8 rfl]
  rw [ld_cols x13 2304 _ 9 rfl, ld_cols x14 2304 _ 9 rfl, ld_rows x15 2304 _ 9 rfl]
  rw [ld_cols x13 2560 _ 10 rfl, ld_cols x14 2560 _ 10 rfl, ld_rows x15 2560 _ 10 rfl]
  dsimp only
  rw [ffn_chunks, sum_eleven, zero_add]
  rfl

/-- The block a grid point writes: row `r` is the tail of its row. -/
theorem out_at : out0_18 (F := Ideal) x0 x1 x2 x3 x4 x5 x6 x7 x8 x9 x10 x11 x12 x13 x14 x15 x16 x17 (ix2 r j)
    = tail (mixrow x0 x1 x2 x3 x4 x5 r) (row x6 r) (fun f => x7 (ix3 0 r f)) (mat x8) (row x9 0) (row x10 0) (row x11 0) (row x12 0)
        (mat x13) (mat x14) (mat x15) (mat x16) (mat x17) j := by
  unfold out0_18
  rw [View.canon_cons_unit_lit _ _ _ z2]
  refine (pay45_at r j _ _ _ _ _ _).trans ?_
  have e43 : row (k0_pay43 (F := Ideal) (View.ld x11 r0_19)) 0 = row x11 0 := by
    rw [View.ld_unit_lit _ x11 z2]
    exact funext fun j => pay43_at j x11
  have e44 : row (k0_pay44 (F := Ideal) (View.ld x12 r0_19)) 0 = row x12 0 := by
    rw [View.ld_unit_lit _ x12 z2]
    exact funext fun j => pay44_at j x12
  rw [e43, e44, View.ld_unit_lit _ x16 z2, View.ld_unit_lit _ x17 z2, View.ld_unit_lit _ x7 z3]
  unfold tail second
  exact congrArg (fun z => gated (norm z (row x11 0) (row x12 0)) (mat x16) (fun f => x7 (ix3 0 r f)) (mat x17) j) (funext fun k => pre_at x0 x1 x2 x3 x4 x5 x6 x7 x8 x9 x10 x11 x12 x13 x14 x15 x16 x17 r k)

end Cert.Kernel8Ideal.Merge

end
-- ==== Proof.Merge.Whole.lean ====
/- The three-way mix's tail: result array, from the blocks its grid points write, and what the operands prepared on the host hold. -/
module

public import proofs.«01_k».proof.Proof.Gen.Kernel8Ideal.Value
public import proofs.«01_k».proof.Proof.Merge.Out
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel8Ideal.Merge

open Idealize.ShloMosaic Idealize.ShloMosaic.TcCoe Cert.Kernel8Ideal.Gen Idealize.ShloMosaic.Tactic TailRow

/-- The block indices of the windows at a grid point. -/
theorem idx_at : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧
     win0_6.index t = ![t.val, 0] ∧ win0_7.index t = ![2, t.val, 0] ∧ win0_18.index t = ![t.val, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] := by decide +kernel

/-- Two arrays of two axes agree where they agree at every pair of indices. -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

variable (t : Fin grid0.N) (r : Fin 512) (j : Fin 1024) (f : Fin 256)

/-- A row of the attention's block is a row of the array. -/
theorem a0_read (A : Vec Ideal S16384x1024 .f32) (p : Fin 16384) (hp : p.val = 512 * t.val + r.val) :
    row ((win0_0.blk t).view.read (Elt Ideal) A) r = row A p := by
  funext j
  show (win0_0.blk t).view.read (Elt Ideal) A (ix2 r j) = A (ix2 p j)
  blk_ext [idx_at t]

/-- A row of the attention's block is a row of the array. -/
theorem a1_read (A : Vec Ideal S16384x1024 .f32) (p : Fin 16384) (hp : p.val = 512 * t.val + r.val) :
    row ((win0_1.blk t).view.read (Elt Ideal) A) r = row A p := by
  funext j
  show (win0_1.blk t).view.read (Elt Ideal) A (ix2 r j) = A (ix2 p j)
  blk_ext [idx_at t]

/-- A row of the attention's block is a row of the array. -/
theorem a2_read (A : Vec Ideal S16384x1024 .f32) (p : Fin 16384) (hp : p.val = 512 * t.val + r.val) :
    row ((win0_2.blk t).view.read (Elt Ideal) A) r = row A p := by
  funext j
  show (win0_2.blk t).view.read (Elt Ideal) A (ix2 r j) = A (ix2 p j)
  blk_ext [idx_at t]

/-- A row of the log-sum-exps' block is a row of the array. -/
theorem a3_read (A : Vec Ideal S16384x128 .f32) (p : Fin 16384) (hp : p.val = 512 * t.val + r.val) :
    row ((win0_3.blk t).view.read (Elt Ideal) A) r = row A p := by
  funext j
  show (win0_3.blk t).view.read (Elt Ideal) A (ix2 r j) = A (ix2 p j)
  blk_ext [idx_at t]

/-- A row of the log-sum-exps' block is a row of the array. -/
theorem a4_read (A : Vec Ideal S16384x128 .f32) (p : Fin 16384) (hp : p.val = 512 * t.val + r.val) :
    row ((win0_4.blk t).view.read (Elt Ideal) A) r = row A p := by
  funext j
  show (win0_4.blk t).view.read (Elt Ideal) A (ix2 r j) = A (ix2 p j)
  blk_ext [idx_at t]

/-- A row of the log-sum-exps' block is a row of the array. -/
theorem a5_read (A : Vec Ideal S16384x128 .f32) (p : Fin 16384) (hp : p.val = 512 * t.val + r.val) :
    row ((win0_5.blk t).view.read (Elt Ideal) A) r = row A p := by
  funext j
  show (win0_5.blk t).view.read (Elt Ideal) A (ix2 r j) = A (ix2 p j)
  blk_ext [idx_at t]

/-- A row of the residual's block is a row of the array. -/
theorem x_read (A : Vec Ideal S16384x1024 .f32) (p : Fin 16384) (hp : p.val = 512 * t.val + r.val) :
    row ((win0_6.blk t).view.read (Elt Ideal) A) r = row A p := by
  funext j
  show (win0_6.blk t).view.read (Elt Ideal) A (ix2 r j) = A (ix2 p j)
  blk_ext [idx_at t]

/-- A row of the layer embeddings' block is a row of the third layer's slab. -/
theorem p_read (A : Vec Ideal S4x16384x256 .f32) (p : Fin 16384) (hp : p.val = 512 * t.val + r.val) :
    (win0_7.blk t).view.read (Elt Ideal) A (ix3 0 r f) = A (ix3 2 p f) := by
  blk_ext [idx_at t]

/-- A block of this operand is all of it. -/
theorem w8_read (A : Vec Ideal S1024x1024 .bf16) : (win0_8.blk t).view.read (Elt Ideal) A = A := by
  refine ext_ix2 fun a b => ?_
  blk_ext [idx_at t]

/-- A block of this operand is all of it. -/
theorem w9_read (A : Vec Ideal S1x1024 .f32) : (win0_9.blk t).view.read (Elt Ideal) A = A := by
  refine ext_ix2 fun a b => ?_
  blk_ext [idx_at t]

/-- A block of this operand is all of it. -/
theorem w10_read (A : Vec Ideal S1x1024 .f32) : (win0_10.blk t).view.read (Elt Ideal) A = A := by
  refine ext_ix2 fun a b => ?_
  blk_ext [idx_at t]

/-- A block of this operand is all of it. -/
theorem w11_read (A : Vec Ideal S1x1024 .f32) : (win0_11.blk t).view.read (Elt Ideal) A = A := by
  refine ext_ix2 fun a b => ?_
  blk_ext [idx_at t]

/-- A block of this operand is all of it. -/
theorem w12_read (A : Vec Ideal S1x1024 .f32) : (win0_12.blk t).view.read (Elt Ideal) A = A := by
  refine ext_ix2 fun a b => ?_
  blk_ext [idx_at t]

/-- A block of this operand is all of it. -/
theorem w13_read (A : Vec Ideal S1024x2816 .bf16) : (win0_13.blk t).view.read (Elt Ideal) A = A := by
  refine ext_ix2 fun a b => ?_
  blk_ext [idx_at t]

/-- A block of this operand is all of it. -/
theorem w14_read (A : Vec Ideal S1024x2816 .bf16) : (win0_14.blk t).view.read (Elt Ideal) A = A := by
  refine ext_ix2 fun a b => ?_
  blk_ext [idx_at t]

/-- A block of this operand is all of it. -/
theorem w15_read (A : Vec Ideal S2816x1024 .bf16) : (win0_15.blk t).view.read (Elt Ideal) A = A := by
  refine ext_ix2 fun a b => ?_
  blk_ext [idx_at t]

/-- A block of this operand is all of it. -/
theorem w16_read (A : Vec Ideal S1024x1024 .bf16) : (win0_16.blk t).view.read (Elt Ideal) A = A := by
  refine ext_ix2 fun a b => ?_
  blk_ext [idx_at t]

/-- A block of this operand is all of it. -/
theorem w17_read (A : Vec Ideal S256x1024 .bf16) : (win0_17.blk t).view.read (Elt Ideal) A = A := by
  refine ext_ix2 fun a b => ?_
  blk_ext [idx_at t]

/-- The tail over the whole result array. -/
def whole (A0 A1 A2 : Vec Ideal S16384x1024 .f32) (L0 L1 L2 : Vec Ideal S16384x128 .f32) (X : Vec Ideal S16384x1024 .f32) (P : Vec Ideal S4x16384x256 .f32) (wo : Vec Ideal S1024x1024 .bf16) (g1 b1 g2 b2 : Vec Ideal S1x1024 .f32)
    (wg wu : Vec Ideal S1024x2816 .bf16) (wd : Vec Ideal S2816x1024 .bf16) (pwg : Vec Ideal S1024x1024 .bf16) (pwp : Vec Ideal S256x1024 .bf16) :
    Vec Ideal S16384x1024 .f32 := fun i =>
  tail (mixed (three (row A0 (i 0)) (row A1 (i 0)) (row A2 (i 0))) (three (row L0 (i 0)) (row L1 (i 0)) (row L2 (i 0)))) (row X (i 0)) (fun f => P (ix3 2 (i 0 : Fin 16384) f)) (mat wo) (row g1 0) (row b1 0) (row g2 0) (row b2 0)
    (mat wg) (mat wu) (mat wd) (mat pwg) (mat pwp) (i 1)

/-- The whole result at an index, by its position and lane. -/
theorem whole_at (A0 A1 A2 : Vec Ideal S16384x1024 .f32) (L0 L1 L2 : Vec Ideal S16384x128 .f32) (X : Vec Ideal S16384x1024 .f32) (P : Vec Ideal S4x16384x256 .f32) (wo : Vec Ideal S1024x1024 .bf16) (g1 b1 g2 b2 : Vec Ideal S1x1024 .f32)
    (wg wu : Vec Ideal S1024x2816 .bf16) (wd : Vec Ideal S2816x1024 .bf16) (pwg : Vec Ideal S1024x1024 .bf16) (pwp : Vec Ideal S256x1024 .bf16)
    (i : S16384x1024.Idx) (p : Fin 16384) (h0 : (i 0).val = p.val) (h1 : (i 1).val = j.val) :
    whole A0 A1 A2 L0 L1 L2 X P wo g1 b1 g2 b2 wg wu wd pwg pwp i = tail (mixed (three (row A0 p) (row A1 p) (row A2 p)) (three (row L0 p) (row L1 p) (row L2 p))) (row X p) (fun f => P (ix3 2 p f)) (mat wo) (row g1 0) (row b1 0) (row g2 0) (row b2 0)
      (mat wg) (mat wu) (mat wd) (mat pwg) (mat pwp) j := by
  have e0 : (i 0 : Fin 16384) = p := Fin.ext h0
  have e1 : (i 1 : Fin 1024) = j := Fin.ext h1
  unfold whole
  rw [e0, e1]

variable (m : (ℓ : Loc nD τ sig) → Buf (Elt Ideal) ℓ) (c : Dev nD)

/-- The three attentions' outputs and log-sum-exps, the residual stream and the layer embeddings as the call reads them, -/
abbrev qa : Vec Ideal S16384x1024 .f32 := V m c main_arg0
@[inherit_doc qa] abbrev qa1 : Vec Ideal S16384x1024 .f32 := V m c main_arg1
@[inherit_doc qa] abbrev qa2 : Vec Ideal S16384x1024 .f32 := V m c main_arg2
@[inherit_doc qa] abbrev ql0 : Vec Ideal S16384x128 .f32 := V m c main_arg3
@[inherit_doc qa] abbrev ql1 : Vec Ideal S16384x128 .f32 := V m c main_arg4
@[inherit_doc qa] abbrev ql2 : Vec Ideal S16384x128 .f32 := V m c main_arg5
@[inherit_doc qa] abbrev qx : Vec Ideal S16384x1024 .f32 := V m c main_arg6
@[inherit_doc qa] abbrev qp : Vec Ideal S4x16384x256 .f32 := V m c main_arg7
/-- and the weights as prepared for it. -/
abbrev qwo : Vec Ideal S1024x1024 .bf16 := V m c main_v0
@[inherit_doc qwo] abbrev qg1 : Vec Ideal S1x1024 .f32 := V m c main_v1
@[inherit_doc qwo] abbrev qb1 : Vec Ideal S1x1024 .f32 := V m c main_v2
@[inherit_doc qwo] abbrev qg2 : Vec Ideal S1x1024 .f32 := V m c main_v3
@[inherit_doc qwo] abbrev qb2 : Vec Ideal S1x1024 .f32 := V m c main_v4
@[inherit_doc qwo] abbrev qwg : Vec Ideal S1024x2816 .bf16 := V m c main_v5
@[inherit_doc qwo] abbrev qwu : Vec Ideal S1024x2816 .bf16 := V m c main_v6
@[inherit_doc qwo] abbrev qwd : Vec Ideal S2816x1024 .bf16 := V m c main_v7
@[inherit_doc qwo] abbrev qpwg : Vec Ideal S1024x1024 .bf16 := V m c main_v8
@[inherit_doc qwo] abbrev qpwp : Vec Ideal S256x1024 .bf16 := V m c main_v9

set_option maxHeartbeats 2000000 in
/-- After the run, the result array holds the tail. -/
theorem final : (dats m 0 c).arrAt 18 cfg0.N = whole (qa m c) (qa1 m c) (qa2 m c) (ql0 m c) (ql1 m c) (ql2 m c) (qx m c) (qp m c) (qwo m c) (qg1 m c) (qb1 m c) (qg2 m c) (qb2 m c) (qwg m c) (qwu m c) (qwd m c) (qpwg m c) (qpwp m c) := by
  refine (dats m 0 c).arrAt_eq_of_covers 18 _ (by decide +kernel) fun t hf y => ?_
  rw [after0_18]
  have e0 : iblk m c 0 t = (win0_0.blk t).view.read (Elt Ideal) (qa m c) := rfl
  have e1 : iblk m c 1 t = (win0_1.blk t).view.read (Elt Ideal) (qa1 m c) := rfl
  have e2 : iblk m c 2 t = (win0_2.blk t).view.read (Elt Ideal) (qa2 m c) := rfl
  have e3 : iblk m c 3 t = (win0_3.blk t).view.read (Elt Ideal) (ql0 m c) := rfl
  have e4 : iblk m c 4 t = (win0_4.blk t).view.read (Elt Ideal) (ql1 m c) := rfl
  have e5 : iblk m c 5 t = (win0_5.blk t).view.read (Elt Ideal) (ql2 m c) := rfl
  have e6 : iblk m c 6 t = (win0_6.blk t).view.read (Elt Ideal) (qx m c) := rfl
  have e7 : iblk m c 7 t = (win0_7.blk t).view.read (Elt Ideal) (qp m c) := rfl
  have e8 : iblk m c 8 t = (win0_8.blk t).view.read (Elt Ideal) (qwo m c) := rfl
  have e9 : iblk m c 9 t = (win0_9.blk t).view.read (Elt Ideal) (qg1 m c) := rfl
  have e10 : iblk m c 10 t = (win0_10.blk t).view.read (Elt Ideal) (qb1 m c) := rfl
  have e11 : iblk m c 11 t = (win0_11.blk t).view.read (Elt Ideal) (qg2 m c) := rfl
  have e12 : iblk m c 12 t = (win0_12.blk t).view.read (Elt Ideal) (qb2 m c) := rfl
  have e13 : iblk m c 13 t = (win0_13.blk t).view.read (Elt Ideal) (qwg m c) := rfl
  have e14 : iblk m c 14 t = (win0_14.blk t).view.read (Elt Ideal) (qwu m c) := rfl
  have e15 : iblk m c 15 t = (win0_15.blk t).view.read (Elt Ideal) (qwd m c) := rfl
  have e16 : iblk m c 16 t = (win0_16.blk t).view.read (Elt Ideal) (qpwg m c) := rfl
  have e17 : iblk m c 17 t = (win0_17.blk t).view.read (Elt Ideal) (qpwp m c) := rfl
  rw [e0, e1, e2, e3, e4, e5, e6, e7, e8, e9, e10, e11, e12, e13, e14, e15, e16, e17]
  generalize qa m c = A0
  generalize qa1 m c = A1
  generalize qa2 m c = A2
  generalize ql0 m c = L0
  generalize ql1 m c = L1
  generalize ql2 m c = L2
  generalize qx m c = X
  generalize qp m c = P
  generalize qwo m c = Wwo
  generalize qg1 m c = Wg1
  generalize qb1 m c = Wb1
  generalize qg2 m c = Wg2
  generalize qb2 m c = Wb2
  generalize qwg m c = Wwg
  generalize qwu m c = Wwu
  generalize qwd m c = Wwd
  generalize qpwg m c = Wpwg
  generalize qpwp m c = Wpwp
  rw [w8_read, w9_read, w10_read, w11_read, w12_read, w13_read, w14_read, w15_read, w16_read, w17_read]
  blk_simp
  have ht : t.val < 32 := t.isLt
  have y0 : (y 0).val < 512 := (y 0).isLt
  have y1 : (y 1).val < 1024 := (y 1).isLt
  have hy : y = ix2 (⟨(y 0).val, y0⟩ : Fin 512) (⟨(y 1).val, y1⟩ : Fin 1024) := by
    funext a
    fin_cases a <;> rfl
  refine (congrArg _ hy).trans ((out_at _ _ _ _ _ _ _ _ _ _ _ _ _ _ _ _ _ _ _ _).trans ?_)
  have ha0 := a0_read t (⟨(y 0).val, y0⟩ : Fin 512) A0 (⟨512 * t.val + (y 0).val, by omega⟩ : Fin 16384) rfl
  have ha1 := a1_read t (⟨(y 0).val, y0⟩ : Fin 512) A1 (⟨512 * t.val + (y 0).val, by omega⟩ : Fin 16384) rfl
  have ha2 := a2_read t (⟨(y 0).val, y0⟩ : Fin 512) A2 (⟨512 * t.val + (y 0).val, by omega⟩ : Fin 16384) rfl
  have ha3 := a3_read t (⟨(y 0).val, y0⟩ : Fin 512) L0 (⟨512 * t.val + (y 0).val, by omega⟩ : Fin 16384) rfl
  have ha4 := a4_read t (⟨(y 0).val, y0⟩ : Fin 512) L1 (⟨512 * t.val + (y 0).val, by omega⟩ : Fin 16384) rfl
  have ha5 := a5_read t (⟨(y 0).val, y0⟩ : Fin 512) L2 (⟨512 * t.val + (y 0).val, by omega⟩ : Fin 16384) rfl
  have hx := x_read t (⟨(y 0).val, y0⟩ : Fin 512) X (⟨512 * t.val + (y 0).val, by omega⟩ : Fin 16384) rfl
  have hp := fun f => p_read t (⟨(y 0).val, y0⟩ : Fin 512) f P (⟨512 * t.val + (y 0).val, by omega⟩ : Fin 16384) rfl
  unfold mixrow
  rw [ha0, ha1, ha2, ha3, ha4, ha5, hx, funext hp]
  refine (whole_at _ _ _ _ _ _ _ _ _ _ _ _ _ _ _ _ _ _ _ _ _ ?_ ?_).symm
  · blk_simp [idx_at t]
    show t.val * 512 + (y 0).val = 512 * t.val + (y 0).val
    omega
  · blk_simp [idx_at t]

/-- The call reads this argument as launched. -/
theorem a0_host : qa m c = m ((c : Thread nD τ).loc main_arg0) := by
  show StableHlo.after hostOps0 (fun b => m (c, b)) (Proc.tc.devRef main_arg0) = _
  entry_read
  rfl

/-- The call reads this argument as launched. -/
theorem a1_host : qa1 m c = m ((c : Thread nD τ).loc main_arg1) := by
  show StableHlo.after hostOps0 (fun b => m (c, b)) (Proc.tc.devRef main_arg1) = _
  entry_read
  rfl

/-- The call reads this argument as launched. -/
theorem a2_host : qa2 m c = m ((c : Thread nD τ).loc main_arg2) := by
  show StableHlo.after hostOps0 (fun b => m (c, b)) (Proc.tc.devRef main_arg2) = _
  entry_read
  rfl

/-- The call reads this argument as launched. -/
theorem a3_host : ql0 m c = m ((c : Thread nD τ).loc main_arg3) := by
  show StableHlo.after hostOps0 (fun b => m (c, b)) (Proc.tc.devRef main_arg3) = _
  entry_read
  rfl

/-- The call reads this argument as launched. -/
theorem a4_host : ql1 m c = m ((c : Thread nD τ).loc main_arg4) := by
  show StableHlo.after hostOps0 (fun b => m (c, b)) (Proc.tc.devRef main_arg4) = _
  entry_read
  rfl

/-- The call reads this argument as launched. -/
theorem a5_host : ql2 m c = m ((c : Thread nD τ).loc main_arg5) := by
  show StableHlo.after hostOps0 (fun b => m (c, b)) (Proc.tc.devRef main_arg5) = _
  entry_read
  rfl

/-- The call reads this argument as launched. -/
theorem x_host : qx m c = m ((c : Thread nD τ).loc main_arg6) := by
  show StableHlo.after hostOps0 (fun b => m (c, b)) (Proc.tc.devRef main_arg6) = _
  entry_read
  rfl

/-- The call reads this argument as launched. -/
theorem p_host : qp m c = m ((c : Thread nD τ).loc main_arg7) := by
  show StableHlo.after hostOps0 (fun b => m (c, b)) (Proc.tc.devRef main_arg7) = _
  entry_read
  rfl

/-- A weight matrix, as launched. -/
theorem wo_host (a : Fin 1024) (b : Fin 1024) : qwo m c (ix2 a b) = (m ((c : Thread nD τ).loc main_arg8) : S1024x1024.Idx → EReal) (ix2 a b) := by
  show StableHlo.after hostOps0 (fun b => m (c, b)) (Proc.tc.devRef main_v0) _ = _
  entry_read
  clean_types
  pointwise

/-- A norm's scale or shift, as launched. -/
theorem g1_host (b : Fin 1024) : qg1 m c (ix2 0 b) = (m ((c : Thread nD τ).loc main_arg9) : S1024.Idx → EReal) (ix1 b) := by
  show StableHlo.after hostOps0 (fun b => m (c, b)) (Proc.tc.devRef main_v1) _ = _
  entry_read
  clean_types
  pointwise

/-- A norm's scale or shift, as launched. -/
theorem b1_host (b : Fin 1024) : qb1 m c (ix2 0 b) = (m ((c : Thread nD τ).loc main_arg10) : S1024.Idx → EReal) (ix1 b) := by
  show StableHlo.after hostOps0 (fun b => m (c, b)) (Proc.tc.devRef main_v2) _ = _
  entry_read
  clean_types
  pointwise

/-- A norm's scale or shift, as launched. -/
theorem g2_host (b : Fin 1024) : qg2 m c (ix2 0 b) = (m ((c : Thread nD τ).loc main_arg11) : S1024.Idx → EReal) (ix1 b) := by
  show StableHlo.after hostOps0 (fun b => m (c, b)) (Proc.tc.devRef main_v3) _ = _
  entry_read
  clean_types
  pointwise

/-- A norm's scale or shift, as launched. -/
theorem b2_host (b : Fin 1024) : qb2 m c (ix2 0 b) = (m ((c : Thread nD τ).loc main_arg12) : S1024.Idx → EReal) (ix1 b) := by
  show StableHlo.after hostOps0 (fun b => m (c, b)) (Proc.tc.devRef main_v4) _ = _
  entry_read
  clean_types
  pointwise

/-- A weight matrix, as launched. -/
theorem wg_host (a : Fin 1024) (b : Fin 2816) : qwg m c (ix2 a b) = (m ((c : Thread nD τ).loc main_arg13) : S1024x2816.Idx → EReal) (ix2 a b) := by
  show StableHlo.after hostOps0 (fun b => m (c, b)) (Proc.tc.devRef main_v5) _ = _
  entry_read
  clean_types
  pointwise

/-- A weight matrix, as launched. -/
theorem wu_host (a : Fin 1024) (b : Fin 2816) : qwu m c (ix2 a b) = (m ((c : Thread nD τ).loc main_arg14) : S1024x2816.Idx → EReal) (ix2 a b) := by
  show StableHlo.after hostOps0 (fun b => m (c, b)) (Proc.tc.devRef main_v6) _ = _
  entry_read
  clean_types
  pointwise

/-- A weight matrix, as launched. -/
theorem wd_host (a : Fin 2816) (b : Fin 1024) : qwd m c (ix2 a b) = (m ((c : Thread nD τ).loc main_arg15) : S2816x1024.Idx → EReal) (ix2 a b) := by
  show StableHlo.after hostOps0 (fun b => m (c, b)) (Proc.tc.devRef main_v7) _ = _
  entry_read
  clean_types
  pointwise

/-- A weight matrix, as launched. -/
theorem pwg_host (a : Fin 1024) (b : Fin 1024) : qpwg m c (ix2 a b) = (m ((c : Thread nD τ).loc main_arg16) : S1024x1024.Idx → EReal) (ix2 a b) := by
  show StableHlo.after hostOps0 (fun b => m (c, b)) (Proc.tc.devRef main_v8) _ = _
  entry_read
  clean_types
  pointwise

/-- A weight matrix, as launched. -/
theorem pwp_host (a : Fin 256) (b : Fin 1024) : qpwp m c (ix2 a b) = (m ((c : Thread nD τ).loc main_arg17) : S256x1024.Idx → EReal) (ix2 a b) := by
  show StableHlo.after hostOps0 (fun b => m (c, b)) (Proc.tc.devRef main_v9) _ = _
  entry_read
  clean_types
  pointwise

end Cert.Kernel8Ideal.Merge

end
-- ==== Proof.Merge.Ref.lean ====
/- The reference's tail of the three-way mix read element by element. -/
module

public import proofs.«01_k».proof.Proof.Gen.Reference8Ideal.Run
public import proofs.«01_k».proof.Proof.Merge.Mix
public import Idealize.ShloMosaic.Lib.Pointwise
public import Idealize.ShloMosaic.Lib.Tactic.CleanTypes

@[expose] public section

set_option maxRecDepth 16384

noncomputable section

namespace Cert.Reference8Ideal.Merge

open Idealize.ShloMosaic Idealize.ShloMosaic.TcCoe Cert.Reference8Ideal.Gen Idealize.ShloMosaic.Tactic TailRow

/-- The arrays the program reads, by argument. -/
structure Args where
  o0 : S16384x1024.Idx → EReal
  o1 : S16384x1024.Idx → EReal
  o2 : S16384x1024.Idx → EReal
  l0 : S16384x128.Idx → EReal
  l1 : S16384x128.Idx → EReal
  l2 : S16384x128.Idx → EReal
  x : S16384x1024.Idx → EReal
  p : S4x16384x256.Idx → EReal
  wo : S1024x1024.Idx → EReal
  g1 : S1024.Idx → EReal
  b1 : S1024.Idx → EReal
  g2 : S1024.Idx → EReal
  b2 : S1024.Idx → EReal
  wg : S1024x2816.Idx → EReal
  wu : S1024x2816.Idx → EReal
  wd : S2816x1024.Idx → EReal
  pwg : S1024x1024.Idx → EReal
  pwp : S256x1024.Idx → EReal

/-- Those a valuation holds. -/
abbrev args (W : Valuation τ sig (Elt Ideal)) : Args where
  o0 := W (Proc.devRef .tc main_arg0)
  o1 := W (Proc.devRef .tc main_arg1)
  o2 := W (Proc.devRef .tc main_arg2)
  l0 := W (Proc.devRef .tc main_arg3)
  l1 := W (Proc.devRef .tc main_arg4)
  l2 := W (Proc.devRef .tc main_arg5)
  x := W (Proc.devRef .tc main_arg6)
  p := W (Proc.devRef .tc main_arg7)
  wo := W (Proc.devRef .tc main_arg8)
  g1 := W (Proc.devRef .tc main_arg9)
  b1 := W (Proc.devRef .tc main_arg10)
  g2 := W (Proc.devRef .tc main_arg11)
  b2 := W (Proc.devRef .tc main_arg12)
  wg := W (Proc.devRef .tc main_arg13)
  wu := W (Proc.devRef .tc main_arg14)
  wd := W (Proc.devRef .tc main_arg15)
  pwg := W (Proc.devRef .tc main_arg16)
  pwp := W (Proc.devRef .tc main_arg17)

/-- A matrix or a vector, by its indices. -/
abbrev mat {n k : ℕ} (v : (⟨2, ![n, k]⟩ : Shape).Idx → EReal) (l : Fin n) (j : Fin k) : EReal := v (ix2 l j)
@[inherit_doc mat] abbrev vec {k : ℕ} (v : (⟨1, ![k]⟩ : Shape).Idx → EReal) (j : Fin k) : EReal := v (ix1 j)

/-- A row's mix of the three attentions. -/
abbrev mixrow (A : Args) (r : Fin 16384) : Fin 1024 → EReal :=
  mixed (three (mat A.o0 r) (mat A.o1 r) (mat A.o2 r)) (three (mat A.l0 r) (mat A.l1 r) (mat A.l2 r))

variable (W : Valuation τ sig (Elt Ideal)) (r : Fin 16384) (j : Fin 1024)

/-- The program's named steps, as functions of their indices: the log-sum-exps of the heads, -/
abbrev s6 : S3x16384x16.Idx → EReal := Value.res_main_v6 (F := Ideal) W
/-- their exponentials less their greatest, -/
abbrev s20 : S3x16384x16.Idx → EReal := Value.res_main_v20 (F := Ideal) W
/-- the rows before the norms, -/
abbrev s33 : S16384x1024.Idx → EReal := Value.res_main_v33 (F := Ideal) W
@[inherit_doc s33] abbrev s65 : S16384x1024.Idx → EReal := Value.res_main_v65 (F := Ideal) W
/-- their means, -/
abbrev s37 : S16384x1.Idx → EReal := Value.res_main_v37 (F := Ideal) W
@[inherit_doc s37] abbrev s69 : S16384x1.Idx → EReal := Value.res_main_v69 (F := Ideal) W
/-- the rows less their means -/
abbrev s39 : S16384x1024.Idx → EReal := Value.res_main_v39 (F := Ideal) W
@[inherit_doc s39] abbrev s71 : S16384x1024.Idx → EReal := Value.res_main_v71 (F := Ideal) W
/-- and the rows after the norms. -/
abbrev s57 : S16384x1024.Idx → EReal := Value.res_main_v57 (F := Ideal) W
@[inherit_doc s57] abbrev s89 : S16384x1024.Idx → EReal := Value.res_main_v89 (F := Ideal) W

/-- The stand-in the greatest is searched from is below everything. -/
theorem ninf_bot : Ideal.ofBits .f32 0xFF800000#32 = (⊥ : EReal) := by
  simp [Ideal.ofBits, Ideal.ieee]

/-- The greatest of three, searched in order from below everything. -/
theorem fold_three (f : Fin 3 → EReal) : Finset.fold max (⊥ : EReal) f Finset.univ = top f := by
  unfold top
  rw [show (Finset.univ : Finset (Fin 3)) = {0, 1, 2} from rfl, Finset.fold_insert (by decide), Finset.fold_insert (by decide), Finset.fold_singleton,
    max_bot_right, ← max_assoc]

/-- A head's log-sum-exp of one of the three attentions. -/
theorem v6_at (h : Fin 16) (g : Fin 3) : s6 W (ix3 g r h)
    = three (mat (args W).l0 r) (mat (args W).l1 r) (mat (args W).l2 r) g (⟨h.val, by omega⟩ : Fin 128) := by
  show Value.res_main_v6 (F := Ideal) W _ = _
  unfold Value.res_main_v6
  clean_types
  pointwise
  fin_cases g <;> rfl

/-- Its exponential, less the greatest of the three. -/
theorem v20_at (h : Fin 16) (g : Fin 3) : s20 W (ix3 g r h)
    = Ideal.exp (s6 W (ix3 g r h) - top (fun g => s6 W (ix3 g r h))) := by
  dsimp only [s20, s6]
  unfold Value.res_main_v20
  generalize Value.res_main_v6 (F := Ideal) W = v6 at *
  clean_types
  pointwise
  rw [ninf_bot, fold_three, max_bot_left]

/-- The row before the first norm, from the exponentials. -/
theorem v33_pre : s33 W (ix2 r j)
    = alpha * (args W).x (ix2 r j)
      + prod (fun k => ∑ g : Fin 3, Ideal.div (s20 W (ix3 g r (⟨k.val / 64, by omega⟩ : Fin 16))) (∑ g : Fin 3, s20 W (ix3 g r (⟨k.val / 64, by omega⟩ : Fin 16)))
          * three (mat (args W).o0 r) (mat (args W).o1 r) (mat (args W).o2 r) g k) (mat (args W).wo) j := by
  dsimp only [s33, s20]
  unfold Value.res_main_v33
  generalize Value.res_main_v20 (F := Ideal) W = v20 at *
  clean_types
  pointwise
  unfold prod
  simp only [Fin.sum_univ_three]
  rfl

/-- The row before the first norm. -/
theorem v33_at : s33 W (ix2 r j)
    = alpha * (args W).x (ix2 r j) + prod (mixrow (args W) r) (mat (args W).wo) j := by
  rw [v33_pre]
  congr 2
  funext k
  unfold mixrow mixed weight
  refine Finset.sum_congr rfl fun g _ => ?_
  congr 1
  simp only [Fin.sum_univ_three, v20_at, v6_at]

/-- Its mean. -/
theorem v37_at : s37 W (ix2 r 0) = mean (mat (s33 W) r) := by
  show Value.res_main_v37 (F := Ideal) W _ = _
  unfold Value.res_main_v37
  clean_types
  pointwise
  rfl

/-- The row less its mean. -/
theorem v39_at : s39 W (ix2 r j)
    = s33 W (ix2 r j) - mean (mat (s33 W) r) := by
  rw [← v37_at]
  show Value.res_main_v39 (F := Ideal) W _ = _
  unfold Value.res_main_v39
  clean_types
  pointwise

/-- The row after the first norm. -/
theorem v57_at : s57 W (ix2 r j)
    = norm (mat (s33 W) r) (vec (args W).g1) (vec (args W).b1) j := by
  have h9 := v39_at W r
  have h7 := v37_at W r
  dsimp only [s39, s37, s33, s57] at h9 h7 ⊢
  unfold Value.res_main_v57
  generalize Value.res_main_v39 (F := Ideal) W = v9 at *
  generalize Value.res_main_v37 (F := Ideal) W = v7 at *
  generalize Value.res_main_v33 (F := Ideal) W = v3 at *
  clean_types
  pointwise
  simp only [h9, h7]
  rfl

/-- The first norm's row, from the arguments. -/
theorem v57_row : mat (s57 W) r
    = first (mixrow (args W) r) (mat (args W).x r) (mat (args W).wo) (vec (args W).g1) (vec (args W).b1) := by
  funext j
  refine (v57_at W r j).trans ?_
  exact congrArg (fun z => norm z (vec (args W).g1) (vec (args W).b1) j) (funext fun k => v33_at W r k)

/-- The row before the second norm. -/
theorem v65_at : s65 W (ix2 r j)
    = alpha * s57 W (ix2 r j)
      + ffn (mat (s57 W) r) (mat (args W).wg) (mat (args W).wu) (mat (args W).wd) j := by
  dsimp only [s65, s57]
  unfold Value.res_main_v65 Value.res_main_v60
  generalize Value.res_main_v57 (F := Ideal) W = v27 at *
  clean_types
  pointwise
  rfl

/-- Its mean. -/
theorem v69_at : s69 W (ix2 r 0) = mean (mat (s65 W) r) := by
  show Value.res_main_v69 (F := Ideal) W _ = _
  unfold Value.res_main_v69
  clean_types
  pointwise
  rfl

/-- The row less its mean. -/
theorem v71_at : s71 W (ix2 r j)
    = s65 W (ix2 r j) - mean (mat (s65 W) r) := by
  rw [← v69_at]
  show Value.res_main_v71 (F := Ideal) W _ = _
  unfold Value.res_main_v71
  clean_types
  pointwise

/-- The row after the second norm. -/
theorem v89_at : s89 W (ix2 r j)
    = norm (mat (s65 W) r) (vec (args W).g2) (vec (args W).b2) j := by
  have h9 := v71_at W r
  have h7 := v69_at W r
  dsimp only [s71, s69, s65, s89] at h9 h7 ⊢
  unfold Value.res_main_v89
  generalize Value.res_main_v71 (F := Ideal) W = v9 at *
  generalize Value.res_main_v69 (F := Ideal) W = v7 at *
  generalize Value.res_main_v65 (F := Ideal) W = v3 at *
  clean_types
  pointwise
  simp only [h9, h7]
  rfl

/-- The second norm's row, from the first's. -/
theorem v89_row : mat (s89 W) r
    = second (mat (s57 W) r)
        (ffn (mat (s57 W) r) (mat (args W).wg) (mat (args W).wu) (mat (args W).wd)) (vec (args W).g2) (vec (args W).b2) := by
  funext j
  refine (v89_at W r j).trans ?_
  exact congrArg (fun z => norm z (vec (args W).g2) (vec (args W).b2) j) (funext fun k => v65_at W r k)

/-- The tail of one row, from the arguments. -/
def tail_of (A : Args) (r : Fin 16384) (j : Fin 1024) : EReal :=
  tail (mixrow A r) (mat A.x r) (fun f => A.p (ix3 2 r f)) (mat A.wo) (vec A.g1) (vec A.b1) (vec A.g2) (vec A.b2) (mat A.wg) (mat A.wu) (mat A.wd) (mat A.pwg) (mat A.pwp) j

/-- The result from the second norm's rows. -/
def result (v59 : FVec Ideal S16384x1024 .f32) (p : FVec Ideal S4x16384x256 .f32) (wg : FVec Ideal S1024x1024 .f32) (wp : FVec Ideal S256x1024 .f32) :
    FVec Ideal S16384x1024 .f32 :=
  addf v59 (mulf (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (Host.dotGeneral dot_S16384x1024_S1024x1024_S16384x1024_1_0_0_1_n_n none v59 wg)))))
    (Host.dotGeneral dot_S16384x256_S256x1024_S16384x1024_1_0_0_1_n_n none
      (shapeCast _ (extractStridedSlice S1x16384x256 ![2, 0, 0] p slices_S4x16384x256_S1x16384x256_2_0_0) shapeCasts_S1x16384x256_S16384x256) wp))

/-- The result at a row and a lane. -/
theorem result_at (v59 : FVec Ideal S16384x1024 .f32) (p : FVec Ideal S4x16384x256 .f32) (wg : FVec Ideal S1024x1024 .f32) (wp : FVec Ideal S256x1024 .f32) :
    result v59 p wg wp (ix2 r j) = gated (mat v59 r) (mat wg) (fun f => p (ix3 2 r f)) (mat wp) j := by
  unfold result
  pointwise
  rfl

/-- The reference's result is the tail. -/
theorem ref_at : result (s89 W) (args W).p (args W).pwg (args W).pwp (ix2 r j) = tail_of (args W) r j := by
  refine (result_at r j _ _ _ _).trans ?_
  rw [v89_row, v57_row]
  rfl

end Cert.Reference8Ideal.Merge

end
-- ==== Proof.Merge.Same.lean ====
/- The kernel's tail of the three-way mix and the reference's are one: given the same arguments, the two results agree at every index. -/
module

public import proofs.«01_k».proof.Proof.Merge.Whole
public import proofs.«01_k».proof.Proof.Merge.Ref

@[expose] public section

set_option maxRecDepth 16384

noncomputable section

namespace Cert.Kernel8Ideal.Merge

open Idealize.ShloMosaic Idealize.ShloMosaic.TcCoe Cert.Kernel8Ideal.Gen Idealize.ShloMosaic.Tactic TailRow

variable (m : (ℓ : Loc nD τ sig) → Buf (Elt Ideal) ℓ) (c : Dev nD)

/-- The launched arguments. -/
abbrev launched : Cert.Reference8Ideal.Merge.Args where
  o0 := m ((c : Thread nD τ).loc main_arg0)
  o1 := m ((c : Thread nD τ).loc main_arg1)
  o2 := m ((c : Thread nD τ).loc main_arg2)
  l0 := m ((c : Thread nD τ).loc main_arg3)
  l1 := m ((c : Thread nD τ).loc main_arg4)
  l2 := m ((c : Thread nD τ).loc main_arg5)
  x := m ((c : Thread nD τ).loc main_arg6)
  p := m ((c : Thread nD τ).loc main_arg7)
  wo := m ((c : Thread nD τ).loc main_arg8)
  g1 := m ((c : Thread nD τ).loc main_arg9)
  b1 := m ((c : Thread nD τ).loc main_arg10)
  g2 := m ((c : Thread nD τ).loc main_arg11)
  b2 := m ((c : Thread nD τ).loc main_arg12)
  wg := m ((c : Thread nD τ).loc main_arg13)
  wu := m ((c : Thread nD τ).loc main_arg14)
  wd := m ((c : Thread nD τ).loc main_arg15)
  pwg := m ((c : Thread nD τ).loc main_arg16)
  pwp := m ((c : Thread nD τ).loc main_arg17)

/-- The kernel's tail of the prepared operands is the tail of the launched ones. -/
theorem whole_eq (p : Fin 16384) (j : Fin 1024) :
    whole (qa m c) (qa1 m c) (qa2 m c) (ql0 m c) (ql1 m c) (ql2 m c) (qx m c) (qp m c) (qwo m c) (qg1 m c) (qb1 m c) (qg2 m c) (qb2 m c) (qwg m c) (qwu m c) (qwd m c) (qpwg m c) (qpwp m c) (ix2 p j)
      = Cert.Reference8Ideal.Merge.tail_of (launched m c) p j := by
  refine (whole_at j _ _ _ _ _ _ _ _ _ _ _ _ _ _ _ _ _ _ _ p rfl rfl).trans ?_
  have e_wo : mat (qwo m c) = Cert.Reference8Ideal.Merge.mat (launched m c).wo := funext fun a => funext fun b => wo_host m c a b
  have e_g1 : row (qg1 m c) 0 = Cert.Reference8Ideal.Merge.vec (launched m c).g1 := funext fun b => g1_host m c b
  have e_b1 : row (qb1 m c) 0 = Cert.Reference8Ideal.Merge.vec (launched m c).b1 := funext fun b => b1_host m c b
  have e_g2 : row (qg2 m c) 0 = Cert.Reference8Ideal.Merge.vec (launched m c).g2 := funext fun b => g2_host m c b
  have e_b2 : row (qb2 m c) 0 = Cert.Reference8Ideal.Merge.vec (launched m c).b2 := funext fun b => b2_host m c b
  have e_wg : mat (qwg m c) = Cert.Reference8Ideal.Merge.mat (launched m c).wg := funext fun a => funext fun b => wg_host m c a b
  have e_wu : mat (qwu m c) = Cert.Reference8Ideal.Merge.mat (launched m c).wu := funext fun a => funext fun b => wu_host m c a b
  have e_wd : mat (qwd m c) = Cert.Reference8Ideal.Merge.mat (launched m c).wd := funext fun a => funext fun b => wd_host m c a b
  have e_pwg : mat (qpwg m c) = Cert.Reference8Ideal.Merge.mat (launched m c).pwg := funext fun a => funext fun b => pwg_host m c a b
  have e_pwp : mat (qpwp m c) = Cert.Reference8Ideal.Merge.mat (launched m c).pwp := funext fun a => funext fun b => pwp_host m c a b
  rw [a0_host, a1_host, a2_host, a3_host, a4_host, a5_host, x_host, p_host, e_wo, e_g1, e_b1, e_g2, e_b2, e_wg, e_wu, e_wd, e_pwg, e_pwp]
  rfl

/-- The two results agree, the arguments being the same. -/
theorem same (W : Valuation Cert.Reference8Ideal.τ Cert.Reference8Ideal.sig (Elt Ideal)) (h : Cert.Reference8Ideal.Merge.args W = launched m c) :
    (whole (qa m c) (qa1 m c) (qa2 m c) (ql0 m c) (ql1 m c) (ql2 m c) (qx m c) (qp m c) (qwo m c) (qg1 m c) (qb1 m c) (qg2 m c) (qb2 m c) (qwg m c) (qwu m c) (qwd m c) (qpwg m c) (qpwp m c) : S16384x1024.Idx → EReal)
      = Cert.Reference8Ideal.Merge.result (Cert.Reference8Ideal.Merge.s89 W) (Cert.Reference8Ideal.Merge.args W).p (Cert.Reference8Ideal.Merge.args W).pwg
          (Cert.Reference8Ideal.Merge.args W).pwp := by
  refine ext_ix2 (n := 16384) (k := 1024) fun p j => ?_
  rw [whole_eq, Cert.Reference8Ideal.Merge.ref_at, h]

end Cert.Kernel8Ideal.Merge

end
-- ==== Proof.Merge.Algebra.lean ====
/- The value claim of the tail that mixes three attentions. -/
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Merge.Same
public import Idealize.ShloMosaic.Lib.Claim

@[expose] public section

namespace Cert.Proof.Merge

open Idealize.ShloMosaic Idealize.ShloMosaic.TcCoe Idealize.SL Idealize.SL.Sem

/-- Over the extended reals the kernel's tail and the reference's are equal: from the same arguments both end, and their results agree. -/
theorem algebraic : Cert.algebraic_Kernel8Ideal_Reference8Ideal := by
  intro m g m' g' _ hagree
  refine ⟨fun c => Cert.Kernel8Ideal.Merge.whole (Cert.Kernel8Ideal.Merge.qa m c) (Cert.Kernel8Ideal.Merge.qa1 m c) (Cert.Kernel8Ideal.Merge.qa2 m c) (Cert.Kernel8Ideal.Merge.ql0 m c) (Cert.Kernel8Ideal.Merge.ql1 m c) (Cert.Kernel8Ideal.Merge.ql2 m c) (Cert.Kernel8Ideal.Merge.qx m c) (Cert.Kernel8Ideal.Merge.qp m c) (Cert.Kernel8Ideal.Merge.qwo m c) (Cert.Kernel8Ideal.Merge.qg1 m c) (Cert.Kernel8Ideal.Merge.qb1 m c) (Cert.Kernel8Ideal.Merge.qg2 m c) (Cert.Kernel8Ideal.Merge.qb2 m c) (Cert.Kernel8Ideal.Merge.qwg m c) (Cert.Kernel8Ideal.Merge.qwu m c) (Cert.Kernel8Ideal.Merge.qwd m c) (Cert.Kernel8Ideal.Merge.qpwg m c) (Cert.Kernel8Ideal.Merge.qpwp m c), ?_, ?_⟩
  · refine (θ_run _ _ _).mono (fun r h c => ?_) (Cert.Kernel8Ideal.Value.run_blocks m g)
    obtain ⟨h0, h1⟩ := h c
    exact ⟨h0.trans (Cert.Kernel8Ideal.Merge.final m c), h1⟩
  · refine (θ_run _ _ _).mono (fun r h c => ?_) (Cert.Reference8Ideal.Value.run m' g')
    obtain ⟨h0, h1⟩ := h c
    obtain ⟨a0, a1, a2, a3, a4, a5, a6, a7, a8, a9, a10, a11, a12, a13, a14, a15, a16, a17⟩ := hagree c
    refine ⟨h0.trans (Cert.Kernel8Ideal.Merge.same m c (StableHlo.launchContents m' c) ?_).symm, h1⟩
    show Cert.Reference8Ideal.Merge.Args.mk (m' ((c.tc : Thread _ _).loc Cert.Reference8Ideal.main_arg0)) (m' ((c.tc : Thread _ _).loc Cert.Reference8Ideal.main_arg1)) (m' ((c.tc : Thread _ _).loc Cert.Reference8Ideal.main_arg2)) (m' ((c.tc : Thread _ _).loc Cert.Reference8Ideal.main_arg3)) (m' ((c.tc : Thread _ _).loc Cert.Reference8Ideal.main_arg4)) (m' ((c.tc : Thread _ _).loc Cert.Reference8Ideal.main_arg5)) (m' ((c.tc : Thread _ _).loc Cert.Reference8Ideal.main_arg6)) (m' ((c.tc : Thread _ _).loc Cert.Reference8Ideal.main_arg7)) (m' ((c.tc : Thread _ _).loc Cert.Reference8Ideal.main_arg8)) (m' ((c.tc : Thread _ _).loc Cert.Reference8Ideal.main_arg9)) (m' ((c.tc : Thread _ _).loc Cert.Reference8Ideal.main_arg10)) (m' ((c.tc : Thread _ _).loc Cert.Reference8Ideal.main_arg11)) (m' ((c.tc : Thread _ _).loc Cert.Reference8Ideal.main_arg12)) (m' ((c.tc : Thread _ _).loc Cert.Reference8Ideal.main_arg13)) (m' ((c.tc : Thread _ _).loc Cert.Reference8Ideal.main_arg14)) (m' ((c.tc : Thread _ _).loc Cert.Reference8Ideal.main_arg15)) (m' ((c.tc : Thread _ _).loc Cert.Reference8Ideal.main_arg16)) (m' ((c.tc : Thread _ _).loc Cert.Reference8Ideal.main_arg17)) = _
    rw [a0, a1, a2, a3, a4, a5, a6, a7, a8, a9, a10, a11, a12, a13, a14, a15, a16, a17]

end Cert.Proof.Merge
-- ==== Proof.Lat.Pay.lean ====
/- The latent layer's projections: what the call's payloads hold, element by element. -/
module

public import proofs.«01_k».proof.Proof.Gen.Kernel9Ideal.Skeleton
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel9Ideal.Lat

open Idealize.ShloMosaic Idealize.ShloMosaic.TcCoe Cert.Kernel9Ideal.Gen Idealize.ShloMosaic.Tactic

/-- The norm's width, its offset and the query's scale. -/
abbrev width : EReal := Ideal.ofBits .f32 0x43800000#32
@[inherit_doc width] abbrev eps : EReal := Ideal.ofBits .f32 0x3727C5AC#32
@[inherit_doc width] abbrev scale : EReal := Ideal.ofBits .f32 0x3DD105EC#32

/-- The root-mean-square norm of a vector of 256, weighted by `g`. -/
def rms (u g : Fin 256 → EReal) (c : Fin 256) : EReal := u c * Ideal.rsqrt (Ideal.div (∑ k, u k * u k) width + eps) * g c

/-- A position's features, from its row and the joined weights, -/
def hid (x : Fin 1024 → EReal) (w : Fin 1024 → Fin 768 → EReal) (f : Fin 768) : EReal := ∑ l, x l * w l f

/-- its query latents, -/
def cq (x : Fin 1024 → EReal) (w : Fin 1024 → Fin 768 → EReal) (g : Fin 256 → EReal) : Fin 256 → EReal :=
  rms (fun c => hid x w ⟨c.val, by omega⟩) g

/-- its key and value latents, -/
def ck (x : Fin 1024 → EReal) (w : Fin 1024 → Fin 768 → EReal) (g : Fin 256 → EReal) : Fin 256 → EReal :=
  rms (fun c => hid x w ⟨256 + c.val, by omega⟩) g

/-- its turned key lanes, -/
def kr (x : Fin 1024 → EReal) (w : Fin 1024 → Fin 768 → EReal) (C S : Fin 128 → EReal) (f : Fin 128) : EReal :=
  hid x w ⟨512 + f.val, by omega⟩ * C f + hid x w ⟨640 + f.val, by omega⟩ * S f

/-- a query lane from the latents, -/
def qv (a : Fin 256 → EReal) (wq ws : Fin 256 → Fin 2048 → EReal) (C S : Fin 128 → EReal) (n : Fin 2048) : EReal :=
  ((∑ c, a c * wq c n) * C ⟨n.val % 128, by omega⟩ + (∑ c, a c * ws c n) * S ⟨n.val % 128, by omega⟩) * scale

/-- a key lane, -/
def kv (a : Fin 256 → EReal) (wk : Fin 256 → Fin 2048 → EReal) (t : Fin 128 → EReal) (n : Fin 2048) : EReal :=
  (∑ c, a c * wk c n) + t ⟨n.val % 128, by omega⟩

/-- a value lane, -/
def vv (a : Fin 256 → EReal) (wv : Fin 256 → Fin 2048 → EReal) (o : Fin 2048 → EReal) (n : Fin 2048) : EReal :=
  (∑ c, a c * wv c n) + o n

/-- and an entry of the cache row: the latents, then 32 turned lanes. -/
def lv (a : Fin 256 → EReal) (t : Fin 128 → EReal) (j : Fin 288) : EReal :=
  if h : j.val < 256 then a ⟨j.val, h⟩ else t ⟨64 + (j.val - 256), by omega⟩

/-- A row of a matrix, and a matrix by its two indices. -/
abbrev row {n k : ℕ} (A : (⟨2, ![n, k]⟩ : Shape).Idx → EReal) (r : Fin n) : Fin k → EReal := fun l => A (ix2 r l)
@[inherit_doc row] abbrev mat {n k : ℕ} (A : (⟨2, ![n, k]⟩ : Shape).Idx → EReal) : Fin n → Fin k → EReal := fun r l => A (ix2 r l)

theorem pay4_at (x : Vec Ideal S256x1024 .f32) (w : Vec Ideal S1024x768 .bf16) (r : Fin 256) (f : Fin 768) :
    k0_pay4 (F := Ideal) x w (ix2 r f) = hid (row x r) (mat w) f := by
  pointwise [k0_pay4]
  rfl

theorem pay5_at (x : Vec Ideal S256x1024 .f32) (w : Vec Ideal S1024x768 .bf16) (g : Vec Ideal S1x256 .f32) (r : Fin 256) (f : Fin 256) :
    k0_pay5 (F := Ideal) x w g (ix2 r f) = cq (row x r) (mat w) (row g 0) f := by
  have e : ∀ q, k0_pay4 (F := Ideal) x w (ix2 r q) = hid (row x r) (mat w) q := pay4_at x w r
  unfold k0_pay5 cq rms
  revert e
  generalize k0_pay4 (F := Ideal) x w = h
  intro e
  pointwise
  simp only [e]

theorem pay6_at (x : Vec Ideal S256x1024 .f32) (w : Vec Ideal S1024x768 .bf16) (g : Vec Ideal S1x256 .f32) (r : Fin 256) (f : Fin 256) :
    k0_pay6 (F := Ideal) x w g (ix2 r f) = ck (row x r) (mat w) (row g 0) f := by
  have e : ∀ q, k0_pay4 (F := Ideal) x w (ix2 r q) = hid (row x r) (mat w) q := pay4_at x w r
  unfold k0_pay6 ck rms
  revert e
  generalize k0_pay4 (F := Ideal) x w = h
  intro e
  pointwise
  simp only [e]

theorem pay7_at (x : Vec Ideal S256x1024 .f32) (w : Vec Ideal S1024x768 .bf16) (g : Vec Ideal S1x256 .f32) (r : Fin 256) (f : Fin 256) :
    k0_pay7 (F := Ideal) x w g (ix2 r f) = ck (row x r) (mat w) (row g 0) f := pay6_at x w g r f

theorem pay10_at (x : Vec Ideal S256x1024 .f32) (w : Vec Ideal S1024x768 .bf16) (C S : Vec Ideal S256x128 .f32) (r : Fin 256) (f : Fin 128) :
    k0_pay10 (F := Ideal) (k0_pay4 (F := Ideal) x w) (k0_pay8 (F := Ideal) C) S (ix2 r f) = kr (row x r) (mat w) (row C r) (row S r) f := by
  have e : ∀ q, k0_pay4 (F := Ideal) x w (ix2 r q) = hid (row x r) (mat w) q := pay4_at x w r
  unfold k0_pay10 k0_pay8 k0_pay9 kr
  revert e
  generalize k0_pay4 (F := Ideal) x w = h
  intro e
  pointwise
  simp only [e]

/-- A table of 128 lanes repeated over the 16 heads. -/
def tile (v : FVec Ideal S256x128 .f32) : FVec Ideal S256x2048 .f32 :=
  concatenate S256x2048 1 [⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩] concatenates_S256x128_S256x128_S256x128_S256x128_S256x128_S256x128_S256x128_S256x128_S256x128_S256x128_S256x128_S256x128_S256x128_S256x128_S256x128_S256x128_S256x2048_d1

/-- Lane `n` of the tiled table is lane `n % 128` of the table. -/
theorem tile_at (v : FVec Ideal S256x128 .f32) (r : Fin 256) (n : Fin 2048) : tile v (ix2 r n) = v (ix2 r (⟨n.val % 128, by omega⟩ : Fin 128)) :=
  concatenate_ofFn_apply (t := S256x2048) (s₁ := S256x128) (1 : Fin 2) (fun _ : Fin 16 => v)
    concatenates_S256x128_S256x128_S256x128_S256x128_S256x128_S256x128_S256x128_S256x128_S256x128_S256x128_S256x128_S256x128_S256x128_S256x128_S256x128_S256x128_S256x2048_d1
    rfl 128 rfl (ix2 r n) ⟨n.val / 128, by omega⟩ rfl (ix2 r (⟨n.val % 128, by omega⟩ : Fin 128)) (by rfl) (by
      intro b hb
      fin_cases b
      · rfl
      · exact absurd rfl hb)

theorem pay11_at (a : FVec Ideal S256x256 .bf16) (C S : Vec Ideal S256x128 .f32) (wq ws : Vec Ideal S256x2048 .bf16) (r : Fin 256) (n : Fin 2048) :
    k0_pay11 (F := Ideal) a (k0_pay8 (F := Ideal) C) S wq ws (ix2 r n) = qv (row a r) (mat wq) (mat ws) (row C r) (row S r) n := by
  have eC : ∀ q, tile (k0_pay8 (F := Ideal) C) (ix2 r q) = C (ix2 r (⟨q.val % 128, by omega⟩ : Fin 128)) := fun q => by
    rw [tile_at]
    pointwise [k0_pay8]
  have eS : ∀ q, tile (k0_pay9 (F := Ideal) S) (ix2 r q) = S (ix2 r (⟨q.val % 128, by omega⟩ : Fin 128)) := fun q => by
    rw [tile_at]
    pointwise [k0_pay9]
  show (truncf .bf16 (mulf (addf (mulf (matmul (φ₂ := .bf16) dot_S256x256_S256x2048_S256x2048_1_0_0_1_n_n none a (shapeCast (α := Ideal .bf16) S256x2048 wq shapeCasts_S256x2048_S256x2048) (constant S256x2048 .f32 0x00000000#32)) (tile (k0_pay8 (F := Ideal) C)))
    (mulf (matmul (φ₂ := .bf16) dot_S256x256_S256x2048_S256x2048_1_0_0_1_n_n none a (shapeCast (α := Ideal .bf16) S256x2048 ws shapeCasts_S256x2048_S256x2048) (constant S256x2048 .f32 0x00000000#32)) (tile (k0_pay9 (F := Ideal) S))))
    (broadcast S256x2048 (Scalar.ofBits .f32 0x3DD105EC#32))) bitsLt_bf16_f32 : FVec Ideal S256x2048 .bf16) (ix2 r n) = _
  unfold qv
  generalize tile (k0_pay8 (F := Ideal) C) = tc at *
  generalize tile (k0_pay9 (F := Ideal) S) = ts at *
  pointwise
  rw [eC, eS]

theorem pay12_at (x : Vec Ideal S256x1024 .f32) (w : Vec Ideal S1024x768 .bf16) (C S : Vec Ideal S256x128 .f32) (a : FVec Ideal S256x256 .bf16)
    (wk : Vec Ideal S256x2048 .bf16) (r : Fin 256) (n : Fin 2048) :
    k0_pay12 (F := Ideal) (k0_pay4 (F := Ideal) x w) a (k0_pay8 (F := Ideal) C) S wk (ix2 r n)
      = kv (row a r) (mat wk) (kr (row x r) (mat w) (row C r) (row S r)) n := by
  have e : ∀ q, tile (k0_pay10 (F := Ideal) (k0_pay4 (F := Ideal) x w) (k0_pay8 (F := Ideal) C) S) (ix2 r q)
      = kr (row x r) (mat w) (row C r) (row S r) (⟨q.val % 128, by omega⟩ : Fin 128) := fun q => by
    rw [tile_at]
    exact pay10_at x w C S r _
  show (truncf .bf16 (addf (matmul (φ₂ := .bf16) dot_S256x256_S256x2048_S256x2048_1_0_0_1_n_n none a (shapeCast (α := Ideal .bf16) S256x2048 wk shapeCasts_S256x2048_S256x2048) (constant S256x2048 .f32 0x00000000#32))
    (tile (k0_pay10 (F := Ideal) (k0_pay4 (F := Ideal) x w) (k0_pay8 (F := Ideal) C) S))) bitsLt_bf16_f32 : FVec Ideal S256x2048 .bf16) (ix2 r n) = _
  unfold kv
  generalize tile (k0_pay10 (F := Ideal) (k0_pay4 (F := Ideal) x w) (k0_pay8 (F := Ideal) C) S) = tc at *
  pointwise
  rw [e]

theorem pay13_at (a : FVec Ideal S256x256 .bf16) (w : Vec Ideal S256x2048 .bf16) (o : Vec Ideal S1x2048 .f32) (r : Fin 256) (n : Fin 2048) :
    k0_pay13 (F := Ideal) a w o (ix2 r n) = vv (row a r) (mat w) (row o 0) n := by
  pointwise [k0_pay13]
  rfl

theorem pay1_at (v : FVec Ideal S256x128 .f32) (r : Fin 256) (n : Fin 32) : k0_pay1 (F := Ideal) v (ix2 r n) = v (ix2 r ⟨64 + n.val, by omega⟩) := by
  pointwise [k0_pay1]

theorem pay2_at (v : FVec Ideal S256x256 .f32) (r : Fin 256) (n : Fin 256) : k0_pay2 (F := Ideal) v (ix3 0 n r) = v (ix2 r n) := by
  pointwise [k0_pay2]

theorem pay3_at (v : FVec Ideal S256x128 .f32) (r : Fin 256) (n : Fin 32) : k0_pay3 (F := Ideal) v (ix3 0 n r) = v (ix2 r ⟨64 + n.val, by omega⟩) := by
  pointwise [k0_pay3]

end Cert.Kernel9Ideal.Lat

end
-- ==== Proof.Lat.Out.lean ====
/- The blocks one grid point of the latent layer's projections writes, element by element. -/
module

public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

/-- The zero offsets. -/
theorem z2 : ∀ a, (![0, 0] : Fin 2 → ℕ) a = 0 := by decide
@[inherit_doc z2] theorem z3 : ∀ a, (![0, 0, 0] : Fin 3 → ℕ) a = 0 := by decide

/-- A load of a whole staging buffer reads what it holds. -/
theorem rd {s : Shape} {e : EltTy} (arg : Memref sig .tc .vmem s e) (harg : arg.IsWhole) (x : s.Idx → Elt Ideal e) {off : Fin s.rank → ℕ}
    (h0 : ∀ a, off a = 0) (inb : ∀ a, off a + s.size a ≤ s.size a) :
    View.readAt (Elt Ideal) arg.view (Rect.unit off s.size inb).toLoadRect (harg.unread x) = x := by
  rw [View.readAt_eq_ld, harg.read_unread, View.ld_unit_lit _ _ h0]

variable (c : Dev nD) (i : grid0.Coords) (arg1 : Memref sig .tc .vmem S256x1024 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S1024x768 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x288 .f32) (harg15 : arg15.IsWhole) (arg16 : Memref sig .tc .vmem S1x288x256 .f32) (harg16 : arg16.IsWhole)
variable (x0 : Vec Ideal S256x1024 .f32) (x1 : Vec Ideal S256x128 .f32) (x2 : Vec Ideal S256x128 .f32) (x3 : Vec Ideal S1024x768 .bf16) (x4 : Vec Ideal S1x256 .f32) (x5 : Vec Ideal S1x256 .f32) (x6 : Vec Ideal S256x2048 .bf16) (x7 : Vec Ideal S256x2048 .bf16) (x8 : Vec Ideal S256x2048 .bf16) (x9 : Vec Ideal S256x2048 .bf16) (x10 : Vec Ideal S1x2048 .f32)

set_option maxHeartbeats 1000000 in
/-- A row of the query block. -/
theorem out11_at (r : Fin 256) (n : Fin 2048) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 r n) = qv (cq (row x0 r) (mat x3) (row x4 0)) (mat x6) (mat x7) (row x1 r) (row x2 r) n := by
  unfold out0_A_11 kernelRun0_A
  dsimp only
  sl_unfold_words
  refine (View.read_writes_cons_unit_of_mem _ _ _ _ _ _ (ix2 r n) rfl fun a => ?_).trans ?_
  · fin_cases a <;> exact (Nat.zero_add _).symm
  rw [rd arg1 harg1 x0 z2, rd arg4 harg4 x3 z2, rd arg5 harg5 x4 z2, rd arg2 harg2 x1 z2, rd arg3 harg3 x2 z2, rd arg7 harg7 x6 z2, rd arg8 harg8 x7 z2]
  refine (pay11_at _ _ _ _ _ r n).trans ?_
  exact congrArg (fun z => qv z (mat x6) (mat x7) (row x1 r) (row x2 r) n) (funext fun k => pay5_at x0 x3 x4 r k)

set_option maxHeartbeats 1000000 in
/-- A row of the key block. -/
theorem out12_at (r : Fin 256) (n : Fin 2048) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 r n) = kv (ck (row x0 r) (mat x3) (row x5 0)) (mat x8) (kr (row x0 r) (mat x3) (row x1 r) (row x2 r)) n := by
  unfold out0_A_12 kernelRun0_A
  dsimp only
  sl_unfold_words
  refine (View.read_writes_cons_unit_of_mem _ _ _ _ _ _ (ix2 r n) rfl fun a => ?_).trans ?_
  · fin_cases a <;> exact (Nat.zero_add _).symm
  rw [rd arg1 harg1 x0 z2, rd arg4 harg4 x3 z2, rd arg6 harg6 x5 z2, rd arg2 harg2 x1 z2, rd arg3 harg3 x2 z2, rd arg9 harg9 x8 z2]
  refine (pay12_at _ _ _ _ _ _ r n).trans ?_
  exact congrArg (fun z => kv z (mat x8) (kr (row x0 r) (mat x3) (row x1 r) (row x2 r)) n) (funext fun k => pay7_at x0 x3 x5 r k)

set_option maxHeartbeats 1000000 in
/-- A row of the value block. -/
theorem out13_at (r : Fin 256) (n : Fin 2048) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 r n) = vv (ck (row x0 r) (mat x3) (row x5 0)) (mat x9) (row x10 0) n := by
  unfold out0_A_13 kernelRun0_A
  dsimp only
  sl_unfold_words
  refine (View.read_writes_cons_unit_of_mem _ _ _ _ _ _ (ix2 r n) rfl fun a => ?_).trans ?_
  · fin_cases a <;> exact (Nat.zero_add _).symm
  rw [rd arg1 harg1 x0 z2, rd arg4 harg4 x3 z2, rd arg6 harg6 x5 z2, rd arg10 harg10 x9 z2, rd arg11 harg11 x10 z2]
  refine (pay13_at _ _ _ r n).trans ?_
  exact congrArg (fun z => vv z (mat x9) (row x10 0) n) (funext fun k => pay7_at x0 x3 x5 r k)

set_option maxHeartbeats 1000000 in
/-- A row of the cache block. -/
theorem out14_at (r : Fin 256) (j : Fin 288) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 r j) = lv (ck (row x0 r) (mat x3) (row x5 0)) (kr (row x0 r) (mat x3) (row x1 r) (row x2 r)) j := by
  unfold out0_A_14 kernelRun0_A
  dsimp only
  sl_unfold_words
  unfold lv
  by_cases hj : j.val < 256
  · rw [dif_pos hj]
    refine (View.read_writes_cons_unit_of_not_mem _ _ _ _ _ _ rfl 1 (by left; show j.val < 256; exact hj)).trans ?_
    refine (View.read_writes_cons_unit_of_mem _ _ _ _ _ _ (ix2 r (⟨j.val, hj⟩ : Fin 256)) rfl fun a => ?_).trans ?_
    · fin_cases a <;> exact (Nat.zero_add _).symm
    rw [rd arg1 harg1 x0 z2, rd arg4 harg4 x3 z2, rd arg6 harg6 x5 z2]
    exact pay6_at x0 x3 x5 r _
  · rw [dif_neg hj]
    refine (View.read_writes_cons_unit_of_mem _ _ _ _ _ _ (ix2 r (⟨j.val - 256, by omega⟩ : Fin 32)) rfl fun a => ?_).trans ?_
    · fin_cases a
      · exact (Nat.zero_add _).symm
      · show j.val = 256 + (j.val - 256)
        omega
    rw [rd arg1 harg1 x0 z2, rd arg4 harg4 x3 z2, rd arg2 harg2 x1 z2, rd arg3 harg3 x2 z2]
    refine (pay1_at _ r _).trans ?_
    exact pay10_at x0 x3 x1 x2 r _

set_option maxHeartbeats 1000000 in
/-- A column of the transposed cache block. -/
theorem out15_at (r : Fin 256) (j : Fin 288) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix3 0 j r) = lv (ck (row x0 r) (mat x3) (row x5 0)) (kr (row x0 r) (mat x3) (row x1 r) (row x2 r)) j := by
  unfold out0_A_15 kernelRun0_A
  dsimp only
  sl_unfold_words
  unfold lv
  by_cases hj : j.val < 256
  · rw [dif_pos hj]
    refine (View.read_writes_cons_unit_of_not_mem _ _ _ _ _ _ rfl 1 (by left; show j.val < 256; exact hj)).trans ?_
    refine (View.read_writes_cons_unit_of_mem _ _ _ _ _ _ (ix3 (0 : Fin 1) (⟨j.val, hj⟩ : Fin 256) r) rfl fun a => ?_).trans ?_
    · fin_cases a <;> exact (Nat.zero_add _).symm
    rw [rd arg1 harg1 x0 z2, rd arg4 harg4 x3 z2, rd arg6 harg6 x5 z2]
    refine (pay2_at _ r _).trans ?_
    exact pay6_at x0 x3 x5 r _
  · rw [dif_neg hj]
    refine (View.read_writes_cons_unit_of_mem _ _ _ _ _ _ (ix3 (0 : Fin 1) (⟨j.val - 256, by omega⟩ : Fin 32) r) rfl fun a => ?_).trans ?_
    · fin_cases a
      · rfl
      · show j.val = 256 + (j.val - 256)
        omega
      · exact (Nat.zero_add _).symm
    rw [rd arg1 harg1 x0 z2, rd arg4 harg4 x3 z2, rd arg2 harg2 x1 z2, rd arg3 harg3 x2 z2]
    refine (pay3_at _ r _).trans ?_
    exact pay10_at x0 x3 x1 x2 r _

end Cert.Kernel9Ideal.Lat

end
-- ==== Proof.Lat.Whole.lean ====
/- The latent layer's projections: the call's five result arrays over its operands. -/
module

public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

/-- Arrays of two axes agree where they agree at every pair of indices. -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

/-- The block indices of the windows at a grid point. -/
theorem idx_at : ∀ t : Fin grid0.N,
    win0_0.index t = ![t.val, 0]
    ∧ win0_1.index t = ![t.val % 16, 0]
    ∧ win0_2.index t = ![t.val % 16, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val / 16, 0, t.val % 16] := by decide +kernel

/-- A row of the input's block is a row of the input, -/
theorem x_read (t : Fin grid0.N) (r : Fin 256) (A : Vec Ideal S16384x1024 .f32) (p : Fin 16384) (hp : p.val = 256 * t.val + r.val) :
    row ((win0_0.blk t).view.read (Elt Ideal) A) r = row A p := by
  funext l
  show (win0_0.blk t).view.read (Elt Ideal) A (ix2 r l) = A (ix2 p l)
  blk_ext [idx_at t]

/-- and a row of a table's block is the table's row at the position within its sequence. -/
theorem c_read (t : Fin grid0.N) (r : Fin 256) (A : Vec Ideal S4096x128 .f32) (p : Fin 4096) (hp : p.val = 256 * (t.val % 16) + r.val) :
    row ((win0_1.blk t).view.read (Elt Ideal) A) r = row A p := by
  funext l
  show (win0_1.blk t).view.read (Elt Ideal) A (ix2 r l) = A (ix2 p l)
  blk_ext [idx_at t]

@[inherit_doc c_read]
theorem s_read (t : Fin grid0.N) (r : Fin 256) (A : Vec Ideal S4096x128 .f32) (p : Fin 4096) (hp : p.val = 256 * (t.val % 16) + r.val) :
    row ((win0_2.blk t).view.read (Elt Ideal) A) r = row A p := by
  funext l
  show (win0_2.blk t).view.read (Elt Ideal) A (ix2 r l) = A (ix2 p l)
  blk_ext [idx_at t]

/-- A block of operand 3 is all of it. -/
theorem w3_read (t : Fin grid0.N) (A : Vec Ideal S1024x768 .bf16) : (win0_3.blk t).view.read (Elt Ideal) A = A := by
  refine ext_ix2 fun a b => ?_
  blk_ext [idx_at t]

/-- A block of operand 4 is all of it. -/
theorem w4_read (t : Fin grid0.N) (A : Vec Ideal S1x256 .f32) : (win0_4.blk t).view.read (Elt Ideal) A = A := by
  refine ext_ix2 fun a b => ?_
  blk_ext [idx_at t]

/-- A block of operand 5 is all of it. -/
theorem w5_read (t : Fin grid0.N) (A : Vec Ideal S1x256 .f32) : (win0_5.blk t).view.read (Elt Ideal) A = A := by
  refine ext_ix2 fun a b => ?_
  blk_ext [idx_at t]

/-- A block of operand 6 is all of it. -/
theorem w6_read (t : Fin grid0.N) (A : Vec Ideal S256x2048 .bf16) : (win0_6.blk t).view.read (Elt Ideal) A = A := by
  refine ext_ix2 fun a b => ?_
  blk_ext [idx_at t]

/-- A block of operand 7 is all of it. -/
theorem w7_read (t : Fin grid0.N) (A : Vec Ideal S256x2048 .bf16) : (win0_7.blk t).view.read (Elt Ideal) A = A := by
  refine ext_ix2 fun a b => ?_
  blk_ext [idx_at t]

/-- A block of operand 8 is all of it. -/
theorem w8_read (t : Fin grid0.N) (A : Vec Ideal S256x2048 .bf16) : (win0_8.blk t).view.read (Elt Ideal) A = A := by
  refine ext_ix2 fun a b => ?_
  blk_ext [idx_at t]

/-- A block of operand 9 is all of it. -/
theorem w9_read (t : Fin grid0.N) (A : Vec Ideal S256x2048 .bf16) : (win0_9.blk t).view.read (Elt Ideal) A = A := by
  refine ext_ix2 fun a b => ?_
  blk_ext [idx_at t]

/-- A block of operand 10 is all of it. -/
theorem w10_read (t : Fin grid0.N) (A : Vec Ideal S1x2048 .f32) : (win0_10.blk t).view.read (Elt Ideal) A = A := by
  refine ext_ix2 fun a b => ?_
  blk_ext [idx_at t]

/-- The place of a position in its sequence. -/
abbrev seat (p : Fin 16384) : Fin 4096 := ⟨p.val % 4096, by omega⟩

/-- Position `s` of sequence `b`. -/
abbrev pos (b : Fin 4) (s : Fin 4096) : Fin 16384 := ⟨4096 * b.val + s.val, by omega⟩

/-- The queries at every position and lane, -/
def qAll (X : S16384x1024.Idx → EReal) (C S : S4096x128.Idx → EReal) (W : S1024x768.Idx → EReal) (g : S1x256.Idx → EReal) (wq ws : S256x2048.Idx → EReal)
    (p : Fin 16384) (n : Fin 2048) : EReal :=
  qv (cq (row X p) (mat W) (row g 0)) (mat wq) (mat ws) (row C (seat p)) (row S (seat p)) n

/-- the keys, -/
def kAll (X : S16384x1024.Idx → EReal) (C S : S4096x128.Idx → EReal) (W : S1024x768.Idx → EReal) (g : S1x256.Idx → EReal) (wk : S256x2048.Idx → EReal)
    (p : Fin 16384) (n : Fin 2048) : EReal :=
  kv (ck (row X p) (mat W) (row g 0)) (mat wk) (kr (row X p) (mat W) (row C (seat p)) (row S (seat p))) n

/-- the values, -/
def vAll (X : S16384x1024.Idx → EReal) (W : S1024x768.Idx → EReal) (g : S1x256.Idx → EReal) (wv : S256x2048.Idx → EReal) (o : S1x2048.Idx → EReal)
    (p : Fin 16384) (n : Fin 2048) : EReal :=
  vv (ck (row X p) (mat W) (row g 0)) (mat wv) (row o 0) n

/-- and the cache rows. -/
def lAll (X : S16384x1024.Idx → EReal) (C S : S4096x128.Idx → EReal) (W : S1024x768.Idx → EReal) (g : S1x256.Idx → EReal)
    (p : Fin 16384) (j : Fin 288) : EReal :=
  lv (ck (row X p) (mat W) (row g 0)) (kr (row X p) (mat W) (row C (seat p)) (row S (seat p))) j

/-- An array of one entry for each position and feature, by rows, -/
def rowsOf {n : ℕ} (f : Fin 16384 → Fin n → EReal) : (⟨2, ![16384, n]⟩ : Shape).Idx → EReal := fun i => f (i 0 : Fin 16384) (i 1 : Fin n)

/-- and feature by feature, a sequence's positions along the last axis. -/
def colsOf {n : ℕ} (f : Fin 16384 → Fin n → EReal) : (⟨3, ![4, n, 4096]⟩ : Shape).Idx → EReal :=
  fun i => f (pos (i 0 : Fin 4) (i 2 : Fin 4096)) (i 1 : Fin n)

/-- Both at an index, by its position and feature. -/
theorem rowsOf_at {n : ℕ} (f : Fin 16384 → Fin n → EReal) (i : (⟨2, ![16384, n]⟩ : Shape).Idx) (p : Fin 16384) (k : Fin n)
    (h0 : (i 0).val = p.val) (h1 : (i 1).val = k.val) : rowsOf f i = f p k := by
  have e0 : (i 0 : Fin 16384) = p := Fin.ext h0
  have e1 : (i 1 : Fin n) = k := Fin.ext h1
  unfold rowsOf
  rw [e0, e1]

@[inherit_doc rowsOf_at]
theorem colsOf_at {n : ℕ} (f : Fin 16384 → Fin n → EReal) (i : (⟨3, ![4, n, 4096]⟩ : Shape).Idx) (p : Fin 16384) (k : Fin n)
    (h0 : 4096 * (i 0).val + (i 2).val = p.val) (h1 : (i 1).val = k.val) : colsOf f i = f p k := by
  have e0 : pos (i 0 : Fin 4) (i 2 : Fin 4096) = p := Fin.ext h0
  have e1 : (i 1 : Fin n) = k := Fin.ext h1
  unfold colsOf
  rw [e0, e1]

variable (m : (ℓ : Loc nD τ sig) → Buf (Elt Ideal) ℓ) (c : Dev nD)

/-- The operands as the call reads them. -/
abbrev q0 : Vec Ideal S16384x1024 .f32 := V m c main_v22
@[inherit_doc q0] abbrev q1 : Vec Ideal S4096x128 .f32 := V m c main_v17
@[inherit_doc q0] abbrev q2 : Vec Ideal S4096x128 .f32 := V m c main_v21
@[inherit_doc q0] abbrev q3 : Vec Ideal S1024x768 .bf16 := V m c main_v31
@[inherit_doc q0] abbrev q4 : Vec Ideal S1x256 .f32 := V m c main_v65
@[inherit_doc q0] abbrev q5 : Vec Ideal S1x256 .f32 := V m c main_v66
@[inherit_doc q0] abbrev q6 : Vec Ideal S256x2048 .bf16 := V m c main_v44
@[inherit_doc q0] abbrev q7 : Vec Ideal S256x2048 .bf16 := V m c main_v53
@[inherit_doc q0] abbrev q8 : Vec Ideal S256x2048 .bf16 := V m c main_v58
@[inherit_doc q0] abbrev q9 : Vec Ideal S256x2048 .bf16 := V m c main_v63
@[inherit_doc q0] abbrev q10 : Vec Ideal S1x2048 .f32 := V m c main_v64

end Cert.Kernel9Ideal.Lat

end
-- ==== Proof.Lat.Final11.lean ====
/- The latent layer's projections: the queries, as one array. -/
module

public import proofs.«01_k».proof.Proof.Lat.Whole
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 2000000 in
/-- After the run, result array 11 holds its function of the operands. -/
theorem final11 : (dats m 0 c).arrAt 11 cfg0.N = rowsOf (qAll (q0 m c) (q1 m c) (q2 m c) (q3 m c) (q4 m c) (q6 m c) (q7 m c)) := by
  refine (dats m 0 c).arrAt_eq_of_covers 11 _ (by decide +kernel) fun t hf y => ?_
  rw [after0_11]
  unfold outsAt0
  dsimp only
  have e0 : iblk m c 0 t = (win0_0.blk t).view.read (Elt Ideal) (q0 m c) := rfl
  have e1 : iblk m c 1 t = (win0_1.blk t).view.read (Elt Ideal) (q1 m c) := rfl
  have e2 : iblk m c 2 t = (win0_2.blk t).view.read (Elt Ideal) (q2 m c) := rfl
  have e3 : iblk m c 3 t = (win0_3.blk t).view.read (Elt Ideal) (q3 m c) := rfl
  have e4 : iblk m c 4 t = (win0_4.blk t).view.read (Elt Ideal) (q4 m c) := rfl
  have e5 : iblk m c 5 t = (win0_5.blk t).view.read (Elt Ideal) (q5 m c) := rfl
  have e6 : iblk m c 6 t = (win0_6.blk t).view.read (Elt Ideal) (q6 m c) := rfl
  have e7 : iblk m c 7 t = (win0_7.blk t).view.read (Elt Ideal) (q7 m c) := rfl
  have e8 : iblk m c 8 t = (win0_8.blk t).view.read (Elt Ideal) (q8 m c) := rfl
  have e9 : iblk m c 9 t = (win0_9.blk t).view.read (Elt Ideal) (q9 m c) := rfl
  have e10 : iblk m c 10 t = (win0_10.blk t).view.read (Elt Ideal) (q10 m c) := rfl
  rw [e0, e1, e2, e3, e4, e5, e6, e7, e8, e9, e10]
  generalize q0 m c = X
  generalize q1 m c = C
  generalize q2 m c = T
  generalize q3 m c = W3
  generalize q4 m c = W4
  generalize q5 m c = W5
  generalize q6 m c = W6
  generalize q7 m c = W7
  generalize q8 m c = W8
  generalize q9 m c = W9
  generalize q10 m c = W10
  rw [w3_read, w4_read, w5_read, w6_read, w7_read, w8_read, w9_read, w10_read]
  blk_simp
  have ht : t.val < 64 := t.isLt
  have y0 : (y 0).val < 256 := (y 0).isLt
  have y1 : (y 1).val < 2048 := (y 1).isLt
  have hy : y = ix2 (⟨(y 0).val, y0⟩ : Fin 256) (⟨(y 1).val, y1⟩ : Fin 2048) := by
    funext a
    fin_cases a <;> rfl
  have hp : (⟨256 * t.val + (y 0).val, by omega⟩ : Fin 16384).val = 256 * t.val + (y 0).val := rfl
  revert hp
  generalize hP : (⟨256 * t.val + (y 0).val, by omega⟩ : Fin 16384) = p
  intro hp
  have hs : (seat p).val = 256 * (t.val % 16) + (⟨(y 0).val, y0⟩ : Fin 256).val := by
    show p.val % 4096 = 256 * (t.val % 16) + (y 0).val
    omega
  refine (congrArg _ hy).trans ?_
  rw [out11_at]
  rw [x_read t (⟨(y 0).val, y0⟩ : Fin 256) X p hp, c_read t (⟨(y 0).val, y0⟩ : Fin 256) C (seat p) hs, s_read t (⟨(y 0).val, y0⟩ : Fin 256) T (seat p) hs]
  refine (rowsOf_at (qAll X C T W3 W4 W6 W7) _ p (⟨(y 1).val, y1⟩ : Fin 2048) ?_ ?_).symm
  · blk_simp [idx_at t]
    show t.val * 256 + (y 0).val = p.val
    omega
  · blk_simp [idx_at t]

end Cert.Kernel9Ideal.Lat

end
-- ==== Proof.Lat.Final12.lean ====
/- The latent layer's projections: the keys, as one array. -/
module

public import proofs.«01_k».proof.Proof.Lat.Whole
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 2000000 in
/-- After the run, result array 12 holds its function of the operands. -/
theorem final12 : (dats m 0 c).arrAt 12 cfg0.N = rowsOf (kAll (q0 m c) (q1 m c) (q2 m c) (q3 m c) (q5 m c) (q8 m c)) := by
  refine (dats m 0 c).arrAt_eq_of_covers 12 _ (by decide +kernel) fun t hf y => ?_
  rw [after0_12]
  unfold outsAt0
  dsimp only
  have e0 : iblk m c 0 t = (win0_0.blk t).view.read (Elt Ideal) (q0 m c) := rfl
  have e1 : iblk m c 1 t = (win0_1.blk t).view.read (Elt Ideal) (q1 m c) := rfl
  have e2 : iblk m c 2 t = (win0_2.blk t).view.read (Elt Ideal) (q2 m c) := rfl
  have e3 : iblk m c 3 t = (win0_3.blk t).view.read (Elt Ideal) (q3 m c) := rfl
  have e4 : iblk m c 4 t = (win0_4.blk t).view.read (Elt Ideal) (q4 m c) := rfl
  have e5 : iblk m c 5 t = (win0_5.blk t).view.read (Elt Ideal) (q5 m c) := rfl
  have e6 : iblk m c 6 t = (win0_6.blk t).view.read (Elt Ideal) (q6 m c) := rfl
  have e7 : iblk m c 7 t = (win0_7.blk t).view.read (Elt Ideal) (q7 m c) := rfl
  have e8 : iblk m c 8 t = (win0_8.blk t).view.read (Elt Ideal) (q8 m c) := rfl
  have e9 : iblk m c 9 t = (win0_9.blk t).view.read (Elt Ideal) (q9 m c) := rfl
  have e10 : iblk m c 10 t = (win0_10.blk t).view.read (Elt Ideal) (q10 m c) := rfl
  rw [e0, e1, e2, e3, e4, e5, e6, e7, e8, e9, e10]
  generalize q0 m c = X
  generalize q1 m c = C
  generalize q2 m c = T
  generalize q3 m c = W3
  generalize q4 m c = W4
  generalize q5 m c = W5
  generalize q6 m c = W6
  generalize q7 m c = W7
  generalize q8 m c = W8
  generalize q9 m c = W9
  generalize q10 m c = W10
  rw [w3_read, w4_read, w5_read, w6_read, w7_read, w8_read, w9_read, w10_read]
  blk_simp
  have ht : t.val < 64 := t.isLt
  have y0 : (y 0).val < 256 := (y 0).isLt
  have y1 : (y 1).val < 2048 := (y 1).isLt
  have hy : y = ix2 (⟨(y 0).val, y0⟩ : Fin 256) (⟨(y 1).val, y1⟩ : Fin 2048) := by
    funext a
    fin_cases a <;> rfl
  have hp : (⟨256 * t.val + (y 0).val, by omega⟩ : Fin 16384).val = 256 * t.val + (y 0).val := rfl
  revert hp
  generalize hP : (⟨256 * t.val + (y 0).val, by omega⟩ : Fin 16384) = p
  intro hp
  have hs : (seat p).val = 256 * (t.val % 16) + (⟨(y 0).val, y0⟩ : Fin 256).val := by
    show p.val % 4096 = 256 * (t.val % 16) + (y 0).val
    omega
  refine (congrArg _ hy).trans ?_
  rw [out12_at]
  rw [x_read t (⟨(y 0).val, y0⟩ : Fin 256) X p hp, c_read t (⟨(y 0).val, y0⟩ : Fin 256) C (seat p) hs, s_read t (⟨(y 0).val, y0⟩ : Fin 256) T (seat p) hs]
  refine (rowsOf_at (kAll X C T W3 W5 W8) _ p (⟨(y 1).val, y1⟩ : Fin 2048) ?_ ?_).symm
  · blk_simp [idx_at t]
    show t.val * 256 + (y 0).val = p.val
    omega
  · blk_simp [idx_at t]

end Cert.Kernel9Ideal.Lat

end
-- ==== Proof.Lat.Final13.lean ====
/- The latent layer's projections: the values, as one array. -/
module

public import proofs.«01_k».proof.Proof.Lat.Whole
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 2000000 in
/-- After the run, result array 13 holds its function of the operands. -/
theorem final13 : (dats m 0 c).arrAt 13 cfg0.N = rowsOf (vAll (q0 m c) (q3 m c) (q5 m c) (q9 m c) (q10 m c)) := by
  refine (dats m 0 c).arrAt_eq_of_covers 13 _ (by decide +kernel) fun t hf y => ?_
  rw [after0_13]
  unfold outsAt0
  dsimp only
  have e0 : iblk m c 0 t = (win0_0.blk t).view.read (Elt Ideal) (q0 m c) := rfl
  have e1 : iblk m c 1 t = (win0_1.blk t).view.read (Elt Ideal) (q1 m c) := rfl
  have e2 : iblk m c 2 t = (win0_2.blk t).view.read (Elt Ideal) (q2 m c) := rfl
  have e3 : iblk m c 3 t = (win0_3.blk t).view.read (Elt Ideal) (q3 m c) := rfl
  have e4 : iblk m c 4 t = (win0_4.blk t).view.read (Elt Ideal) (q4 m c) := rfl
  have e5 : iblk m c 5 t = (win0_5.blk t).view.read (Elt Ideal) (q5 m c) := rfl
  have e6 : iblk m c 6 t = (win0_6.blk t).view.read (Elt Ideal) (q6 m c) := rfl
  have e7 : iblk m c 7 t = (win0_7.blk t).view.read (Elt Ideal) (q7 m c) := rfl
  have e8 : iblk m c 8 t = (win0_8.blk t).view.read (Elt Ideal) (q8 m c) := rfl
  have e9 : iblk m c 9 t = (win0_9.blk t).view.read (Elt Ideal) (q9 m c) := rfl
  have e10 : iblk m c 10 t = (win0_10.blk t).view.read (Elt Ideal) (q10 m c) := rfl
  rw [e0, e1, e2, e3, e4, e5, e6, e7, e8, e9, e10]
  generalize q0 m c = X
  generalize q1 m c = C
  generalize q2 m c = T
  generalize q3 m c = W3
  generalize q4 m c = W4
  generalize q5 m c = W5
  generalize q6 m c = W6
  generalize q7 m c = W7
  generalize q8 m c = W8
  generalize q9 m c = W9
  generalize q10 m c = W10
  rw [w3_read, w4_read, w5_read, w6_read, w7_read, w8_read, w9_read, w10_read]
  blk_simp
  have ht : t.val < 64 := t.isLt
  have y0 : (y 0).val < 256 := (y 0).isLt
  have y1 : (y 1).val < 2048 := (y 1).isLt
  have hy : y = ix2 (⟨(y 0).val, y0⟩ : Fin 256) (⟨(y 1).val, y1⟩ : Fin 2048) := by
    funext a
    fin_cases a <;> rfl
  have hp : (⟨256 * t.val + (y 0).val, by omega⟩ : Fin 16384).val = 256 * t.val + (y 0).val := rfl
  revert hp
  generalize hP : (⟨256 * t.val + (y 0).val, by omega⟩ : Fin 16384) = p
  intro hp
  refine (congrArg _ hy).trans ?_
  rw [out13_at]
  rw [x_read t (⟨(y 0).val, y0⟩ : Fin 256) X p hp]
  refine (rowsOf_at (vAll X W3 W5 W9 W10) _ p (⟨(y 1).val, y1⟩ : Fin 2048) ?_ ?_).symm
  · blk_simp [idx_at t]
    show t.val * 256 + (y 0).val = p.val
    omega
  · blk_simp [idx_at t]

end Cert.Kernel9Ideal.Lat

end
-- ==== Proof.Lat.Final14.lean ====
/- The latent layer's projections: the cache rows, as one array. -/
module

public import proofs.«01_k».proof.Proof.Lat.Whole
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 2000000 in
/-- After the run, result array 14 holds its function of the operands. -/
theorem final14 : (dats m 0 c).arrAt 14 cfg0.N = rowsOf (lAll (q0 m c) (q1 m c) (q2 m c) (q3 m c) (q5 m c)) := by
  refine (dats m 0 c).arrAt_eq_of_covers 14 _ (by decide +kernel) fun t hf y => ?_
  rw [after0_14]
  unfold outsAt0
  dsimp only
  have e0 : iblk m c 0 t = (win0_0.blk t).view.read (Elt Ideal) (q0 m c) := rfl
  have e1 : iblk m c 1 t = (win0_1.blk t).view.read (Elt Ideal) (q1 m c) := rfl
  have e2 : iblk m c 2 t = (win0_2.blk t).view.read (Elt Ideal) (q2 m c) := rfl
  have e3 : iblk m c 3 t = (win0_3.blk t).view.read (Elt Ideal) (q3 m c) := rfl
  have e4 : iblk m c 4 t = (win0_4.blk t).view.read (Elt Ideal) (q4 m c) := rfl
  have e5 : iblk m c 5 t = (win0_5.blk t).view.read (Elt Ideal) (q5 m c) := rfl
  have e6 : iblk m c 6 t = (win0_6.blk t).view.read (Elt Ideal) (q6 m c) := rfl
  have e7 : iblk m c 7 t = (win0_7.blk t).view.read (Elt Ideal) (q7 m c) := rfl
  have e8 : iblk m c 8 t = (win0_8.blk t).view.read (Elt Ideal) (q8 m c) := rfl
  have e9 : iblk m c 9 t = (win0_9.blk t).view.read (Elt Ideal) (q9 m c) := rfl
  have e10 : iblk m c 10 t = (win0_10.blk t).view.read (Elt Ideal) (q10 m c) := rfl
  rw [e0, e1, e2, e3, e4, e5, e6, e7, e8, e9, e10]
  generalize q0 m c = X
  generalize q1 m c = C
  generalize q2 m c = T
  generalize q3 m c = W3
  generalize q4 m c = W4
  generalize q5 m c = W5
  generalize q6 m c = W6
  generalize q7 m c = W7
  generalize q8 m c = W8
  generalize q9 m c = W9
  generalize q10 m c = W10
  rw [w3_read, w4_read, w5_read, w6_read, w7_read, w8_read, w9_read, w10_read]
  blk_simp
  have ht : t.val < 64 := t.isLt
  have y0 : (y 0).val < 256 := (y 0).isLt
  have y1 : (y 1).val < 288 := (y 1).isLt
  have hy : y = ix2 (⟨(y 0).val, y0⟩ : Fin 256) (⟨(y 1).val, y1⟩ : Fin 288) := by
    funext a
    fin_cases a <;> rfl
  have hp : (⟨256 * t.val + (y 0).val, by omega⟩ : Fin 16384).val = 256 * t.val + (y 0).val := rfl
  revert hp
  generalize hP : (⟨256 * t.val + (y 0).val, by omega⟩ : Fin 16384) = p
  intro hp
  have hs : (seat p).val = 256 * (t.val % 16) + (⟨(y 0).val, y0⟩ : Fin 256).val := by
    show p.val % 4096 = 256 * (t.val % 16) + (y 0).val
    omega
  refine (congrArg _ hy).trans ?_
  rw [out14_at]
  rw [x_read t (⟨(y 0).val, y0⟩ : Fin 256) X p hp, c_read t (⟨(y 0).val, y0⟩ : Fin 256) C (seat p) hs, s_read t (⟨(y 0).val, y0⟩ : Fin 256) T (seat p) hs]
  refine (rowsOf_at (lAll X C T W3 W5) _ p (⟨(y 1).val, y1⟩ : Fin 288) ?_ ?_).symm
  · blk_simp [idx_at t]
    show t.val * 256 + (y 0).val = p.val
    omega
  · blk_simp [idx_at t]

end Cert.Kernel9Ideal.Lat

end
-- ==== Proof.Lat.Final15.lean ====
/- The latent layer's projections: the cache feature by feature, as one array. -/
module

public import proofs.«01_k».proof.Proof.Lat.Whole
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 2000000 in
/-- After the run, result array 15 holds its function of the operands. -/
theorem final15 : (dats m 0 c).arrAt 15 cfg0.N = colsOf (lAll (q0 m c) (q1 m c) (q2 m c) (q3 m c) (q5 m c)) := by
  refine (dats m 0 c).arrAt_eq_of_covers 15 _ (by decide +kernel) fun t hf y => ?_
  rw [after0_15]
  unfold outsAt0
  dsimp only
  have e0 : iblk m c 0 t = (win0_0.blk t).view.read (Elt Ideal) (q0 m c) := rfl
  have e1 : iblk m c 1 t = (win0_1.blk t).view.read (Elt Ideal) (q1 m c) := rfl
  have e2 : iblk m c 2 t = (win0_2.blk t).view.read (Elt Ideal) (q2 m c) := rfl
  have e3 : iblk m c 3 t = (win0_3.blk t).view.read (Elt Ideal) (q3 m c) := rfl
  have e4 : iblk m c 4 t = (win0_4.blk t).view.read (Elt Ideal) (q4 m c) := rfl
  have e5 : iblk m c 5 t = (win0_5.blk t).view.read (Elt Ideal) (q5 m c) := rfl
  have e6 : iblk m c 6 t = (win0_6.blk t).view.read (Elt Ideal) (q6 m c) := rfl
  have e7 : iblk m c 7 t = (win0_7.blk t).view.read (Elt Ideal) (q7 m c) := rfl
  have e8 : iblk m c 8 t = (win0_8.blk t).view.read (Elt Ideal) (q8 m c) := rfl
  have e9 : iblk m c 9 t = (win0_9.blk t).view.read (Elt Ideal) (q9 m c) := rfl
  have e10 : iblk m c 10 t = (win0_10.blk t).view.read (Elt Ideal) (q10 m c) := rfl
  rw [e0, e1, e2, e3, e4, e5, e6, e7, e8, e9, e10]
  generalize q0 m c = X
  generalize q1 m c = C
  generalize q2 m c = T
  generalize q3 m c = W3
  generalize q4 m c = W4
  generalize q5 m c = W5
  generalize q6 m c = W6
  generalize q7 m c = W7
  generalize q8 m c = W8
  generalize q9 m c = W9
  generalize q10 m c = W10
  rw [w3_read, w4_read, w5_read, w6_read, w7_read, w8_read, w9_read, w10_read]
  blk_simp
  have ht : t.val < 64 := t.isLt
  have y0 : (y 0).val < 1 := (y 0).isLt
  have y1 : (y 1).val < 288 := (y 1).isLt
  have y2 : (y 2).val < 256 := (y 2).isLt
  have hy : y = ix3 (0 : Fin 1) (⟨(y 1).val, y1⟩ : Fin 288) (⟨(y 2).val, y2⟩ : Fin 256) := by
    funext a
    fin_cases a
    · exact Fin.ext (by show (y 0).val = 0; omega)
    · rfl
    · rfl
  have hp : (⟨256 * t.val + (y 2).val, by omega⟩ : Fin 16384).val = 256 * t.val + (y 2).val := rfl
  revert hp
  generalize hP : (⟨256 * t.val + (y 2).val, by omega⟩ : Fin 16384) = p
  intro hp
  have hs : (seat p).val = 256 * (t.val % 16) + (⟨(y 2).val, y2⟩ : Fin 256).val := by
    show p.val % 4096 = 256 * (t.val % 16) + (y 2).val
    omega
  refine (congrArg _ hy).trans ?_
  rw [out15_at]
  rw [x_read t (⟨(y 2).val, y2⟩ : Fin 256) X p hp, c_read t (⟨(y 2).val, y2⟩ : Fin 256) C (seat p) hs, s_read t (⟨(y 2).val, y2⟩ : Fin 256) T (seat p) hs]
  refine (colsOf_at (lAll X C T W3 W5) _ p (⟨(y 1).val, y1⟩ : Fin 288) ?_ ?_).symm
  · blk_simp [idx_at t]
    show 4096 * (t.val / 16) + (t.val % 16 * 256 + (y 2).val) = p.val
    omega
  · blk_simp [idx_at t]

end Cert.Kernel9Ideal.Lat

end
-- ==== Proof.Lat.Spec.lean ====
/- The latent layer's projections: its mathematics, and the operands the host prepares. -/
module

public import proofs.«01_k».proof.Proof.Lat.Whole
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

/-- The turning angles: a position times the power of ten thousand of each of 16 lanes. -/
def angle : FVec Ideal S4096x16 .f32 :=
  mulf (broadcastInDim S4096x16 ![0, 1] bcast_S4096x1_S4096x16_0_1 (broadcastInDim S4096x1 ![0] bcast_S4096_S4096x1_0 (sitofp FTy.f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ FTy.f32 0x461C4000#32))
        (Host.divf (Host.negf (sitofp FTy.f32 (iotaInDim S16 32 0))) (broadcastInDim S16 ![] bcast_S_S16 (constant S_ FTy.f32 0x41800000#32))))))

/-- Their cosines and sines. -/
def co (s : Fin 4096) (j : Fin 16) : EReal := (Host.cos angle : FVec Ideal S4096x16 .f32) (ix2 s j)
@[inherit_doc co] def si (s : Fin 4096) (j : Fin 16) : EReal := (Host.sin angle : FVec Ideal S4096x16 .f32) (ix2 s j)

/-- The tables of 128 lanes that the call reads, from the cosines and the sines. -/
def ctab (s : Fin 4096) (f : Fin 128) : EReal :=
  if h : f.val < 64 then 1 else if h : f.val < 80 then co s ⟨f.val - 64, by omega⟩ else if h : f.val < 96 then co s ⟨f.val - 80, by omega⟩ else 0
@[inherit_doc ctab] def stab (s : Fin 4096) (f : Fin 128) : EReal :=
  if h : f.val < 64 then 0 else if h : f.val < 80 then -si s ⟨f.val - 64, by omega⟩ else if h : f.val < 96 then si s ⟨f.val - 80, by omega⟩ else 0

/-- The joined weights: the latents' columns, then the turned lanes' columns in both orders, zeros around them. -/
def wcat (A : S1024x544.Idx → EReal) (l : Fin 1024) (f : Fin 768) : EReal :=
  if h : f.val < 512 then A (ix2 l ⟨f.val, by omega⟩)
  else if h : 576 ≤ f.val ∧ f.val < 608 then A (ix2 l ⟨f.val - 64, by omega⟩)
  else if h : 704 ≤ f.val ∧ f.val < 720 then A (ix2 l ⟨f.val - 176, by omega⟩)
  else if h : 720 ≤ f.val ∧ f.val < 736 then A (ix2 l ⟨f.val - 208, by omega⟩)
  else 0

/-- The query's weights, each head's 96 columns in 128 lanes, -/
def wqf (A : S256x1536.Idx → EReal) (k : Fin 256) (n : Fin 2048) : EReal :=
  if h : n.val % 128 < 96 then A (ix2 k ⟨96 * (n.val / 128) + n.val % 128, by omega⟩) else 0

/-- with the two halves of the turned columns exchanged and the others left out, -/
def wqsf (A : S256x1536.Idx → EReal) (k : Fin 256) (n : Fin 2048) : EReal :=
  if h : 64 ≤ n.val % 128 ∧ n.val % 128 < 80 then A (ix2 k ⟨96 * (n.val / 128) + (n.val % 128 + 16), by omega⟩)
  else if h : 80 ≤ n.val % 128 ∧ n.val % 128 < 96 then A (ix2 k ⟨96 * (n.val / 128) + (n.val % 128 - 16), by omega⟩) else 0

/-- and the keys' or values' weights, each head's 64 columns in 128 lanes. -/
def wkf (A : S256x16x64.Idx → EReal) (k : Fin 256) (n : Fin 2048) : EReal :=
  if h : n.val % 128 < 64 then A (ix3 k ⟨n.val / 128, by omega⟩ ⟨n.val % 128, h⟩) else 0

/-- A one in each head's lane 64. -/
def ones (n : Fin 2048) : EReal := if n.val % 128 = 64 then 1 else 0

/-! ## The layer's mathematics, at position `s` of sequence `b` -/

/-- A feature: the input's row times a column of the weights. -/
def feat (x : S4x4096x1024.Idx → EReal) (A : S1024x544.Idx → EReal) (b : Fin 4) (s : Fin 4096) (f : Fin 544) : EReal :=
  ∑ l, x (ix3 b s l) * A (ix2 l f)

/-- The normed query latents, -/
def cqs (x : S4x4096x1024.Idx → EReal) (A : S1024x544.Idx → EReal) (g : S256.Idx → EReal) (b : Fin 4) (s : Fin 4096) : Fin 256 → EReal :=
  rms (fun c => feat x A b s ⟨c.val, by omega⟩) (fun c => g (ix1 c))

/-- the normed key and value latents, -/
def cks (x : S4x4096x1024.Idx → EReal) (A : S1024x544.Idx → EReal) (g : S256.Idx → EReal) (b : Fin 4) (s : Fin 4096) : Fin 256 → EReal :=
  rms (fun c => feat x A b s ⟨256 + c.val, by omega⟩) (fun c => g (ix1 c))

/-- the turned key lanes, -/
def krs (x : S4x4096x1024.Idx → EReal) (A : S1024x544.Idx → EReal) (b : Fin 4) (s : Fin 4096) (f : Fin 32) : EReal :=
  if h : f.val < 16 then feat x A b s ⟨512 + f.val, by omega⟩ * co s ⟨f.val, h⟩ - feat x A b s ⟨528 + f.val, by omega⟩ * si s ⟨f.val, h⟩
  else feat x A b s ⟨512 + (f.val - 16), by omega⟩ * si s ⟨f.val - 16, by omega⟩ + feat x A b s ⟨528 + (f.val - 16), by omega⟩ * co s ⟨f.val - 16, by omega⟩

/-- a head's query feature before the turn, -/
def uq (a : Fin 256 → EReal) (Wq : S256x1536.Idx → EReal) (n : Fin 1536) : EReal := ∑ k, a k * Wq (ix2 k n)

/-- the queries: 64 lanes as they are, 32 turned, 32 zeros, all scaled, -/
def qs (a : Fin 256 → EReal) (Wq : S256x1536.Idx → EReal) (s : Fin 4096) (n : Fin 2048) : EReal :=
  (if h : n.val % 128 < 64 then uq a Wq ⟨96 * (n.val / 128) + n.val % 128, by omega⟩
   else if h : n.val % 128 < 80 then
     uq a Wq ⟨96 * (n.val / 128) + n.val % 128, by omega⟩ * co s ⟨n.val % 128 - 64, by omega⟩
       - uq a Wq ⟨96 * (n.val / 128) + (n.val % 128 + 16), by omega⟩ * si s ⟨n.val % 128 - 64, by omega⟩
   else if h : n.val % 128 < 96 then
     uq a Wq ⟨96 * (n.val / 128) + (n.val % 128 - 16), by omega⟩ * si s ⟨n.val % 128 - 80, by omega⟩
       + uq a Wq ⟨96 * (n.val / 128) + n.val % 128, by omega⟩ * co s ⟨n.val % 128 - 80, by omega⟩
   else 0) * scale

/-- the keys: 64 lanes from the latents, the 32 turned lanes, 32 zeros, -/
def ks (a : Fin 256 → EReal) (t : Fin 32 → EReal) (Wk : S256x16x64.Idx → EReal) (n : Fin 2048) : EReal :=
  if h : n.val % 128 < 64 then ∑ k, a k * Wk (ix3 k ⟨n.val / 128, by omega⟩ ⟨n.val % 128, h⟩)
  else if h : n.val % 128 < 96 then t ⟨n.val % 128 - 64, by omega⟩ else 0

/-- the values: 64 lanes from the latents, a one, zeros, -/
def vs (a : Fin 256 → EReal) (Wv : S256x16x64.Idx → EReal) (n : Fin 2048) : EReal :=
  if h : n.val % 128 < 64 then ∑ k, a k * Wv (ix3 k ⟨n.val / 128, by omega⟩ ⟨n.val % 128, h⟩)
  else if n.val % 128 = 64 then 1 else 0

/-- and the cache row: the latents, then the turned lanes. -/
def ls (a : Fin 256 → EReal) (t : Fin 32 → EReal) (j : Fin 288) : EReal :=
  if h : j.val < 256 then a ⟨j.val, h⟩ else t ⟨j.val - 256, by omega⟩

end Cert.Kernel9Ideal.Lat

end
-- ==== Proof.Lat.Kern.lean ====
/- The latent layer's projections: the call over the prepared operands computes the layer's mathematics. -/
module

public import proofs.«01_k».proof.Proof.Lat.Spec
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

/-- The joined weights at each of their ranges of columns. -/
theorem wcat_a (A : S1024x544.Idx → EReal) (l : Fin 1024) (f : Fin 768) (h : f.val < 512) : wcat A l f = A (ix2 l ⟨f.val, by omega⟩) := by
  unfold wcat
  rw [dif_pos h]
@[inherit_doc wcat_a]
theorem wcat_b (A : S1024x544.Idx → EReal) (l : Fin 1024) (f : Fin 768) (h : 576 ≤ f.val ∧ f.val < 608) : wcat A l f = A (ix2 l ⟨f.val - 64, by omega⟩) := by
  unfold wcat
  rw [dif_neg (by omega), dif_pos h]
@[inherit_doc wcat_a]
theorem wcat_c (A : S1024x544.Idx → EReal) (l : Fin 1024) (f : Fin 768) (h : 704 ≤ f.val ∧ f.val < 720) : wcat A l f = A (ix2 l ⟨f.val - 176, by omega⟩) := by
  unfold wcat
  rw [dif_neg (by omega), dif_neg (by omega), dif_pos h]
@[inherit_doc wcat_a]
theorem wcat_d (A : S1024x544.Idx → EReal) (l : Fin 1024) (f : Fin 768) (h : 720 ≤ f.val ∧ f.val < 736) : wcat A l f = A (ix2 l ⟨f.val - 208, by omega⟩) := by
  unfold wcat
  rw [dif_neg (by omega), dif_neg (by omega), dif_neg (by omega), dif_pos h]
@[inherit_doc wcat_a]
theorem wcat_z (A : S1024x544.Idx → EReal) (l : Fin 1024) (f : Fin 768)
    (h : (512 ≤ f.val ∧ f.val < 576) ∨ (608 ≤ f.val ∧ f.val < 704) ∨ 736 ≤ f.val) : wcat A l f = 0 := by
  unfold wcat
  rw [dif_neg (by omega), dif_neg (by omega), dif_neg (by omega), dif_neg (by omega)]

section
variable (x : S4x4096x1024.Idx → EReal) (A : S1024x544.Idx → EReal) (b : Fin 4) (s : Fin 4096)
  (X : Fin 1024 → EReal) (W : Fin 1024 → Fin 768 → EReal)
  (hx : ∀ l, X l = x (ix3 b s l)) (hw : ∀ l f, W l f = wcat A l f)

include hx hw

/-- A feature over the joined weights is the feature of the column that the weights hold there, -/
theorem hid_at (f : Fin 768) (g : Fin 544) (h : ∀ l, wcat A l f = A (ix2 l g)) : hid X W f = feat x A b s g := by
  unfold hid feat
  exact Finset.sum_congr rfl fun l _ => by rw [hx, hw, h]

/-- and zero where they hold zeros. -/
theorem hid_z (f : Fin 768) (h : ∀ l, wcat A l f = 0) : hid X W f = 0 := by
  unfold hid
  refine Finset.sum_eq_zero fun l _ => ?_
  rw [hw, h, mul_zero]

/-- The call's latents are the layer's. -/
theorem cq_eq (g : S256.Idx → EReal) (G : Fin 256 → EReal) (hg : ∀ k, G k = g (ix1 k)) : cq X W G = cqs x A g b s := by
  have e : (fun c : Fin 256 => hid X W ⟨c.val, by omega⟩) = fun c : Fin 256 => feat x A b s ⟨c.val, by omega⟩ := funext fun c =>
    hid_at x A b s X W hx hw _ _ fun l => wcat_a A l _ (by show c.val < 512; omega)
  unfold cq cqs
  rw [e, (funext hg : G = fun k => g (ix1 k))]

@[inherit_doc cq_eq]
theorem ck_eq (g : S256.Idx → EReal) (G : Fin 256 → EReal) (hg : ∀ k, G k = g (ix1 k)) : ck X W G = cks x A g b s := by
  have e : (fun c : Fin 256 => hid X W ⟨256 + c.val, by omega⟩) = fun c : Fin 256 => feat x A b s ⟨256 + c.val, by omega⟩ := funext fun c =>
    hid_at x A b s X W hx hw _ _ fun l => wcat_a A l _ (by show 256 + c.val < 512; omega)
  unfold ck cks
  rw [e, (funext hg : G = fun k => g (ix1 k))]

/-- The call's turned lanes: zeros, the layer's 32 lanes, zeros. -/
theorem kr_eq (C S : Fin 128 → EReal) (hC : ∀ f, C f = ctab s f) (hS : ∀ f, S f = stab s f) (f : Fin 128) :
    kr X W C S f = if h : 64 ≤ f.val ∧ f.val < 96 then krs x A b s ⟨f.val - 64, by omega⟩ else 0 := by
  unfold kr
  by_cases h0 : f.val < 64
  · rw [dif_neg (by omega), hid_z x A b s X W hx hw _ fun l => wcat_z A l _ (by show (512 ≤ 512 + f.val ∧ 512 + f.val < 576) ∨ (608 ≤ 512 + f.val ∧ 512 + f.val < 704) ∨ 736 ≤ 512 + f.val; omega),
      hid_z x A b s X W hx hw _ fun l => wcat_z A l _ (by show (512 ≤ 640 + f.val ∧ 640 + f.val < 576) ∨ (608 ≤ 640 + f.val ∧ 640 + f.val < 704) ∨ 736 ≤ 640 + f.val; omega),
      zero_mul, zero_mul, add_zero]
  by_cases h1 : f.val < 80
  · rw [dif_pos (by omega), hC, hS]
    unfold ctab stab krs
    rw [dif_neg h0, dif_pos h1, dif_neg h0, dif_pos h1, dif_pos (by show f.val - 64 < 16; omega), mul_neg, ← sub_eq_add_neg]
    rw [hid_at x A b s X W hx hw ⟨512 + f.val, by omega⟩ (⟨512 + (f.val - 64), by omega⟩ : Fin 544) fun l => (wcat_b A l _ (by show 576 ≤ 512 + f.val ∧ 512 + f.val < 608; omega)).trans
        (congrArg (fun z => A (ix2 l z)) (Fin.ext (by show 512 + f.val - 64 = 512 + (f.val - 64); omega))),
      hid_at x A b s X W hx hw ⟨640 + f.val, by omega⟩ (⟨528 + (f.val - 64), by omega⟩ : Fin 544) fun l => (wcat_c A l _ (by show 704 ≤ 640 + f.val ∧ 640 + f.val < 720; omega)).trans
        (congrArg (fun z => A (ix2 l z)) (Fin.ext (by show 640 + f.val - 176 = 528 + (f.val - 64); omega)))]
  by_cases h2 : f.val < 96
  · have e : (⟨f.val - 64 - 16, by omega⟩ : Fin 16) = ⟨f.val - 80, by omega⟩ := Fin.ext (by show f.val - 64 - 16 = f.val - 80; omega)
    rw [dif_pos (by omega), hC, hS]
    unfold ctab stab krs
    rw [dif_neg h0, dif_neg h1, dif_pos h2, dif_neg h0, dif_neg h1, dif_pos h2, dif_neg (by show ¬ f.val - 64 < 16; omega), add_comm]
    rw [hid_at x A b s X W hx hw ⟨512 + f.val, by omega⟩ (⟨528 + (f.val - 64 - 16), by omega⟩ : Fin 544) fun l => (wcat_b A l _ (by show 576 ≤ 512 + f.val ∧ 512 + f.val < 608; omega)).trans
        (congrArg (fun z => A (ix2 l z)) (Fin.ext (by show 512 + f.val - 64 = 528 + (f.val - 64 - 16); omega))),
      hid_at x A b s X W hx hw ⟨640 + f.val, by omega⟩ (⟨512 + (f.val - 64 - 16), by omega⟩ : Fin 544) fun l => (wcat_d A l _ (by show 720 ≤ 640 + f.val ∧ 640 + f.val < 736; omega)).trans
        (congrArg (fun z => A (ix2 l z)) (Fin.ext (by show 640 + f.val - 208 = 512 + (f.val - 64 - 16); omega))), e]
  · rw [dif_neg (by omega), hC, hS]
    unfold ctab stab
    rw [dif_neg h0, dif_neg h1, dif_neg h2, dif_neg h0, dif_neg h1, dif_neg h2, mul_zero, mul_zero, add_zero]

end

/-- A query lane of the call is the layer's, -/
theorem qv_eq (a : Fin 256 → EReal) (Wq : S256x1536.Idx → EReal) (s : Fin 4096) (w ws : Fin 256 → Fin 2048 → EReal) (C S : Fin 128 → EReal)
    (hw : ∀ k n, w k n = wqf Wq k n) (hs : ∀ k n, ws k n = wqsf Wq k n) (hC : ∀ f, C f = ctab s f) (hS : ∀ f, S f = stab s f) (n : Fin 2048) :
    qv a w ws C S n = qs a Wq s n := by
  unfold qv qs
  refine congrArg (· * scale) ?_
  rw [hC, hS]
  simp only [hw, hs]
  unfold ctab stab wqf wqsf uq
  by_cases h0 : n.val % 128 < 64
  · simp only [dif_pos h0, dif_pos (show n.val % 128 < 96 by omega), mul_one, mul_zero, add_zero]
  by_cases h1 : n.val % 128 < 80
  · simp only [dif_neg h0, dif_pos h1, dif_pos (show n.val % 128 < 96 by omega), dif_pos (show 64 ≤ n.val % 128 ∧ n.val % 128 < 80 by omega), mul_neg]
    exact (sub_eq_add_neg _ _).symm
  by_cases h2 : n.val % 128 < 96
  · simp only [dif_neg h0, dif_neg h1, dif_pos h2, dif_neg (show ¬ (64 ≤ n.val % 128 ∧ n.val % 128 < 80) by omega), dif_pos (show 80 ≤ n.val % 128 ∧ n.val % 128 < 96 by omega)]
    exact add_comm _ _
  · simp only [dif_neg h0, dif_neg h1, dif_neg h2, mul_zero, add_zero]

/-- a key lane, -/
theorem kv_eq (a : Fin 256 → EReal) (t : Fin 32 → EReal) (T : Fin 128 → EReal) (Wk : S256x16x64.Idx → EReal) (w : Fin 256 → Fin 2048 → EReal)
    (hw : ∀ k n, w k n = wkf Wk k n) (hT : ∀ f, T f = if h : 64 ≤ f.val ∧ f.val < 96 then t ⟨f.val - 64, by omega⟩ else 0) (n : Fin 2048) :
    kv a w T n = ks a t Wk n := by
  unfold kv ks
  rw [hT]
  simp only [hw]
  unfold wkf
  by_cases h0 : n.val % 128 < 64
  · simp only [dif_pos h0, dif_neg (show ¬ (64 ≤ n.val % 128 ∧ n.val % 128 < 96) by omega), add_zero]
  by_cases h2 : n.val % 128 < 96
  · simp only [dif_neg h0, dif_pos h2, dif_pos (show 64 ≤ n.val % 128 ∧ n.val % 128 < 96 by omega), mul_zero, Finset.sum_const_zero, zero_add]
  · simp only [dif_neg h0, dif_neg h2, dif_neg (show ¬ (64 ≤ n.val % 128 ∧ n.val % 128 < 96) by omega), mul_zero, Finset.sum_const_zero, add_zero]

/-- a value lane, -/
theorem vv_eq (a : Fin 256 → EReal) (Wv : S256x16x64.Idx → EReal) (w : Fin 256 → Fin 2048 → EReal) (o : Fin 2048 → EReal)
    (hw : ∀ k n, w k n = wkf Wv k n) (ho : ∀ n, o n = ones n) (n : Fin 2048) : vv a w o n = vs a Wv n := by
  unfold vv vs
  rw [ho]
  simp only [hw]
  unfold wkf ones
  by_cases h0 : n.val % 128 < 64
  · simp only [dif_pos h0, if_neg (show ¬ n.val % 128 = 64 by omega), add_zero]
  · simp only [dif_neg h0, mul_zero, Finset.sum_const_zero, zero_add]

/-- and an entry of the cache row. -/
theorem lv_eq (a : Fin 256 → EReal) (t : Fin 32 → EReal) (T : Fin 128 → EReal)
    (hT : ∀ f, T f = if h : 64 ≤ f.val ∧ f.val < 96 then t ⟨f.val - 64, by omega⟩ else 0) (j : Fin 288) : lv a T j = ls a t j := by
  unfold lv ls
  by_cases h : j.val < 256
  · rw [dif_pos h, dif_pos h]
  · rw [dif_neg h, dif_neg h, hT, dif_pos (by show 64 ≤ 64 + (j.val - 256) ∧ 64 + (j.val - 256) < 96; omega)]
    exact congrArg t (Fin.ext (by show 64 + (j.val - 256) - 64 = j.val - 256; omega))

end Cert.Kernel9Ideal.Lat

end
-- ==== Proof.Lat.Scat.lean ====
/- A table of 128 lanes per head with some lanes set: the scatters that lay out the latent layer's head weights, element by element. -/
module

public import proofs.«01_k».proof.Proof.Gen.Kernel9Ideal.Skeleton
public import Idealize.ShloMosaic.Lib.Pointwise
public import Idealize.ShloMosaic.Lib.Routing.OpsSet

@[expose] public section

set_option maxRecDepth 16384

noncomputable section

namespace Cert.Kernel9Ideal.Lat

open Idealize.ShloMosaic Idealize.ShloMosaic.TcCoe Cert.Kernel9Ideal.Gen Idealize.ShloMosaic.Tactic
open Idealize.ShloMosaic.Routing (resultIdx?_eq_some scatter_set_hit scatter_set_miss)

/-- A scatter of a whole window of lanes that starts at lane `o` sets the lanes `[o, o + W)` and leaves the others. -/
theorem scatter_lanes {W : ℕ} (d : ScatterDims S256x16x128 S1 (⟨3, ![256, 16, W]⟩ : Shape)) (hw : ∀ j a, d.window j a = (j a).val)
    (idx : IVec S1 32) (o : ℕ) (h0 : ∀ j, d.start j idx 0 = 0) (h1 : ∀ j, d.start j idx 1 = 0) (h2 : ∀ j, d.start j idx 2 = (o : Int))
    (x0 : S256x16x128.Idx → EReal) (upd : (⟨3, ![256, 16, W]⟩ : Shape).Idx → EReal) (c : Fin 256) (h : Fin 16) (n : Fin 128) :
    Host.scatter d (fun _ b => b) x0 idx upd (ix3 c h n)
      = if hn : o ≤ n.val ∧ n.val < o + W then upd (ix3 c h ⟨n.val - o, by omega⟩) else x0 (ix3 c h n) := by
  have lands : ∀ j, d.resultIdx? j idx = some (ix3 c h n) ↔ (j 0).val = c.val ∧ (j 1).val = h.val ∧ o + (j 2).val = n.val := by
    intro j
    rw [resultIdx?_eq_some]
    constructor
    · intro q
      have q0 := q 0
      have q1 := q 1
      have q2 := q 2
      rw [hw, h0] at q0
      rw [hw, h1] at q1
      rw [hw, h2] at q2
      have e0 : (0 : Int) + ((j 0).val : Int) = (c.val : Int) := q0
      have e1 : (0 : Int) + ((j 1).val : Int) = (h.val : Int) := q1
      have e2 : (o : Int) + ((j 2).val : Int) = (n.val : Int) := q2
      omega
    · rintro ⟨e0, e1, e2⟩ a
      match a with
      | ⟨0, _⟩ =>
        refine (congrArg₂ (fun (u : Int) (v : ℕ) => u + (v : Int)) (h0 j) (hw j 0)).trans ?_
        show (0 : Int) + ((j 0).val : Int) = (c.val : Int)
        omega
      | ⟨1, _⟩ =>
        refine (congrArg₂ (fun (u : Int) (v : ℕ) => u + (v : Int)) (h1 j) (hw j 1)).trans ?_
        show (0 : Int) + ((j 1).val : Int) = (h.val : Int)
        omega
      | ⟨2, _⟩ =>
        refine (congrArg₂ (fun (u : Int) (v : ℕ) => u + (v : Int)) (h2 j) (hw j 2)).trans ?_
        show (o : Int) + ((j 2).val : Int) = (n.val : Int)
        omega
  by_cases hn : o ≤ n.val ∧ n.val < o + W
  · rw [dif_pos hn]
    refine scatter_set_hit d x0 idx upd _ _ (fun j hj => ?_) (ix3 c h ⟨n.val - o, by omega⟩) ((lands _).2 ⟨rfl, rfl, by show o + (n.val - o) = n.val; omega⟩)
    obtain ⟨e0, e1, e2⟩ := (lands j).1 hj
    refine congrArg upd ?_
    funext a
    match a with
    | ⟨0, _⟩ => exact Fin.ext e0
    | ⟨1, _⟩ => exact Fin.ext e1
    | ⟨2, _⟩ => exact Fin.ext (by show (j 2).val = n.val - o; omega)
  · rw [dif_neg hn]
    refine scatter_set_miss d x0 idx upd _ fun j hj => hn ?_
    obtain ⟨e0, e1, e2⟩ := (lands j).1 hj
    have : (j 2).val < W := (j 2).isLt
    omega

section
variable (idx : IVec S1 32) (o : ℕ) (ho : (idx (ix1 0)).toInt = (o : Int)) (x0 : S256x16x128.Idx → EReal) (c : Fin 256) (h : Fin 16) (n : Fin 128)

include ho in
/-- The scatter of 64 lanes, -/
theorem scatter64 (upd : S256x16x64.Idx → EReal) :
    Host.scatter scatter_S256x16x128_S1_S256x16x64_012_n_2_0 (fun _ b => b) x0 idx upd (ix3 c h n)
      = if hn : o ≤ n.val ∧ n.val < o + 64 then upd (ix3 c h ⟨n.val - o, by omega⟩) else x0 (ix3 c h n) :=
  scatter_lanes (W := 64) scatter_S256x16x128_S1_S256x16x64_012_n_2_0 (fun j a => by fin_cases a <;> rfl) idx o (fun _ => rfl) (fun _ => rfl)
    (fun j => (congrArg (fun z => (idx z).toInt) (by
      funext a
      match a with
      | ⟨0, _⟩ => exact Subsingleton.elim (α := Fin 1) _ _)).trans ho) x0 upd c h n

include ho in
/-- and of 16 lanes. -/
theorem scatter16 (upd : S256x16x16.Idx → EReal) :
    Host.scatter scatter_S256x16x128_S1_S256x16x16_012_n_2_0 (fun _ b => b) x0 idx upd (ix3 c h n)
      = if hn : o ≤ n.val ∧ n.val < o + 16 then upd (ix3 c h ⟨n.val - o, by omega⟩) else x0 (ix3 c h n) :=
  scatter_lanes (W := 16) scatter_S256x16x128_S1_S256x16x16_012_n_2_0 (fun j a => by fin_cases a <;> rfl) idx o (fun _ => rfl) (fun _ => rfl)
    (fun j => (congrArg (fun z => (idx z).toInt) (by
      funext a
      match a with
      | ⟨0, _⟩ => exact Subsingleton.elim (α := Fin 1) _ _)).trans ho) x0 upd c h n

end

/-- The scatter of 64 lanes into each head, at a lane of the flat array. -/
theorem lane64 (idx : IVec S1 32) (o : ℕ) (ho : (idx (ix1 0)).toInt = o) (x0 : S256x16x128.Idx → EReal) (k : Fin 256) (n : Fin 2048)
    (upd : S256x16x64.Idx → EReal) :
    Host.scatter scatter_S256x16x128_S1_S256x16x64_012_n_2_0 (fun _ b => b) x0 idx upd (ix3 k (⟨n.val / 128, by omega⟩ : Fin 16) (⟨n.val % 128, by omega⟩ : Fin 128))
      = if hn : o ≤ n.val % 128 ∧ n.val % 128 < o + 64 then upd (ix3 k ⟨n.val / 128, by omega⟩ ⟨n.val % 128 - o, by omega⟩)
        else x0 (ix3 k ⟨n.val / 128, by omega⟩ ⟨n.val % 128, by omega⟩) := scatter64 idx o ho x0 k _ _ upd

/-- The scatter of 16 lanes into each head, at a lane of the flat array. -/
theorem lane16 (idx : IVec S1 32) (o : ℕ) (ho : (idx (ix1 0)).toInt = o) (x0 : S256x16x128.Idx → EReal) (k : Fin 256) (n : Fin 2048)
    (upd : S256x16x16.Idx → EReal) :
    Host.scatter scatter_S256x16x128_S1_S256x16x16_012_n_2_0 (fun _ b => b) x0 idx upd (ix3 k (⟨n.val / 128, by omega⟩ : Fin 16) (⟨n.val % 128, by omega⟩ : Fin 128))
      = if hn : o ≤ n.val % 128 ∧ n.val % 128 < o + 16 then upd (ix3 k ⟨n.val / 128, by omega⟩ ⟨n.val % 128 - o, by omega⟩)
        else x0 (ix3 k ⟨n.val / 128, by omega⟩ ⟨n.val % 128, by omega⟩) := scatter16 idx o ho x0 k _ _ upd

end Cert.Kernel9Ideal.Lat

end
-- ==== Proof.Lat.Host.lean ====
/- The latent layer's projections: the input and the norms' gains, as the call reads them. -/
module

public import proofs.«01_k».proof.Proof.Lat.Spec
public import proofs.«01_k».proof.Proof.Lat.Scat
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

/-- Pieces of 64, 16, 16 and 32 lanes laid side by side, at a lane. -/
theorem cat1024 (x0 : S1024x64.Idx → EReal) (x1 x2 : S1024x16.Idx → EReal) (x3 : S1024x32.Idx → EReal) (l : Fin 1024) (f : Fin 128) :
    concatenate S1024x128 1 [⟨S1024x64, x0⟩, ⟨S1024x16, x1⟩, ⟨S1024x16, x2⟩, ⟨S1024x32, x3⟩] concatenates_S1024x64_S1024x16_S1024x16_S1024x32_S1024x128_d1 (ix2 l f)
      = if h : f.val < 64 then x0 (ix2 l ⟨f.val, h⟩) else if h : f.val < 80 then x1 (ix2 l ⟨f.val - 64, by omega⟩)
        else if h : f.val < 96 then x2 (ix2 l ⟨f.val - 80, by omega⟩) else x3 (ix2 l ⟨f.val - 96, by omega⟩) := by
  split_ifs with h0 h1 h2
  · exact concatenate_apply_piece (t := S1024x128) 1 [⟨S1024x64, x0⟩, ⟨S1024x16, x1⟩, ⟨S1024x16, x2⟩, ⟨S1024x32, x3⟩] concatenates_S1024x64_S1024x16_S1024x16_S1024x32_S1024x128_d1 (ix2 l f) 0 (by show _ < _; exact Nat.lt_of_sub_pos (by exact Nat.zero_lt_succ _)) S1024x64 x0 rfl rfl 0 rfl (ix2 l ⟨f.val, h0⟩)
      (fun b hb => by fin_cases b <;> first | rfl | exact absurd rfl hb) (by show 0 + f.val = f.val; omega)
  · exact concatenate_apply_piece (t := S1024x128) 1 [⟨S1024x64, x0⟩, ⟨S1024x16, x1⟩, ⟨S1024x16, x2⟩, ⟨S1024x32, x3⟩] concatenates_S1024x64_S1024x16_S1024x16_S1024x32_S1024x128_d1 (ix2 l f) 1 (by show _ < _; exact Nat.lt_of_sub_pos (by exact Nat.zero_lt_succ _)) S1024x16 x1 rfl rfl 64 rfl (ix2 l ⟨f.val - 64, by omega⟩)
      (fun b hb => by fin_cases b <;> first | rfl | exact absurd rfl hb) (by show 64 + (f.val - 64) = f.val; omega)
  · exact concatenate_apply_piece (t := S1024x128) 1 [⟨S1024x64, x0⟩, ⟨S1024x16, x1⟩, ⟨S1024x16, x2⟩, ⟨S1024x32, x3⟩] concatenates_S1024x64_S1024x16_S1024x16_S1024x32_S1024x128_d1 (ix2 l f) 2 (by show _ < _; exact Nat.lt_of_sub_pos (by exact Nat.zero_lt_succ _)) S1024x16 x2 rfl rfl 80 rfl (ix2 l ⟨f.val - 80, by omega⟩)
      (fun b hb => by fin_cases b <;> first | rfl | exact absurd rfl hb) (by show 80 + (f.val - 80) = f.val; omega)
  · exact concatenate_apply_piece (t := S1024x128) 1 [⟨S1024x64, x0⟩, ⟨S1024x16, x1⟩, ⟨S1024x16, x2⟩, ⟨S1024x32, x3⟩] concatenates_S1024x64_S1024x16_S1024x16_S1024x32_S1024x128_d1 (ix2 l f) 3 (by show _ < _; exact Nat.lt_of_sub_pos (by exact Nat.zero_lt_succ _)) S1024x32 x3 rfl rfl 96 rfl (ix2 l ⟨f.val - 96, by omega⟩)
      (fun b hb => by fin_cases b <;> first | rfl | exact absurd rfl hb) (by show 96 + (f.val - 96) = f.val; omega)

/-- Pieces of 64, 16, 16 and 32 lanes laid side by side, at a lane. -/
theorem cat4096 (x0 : S4096x64.Idx → EReal) (x1 x2 : S4096x16.Idx → EReal) (x3 : S4096x32.Idx → EReal) (l : Fin 4096) (f : Fin 128) :
    concatenate S4096x128 1 [⟨S4096x64, x0⟩, ⟨S4096x16, x1⟩, ⟨S4096x16, x2⟩, ⟨S4096x32, x3⟩] concatenates_S4096x64_S4096x16_S4096x16_S4096x32_S4096x128_d1 (ix2 l f)
      = if h : f.val < 64 then x0 (ix2 l ⟨f.val, h⟩) else if h : f.val < 80 then x1 (ix2 l ⟨f.val - 64, by omega⟩)
        else if h : f.val < 96 then x2 (ix2 l ⟨f.val - 80, by omega⟩) else x3 (ix2 l ⟨f.val - 96, by omega⟩) := by
  split_ifs with h0 h1 h2
  · exact concatenate_apply_piece (t := S4096x128) 1 [⟨S4096x64, x0⟩, ⟨S4096x16, x1⟩, ⟨S4096x16, x2⟩, ⟨S4096x32, x3⟩] concatenates_S4096x64_S4096x16_S4096x16_S4096x32_S4096x128_d1 (ix2 l f) 0 (by show _ < _; exact Nat.lt_of_sub_pos (by exact Nat.zero_lt_succ _)) S4096x64 x0 rfl rfl 0 rfl (ix2 l ⟨f.val, h0⟩)
      (fun b hb => by fin_cases b <;> first | rfl | exact absurd rfl hb) (by show 0 + f.val = f.val; omega)
  · exact concatenate_apply_piece (t := S4096x128) 1 [⟨S4096x64, x0⟩, ⟨S4096x16, x1⟩, ⟨S4096x16, x2⟩, ⟨S4096x32, x3⟩] concatenates_S4096x64_S4096x16_S4096x16_S4096x32_S4096x128_d1 (ix2 l f) 1 (by show _ < _; exact Nat.lt_of_sub_pos (by exact Nat.zero_lt_succ _)) S4096x16 x1 rfl rfl 64 rfl (ix2 l ⟨f.val - 64, by omega⟩)
      (fun b hb => by fin_cases b <;> first | rfl | exact absurd rfl hb) (by show 64 + (f.val - 64) = f.val; omega)
  · exact concatenate_apply_piece (t := S4096x128) 1 [⟨S4096x64, x0⟩, ⟨S4096x16, x1⟩, ⟨S4096x16, x2⟩, ⟨S4096x32, x3⟩] concatenates_S4096x64_S4096x16_S4096x16_S4096x32_S4096x128_d1 (ix2 l f) 2 (by show _ < _; exact Nat.lt_of_sub_pos (by exact Nat.zero_lt_succ _)) S4096x16 x2 rfl rfl 80 rfl (ix2 l ⟨f.val - 80, by omega⟩)
      (fun b hb => by fin_cases b <;> first | rfl | exact absurd rfl hb) (by show 80 + (f.val - 80) = f.val; omega)
  · exact concatenate_apply_piece (t := S4096x128) 1 [⟨S4096x64, x0⟩, ⟨S4096x16, x1⟩, ⟨S4096x16, x2⟩, ⟨S4096x32, x3⟩] concatenates_S4096x64_S4096x16_S4096x16_S4096x32_S4096x128_d1 (ix2 l f) 3 (by show _ < _; exact Nat.lt_of_sub_pos (by exact Nat.zero_lt_succ _)) S4096x32 x3 rfl rfl 96 rfl (ix2 l ⟨f.val - 96, by omega⟩)
      (fun b hb => by fin_cases b <;> first | rfl | exact absurd rfl hb) (by show 96 + (f.val - 96) = f.val; omega)

/-- Pieces of 512, 128 and 128 lanes laid side by side, at a lane. -/
theorem cat768 (x0 : S1024x512.Idx → EReal) (x1 x2 : S1024x128.Idx → EReal) (l : Fin 1024) (f : Fin 768) :
    concatenate S1024x768 1 [⟨S1024x512, x0⟩, ⟨S1024x128, x1⟩, ⟨S1024x128, x2⟩] concatenates_S1024x512_S1024x128_S1024x128_S1024x768_d1 (ix2 l f)
      = if h : f.val < 512 then x0 (ix2 l ⟨f.val, h⟩) else if h : f.val < 640 then x1 (ix2 l ⟨f.val - 512, by omega⟩)
        else x2 (ix2 l ⟨f.val - 640, by omega⟩) := by
  split_ifs with h0 h1
  · exact concatenate_apply_piece (t := S1024x768) 1 [⟨S1024x512, x0⟩, ⟨S1024x128, x1⟩, ⟨S1024x128, x2⟩] concatenates_S1024x512_S1024x128_S1024x128_S1024x768_d1 (ix2 l f) 0 (by show _ < _; exact Nat.lt_of_sub_pos (by exact Nat.zero_lt_succ _)) S1024x512 x0 rfl rfl 0 rfl (ix2 l ⟨f.val, h0⟩)
      (fun b hb => by fin_cases b <;> first | rfl | exact absurd rfl hb) (by show 0 + f.val = f.val; omega)
  · exact concatenate_apply_piece (t := S1024x768) 1 [⟨S1024x512, x0⟩, ⟨S1024x128, x1⟩, ⟨S1024x128, x2⟩] concatenates_S1024x512_S1024x128_S1024x128_S1024x768_d1 (ix2 l f) 1 (by show _ < _; exact Nat.lt_of_sub_pos (by exact Nat.zero_lt_succ _)) S1024x128 x1 rfl rfl 512 rfl (ix2 l ⟨f.val - 512, by omega⟩)
      (fun b hb => by fin_cases b <;> first | rfl | exact absurd rfl hb) (by show 512 + (f.val - 512) = f.val; omega)
  · exact concatenate_apply_piece (t := S1024x768) 1 [⟨S1024x512, x0⟩, ⟨S1024x128, x1⟩, ⟨S1024x128, x2⟩] concatenates_S1024x512_S1024x128_S1024x128_S1024x768_d1 (ix2 l f) 2 (by show _ < _; exact Nat.lt_of_sub_pos (by exact Nat.zero_lt_succ _)) S1024x128 x2 rfl rfl 640 rfl (ix2 l ⟨f.val - 640, by omega⟩)
      (fun b hb => by fin_cases b <;> first | rfl | exact absurd rfl hb) (by show 640 + (f.val - 640) = f.val; omega)

variable (m : (ℓ : Loc nD τ sig) → Buf (Elt Ideal) ℓ) (c : Dev nD)

/-- The input's rows, sequence by sequence. -/
theorem x_host (b : Fin 4) (s : Fin 4096) (l : Fin 1024) :
    q0 m c (ix2 (pos b s) l) = (m ((c : Thread nD τ).loc main_arg0) : S4x4096x1024.Idx → EReal) (ix3 b s l) := by
  show StableHlo.after hostOps0 (fun b => m (c, b)) (Proc.tc.devRef main_v22) _ = _
  entry_read
  clean_types
  pointwise
  have e0 : (⟨(4096 * b.val + s.val) / 4096, by omega⟩ : Fin 4) = b := Fin.ext (by show (4096 * b.val + s.val) / 4096 = b.val; omega)
  have e1 : (⟨(4096 * b.val + s.val) % 4096, by omega⟩ : Fin 4096) = s := Fin.ext (by show (4096 * b.val + s.val) % 4096 = s.val; omega)
  rw [e0, e1]

/-- The norms' weights. -/
theorem g4_host (k : Fin 256) : q4 m c (ix2 0 k) = (m ((c : Thread nD τ).loc main_arg2) : S256.Idx → EReal) (ix1 k) := by
  show StableHlo.after hostOps0 (fun b => m (c, b)) (Proc.tc.devRef main_v65) _ = _
  entry_read
  clean_types
  pointwise

@[inherit_doc g4_host]
theorem g5_host (k : Fin 256) : q5 m c (ix2 0 k) = (m ((c : Thread nD τ).loc main_arg3) : S256.Idx → EReal) (ix1 k) := by
  show StableHlo.after hostOps0 (fun b => m (c, b)) (Proc.tc.devRef main_v66) _ = _
  entry_read
  clean_types
  pointwise

end Cert.Kernel9Ideal.Lat

end
-- ==== Proof.Lat.HW.lean ====
/- The latent layer's projections: the joined weights, as the call reads them. -/
module

public import proofs.«01_k».proof.Proof.Lat.Host
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 4000000 in
/-- The joined weights, as the call reads them. -/
theorem w3_host (l : Fin 1024) (f : Fin 768) : q3 m c (ix2 l f) = wcat (m ((c : Thread nD τ).loc main_arg1)) l f := by
  show StableHlo.after hostOps0 (fun b => m (c, b)) (Proc.tc.devRef main_v31) _ = _
  unfold hostOps0
  after_results_simp
  dsimp only [Matrix.cons_val]
  refine (cat768 _ _ _ l f).trans ?_
  by_cases h0 : f.val < 512
  · rw [dif_pos h0, wcat, dif_pos h0]
    after_results_simp
    pointwise
  by_cases h1 : f.val < 640
  · rw [dif_neg h0, dif_pos h1]
    after_results_simp
    dsimp only [Matrix.cons_val]
    refine (cat1024 _ _ _ _ l _).trans ?_
    after_results_simp
    unfold wcat
    split_ifs <;> first
      | (exfalso; (try dsimp only at *); omega)
      | (pointwise; done)
      | (pointwise; refine congrArg (fun z => (m ((c : Thread nD τ).loc main_arg1) : S1024x544.Idx → EReal) (ix2 l z)) (Fin.ext ?_); (try dsimp only at *); omega)
  · rw [dif_neg h0, dif_neg h1]
    after_results_simp
    dsimp only [Matrix.cons_val]
    refine (cat1024 _ _ _ _ l _).trans ?_
    after_results_simp
    unfold wcat
    split_ifs <;> first
      | (exfalso; (try dsimp only at *); omega)
      | (pointwise; done)
      | (pointwise; refine congrArg (fun z => (m ((c : Thread nD τ).loc main_arg1) : S1024x544.Idx → EReal) (ix2 l z)) (Fin.ext ?_); (try dsimp only at *); omega)

end Cert.Kernel9Ideal.Lat

end
-- ==== Proof.Lat.HC.lean ====
/- The latent layer's projections: the tables of cosines and sines, as the call reads them. -/
module

public import proofs.«01_k».proof.Proof.Lat.Host
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

set_option maxHeartbeats 4000000 in
/-- The table of cosines, as the call reads it, -/
theorem c_host (s : Fin 4096) (f : Fin 128) : q1 m c (ix2 s f) = ctab s f := by
  show StableHlo.after hostOps0 (fun b => m (c, b)) (Proc.tc.devRef main_v17) _ = _
  unfold hostOps0
  after_results_simp
  dsimp only [Matrix.cons_val]
  after_results_simp
  refine (cat4096 _ _ _ _ s f).trans ?_
  unfold ctab
  split_ifs
  · pointwise
  · rfl
  · rfl
  · pointwise

set_option maxHeartbeats 4000000 in
/-- and of sines. -/
theorem s_host (s : Fin 4096) (f : Fin 128) : q2 m c (ix2 s f) = stab s f := by
  show StableHlo.after hostOps0 (fun b => m (c, b)) (Proc.tc.devRef main_v21) _ = _
  unfold hostOps0
  after_results_simp
  dsimp only [Matrix.cons_val]
  after_results_simp
  refine (cat4096 _ _ _ _ s f).trans ?_
  unfold stab
  split_ifs
  · pointwise
  · rfl
  · rfl
  · pointwise

end Cert.Kernel9Ideal.Lat

end
-- ==== Proof.Lat.HQ.lean ====
/- The latent layer's projections: the query's weights, as the call reads them. -/
module

public import proofs.«01_k».proof.Proof.Lat.Host
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

/-- The queries' weights, as the call reads them, -/
theorem q6_host (k : Fin 256) (n : Fin 2048) : q6 m c (ix2 k n) = wqf (m ((c : Thread nD τ).loc main_arg4)) k n := by
  show StableHlo.after hostOps0 (fun b => m (c, b)) (Proc.tc.devRef main_v44) _ = _
  entry_read
  clean_types
  pointwise
  rw [lane16 _ 80 (by rfl) _ k n]
  rw [lane16 _ 64 (by rfl) _ k n]
  rw [lane64 _ 0 (by rfl) _ k n]
  unfold wqf
  split_ifs <;> first
    | (exfalso; (try dsimp only at *); omega)
    | (pointwise; done)
    | exact congrArg (m ((c : Thread nD τ).loc main_arg4) : S256x1536.Idx → EReal) (congrArg (ix2 k) (Fin.ext (by (try dsimp only at *); omega)))
    | (pointwise; refine congrArg (m ((c : Thread nD τ).loc main_arg4) : S256x1536.Idx → EReal) (congrArg (ix2 k) (Fin.ext ?_)); (try dsimp only at *); omega)

/-- with the turned columns exchanged, -/
theorem q7_host (k : Fin 256) (n : Fin 2048) : q7 m c (ix2 k n) = wqsf (m ((c : Thread nD τ).loc main_arg4)) k n := by
  show StableHlo.after hostOps0 (fun b => m (c, b)) (Proc.tc.devRef main_v53) _ = _
  entry_read
  clean_types
  pointwise
  rw [lane16 _ 80 (by rfl) _ k n]
  rw [lane16 _ 64 (by rfl) _ k n]
  unfold wqsf
  split_ifs <;> first
    | (exfalso; (try dsimp only at *); omega)
    | (pointwise; done)
    | exact congrArg (m ((c : Thread nD τ).loc main_arg4) : S256x1536.Idx → EReal) (congrArg (ix2 k) (Fin.ext (by (try dsimp only at *); omega)))
    | (pointwise; refine congrArg (m ((c : Thread nD τ).loc main_arg4) : S256x1536.Idx → EReal) (congrArg (ix2 k) (Fin.ext ?_)); (try dsimp only at *); omega)

end Cert.Kernel9Ideal.Lat

end
-- ==== Proof.Lat.HK.lean ====
/- The latent layer's projections: the keys' and the values' weights, as the call reads them. -/
module

public import proofs.«01_k».proof.Proof.Lat.Host
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

/-- The keys' weights, as the call reads them, -/
theorem q8_host (k : Fin 256) (n : Fin 2048) : q8 m c (ix2 k n) = wkf (m ((c : Thread nD τ).loc main_arg5)) k n := by
  show StableHlo.after hostOps0 (fun b => m (c, b)) (Proc.tc.devRef main_v58) _ = _
  entry_read
  clean_types
  pointwise
  rw [lane64 _ 0 (by rfl) _ k n]
  unfold wkf
  split_ifs <;> first
    | (exfalso; (try dsimp only at *); omega)
    | (pointwise; done)
    | exact congrArg (m ((c : Thread nD τ).loc main_arg5) : S256x16x64.Idx → EReal) (congrArg (ix3 k _) (Fin.ext (by (try dsimp only at *); omega)))
    | (pointwise; refine congrArg (m ((c : Thread nD τ).loc main_arg5) : S256x16x64.Idx → EReal) (congrArg (ix3 k _) (Fin.ext ?_)); (try dsimp only at *); omega)

/-- and the values'. -/
theorem q9_host (k : Fin 256) (n : Fin 2048) : q9 m c (ix2 k n) = wkf (m ((c : Thread nD τ).loc main_arg6)) k n := by
  show StableHlo.after hostOps0 (fun b => m (c, b)) (Proc.tc.devRef main_v63) _ = _
  entry_read
  clean_types
  pointwise
  rw [lane64 _ 0 (by rfl) _ k n]
  unfold wkf
  split_ifs <;> first
    | (exfalso; (try dsimp only at *); omega)
    | (pointwise; done)
    | exact congrArg (m ((c : Thread nD τ).loc main_arg6) : S256x16x64.Idx → EReal) (congrArg (ix3 k _) (Fin.ext (by (try dsimp only at *); omega)))
    | (pointwise; refine congrArg (m ((c : Thread nD τ).loc main_arg6) : S256x16x64.Idx → EReal) (congrArg (ix3 k _) (Fin.ext ?_)); (try dsimp only at *); omega)

end Cert.Kernel9Ideal.Lat

end
-- ==== Proof.Lat.HO.lean ====
/- The latent layer's projections: the ones that mark a lane of every head, as the call reads them. -/
module

public import proofs.«01_k».proof.Proof.Lat.Host
public import proofs.«01_k».proof.Proof.Lat.Out
public import proofs.«01_k».proof.Proof.Gen.Kernel9Ideal.Value
public import proofs.«01_k».proof.Proof.Gen.Kernel9Ideal.Frame
public import proofs.«01_k».proof.Proof.Lat.Pay
public import Idealize.ShloMosaic.Lib.WritesUnit
public import Idealize.ShloMosaic.Lib.Pipeline.ValueKit.Basic
public import Idealize.ShloMosaic.Lib.Pipeline.ValueKit.Tiles

@[expose] public section

set_option maxRecDepth 16384

noncomputable section

namespace Cert.Kernel9Ideal.Lat

open Idealize.ShloMosaic Idealize.ShloMosaic.TcCoe Cert.Kernel9Ideal.Gen Idealize.ShloMosaic.Tactic

/-- The constant of ones and zeros holds ones in lane 64 of each head. -/
theorem lit_at : ∀ n : Fin 2048, lit0 (S2048.rowMajor (ix1 n)) = if n.val % 128 = 64 then 0x3F800000#32 else 0x00000000#32 := by
  decide +kernel

variable (m : (ℓ : Loc nD τ sig) → Buf (Elt Ideal) ℓ) (c : Dev nD)

/-- The ones, as the call reads them. -/
theorem o_host (n : Fin 2048) : q10 m c (ix2 0 n) = ones n := by
  show StableHlo.after hostOps0 (fun b => m (c, b)) (Proc.tc.devRef main_v64) _ = _
  entry_read
  clean_types
  pointwise
  rw [lit_at]
  unfold ones
  split_ifs
  · pointwise
  · pointwise

end Cert.Kernel9Ideal.Lat

end
-- ==== Proof.Lat.Value.lean ====
/- The latent layer's projections: every result array of the call, in the layer's mathematics. -/
module

public import proofs.«01_k».proof.Proof.Lat.Kern
public import proofs.«01_k».proof.Proof.Lat.Host
public import proofs.«01_k».proof.Proof.Lat.HW
public import proofs.«01_k».proof.Proof.Lat.HC
public import proofs.«01_k».proof.Proof.Lat.HQ
public import proofs.«01_k».proof.Proof.Lat.HK
public import proofs.«01_k».proof.Proof.Lat.HO

@[expose] public section

set_option maxRecDepth 16384

noncomputable section

namespace Cert.Kernel9Ideal.Lat

open Idealize.ShloMosaic Idealize.ShloMosaic.TcCoe Cert.Kernel9Ideal.Gen Idealize.ShloMosaic.Tactic

variable (m : (ℓ : Loc nD τ sig) → Buf (Elt Ideal) ℓ) (c : Dev nD)

/-- The arguments: the input, the joined weights, the two gains, and the weights of queries, keys and values. -/
abbrev a0 : S4x4096x1024.Idx → EReal := m ((c : Thread nD τ).loc main_arg0)
@[inherit_doc a0] abbrev a1 : S1024x544.Idx → EReal := m ((c : Thread nD τ).loc main_arg1)
@[inherit_doc a0] abbrev a2 : S256.Idx → EReal := m ((c : Thread nD τ).loc main_arg2)
@[inherit_doc a0] abbrev a3 : S256.Idx → EReal := m ((c : Thread nD τ).loc main_arg3)
@[inherit_doc a0] abbrev a4 : S256x1536.Idx → EReal := m ((c : Thread nD τ).loc main_arg4)
@[inherit_doc a0] abbrev a5 : S256x16x64.Idx → EReal := m ((c : Thread nD τ).loc main_arg5)
@[inherit_doc a0] abbrev a6 : S256x16x64.Idx → EReal := m ((c : Thread nD τ).loc main_arg6)

/-- The sequence a position belongs to. -/
def seq (p : Fin 16384) : Fin 4 := ⟨p.val / 4096, by omega⟩

/-- The call's row of the input is the sequence's position. -/
theorem row_x (p : Fin 16384) (l : Fin 1024) : row (q0 m c) p l = a0 m c (ix3 (seq p) (seat p) l) := by
  have e : p = pos (seq p) (seat p) := Fin.ext (by show p.val = 4096 * (p.val / 4096) + p.val % 4096; omega)
  show q0 m c (ix2 p l) = _
  exact (congrArg (fun z => q0 m c (ix2 z l)) e).trans (x_host m c (seq p) (seat p) l)

/-- The call's query latents, -/
theorem cq_val (p : Fin 16384) : cq (row (q0 m c) p) (mat (q3 m c)) (row (q4 m c) 0) = cqs (a0 m c) (a1 m c) (a2 m c) (seq p) (seat p) :=
  cq_eq _ _ _ _ _ _ (row_x m c p) (fun l f => w3_host m c l f) _ _ fun k => g4_host m c k

/-- its key and value latents, -/
theorem ck_val (p : Fin 16384) : ck (row (q0 m c) p) (mat (q3 m c)) (row (q5 m c) 0) = cks (a0 m c) (a1 m c) (a3 m c) (seq p) (seat p) :=
  ck_eq _ _ _ _ _ _ (row_x m c p) (fun l f => w3_host m c l f) _ _ fun k => g5_host m c k

/-- and its turned lanes are the layer's. -/
theorem kr_val (p : Fin 16384) (f : Fin 128) :
    kr (row (q0 m c) p) (mat (q3 m c)) (row (q1 m c) (seat p)) (row (q2 m c) (seat p)) f
      = if h : 64 ≤ f.val ∧ f.val < 96 then krs (a0 m c) (a1 m c) (seq p) (seat p) ⟨f.val - 64, by omega⟩ else 0 :=
  kr_eq _ _ _ _ _ _ (row_x m c p) (fun l f => w3_host m c l f) _ _ (fun f => c_host m c (seat p) f) (fun f => s_host m c (seat p) f) f

/-- The call's queries, -/
theorem value11 (p : Fin 16384) (n : Fin 2048) :
    rowsOf (qAll (q0 m c) (q1 m c) (q2 m c) (q3 m c) (q4 m c) (q6 m c) (q7 m c)) (ix2 p n)
      = qs (cqs (a0 m c) (a1 m c) (a2 m c) (seq p) (seat p)) (a4 m c) (seat p) n := by
  refine (rowsOf_at _ _ p n rfl rfl).trans ?_
  unfold qAll
  rw [cq_val]
  exact qv_eq _ _ _ _ _ _ _ (fun k n => q6_host m c k n) (fun k n => q7_host m c k n) (fun f => c_host m c (seat p) f) (fun f => s_host m c (seat p) f) n

/-- its keys, -/
theorem value12 (p : Fin 16384) (n : Fin 2048) :
    rowsOf (kAll (q0 m c) (q1 m c) (q2 m c) (q3 m c) (q5 m c) (q8 m c)) (ix2 p n)
      = ks (cks (a0 m c) (a1 m c) (a3 m c) (seq p) (seat p)) (krs (a0 m c) (a1 m c) (seq p) (seat p)) (a5 m c) n := by
  refine (rowsOf_at _ _ p n rfl rfl).trans ?_
  unfold kAll
  rw [ck_val]
  exact kv_eq _ _ _ _ _ (fun k n => q8_host m c k n) (kr_val m c p) n

/-- its values, -/
theorem value13 (p : Fin 16384) (n : Fin 2048) :
    rowsOf (vAll (q0 m c) (q3 m c) (q5 m c) (q9 m c) (q10 m c)) (ix2 p n)
      = vs (cks (a0 m c) (a1 m c) (a3 m c) (seq p) (seat p)) (a6 m c) n := by
  refine (rowsOf_at _ _ p n rfl rfl).trans ?_
  unfold vAll
  rw [ck_val]
  exact vv_eq _ _ _ _ (fun k n => q9_host m c k n) (fun n => o_host m c n) n

/-- its cache rows, -/
theorem value14 (p : Fin 16384) (j : Fin 288) :
    rowsOf (lAll (q0 m c) (q1 m c) (q2 m c) (q3 m c) (q5 m c)) (ix2 p j)
      = ls (cks (a0 m c) (a1 m c) (a3 m c) (seq p) (seat p)) (krs (a0 m c) (a1 m c) (seq p) (seat p)) j := by
  refine (rowsOf_at _ _ p j rfl rfl).trans ?_
  unfold lAll
  rw [ck_val]
  exact lv_eq _ _ _ (kr_val m c p) j

/-- and the same feature by feature. -/
theorem value15 (b : Fin 4) (j : Fin 288) (s : Fin 4096) :
    colsOf (lAll (q0 m c) (q1 m c) (q2 m c) (q3 m c) (q5 m c)) (ix3 b j s)
      = ls (cks (a0 m c) (a1 m c) (a3 m c) b s) (krs (a0 m c) (a1 m c) b s) j := by
  refine (colsOf_at _ _ (pos b s) j rfl rfl).trans ?_
  unfold lAll
  rw [ck_val]
  have eb : seq (pos b s) = b := Fin.ext (by show (4096 * b.val + s.val) / 4096 = b.val; omega)
  have es : seat (pos b s) = s := Fin.ext (by show (4096 * b.val + s.val) % 4096 = s.val; omega)
  refine (lv_eq _ _ _ (kr_val m c (pos b s)) j).trans ?_
  rw [eb, es]

end Cert.Kernel9Ideal.Lat

end
-- ==== Proof.Lat.Ref.lean ====
/- The latent layer's projections: the reference's five results, element by element. -/
module

public import proofs.«01_k».proof.Proof.Gen.Reference9Ideal
public import proofs.«01_k».proof.Proof.Gen.Reference9Ideal.Run
public import proofs.«01_k».proof.Proof.Lat.Spec
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Reference9Ideal.Lat

open Idealize.ShloMosaic Idealize.ShloMosaic.TcCoe Cert.Reference9Ideal.Gen Idealize.ShloMosaic.Tactic
open Cert.Kernel9Ideal.Lat (feat cqs cks krs uq qs ks vs ls co si angle rms width eps scale)

/-- The features of every position. -/
def hR (x : FVec Ideal S4x4096x1024 .f32) (A : FVec Ideal S1024x544 .f32) : FVec Ideal S4x4096x544 .f32 :=
  Host.dotGeneral dot_S4x4096x1024_S1024x544_S4x4096x544_2_0_01_1_n_n none x A

theorem hR_at (x : FVec Ideal S4x4096x1024 .f32) (A : FVec Ideal S1024x544 .f32) (b : Fin 4) (s : Fin 4096) (f : Fin 544) :
    hR x A (ix3 b s f) = feat x A b s f := by
  unfold hR feat
  pointwise

/-- The norm of every position's latents. -/
def nrm (u : FVec Ideal S4x4096x256 .f32) (g : FVec Ideal S256 .f32) : FVec Ideal S4x4096x256 .f32 :=
  mulf (mulf u (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf u u) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x3727C5AC#32)))))) (broadcastInDim S4x4096x256 ![0, 1, 2] bcast_S1x1x256_S4x4096x256_0_1_2 (broadcastInDim S1x1x256 ![2] bcast_S256_S1x1x256_2 g))

theorem nrm_at (u : FVec Ideal S4x4096x256 .f32) (g : FVec Ideal S256 .f32) (b : Fin 4) (s : Fin 4096) (k : Fin 256) :
    nrm u g (ix3 b s k) = rms (fun c => u (ix3 b s c)) (fun c => g (ix1 c)) k := by
  unfold nrm rms
  pointwise

/-- The query latents, -/
def cqR (x : FVec Ideal S4x4096x1024 .f32) (A : FVec Ideal S1024x544 .f32) (g : FVec Ideal S256 .f32) : FVec Ideal S4x4096x256 .f32 :=
  nrm (extractStridedSlice S4x4096x256 ![0, 0, 0] (hR x A) slices_S4x4096x544_S4x4096x256_0_0_0) g

theorem cqR_at (x : FVec Ideal S4x4096x1024 .f32) (A : FVec Ideal S1024x544 .f32) (g : FVec Ideal S256 .f32) (b : Fin 4) (s : Fin 4096) (k : Fin 256) :
    cqR x A g (ix3 b s k) = cqs x A g b s k := by
  unfold cqR cqs
  refine (nrm_at _ _ b s k).trans (congrArg (fun z => rms z (fun c => g (ix1 c)) k) (funext fun c => ?_))
  refine Eq.trans ?_ (hR_at x A b s _)
  generalize hR x A = h
  pointwise

/-- and the key and value latents. -/
def ckR (x : FVec Ideal S4x4096x1024 .f32) (A : FVec Ideal S1024x544 .f32) (g : FVec Ideal S256 .f32) : FVec Ideal S4x4096x256 .f32 :=
  nrm (extractStridedSlice S4x4096x256 ![0, 0, 256] (hR x A) slices_S4x4096x544_S4x4096x256_0_0_256) g

theorem ckR_at (x : FVec Ideal S4x4096x1024 .f32) (A : FVec Ideal S1024x544 .f32) (g : FVec Ideal S256 .f32) (b : Fin 4) (s : Fin 4096) (k : Fin 256) :
    ckR x A g (ix3 b s k) = cks x A g b s k := by
  unfold ckR cks
  refine (nrm_at _ _ b s k).trans (congrArg (fun z => rms z (fun c => g (ix1 c)) k) (funext fun c => ?_))
  refine Eq.trans ?_ (hR_at x A b s _)
  generalize hR x A = h
  pointwise

/-- The turn of 32 key features by tables of cosines and sines. -/
def turn (h : FVec Ideal S4x4096x32 .f32) (C S : FVec Ideal S4096x16 .f32) : FVec Ideal S4x4096x32 .f32 :=
  concatenate S4x4096x32 2 [⟨S4x4096x16, (subf (mulf (extractStridedSlice S4x4096x16 ![0, 0, 0] h slices_S4x4096x32_S4x4096x16_0_0_0) (broadcastInDim S4x4096x16 ![0, 1, 2] bcast_S1x4096x16_S4x4096x16_0_1_2 (broadcastInDim S1x4096x16 ![1, 2] bcast_S4096x16_S1x4096x16_1_2 C))) (mulf (extractStridedSlice S4x4096x16 ![0, 0, 16] h slices_S4x4096x32_S4x4096x16_0_0_16) (broadcastInDim S4x4096x16 ![0, 1, 2] bcast_S1x4096x16_S4x4096x16_0_1_2 (broadcastInDim S1x4096x16 ![1, 2] bcast_S4096x16_S1x4096x16_1_2 S))))⟩, ⟨S4x4096x16, (addf (mulf (extractStridedSlice S4x4096x16 ![0, 0, 0] h slices_S4x4096x32_S4x4096x16_0_0_0) (broadcastInDim S4x4096x16 ![0, 1, 2] bcast_S1x4096x16_S4x4096x16_0_1_2 (broadcastInDim S1x4096x16 ![1, 2] bcast_S4096x16_S1x4096x16_1_2 S))) (mulf (extractStridedSlice S4x4096x16 ![0, 0, 16] h slices_S4x4096x32_S4x4096x16_0_0_16) (broadcastInDim S4x4096x16 ![0, 1, 2] bcast_S1x4096x16_S4x4096x16_0_1_2 (broadcastInDim S1x4096x16 ![1, 2] bcast_S4096x16_S1x4096x16_1_2 C))))⟩] concatenates_S4x4096x16_S4x4096x16_S4x4096x32_d2

theorem turn_at (h : FVec Ideal S4x4096x32 .f32) (C S : FVec Ideal S4096x16 .f32) (b : Fin 4) (s : Fin 4096) (f : Fin 32) :
    turn h C S (ix3 b s f) = if hf : f.val < 16 then h (ix3 b s ⟨f.val, by omega⟩) * C (ix2 s ⟨f.val, hf⟩) - h (ix3 b s ⟨16 + f.val, by omega⟩) * S (ix2 s ⟨f.val, hf⟩)
      else h (ix3 b s ⟨f.val - 16, by omega⟩) * S (ix2 s ⟨f.val - 16, by omega⟩) + h (ix3 b s ⟨16 + (f.val - 16), by omega⟩) * C (ix2 s ⟨f.val - 16, by omega⟩) := by
  unfold turn
  pointwise

/-- The turned key lanes. -/
def krR (x : FVec Ideal S4x4096x1024 .f32) (A : FVec Ideal S1024x544 .f32) : FVec Ideal S4x4096x32 .f32 :=
  turn (extractStridedSlice S4x4096x32 ![0, 0, 512] (hR x A) slices_S4x4096x544_S4x4096x32_0_0_512) (Host.cos angle) (Host.sin angle)

theorem krR_at (x : FVec Ideal S4x4096x1024 .f32) (A : FVec Ideal S1024x544 .f32) (b : Fin 4) (s : Fin 4096) (f : Fin 32) :
    krR x A (ix3 b s f) = krs x A b s f := by
  have e : ∀ (k : Fin 32) (g : Fin 544), g.val = 512 + k.val →
      (extractStridedSlice S4x4096x32 ![0, 0, 512] (hR x A) slices_S4x4096x544_S4x4096x32_0_0_512 : FVec Ideal S4x4096x32 .f32) (ix3 b s k) = feat x A b s g := by
    intro k g hg
    refine Eq.trans ?_ (hR_at x A b s g)
    generalize hR x A = h
    pointwise
    exact congrArg (fun z => h (ix3 b s z)) (Fin.ext hg.symm)
  refine (turn_at _ _ _ b s f).trans ?_
  unfold krs
  split_ifs with h0
  · rw [e _ ⟨512 + f.val, by omega⟩ rfl, e _ ⟨528 + f.val, by omega⟩ (by show 528 + f.val = 512 + (16 + f.val); omega)]
    rfl
  · rw [e _ ⟨512 + (f.val - 16), by omega⟩ rfl, e _ ⟨528 + (f.val - 16), by omega⟩ (by show 528 + (f.val - 16) = 512 + (16 + (f.val - 16)); omega)]
    rfl

/-- The heads' query features before the turn. -/
def uR (a : FVec Ideal S4x4096x256 .f32) (W : FVec Ideal S256x1536 .f32) : FVec Ideal S4x4096x16x96 .f32 :=
  shapeCast _ (Host.dotGeneral dot_S4x4096x256_S256x1536_S4x4096x1536_2_0_01_1_n_n none a W) shapeCasts_S4x4096x1536_S4x4096x16x96

theorem uR_at (a : FVec Ideal S4x4096x256 .f32) (W : FVec Ideal S256x1536 .f32) (b : Fin 4) (s : Fin 4096) (d : Fin 16) (f : Fin 96) :
    uR a W (ix4 b s d f) = uq (fun k => a (ix3 b s k)) W ⟨96 * d.val + f.val, by omega⟩ := by
  unfold uR uq
  pointwise
  refine Finset.sum_congr rfl fun k _ => congrArg (fun z => a (ix3 b s k) * W (ix2 k z)) (Fin.ext ?_)
  dsimp only
  omega

/-- The turn of 32 query features of every head. -/
def turn4 (h : FVec Ideal S4x4096x16x32 .f32) (C S : FVec Ideal S4096x1x16 .f32) : FVec Ideal S4x4096x16x32 .f32 :=
  concatenate S4x4096x16x32 3 [⟨S4x4096x16x16, (subf (mulf (extractStridedSlice S4x4096x16x16 ![0, 0, 0, 0] h slices_S4x4096x16x32_S4x4096x16x16_0_0_0_0) (broadcastInDim S4x4096x16x16 ![0, 1, 2, 3] bcast_S1x4096x1x16_S4x4096x16x16_0_1_2_3 (broadcastInDim S1x4096x1x16 ![1, 2, 3] bcast_S4096x1x16_S1x4096x1x16_1_2_3 C))) (mulf (extractStridedSlice S4x4096x16x16 ![0, 0, 0, 16] h slices_S4x4096x16x32_S4x4096x16x16_0_0_0_16) (broadcastInDim S4x4096x16x16 ![0, 1, 2, 3] bcast_S1x4096x1x16_S4x4096x16x16_0_1_2_3 (broadcastInDim S1x4096x1x16 ![1, 2, 3] bcast_S4096x1x16_S1x4096x1x16_1_2_3 S))))⟩, ⟨S4x4096x16x16, (addf (mulf (extractStridedSlice S4x4096x16x16 ![0, 0, 0, 0] h slices_S4x4096x16x32_S4x4096x16x16_0_0_0_0) (broadcastInDim S4x4096x16x16 ![0, 1, 2, 3] bcast_S1x4096x1x16_S4x4096x16x16_0_1_2_3 (broadcastInDim S1x4096x1x16 ![1, 2, 3] bcast_S4096x1x16_S1x4096x1x16_1_2_3 S))) (mulf (extractStridedSlice S4x4096x16x16 ![0, 0, 0, 16] h slices_S4x4096x16x32_S4x4096x16x16_0_0_0_16) (broadcastInDim S4x4096x16x16 ![0, 1, 2, 3] bcast_S1x4096x1x16_S4x4096x16x16_0_1_2_3 (broadcastInDim S1x4096x1x16 ![1, 2, 3] bcast_S4096x1x16_S1x4096x1x16_1_2_3 C))))⟩] concatenates_S4x4096x16x16_S4x4096x16x16_S4x4096x16x32_d3

theorem turn4_at (h : FVec Ideal S4x4096x16x32 .f32) (C S : FVec Ideal S4096x1x16 .f32) (b : Fin 4) (s : Fin 4096) (d : Fin 16) (f : Fin 32) :
    turn4 h C S (ix4 b s d f) = if hf : f.val < 16 then h (ix4 b s d ⟨f.val, by omega⟩) * C (ix3 s 0 ⟨f.val, hf⟩) - h (ix4 b s d ⟨16 + f.val, by omega⟩) * S (ix3 s 0 ⟨f.val, hf⟩)
      else h (ix4 b s d ⟨f.val - 16, by omega⟩) * S (ix3 s 0 ⟨f.val - 16, by omega⟩) + h (ix4 b s d ⟨16 + (f.val - 16), by omega⟩) * C (ix3 s 0 ⟨f.val - 16, by omega⟩) := by
  unfold turn4
  pointwise

/-- Three pieces of lanes laid into each head's 128 lanes. -/
def lay (u : FVec Ideal S4x4096x16x64 .f32) (t : FVec Ideal S4x4096x16x32 .f32) : FVec Ideal S16384x2048 .f32 :=
  shapeCast _ (concatenate S4x4096x16x128 3 [⟨S4x4096x16x64, u⟩, ⟨S4x4096x16x32, t⟩, ⟨S4x4096x16x32, (broadcastInDim S4x4096x16x32 ![] bcast_S_S4x4096x16x32 (constant S_ .f32 0x00000000#32) : FVec Ideal S4x4096x16x32 .f32)⟩] concatenates_S4x4096x16x64_S4x4096x16x32_S4x4096x16x32_S4x4096x16x128_d3) shapeCasts_S4x4096x16x128_S16384x2048

theorem lay_at (u : FVec Ideal S4x4096x16x64 .f32) (t : FVec Ideal S4x4096x16x32 .f32) (p : Fin 16384) (n : Fin 2048) :
    lay u t (ix2 p n) = if h : n.val % 128 < 64 then u (ix4 ⟨p.val / 4096, by omega⟩ ⟨p.val % 4096, by omega⟩ ⟨n.val / 128, by omega⟩ ⟨n.val % 128, h⟩)
      else if h : n.val % 128 < 96 then t (ix4 ⟨p.val / 4096, by omega⟩ ⟨p.val % 4096, by omega⟩ ⟨n.val / 128, by omega⟩ ⟨n.val % 128 - 64, by omega⟩) else 0 := by
  unfold lay
  pointwise
  by_cases h0 : n.val % 128 < 64
  · rw [dif_pos h0, dif_pos h0]
  · rw [dif_neg h0, dif_neg h0]
    by_cases h1 : n.val % 128 < 96
    · rw [dif_pos (by omega), dif_pos h1]
    · rw [dif_neg (by omega), dif_neg h1]

/-- The values' pieces, with a one in each head's lane 64. -/
def layv (u : FVec Ideal S4x4096x16x64 .f32) : FVec Ideal S16384x2048 .f32 :=
  shapeCast _ (concatenate S4x4096x16x128 3 [⟨S4x4096x16x64, u⟩, ⟨S4x4096x16x1, (broadcastInDim S4x4096x16x1 ![] bcast_S_S4x4096x16x1 (constant S_ .f32 0x3F800000#32) : FVec Ideal S4x4096x16x1 .f32)⟩, ⟨S4x4096x16x31, (broadcastInDim S4x4096x16x31 ![] bcast_S_S4x4096x16x31 (constant S_ .f32 0x00000000#32) : FVec Ideal S4x4096x16x31 .f32)⟩, ⟨S4x4096x16x32, (broadcastInDim S4x4096x16x32 ![] bcast_S_S4x4096x16x32 (constant S_ .f32 0x00000000#32) : FVec Ideal S4x4096x16x32 .f32)⟩] concatenates_S4x4096x16x64_S4x4096x16x1_S4x4096x16x31_S4x4096x16x32_S4x4096x16x128_d3) shapeCasts_S4x4096x16x128_S16384x2048

theorem layv_at (u : FVec Ideal S4x4096x16x64 .f32) (p : Fin 16384) (n : Fin 2048) :
    layv u (ix2 p n) = if h : n.val % 128 < 64 then u (ix4 ⟨p.val / 4096, by omega⟩ ⟨p.val % 4096, by omega⟩ ⟨n.val / 128, by omega⟩ ⟨n.val % 128, h⟩)
      else if n.val % 128 = 64 then 1 else 0 := by
  unfold layv
  pointwise
  split_ifs with h0 h1 h2 h3 <;> first | rfl | omega

/-- The latents and the turned lanes side by side. -/
def join (a : FVec Ideal S4x4096x256 .f32) (t : FVec Ideal S4x4096x32 .f32) : FVec Ideal S4x4096x288 .f32 :=
  concatenate S4x4096x288 2 [⟨S4x4096x256, a⟩, ⟨S4x4096x32, t⟩] concatenates_S4x4096x256_S4x4096x32_S4x4096x288_d2

theorem join_at (a : FVec Ideal S4x4096x256 .f32) (t : FVec Ideal S4x4096x32 .f32) (b : Fin 4) (s : Fin 4096) (j : Fin 288) :
    join a t (ix3 b s j) = ls (fun k => a (ix3 b s k)) (fun f => t (ix3 b s f)) j := by
  unfold join ls
  pointwise

/-! ## The five results -/

/-- The angles' cosines and sines, laid out for the heads. -/
def cosR : FVec Ideal S4096x1x16 .f32 := Host.cos (shapeCast _ angle shapeCasts_S4096x16_S4096x1x16)
@[inherit_doc cosR] def sinR : FVec Ideal S4096x1x16 .f32 := Host.sin (shapeCast _ angle shapeCasts_S4096x16_S4096x1x16)

theorem cosR_at (s : Fin 4096) (j : Fin 16) : cosR (ix3 s 0 j) = co s j := by
  unfold cosR co
  generalize angle = A
  pointwise
  try rfl

theorem sinR_at (s : Fin 4096) (j : Fin 16) : sinR (ix3 s 0 j) = si s j := by
  unfold sinR si
  generalize angle = A
  pointwise
  try rfl

/-- The queries, from the query latents, -/
def qR (a : FVec Ideal S4x4096x256 .f32) (W : FVec Ideal S256x1536 .f32) : FVec Ideal S16384x2048 .bf16 :=
  truncf .bf16 (mulf (lay (extractStridedSlice S4x4096x16x64 ![0, 0, 0, 0] (uR a W) slices_S4x4096x16x96_S4x4096x16x64_0_0_0_0)
      (turn4 (extractStridedSlice S4x4096x16x32 ![0, 0, 0, 64] (uR a W) slices_S4x4096x16x96_S4x4096x16x32_0_0_0_64) cosR sinR))
    (broadcastInDim S16384x2048 ![] bcast_S_S16384x2048 (constant S_ .f32 0x3DD105EC#32))) bitsLt_bf16_f32

/-- The scaling of an array by the softmax's factor. -/
def scaled (y : FVec Ideal S16384x2048 .f32) : FVec Ideal S16384x2048 .bf16 :=
  truncf .bf16 (mulf y (broadcastInDim S16384x2048 ![] bcast_S_S16384x2048 (constant S_ .f32 0x3DD105EC#32))) bitsLt_bf16_f32

theorem scaled_at (y : FVec Ideal S16384x2048 .f32) (p : Fin 16384) (n : Fin 2048) : scaled y (ix2 p n) = y (ix2 p n) * scale := by
  unfold scaled scale
  pointwise

theorem qR_at (a : FVec Ideal S4x4096x256 .f32) (W : FVec Ideal S256x1536 .f32) (p : Fin 16384) (n : Fin 2048) :
    qR a W (ix2 p n) = qs (fun k => a (ix3 ⟨p.val / 4096, by omega⟩ ⟨p.val % 4096, by omega⟩ k)) W ⟨p.val % 4096, by omega⟩ n := by
  have e0 : ∀ b s d (f : Fin 64) (g : Fin 1536), g.val = 96 * d.val + f.val →
      (extractStridedSlice S4x4096x16x64 ![0, 0, 0, 0] (uR a W) slices_S4x4096x16x96_S4x4096x16x64_0_0_0_0 : FVec Ideal S4x4096x16x64 .f32) (ix4 b s d f) = uq (fun k => a (ix3 b s k)) W g := by
    intro b s d f g hg
    refine Eq.trans ?_ ((uR_at a W b s d ⟨f.val, by omega⟩).trans (congrArg (uq _ W) (Fin.ext hg.symm)))
    generalize uR a W = h
    pointwise
  have e1 : ∀ b s d (f : Fin 32) (g : Fin 1536), g.val = 96 * d.val + (64 + f.val) →
      (extractStridedSlice S4x4096x16x32 ![0, 0, 0, 64] (uR a W) slices_S4x4096x16x96_S4x4096x16x32_0_0_0_64 : FVec Ideal S4x4096x16x32 .f32) (ix4 b s d f) = uq (fun k => a (ix3 b s k)) W g := by
    intro b s d f g hg
    refine Eq.trans ?_ ((uR_at a W b s d ⟨64 + f.val, by omega⟩).trans (congrArg (uq _ W) (Fin.ext hg.symm)))
    generalize uR a W = h
    pointwise
  refine (scaled_at _ p n).trans ?_
  unfold qs
  refine congrArg (· * scale) ((lay_at _ _ p n).trans ?_)
  by_cases h0 : n.val % 128 < 64
  · rw [dif_pos h0, dif_pos h0]
    exact e0 _ _ _ _ _ rfl
  · rw [dif_neg h0, dif_neg h0]
    by_cases h1 : n.val % 128 < 80
    · rw [dif_pos (by omega), dif_pos h1]
      refine (turn4_at _ _ _ _ _ _ _).trans ?_
      rw [dif_pos (by show n.val % 128 - 64 < 16; omega), cosR_at, sinR_at,
        e1 _ _ _ _ ⟨96 * (n.val / 128) + n.val % 128, by omega⟩ (by dsimp only; omega), e1 _ _ _ _ ⟨96 * (n.val / 128) + (n.val % 128 + 16), by omega⟩ (by dsimp only; omega)]
    · rw [dif_neg h1]
      by_cases h2 : n.val % 128 < 96
      · rw [dif_pos h2, dif_pos h2]
        refine (turn4_at _ _ _ _ _ _ _).trans ?_
        have e : (⟨n.val % 128 - 64 - 16, by omega⟩ : Fin 16) = ⟨n.val % 128 - 80, by omega⟩ := Fin.ext (by dsimp only; omega)
        rw [dif_neg (by show ¬ n.val % 128 - 64 < 16; omega), cosR_at, sinR_at,
          e1 _ _ _ _ ⟨96 * (n.val / 128) + (n.val % 128 - 16), by omega⟩ (by dsimp only; omega), e1 _ _ _ _ ⟨96 * (n.val / 128) + n.val % 128, by omega⟩ (by dsimp only; omega), e]
      · rw [dif_neg h2, dif_neg h2]

/-- One product of the latents with a head's columns. -/
def heads (a : FVec Ideal S4x4096x256 .f32) (W : FVec Ideal S256x16x64 .f32) : FVec Ideal S4x4096x16x64 .f32 :=
  Host.dotGeneral dot_S4x4096x256_S256x16x64_S4x4096x16x64_2_0_01_12_n_n none a W

theorem heads_at (a : FVec Ideal S4x4096x256 .f32) (W : FVec Ideal S256x16x64 .f32) (b : Fin 4) (s : Fin 4096) (d : Fin 16) (f : Fin 64) :
    heads a W (ix4 b s d f) = ∑ k, a (ix3 b s k) * W (ix3 k d f) := by
  unfold heads
  pointwise

/-- The turned key lanes, repeated for every head. -/
def spread (t : FVec Ideal S4x4096x32 .f32) : FVec Ideal S4x4096x16x32 .f32 :=
  broadcastInDim S4x4096x16x32 ![0, 1, 2, 3] bcast_S4x4096x1x32_S4x4096x16x32_0_1_2_3 (broadcastInDim S4x4096x1x32 ![0, 1, 3] bcast_S4x4096x32_S4x4096x1x32_0_1_3 t)

theorem spread_at (t : FVec Ideal S4x4096x32 .f32) (b : Fin 4) (s : Fin 4096) (d : Fin 16) (f : Fin 32) : spread t (ix4 b s d f) = t (ix3 b s f) := by
  unfold spread
  pointwise

/-- the keys, from the latents and the turned lanes, -/
def kR (a : FVec Ideal S4x4096x256 .f32) (t : FVec Ideal S4x4096x32 .f32) (W : FVec Ideal S256x16x64 .f32) : FVec Ideal S16384x2048 .bf16 :=
  truncf .bf16 (lay (heads a W) (spread t)) bitsLt_bf16_f32

/-- the values, -/
def vR (a : FVec Ideal S4x4096x256 .f32) (W : FVec Ideal S256x16x64 .f32) : FVec Ideal S16384x2048 .bf16 :=
  truncf .bf16 (layv (heads a W)) bitsLt_bf16_f32

/-- Rounding leaves an extended real as it is. -/
theorem trunc_at (y : FVec Ideal S16384x2048 .f32) (p : Fin 16384) (n : Fin 2048) :
    (truncf .bf16 y bitsLt_bf16_f32 : FVec Ideal S16384x2048 .bf16) (ix2 p n) = y (ix2 p n) := by
  pointwise

theorem kR_at (a : FVec Ideal S4x4096x256 .f32) (t : FVec Ideal S4x4096x32 .f32) (W : FVec Ideal S256x16x64 .f32) (p : Fin 16384) (n : Fin 2048) :
    kR a t W (ix2 p n) = ks (fun k => a (ix3 ⟨p.val / 4096, by omega⟩ ⟨p.val % 4096, by omega⟩ k))
      (fun f => t (ix3 ⟨p.val / 4096, by omega⟩ ⟨p.val % 4096, by omega⟩ f)) W n := by
  refine (trunc_at _ p n).trans ((lay_at _ _ p n).trans ?_)
  unfold ks
  simp only [heads_at, spread_at]

theorem vR_at (a : FVec Ideal S4x4096x256 .f32) (W : FVec Ideal S256x16x64 .f32) (p : Fin 16384) (n : Fin 2048) :
    vR a W (ix2 p n) = vs (fun k => a (ix3 ⟨p.val / 4096, by omega⟩ ⟨p.val % 4096, by omega⟩ k)) W n := by
  refine (trunc_at _ p n).trans ((layv_at _ p n).trans ?_)
  unfold vs
  simp only [heads_at]

/-- the cache rows, -/
def lR (a : FVec Ideal S4x4096x256 .f32) (t : FVec Ideal S4x4096x32 .f32) : FVec Ideal S16384x288 .f32 :=
  shapeCast _ (join a t) shapeCasts_S4x4096x288_S16384x288

theorem lR_at (a : FVec Ideal S4x4096x256 .f32) (t : FVec Ideal S4x4096x32 .f32) (p : Fin 16384) (j : Fin 288) :
    lR a t (ix2 p j) = ls (fun k => a (ix3 ⟨p.val / 4096, by omega⟩ ⟨p.val % 4096, by omega⟩ k))
      (fun f => t (ix3 ⟨p.val / 4096, by omega⟩ ⟨p.val % 4096, by omega⟩ f)) j := by
  refine Eq.trans ?_ (join_at a t _ _ j)
  unfold lR
  generalize join a t = y
  pointwise

/-- and the same feature by feature. -/
def tR (a : FVec Ideal S4x4096x256 .f32) (t : FVec Ideal S4x4096x32 .f32) : FVec Ideal S4x288x4096 .f32 :=
  transpose S4x288x4096 [0, 2, 1] (join a t) transposes_S4x4096x288_S4x288x4096_0_2_1

theorem tR_at (a : FVec Ideal S4x4096x256 .f32) (t : FVec Ideal S4x4096x32 .f32) (b : Fin 4) (j : Fin 288) (s : Fin 4096) :
    tR a t (ix3 b j s) = ls (fun k => a (ix3 b s k)) (fun f => t (ix3 b s f)) j := by
  refine Eq.trans ?_ (join_at a t b s j)
  unfold tR
  generalize join a t = y
  pointwise

/-- A latent row as a function of its feature. -/
theorem cqR_fn (x : FVec Ideal S4x4096x1024 .f32) (A : FVec Ideal S1024x544 .f32) (g : FVec Ideal S256 .f32) (b : Fin 4) (s : Fin 4096) :
    (fun k => cqR x A g (ix3 b s k)) = cqs x A g b s := funext (cqR_at x A g b s)
@[inherit_doc cqR_fn]
theorem ckR_fn (x : FVec Ideal S4x4096x1024 .f32) (A : FVec Ideal S1024x544 .f32) (g : FVec Ideal S256 .f32) (b : Fin 4) (s : Fin 4096) :
    (fun k => ckR x A g (ix3 b s k)) = cks x A g b s := funext (ckR_at x A g b s)
@[inherit_doc cqR_fn]
theorem krR_fn (x : FVec Ideal S4x4096x1024 .f32) (A : FVec Ideal S1024x544 .f32) (b : Fin 4) (s : Fin 4096) :
    (fun f => krR x A (ix3 b s f)) = krs x A b s := funext (krR_at x A b s)

end Cert.Reference9Ideal.Lat

end
-- ==== Proof.Lat.Algebra.lean ====
/- The value claim of the latent layer's projections. -/
module

public import proofs.«01_k».proof.Defs
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Lat.Final11
public import proofs.«01_k».proof.Proof.Lat.Final12
public import proofs.«01_k».proof.Proof.Lat.Final13
public import proofs.«01_k».proof.Proof.Lat.Final14
public import proofs.«01_k».proof.Proof.Lat.Final15
public import proofs.«01_k».proof.Proof.Lat.Value
public import proofs.«01_k».proof.Proof.Lat.Ref

@[expose] public section

set_option maxRecDepth 16384

noncomputable section

namespace Cert.Proof.Lat

open Idealize.ShloMosaic Idealize.ShloMosaic.TcCoe Idealize.SL Idealize.SL.Sem
open Cert.Kernel9Ideal.Lat (ext_ix2)

/-- Two arrays of three axes are equal if they agree at every index. -/
theorem ext_ix3 {n k l : ℕ} {f g : (⟨3, ![n, k, l]⟩ : Shape).Idx → EReal} (h : ∀ a b c, f (ix3 a b c) = g (ix3 a b c)) : f = g := by
  funext i
  have e : i = ix3 (i 0) (i 1) (i 2) := by
    funext a
    match a with
    | ⟨0, _⟩ => rfl
    | ⟨1, _⟩ => rfl
    | ⟨2, _⟩ => rfl
  rw [e]
  exact h _ _ _

/-- Over the extended reals the call's five results and the reference's are equal: from the same arguments both end, and their results agree. -/
theorem algebraic : Cert.algebraic_Kernel9Ideal_Reference9Ideal := by
  intro m g m' g' _ hagree
  refine ⟨fun c => Cert.Kernel9Ideal.Lat.rowsOf (Cert.Kernel9Ideal.Lat.qAll (Cert.Kernel9Ideal.Lat.q0 m c) (Cert.Kernel9Ideal.Lat.q1 m c) (Cert.Kernel9Ideal.Lat.q2 m c) (Cert.Kernel9Ideal.Lat.q3 m c) (Cert.Kernel9Ideal.Lat.q4 m c) (Cert.Kernel9Ideal.Lat.q6 m c) (Cert.Kernel9Ideal.Lat.q7 m c)), fun c => Cert.Kernel9Ideal.Lat.rowsOf (Cert.Kernel9Ideal.Lat.kAll (Cert.Kernel9Ideal.Lat.q0 m c) (Cert.Kernel9Ideal.Lat.q1 m c) (Cert.Kernel9Ideal.Lat.q2 m c) (Cert.Kernel9Ideal.Lat.q3 m c) (Cert.Kernel9Ideal.Lat.q5 m c) (Cert.Kernel9Ideal.Lat.q8 m c)), fun c => Cert.Kernel9Ideal.Lat.rowsOf (Cert.Kernel9Ideal.Lat.vAll (Cert.Kernel9Ideal.Lat.q0 m c) (Cert.Kernel9Ideal.Lat.q3 m c) (Cert.Kernel9Ideal.Lat.q5 m c) (Cert.Kernel9Ideal.Lat.q9 m c) (Cert.Kernel9Ideal.Lat.q10 m c)), fun c => Cert.Kernel9Ideal.Lat.rowsOf (Cert.Kernel9Ideal.Lat.lAll (Cert.Kernel9Ideal.Lat.q0 m c) (Cert.Kernel9Ideal.Lat.q1 m c) (Cert.Kernel9Ideal.Lat.q2 m c) (Cert.Kernel9Ideal.Lat.q3 m c) (Cert.Kernel9Ideal.Lat.q5 m c)), fun c => Cert.Kernel9Ideal.Lat.colsOf (Cert.Kernel9Ideal.Lat.lAll (Cert.Kernel9Ideal.Lat.q0 m c) (Cert.Kernel9Ideal.Lat.q1 m c) (Cert.Kernel9Ideal.Lat.q2 m c) (Cert.Kernel9Ideal.Lat.q3 m c) (Cert.Kernel9Ideal.Lat.q5 m c)), ?_, ?_⟩
  · refine (θ_run _ _ _).mono (fun r h c => ?_) (Cert.Kernel9Ideal.Value.run_blocks m g)
    obtain ⟨h0, h1, h2, h3, h4, hr⟩ := h c
    exact ⟨h0.trans (Cert.Kernel9Ideal.Lat.final11 m c), h1.trans (Cert.Kernel9Ideal.Lat.final12 m c), h2.trans (Cert.Kernel9Ideal.Lat.final13 m c), h3.trans (Cert.Kernel9Ideal.Lat.final14 m c), h4.trans (Cert.Kernel9Ideal.Lat.final15 m c), hr⟩
  · refine (θ_run _ _ _).mono (fun r h c => ?_) (Cert.Reference9Ideal.Value.run m' g')
    obtain ⟨h0, h1, h2, h3, h4, hr⟩ := h c
    obtain ⟨a0, a1, a2, a3, a4, a5, a6⟩ := hagree c
    refine ⟨h0.trans ?_, h1.trans ?_, h2.trans ?_, h3.trans ?_, h4.trans ?_, hr⟩
    · refine ext_ix2 (n := 16384) (k := 2048) fun p n => ?_
      refine Eq.trans ?_ (Cert.Kernel9Ideal.Lat.value11 m c p n).symm
      refine (Cert.Reference9Ideal.Lat.qR_at (Cert.Reference9Ideal.Lat.cqR _ _ _) _ p n).trans ?_
      rw [Cert.Reference9Ideal.Lat.cqR_fn, a0, a1, a2, a4]
      rfl
    · refine ext_ix2 (n := 16384) (k := 2048) fun p n => ?_
      refine Eq.trans ?_ (Cert.Kernel9Ideal.Lat.value12 m c p n).symm
      refine (Cert.Reference9Ideal.Lat.kR_at (Cert.Reference9Ideal.Lat.ckR _ _ _) (Cert.Reference9Ideal.Lat.krR _ _) _ p n).trans ?_
      rw [Cert.Reference9Ideal.Lat.ckR_fn, Cert.Reference9Ideal.Lat.krR_fn, a0, a1, a3, a5]
      rfl
    · refine ext_ix2 (n := 16384) (k := 2048) fun p n => ?_
      refine Eq.trans ?_ (Cert.Kernel9Ideal.Lat.value13 m c p n).symm
      refine (Cert.Reference9Ideal.Lat.vR_at (Cert.Reference9Ideal.Lat.ckR _ _ _) _ p n).trans ?_
      rw [Cert.Reference9Ideal.Lat.ckR_fn, a0, a1, a3, a6]
      rfl
    · refine ext_ix2 (n := 16384) (k := 288) fun p j => ?_
      refine Eq.trans ?_ (Cert.Kernel9Ideal.Lat.value14 m c p j).symm
      refine (Cert.Reference9Ideal.Lat.lR_at (Cert.Reference9Ideal.Lat.ckR _ _ _) (Cert.Reference9Ideal.Lat.krR _ _) p j).trans ?_
      rw [Cert.Reference9Ideal.Lat.ckR_fn, Cert.Reference9Ideal.Lat.krR_fn, a0, a1, a3]
      rfl
    · refine ext_ix3 (n := 4) (k := 288) (l := 4096) fun b j s => ?_
      refine Eq.trans ?_ (Cert.Kernel9Ideal.Lat.value15 m c b j s).symm
      refine (Cert.Reference9Ideal.Lat.tR_at (Cert.Reference9Ideal.Lat.ckR _ _ _) (Cert.Reference9Ideal.Lat.krR _ _) b j s).trans ?_
      rw [Cert.Reference9Ideal.Lat.ckR_fn, Cert.Reference9Ideal.Lat.krR_fn, a0, a1, a3]

end Cert.Proof.Lat

end
-- ==== Proof.NsaS.Value.lean ====
/- The projections of the sparse-attention layer at the sample group: what the call's blocks hold, its result arrays, the operands prepared for it, and its results over
   the launched arguments. -/
module

public import proofs.«01_k».proof.Proof.Gen.Kernel10Ideal.Value
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel10Ideal.NsaS

open Idealize.ShloMosaic Idealize.ShloMosaic.TcCoe Cert.Kernel10Ideal.Gen Idealize.ShloMosaic.Tactic

/-- Arrays of two axes agree where they agree at every pair of indices, -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

/-- and of three at every triple. -/
theorem ext_ix3 {n k l : ℕ} {A B : (⟨3, ![n, k, l]⟩ : Shape).Idx → EReal}
    (h : ∀ (a : Fin n) (b : Fin k) (d : Fin l), A (ix3 a b d) = B (ix3 a b d)) : A = B := by
  funext i
  have e : i = ix3 (i 0 : Fin n) (i 1 : Fin k) (i 2 : Fin l) := by
    funext a
    fin_cases a <;> rfl
  rw [e]
  exact h _ _ _

/-- The zero offsets. -/
theorem z2 : ∀ a, (![0, 0] : Fin 2 → ℕ) a = 0 := by decide
@[inherit_doc z2] theorem z3 : ∀ a, (![0, 0, 0] : Fin 3 → ℕ) a = 0 := by decide

/-- The block indices of the windows at a grid point. -/
theorem idx_at : ∀ t : Fin grid0.N,
    win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0, 0] := by decide +kernel

/-! ## The payloads -/

/-- A block's product with a weight block. -/
theorem pay_7_at (x : Vec Ideal S128x1024 .f32) (w : Vec Ideal S1024x1024 .bf16) (r : Fin 128) (f : Fin 1024) :
    k0_pay3 (F := Ideal) x w (ix2 r f) = ∑ l, x (ix2 r l) * w (ix2 l f) := by
  pointwise [k0_pay3, k0_pay2]

/-- A block's product with a weight block. -/
theorem pay_8_at (x : Vec Ideal S128x1024 .f32) (w : Vec Ideal S1024x128 .bf16) (r : Fin 128) (f : Fin 128) :
    k0_pay4 (F := Ideal) x w (ix2 r f) = ∑ l, x (ix2 r l) * w (ix2 l f) := by
  pointwise [k0_pay4, k0_pay2]

/-- A block's product with a weight block. -/
theorem pay_9_at (x : Vec Ideal S128x1024 .f32) (w : Vec Ideal S1024x128 .bf16) (r : Fin 128) (f : Fin 128) :
    k0_pay5 (F := Ideal) x w (ix2 r f) = ∑ l, x (ix2 r l) * w (ix2 l f) := by
  pointwise [k0_pay5, k0_pay2]

/-- A block's product with a weight block. -/
theorem pay_10_at (x : Vec Ideal S128x1024 .f32) (w : Vec Ideal S1024x48 .bf16) (r : Fin 128) (f : Fin 48) :
    k0_pay6 (F := Ideal) x w (ix2 r f) = ∑ l, x (ix2 r l) * w (ix2 l f) := by
  pointwise [k0_pay6, k0_pay2]

/-- A block's product with a weight block. -/
theorem pay_11_at (x : Vec Ideal S128x1024 .f32) (w : Vec Ideal S256x1024 .bf16) (r : Fin 128) (f : Fin 256) :
    k0_pay7 (F := Ideal) x w (ix3 0 f r) = ∑ l, w (ix2 f l) * x (ix2 r l) := by
  pointwise [k0_pay7, k0_pay2]

/-- A block's product with a weight block. -/
theorem pay_12_at (x : Vec Ideal S128x1024 .f32) (w : Vec Ideal S128x1024 .bf16) (r : Fin 128) (f : Fin 128) :
    k0_pay1 (F := Ideal) (k0_pay2 x) w (ix3 0 f r) = ∑ l, w (ix2 f l) * x (ix2 r l) := by
  pointwise [k0_pay1, k0_pay2]

/-! ## The blocks -/

/-- A row of the input's block is a row of the input. -/
theorem x_read (t : Fin grid0.N) (r : Fin 128) (l : Fin 1024) (A : Vec Ideal S128x1024 .f32)  :
    (win0_0.blk t).view.read (Elt Ideal) A (ix2 r l) = A (ix2 r l) := by
  blk_ext [idx_at t]

/-- A block of this weight is all of it. -/
theorem w1_read (t : Fin grid0.N) (A : Vec Ideal S1024x1024 .bf16) : (win0_1.blk t).view.read (Elt Ideal) A = A := by
  refine ext_ix2 fun a b => ?_
  blk_ext [idx_at t]

/-- A block of this weight is all of it. -/
theorem w2_read (t : Fin grid0.N) (A : Vec Ideal S1024x128 .bf16) : (win0_2.blk t).view.read (Elt Ideal) A = A := by
  refine ext_ix2 fun a b => ?_
  blk_ext [idx_at t]

/-- A block of this weight is all of it. -/
theorem w3_read (t : Fin grid0.N) (A : Vec Ideal S1024x128 .bf16) : (win0_3.blk t).view.read (Elt Ideal) A = A := by
  refine ext_ix2 fun a b => ?_
  blk_ext [idx_at t]

/-- A block of this weight is all of it. -/
theorem w4_read (t : Fin grid0.N) (A : Vec Ideal S1024x48 .bf16) : (win0_4.blk t).view.read (Elt Ideal) A = A := by
  refine ext_ix2 fun a b => ?_
  blk_ext [idx_at t]

/-- A block of this weight is all of it. -/
theorem w5_read (t : Fin grid0.N) (A : Vec Ideal S256x1024 .bf16) : (win0_5.blk t).view.read (Elt Ideal) A = A := by
  refine ext_ix2 fun a b => ?_
  blk_ext [idx_at t]

/-- A block of this weight is all of it. -/
theorem w6_read (t : Fin grid0.N) (A : Vec Ideal S128x1024 .bf16) : (win0_6.blk t).view.read (Elt Ideal) A = A := by
  refine ext_ix2 fun a b => ?_
  blk_ext [idx_at t]

/-- The input's product with a weight, by rows, -/
def rowsOf {n : ℕ} (A : S128x1024.Idx → EReal) (W : (⟨2, ![1024, n]⟩ : Shape).Idx → EReal) : (⟨2, ![128, n]⟩ : Shape).Idx → EReal :=
  fun i => ∑ l, A (ix2 (i 0 : Fin 128) l) * W (ix2 l (i 1 : Fin n))

/-- and feature by feature, the sequences along the last axis. -/
def colsOf {n : ℕ} (A : S128x1024.Idx → EReal) (W : (⟨2, ![n, 1024]⟩ : Shape).Idx → EReal) : (⟨3, ![1, n, 128]⟩ : Shape).Idx → EReal :=
  fun i => ∑ l, W (ix2 (i 1 : Fin n) l) * A (ix2 (i 2 : Fin 128) l)

/-- Both at an index, by its position and feature. -/
theorem rowsOf_at {n : ℕ} (A : S128x1024.Idx → EReal) (W : (⟨2, ![1024, n]⟩ : Shape).Idx → EReal) (i : (⟨2, ![128, n]⟩ : Shape).Idx)
    (p : Fin 128) (f : Fin n) (h0 : (i 0).val = p.val) (h1 : (i 1).val = f.val) : rowsOf A W i = ∑ l, A (ix2 p l) * W (ix2 l f) := by
  have e0 : (i 0 : Fin 128) = p := Fin.ext h0
  have e1 : (i 1 : Fin n) = f := Fin.ext h1
  unfold rowsOf
  rw [e0, e1]

@[inherit_doc rowsOf_at]
theorem colsOf_at {n : ℕ} (A : S128x1024.Idx → EReal) (W : (⟨2, ![n, 1024]⟩ : Shape).Idx → EReal) (i : (⟨3, ![1, n, 128]⟩ : Shape).Idx)
    (p : Fin 128) (f : Fin n) (h0 : (i 2).val = p.val) (h1 : (i 1).val = f.val) :
    colsOf A W i = ∑ l, W (ix2 f l) * A (ix2 p l) := by
  have e0 : (i 2 : Fin 128) = p := Fin.ext h0
  have e1 : (i 1 : Fin n) = f := Fin.ext h1
  unfold colsOf
  rw [e0, e1]

variable (m : (ℓ : Loc nD τ sig) → Buf (Elt Ideal) ℓ) (c : Dev nD)

/-- The input and the weights as the call reads them. -/
abbrev qx : Vec Ideal S128x1024 .f32 := V m c main_v14
@[inherit_doc qx] abbrev q1 : Vec Ideal S1024x1024 .bf16 := V m c main_v1
@[inherit_doc qx] abbrev q2 : Vec Ideal S1024x128 .bf16 := V m c main_v5
@[inherit_doc qx] abbrev q3 : Vec Ideal S1024x128 .bf16 := V m c main_v7
@[inherit_doc qx] abbrev q4 : Vec Ideal S1024x48 .bf16 := V m c main_v3
@[inherit_doc qx] abbrev q5 : Vec Ideal S256x1024 .bf16 := V m c main_v10
@[inherit_doc qx] abbrev q6 : Vec Ideal S128x1024 .bf16 := V m c main_v13

/-! ## The result arrays -/

/-- After the run, this result array holds the product with its weight. -/
theorem final7 : (dats m 0 c).arrAt 7 cfg0.N = rowsOf (qx m c) (q1 m c) := by
  refine (dats m 0 c).arrAt_eq_of_covers 7 _ (by decide +kernel) fun t hf y => ?_
  rw [after0_7]
  have e0 : iblk m c 0 t = (win0_0.blk t).view.read (Elt Ideal) (qx m c) := rfl
  have e1 : iblk m c 1 t = (win0_1.blk t).view.read (Elt Ideal) (q1 m c) := rfl
  unfold out0_7
  rw [e0, e1]
  generalize qx m c = A
  generalize q1 m c = W
  rw [w1_read, View.canon_cons_unit_lit _ _ _ z2, View.ld_unit_lit _ _ z2, View.ld_unit_lit _ _ z2]
  blk_simp
  have y0 : (y 0).val < 128 := (y 0).isLt
  have y1 : (y 1).val < 1024 := (y 1).isLt
  have hy : y = ix2 (⟨(y 0).val, y0⟩ : Fin 128) (⟨(y 1).val, y1⟩ : Fin 1024) := by
    funext a
    fin_cases a <;> rfl
  refine (congrArg _ hy).trans ((pay_7_at _ _ _ _).trans ?_)
  have hx := fun l => x_read t (⟨(y 0).val, y0⟩ : Fin 128) l A
  rw [Finset.sum_congr rfl fun l _ => congrArg (· * W (ix2 l (⟨(y 1).val, y1⟩ : Fin 1024))) (hx l)]
  refine (rowsOf_at _ _ _ _ _ ?_ ?_).symm
  · blk_simp [idx_at t]
  · blk_simp [idx_at t]

/-- After the run, this result array holds the product with its weight. -/
theorem final8 : (dats m 0 c).arrAt 8 cfg0.N = rowsOf (qx m c) (q2 m c) := by
  refine (dats m 0 c).arrAt_eq_of_covers 8 _ (by decide +kernel) fun t hf y => ?_
  rw [after0_8]
  have e0 : iblk m c 0 t = (win0_0.blk t).view.read (Elt Ideal) (qx m c) := rfl
  have e1 : iblk m c 2 t = (win0_2.blk t).view.read (Elt Ideal) (q2 m c) := rfl
  unfold out0_8
  rw [e0, e1]
  generalize qx m c = A
  generalize q2 m c = W
  rw [w2_read, View.canon_cons_unit_lit _ _ _ z2, View.ld_unit_lit _ _ z2, View.ld_unit_lit _ _ z2]
  blk_simp
  have y0 : (y 0).val < 128 := (y 0).isLt
  have y1 : (y 1).val < 128 := (y 1).isLt
  have hy : y = ix2 (⟨(y 0).val, y0⟩ : Fin 128) (⟨(y 1).val, y1⟩ : Fin 128) := by
    funext a
    fin_cases a <;> rfl
  refine (congrArg _ hy).trans ((pay_8_at _ _ _ _).trans ?_)
  have hx := fun l => x_read t (⟨(y 0).val, y0⟩ : Fin 128) l A
  rw [Finset.sum_congr rfl fun l _ => congrArg (· * W (ix2 l (⟨(y 1).val, y1⟩ : Fin 128))) (hx l)]
  refine (rowsOf_at _ _ _ _ _ ?_ ?_).symm
  · blk_simp [idx_at t]
  · blk_simp [idx_at t]

/-- After the run, this result array holds the product with its weight. -/
theorem final9 : (dats m 0 c).arrAt 9 cfg0.N = rowsOf (qx m c) (q3 m c) := by
  refine (dats m 0 c).arrAt_eq_of_covers 9 _ (by decide +kernel) fun t hf y => ?_
  rw [after0_9]
  have e0 : iblk m c 0 t = (win0_0.blk t).view.read (Elt Ideal) (qx m c) := rfl
  have e1 : iblk m c 3 t = (win0_3.blk t).view.read (Elt Ideal) (q3 m c) := rfl
  unfold out0_9
  rw [e0, e1]
  generalize qx m c = A
  generalize q3 m c = W
  rw [w3_read, View.canon_cons_unit_lit _ _ _ z2, View.ld_unit_lit _ _ z2, View.ld_unit_lit _ _ z2]
  blk_simp
  have y0 : (y 0).val < 128 := (y 0).isLt
  have y1 : (y 1).val < 128 := (y 1).isLt
  have hy : y = ix2 (⟨(y 0).val, y0⟩ : Fin 128) (⟨(y 1).val, y1⟩ : Fin 128) := by
    funext a
    fin_cases a <;> rfl
  refine (congrArg _ hy).trans ((pay_9_at _ _ _ _).trans ?_)
  have hx := fun l => x_read t (⟨(y 0).val, y0⟩ : Fin 128) l A
  rw [Finset.sum_congr rfl fun l _ => congrArg (· * W (ix2 l (⟨(y 1).val, y1⟩ : Fin 128))) (hx l)]
  refine (rowsOf_at _ _ _ _ _ ?_ ?_).symm
  · blk_simp [idx_at t]
  · blk_simp [idx_at t]

/-- After the run, this result array holds the product with its weight. -/
theorem final10 : (dats m 0 c).arrAt 10 cfg0.N = rowsOf (qx m c) (q4 m c) := by
  refine (dats m 0 c).arrAt_eq_of_covers 10 _ (by decide +kernel) fun t hf y => ?_
  rw [after0_10]
  have e0 : iblk m c 0 t = (win0_0.blk t).view.read (Elt Ideal) (qx m c) := rfl
  have e1 : iblk m c 4 t = (win0_4.blk t).view.read (Elt Ideal) (q4 m c) := rfl
  unfold out0_10
  rw [e0, e1]
  generalize qx m c = A
  generalize q4 m c = W
  rw [w4_read, View.canon_cons_unit_lit _ _ _ z2, View.ld_unit_lit _ _ z2, View.ld_unit_lit _ _ z2]
  blk_simp
  have y0 : (y 0).val < 128 := (y 0).isLt
  have y1 : (y 1).val < 48 := (y 1).isLt
  have hy : y = ix2 (⟨(y 0).val, y0⟩ : Fin 128) (⟨(y 1).val, y1⟩ : Fin 48) := by
    funext a
    fin_cases a <;> rfl
  refine (congrArg _ hy).trans ((pay_10_at _ _ _ _).trans ?_)
  have hx := fun l => x_read t (⟨(y 0).val, y0⟩ : Fin 128) l A
  rw [Finset.sum_congr rfl fun l _ => congrArg (· * W (ix2 l (⟨(y 1).val, y1⟩ : Fin 48))) (hx l)]
  refine (rowsOf_at _ _ _ _ _ ?_ ?_).symm
  · blk_simp [idx_at t]
  · blk_simp [idx_at t]

/-- After the run, this result array holds the product with its weight. -/
theorem final11 : (dats m 0 c).arrAt 11 cfg0.N = colsOf (qx m c) (q5 m c) := by
  refine (dats m 0 c).arrAt_eq_of_covers 11 _ (by decide +kernel) fun t hf y => ?_
  rw [after0_11]
  have e0 : iblk m c 0 t = (win0_0.blk t).view.read (Elt Ideal) (qx m c) := rfl
  have e1 : iblk m c 5 t = (win0_5.blk t).view.read (Elt Ideal) (q5 m c) := rfl
  unfold out0_11
  rw [e0, e1]
  generalize qx m c = A
  generalize q5 m c = W
  rw [w5_read, View.canon_cons_unit_lit _ _ _ z3, View.ld_unit_lit _ _ z2, View.ld_unit_lit _ _ z2]
  blk_simp
  have y0 : (y 0).val < 1 := (y 0).isLt
  have y1 : (y 1).val < 256 := (y 1).isLt
  have y2 : (y 2).val < 128 := (y 2).isLt
  have hy : y = ix3 (0 : Fin 1) (⟨(y 1).val, y1⟩ : Fin 256) (⟨(y 2).val, y2⟩ : Fin 128) := by
    funext a
    fin_cases a
    · exact Fin.ext (by show (y 0).val = 0; omega)
    · rfl
    · rfl
  refine (congrArg _ hy).trans ((pay_11_at _ _ _ _).trans ?_)
  have hx := fun l => x_read t (⟨(y 2).val, y2⟩ : Fin 128) l A
  rw [Finset.sum_congr rfl fun l _ => congrArg (W (ix2 (⟨(y 1).val, y1⟩ : Fin 256) l) * ·) (hx l)]
  refine (colsOf_at _ _ _ _ _ ?_ ?_).symm
  · blk_simp [idx_at t]
  · blk_simp [idx_at t]

/-- After the run, this result array holds the product with its weight. -/
theorem final12 : (dats m 0 c).arrAt 12 cfg0.N = colsOf (qx m c) (q6 m c) := by
  refine (dats m 0 c).arrAt_eq_of_covers 12 _ (by decide +kernel) fun t hf y => ?_
  rw [after0_12]
  have e0 : iblk m c 0 t = (win0_0.blk t).view.read (Elt Ideal) (qx m c) := rfl
  have e1 : iblk m c 6 t = (win0_6.blk t).view.read (Elt Ideal) (q6 m c) := rfl
  unfold out0_12
  rw [e0, e1]
  generalize qx m c = A
  generalize q6 m c = W
  rw [w6_read, View.canon_cons_unit_lit _ _ _ z3, View.ld_unit_lit _ _ z2, View.ld_unit_lit _ _ z2]
  blk_simp
  have y0 : (y 0).val < 1 := (y 0).isLt
  have y1 : (y 1).val < 128 := (y 1).isLt
  have y2 : (y 2).val < 128 := (y 2).isLt
  have hy : y = ix3 (0 : Fin 1) (⟨(y 1).val, y1⟩ : Fin 128) (⟨(y 2).val, y2⟩ : Fin 128) := by
    funext a
    fin_cases a
    · exact Fin.ext (by show (y 0).val = 0; omega)
    · rfl
    · rfl
  refine (congrArg _ hy).trans ((pay_12_at _ _ _ _).trans ?_)
  have hx := fun l => x_read t (⟨(y 2).val, y2⟩ : Fin 128) l A
  rw [Finset.sum_congr rfl fun l _ => congrArg (W (ix2 (⟨(y 1).val, y1⟩ : Fin 128) l) * ·) (hx l)]
  refine (colsOf_at _ _ _ _ _ ?_ ?_).symm
  · blk_simp [idx_at t]
  · blk_simp [idx_at t]

/-! ## The operands, and the results over the launched arguments -/

/-- The input's rows. -/
theorem x_host (p : Fin 128) (l : Fin 1024) :
    qx m c (ix2 p l) = (m ((c : Thread nD τ).loc main_arg0) : S128x1x1024.Idx → EReal)
      (ix3 p 0 l) := by
  show StableHlo.after hostOps0 (fun b => m (c, b)) (Proc.tc.devRef main_v14) _ = _
  entry_read
  clean_types
  pointwise

/-- A weight's columns are columns of the launched weight. -/
theorem w1_host (a : Fin 1024) (b : Fin 1024) : q1 m c (ix2 a b) = (m ((c : Thread nD τ).loc main_arg1) : S1024x1456.Idx → EReal) (ix2 a ⟨0 + b.val, by omega⟩) := by
  show StableHlo.after hostOps0 (fun b => m (c, b)) (Proc.tc.devRef main_v1) _ = _
  entry_read
  clean_types
  pointwise

/-- A weight's columns are columns of the launched weight. -/
theorem w2_host (a : Fin 1024) (b : Fin 128) : q2 m c (ix2 a b) = (m ((c : Thread nD τ).loc main_arg1) : S1024x1456.Idx → EReal) (ix2 a ⟨1152 + b.val, by omega⟩) := by
  show StableHlo.after hostOps0 (fun b => m (c, b)) (Proc.tc.devRef main_v5) _ = _
  entry_read
  clean_types
  pointwise

/-- A weight's columns are columns of the launched weight. -/
theorem w3_host (a : Fin 1024) (b : Fin 128) : q3 m c (ix2 a b) = (m ((c : Thread nD τ).loc main_arg1) : S1024x1456.Idx → EReal) (ix2 a ⟨1280 + b.val, by omega⟩) := by
  show StableHlo.after hostOps0 (fun b => m (c, b)) (Proc.tc.devRef main_v7) _ = _
  entry_read
  clean_types
  pointwise

/-- A weight's columns are columns of the launched weight. -/
theorem w4_host (a : Fin 1024) (b : Fin 48) : q4 m c (ix2 a b) = (m ((c : Thread nD τ).loc main_arg1) : S1024x1456.Idx → EReal) (ix2 a ⟨1408 + b.val, by omega⟩) := by
  show StableHlo.after hostOps0 (fun b => m (c, b)) (Proc.tc.devRef main_v3) _ = _
  entry_read
  clean_types
  pointwise

/-- A weight's columns are columns of the launched weight. -/
theorem w5_host (a : Fin 1024) (b : Fin 256) : q5 m c (ix2 b a) = (m ((c : Thread nD τ).loc main_arg1) : S1024x1456.Idx → EReal) (ix2 a ⟨1024 + b.val, by omega⟩) := by
  show StableHlo.after hostOps0 (fun b => m (c, b)) (Proc.tc.devRef main_v10) _ = _
  entry_read
  clean_types
  pointwise

/-- A weight's columns are columns of the launched weight. -/
theorem w6_host (a : Fin 1024) (b : Fin 128) : q6 m c (ix2 b a) = (m ((c : Thread nD τ).loc main_arg1) : S1024x1456.Idx → EReal) (ix2 a ⟨1280 + b.val, by omega⟩) := by
  show StableHlo.after hostOps0 (fun b => m (c, b)) (Proc.tc.devRef main_v13) _ = _
  entry_read
  clean_types
  pointwise

/-- One feature of one sequence: the input's row times a column of the weight. -/
def feat (x : S128x1x1024.Idx → EReal) (w : S1024x1456.Idx → EReal) (p : Fin 128) (f : Fin 1456) : EReal :=
  ∑ l, x (ix3 p 0 l) * w (ix2 l f)

/-- The launched arguments. -/
abbrev lx : S128x1x1024.Idx → EReal := m ((c : Thread nD τ).loc main_arg0)
@[inherit_doc lx] abbrev lw : S1024x1456.Idx → EReal := m ((c : Thread nD τ).loc main_arg1)

/-- The result rows over the launched arguments. -/
theorem value7 (p : Fin 128) (f : Fin 1024) : rowsOf (qx m c) (q1 m c) (ix2 p f)
    = feat (lx m c) (lw m c) p ⟨0 + f.val, by omega⟩ := by
  refine (rowsOf_at _ _ _ p f rfl rfl).trans (Finset.sum_congr rfl fun l _ => ?_)
  rw [x_host, w1_host]

/-- The result rows over the launched arguments. -/
theorem value8 (p : Fin 128) (f : Fin 128) : rowsOf (qx m c) (q2 m c) (ix2 p f)
    = feat (lx m c) (lw m c) p ⟨1152 + f.val, by omega⟩ := by
  refine (rowsOf_at _ _ _ p f rfl rfl).trans (Finset.sum_congr rfl fun l _ => ?_)
  rw [x_host, w2_host]

/-- The result rows over the launched arguments. -/
theorem value9 (p : Fin 128) (f : Fin 128) : rowsOf (qx m c) (q3 m c) (ix2 p f)
    = feat (lx m c) (lw m c) p ⟨1280 + f.val, by omega⟩ := by
  refine (rowsOf_at _ _ _ p f rfl rfl).trans (Finset.sum_congr rfl fun l _ => ?_)
  rw [x_host, w3_host]

/-- The result rows over the launched arguments. -/
theorem value10 (p : Fin 128) (f : Fin 48) : rowsOf (qx m c) (q4 m c) (ix2 p f)
    = feat (lx m c) (lw m c) p ⟨1408 + f.val, by omega⟩ := by
  refine (rowsOf_at _ _ _ p f rfl rfl).trans (Finset.sum_congr rfl fun l _ => ?_)
  rw [x_host, w4_host]

/-- The result's features over the launched arguments. -/
theorem value11 (b : Fin 1) (f : Fin 256) (s : Fin 128) : colsOf (qx m c) (q5 m c) (ix3 b f s)
    = feat (lx m c) (lw m c) s ⟨1024 + f.val, by omega⟩ := by
  refine (colsOf_at _ _ _ s f rfl rfl).trans (Finset.sum_congr rfl fun l _ => ?_)
  rw [x_host, w5_host, mul_comm]

/-- The result's features over the launched arguments. -/
theorem value12 (b : Fin 1) (f : Fin 128) (s : Fin 128) : colsOf (qx m c) (q6 m c) (ix3 b f s)
    = feat (lx m c) (lw m c) s ⟨1280 + f.val, by omega⟩ := by
  refine (colsOf_at _ _ _ s f rfl rfl).trans (Finset.sum_congr rfl fun l _ => ?_)
  rw [x_host, w6_host, mul_comm]

end Cert.Kernel10Ideal.NsaS

end
-- ==== Proof.NsaS.Algebra.lean ====
/- The value claim of the projections of the sparse-attention layer at the sample group. -/
module

public import proofs.«01_k».proof.Defs
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.NsaS.Value

@[expose] public section

set_option maxRecDepth 16384

noncomputable section

namespace Cert.Reference10Ideal.NsaS

open Idealize.ShloMosaic Idealize.ShloMosaic.TcCoe Cert.Reference10Ideal.Gen Idealize.ShloMosaic.Tactic
open Cert.Kernel10Ideal.NsaS (feat ext_ix2 ext_ix3)

/-- The reference's result, from its arguments, -/
def result7 (x : FVec Ideal S128x1x1024 .f32) (w : FVec Ideal S1024x1456 .f32) : FVec Ideal S128x1024 .f32 :=
  extractStridedSlice S128x1024 ![0, 0] (shapeCast _ (Host.dotGeneral dot_S128x1x1024_S1024x1456_S128x1x1456_2_0_01_1_n_n none x w) shapeCasts_S128x1x1456_S128x1456) slices_S128x1456_S128x1024_0_0

/-- holds the products of the input's rows with the weight's columns. -/
theorem result7_at (x : FVec Ideal S128x1x1024 .f32) (w : FVec Ideal S1024x1456 .f32) (p : Fin 128) (f : Fin 1024) :
    result7 x w (ix2 p f) = feat x w p ⟨0 + f.val, by omega⟩ := by
  unfold result7 feat
  pointwise

/-- The reference's result, from its arguments, -/
def result8 (x : FVec Ideal S128x1x1024 .f32) (w : FVec Ideal S1024x1456 .f32) : FVec Ideal S128x128 .f32 :=
  extractStridedSlice S128x128 ![0, 1152] (shapeCast _ (Host.dotGeneral dot_S128x1x1024_S1024x1456_S128x1x1456_2_0_01_1_n_n none x w) shapeCasts_S128x1x1456_S128x1456) slices_S128x1456_S128x128_0_1152

/-- holds the products of the input's rows with the weight's columns. -/
theorem result8_at (x : FVec Ideal S128x1x1024 .f32) (w : FVec Ideal S1024x1456 .f32) (p : Fin 128) (f : Fin 128) :
    result8 x w (ix2 p f) = feat x w p ⟨1152 + f.val, by omega⟩ := by
  unfold result8 feat
  pointwise

/-- The reference's result, from its arguments, -/
def result9 (x : FVec Ideal S128x1x1024 .f32) (w : FVec Ideal S1024x1456 .f32) : FVec Ideal S128x128 .f32 :=
  extractStridedSlice S128x128 ![0, 1280] (shapeCast _ (Host.dotGeneral dot_S128x1x1024_S1024x1456_S128x1x1456_2_0_01_1_n_n none x w) shapeCasts_S128x1x1456_S128x1456) slices_S128x1456_S128x128_0_1280

/-- holds the products of the input's rows with the weight's columns. -/
theorem result9_at (x : FVec Ideal S128x1x1024 .f32) (w : FVec Ideal S1024x1456 .f32) (p : Fin 128) (f : Fin 128) :
    result9 x w (ix2 p f) = feat x w p ⟨1280 + f.val, by omega⟩ := by
  unfold result9 feat
  pointwise

/-- The reference's result, from its arguments, -/
def result10 (x : FVec Ideal S128x1x1024 .f32) (w : FVec Ideal S1024x1456 .f32) : FVec Ideal S128x48 .f32 :=
  extractStridedSlice S128x48 ![0, 1408] (shapeCast _ (Host.dotGeneral dot_S128x1x1024_S1024x1456_S128x1x1456_2_0_01_1_n_n none x w) shapeCasts_S128x1x1456_S128x1456) slices_S128x1456_S128x48_0_1408

/-- holds the products of the input's rows with the weight's columns. -/
theorem result10_at (x : FVec Ideal S128x1x1024 .f32) (w : FVec Ideal S1024x1456 .f32) (p : Fin 128) (f : Fin 48) :
    result10 x w (ix2 p f) = feat x w p ⟨1408 + f.val, by omega⟩ := by
  unfold result10 feat
  pointwise

/-- The reference's result, from its arguments, -/
def result11 (x : FVec Ideal S128x1x1024 .f32) (w : FVec Ideal S1024x1456 .f32) : FVec Ideal S1x256x128 .f32 :=
  broadcastInDim S1x256x128 ![1, 2] bcast_S256x128_S1x256x128_1_2 (transpose S256x128 [1, 0] (extractStridedSlice S128x256 ![0, 1024] (shapeCast _ (Host.dotGeneral dot_S128x1x1024_S1024x1456_S128x1x1456_2_0_01_1_n_n none x w) shapeCasts_S128x1x1456_S128x1456) slices_S128x1456_S128x256_0_1024) transposes_S128x256_S256x128_1_0)

/-- holds the products of the input's rows with the weight's columns. -/
theorem result11_at (x : FVec Ideal S128x1x1024 .f32) (w : FVec Ideal S1024x1456 .f32) (b : Fin 1) (f : Fin 256) (s : Fin 128) :
    result11 x w (ix3 b f s) = feat x w s ⟨1024 + f.val, by omega⟩ := by
  unfold result11 feat
  pointwise

/-- The reference's result, from its arguments, -/
def result12 (x : FVec Ideal S128x1x1024 .f32) (w : FVec Ideal S1024x1456 .f32) : FVec Ideal S1x128x128 .f32 :=
  broadcastInDim S1x128x128 ![1, 2] bcast_S128x128_S1x128x128_1_2 (transpose S128x128 [1, 0] (extractStridedSlice S128x128 ![0, 1280] (shapeCast _ (Host.dotGeneral dot_S128x1x1024_S1024x1456_S128x1x1456_2_0_01_1_n_n none x w) shapeCasts_S128x1x1456_S128x1456) slices_S128x1456_S128x128_0_1280) transposes_S128x128_S128x128_1_0)

/-- holds the products of the input's rows with the weight's columns. -/
theorem result12_at (x : FVec Ideal S128x1x1024 .f32) (w : FVec Ideal S1024x1456 .f32) (b : Fin 1) (f : Fin 128) (s : Fin 128) :
    result12 x w (ix3 b f s) = feat x w s ⟨1280 + f.val, by omega⟩ := by
  unfold result12 feat
  pointwise

end Cert.Reference10Ideal.NsaS

namespace Cert.Proof.NsaS

open Idealize.ShloMosaic Idealize.ShloMosaic.TcCoe Idealize.SL Idealize.SL.Sem
open Cert.Kernel10Ideal.NsaS (ext_ix2 ext_ix3)

/-- Over the extended reals the kernel's projections and the reference's are equal: from the same arguments both end, and their results agree. -/
theorem algebraic : Cert.algebraic_Kernel10Ideal_Reference10Ideal := by
  intro m g m' g' _ hagree
  refine ⟨fun c => Cert.Kernel10Ideal.NsaS.rowsOf (Cert.Kernel10Ideal.NsaS.qx m c) (Cert.Kernel10Ideal.NsaS.q1 m c), fun c => Cert.Kernel10Ideal.NsaS.rowsOf (Cert.Kernel10Ideal.NsaS.qx m c) (Cert.Kernel10Ideal.NsaS.q2 m c), fun c => Cert.Kernel10Ideal.NsaS.rowsOf (Cert.Kernel10Ideal.NsaS.qx m c) (Cert.Kernel10Ideal.NsaS.q3 m c), fun c => Cert.Kernel10Ideal.NsaS.rowsOf (Cert.Kernel10Ideal.NsaS.qx m c) (Cert.Kernel10Ideal.NsaS.q4 m c), fun c => Cert.Kernel10Ideal.NsaS.colsOf (Cert.Kernel10Ideal.NsaS.qx m c) (Cert.Kernel10Ideal.NsaS.q5 m c), fun c => Cert.Kernel10Ideal.NsaS.colsOf (Cert.Kernel10Ideal.NsaS.qx m c) (Cert.Kernel10Ideal.NsaS.q6 m c), ?_, ?_⟩
  · refine (θ_run _ _ _).mono (fun r h c => ?_) (Cert.Kernel10Ideal.Value.run_blocks m g)
    obtain ⟨h0, h1, h2, h3, h4, h5, hr⟩ := h c
    exact ⟨h0.trans (Cert.Kernel10Ideal.NsaS.final7 m c), h1.trans (Cert.Kernel10Ideal.NsaS.final8 m c), h2.trans (Cert.Kernel10Ideal.NsaS.final9 m c), h3.trans (Cert.Kernel10Ideal.NsaS.final10 m c), h4.trans (Cert.Kernel10Ideal.NsaS.final11 m c), h5.trans (Cert.Kernel10Ideal.NsaS.final12 m c), hr⟩
  · refine (θ_run _ _ _).mono (fun r h c => ?_) (Cert.Reference10Ideal.Value.run m' g')
    obtain ⟨h0, h1, h2, h3, h4, h5, hr⟩ := h c
    obtain ⟨a0, a1⟩ := hagree c
    refine ⟨h0.trans ?_, h1.trans ?_, h2.trans ?_, h3.trans ?_, h4.trans ?_, h5.trans ?_, hr⟩
    · refine ext_ix2 (n := 128) (k := 1024) fun p f => ?_
      refine Eq.trans ?_ (Cert.Kernel10Ideal.NsaS.value7 m c p f).symm
      refine (Cert.Reference10Ideal.NsaS.result7_at _ _ p f).trans ?_
      rw [a0, a1]
    · refine ext_ix2 (n := 128) (k := 128) fun p f => ?_
      refine Eq.trans ?_ (Cert.Kernel10Ideal.NsaS.value8 m c p f).symm
      refine (Cert.Reference10Ideal.NsaS.result8_at _ _ p f).trans ?_
      rw [a0, a1]
    · refine ext_ix2 (n := 128) (k := 128) fun p f => ?_
      refine Eq.trans ?_ (Cert.Kernel10Ideal.NsaS.value9 m c p f).symm
      refine (Cert.Reference10Ideal.NsaS.result9_at _ _ p f).trans ?_
      rw [a0, a1]
    · refine ext_ix2 (n := 128) (k := 48) fun p f => ?_
      refine Eq.trans ?_ (Cert.Kernel10Ideal.NsaS.value10 m c p f).symm
      refine (Cert.Reference10Ideal.NsaS.result10_at _ _ p f).trans ?_
      rw [a0, a1]
    · refine ext_ix3 (n := 1) (k := 256) (l := 128) fun b f s => ?_
      refine Eq.trans ?_ (Cert.Kernel10Ideal.NsaS.value11 m c b f s).symm
      refine (Cert.Reference10Ideal.NsaS.result11_at _ _ b f s).trans ?_
      rw [a0, a1]
    · refine ext_ix3 (n := 1) (k := 128) (l := 128) fun b f s => ?_
      refine Eq.trans ?_ (Cert.Kernel10Ideal.NsaS.value12 m c b f s).symm
      refine (Cert.Reference10Ideal.NsaS.result12_at _ _ b f s).trans ?_
      rw [a0, a1]

end Cert.Proof.NsaS

end
-- ==== Proof.SbS.Value.lean ====
/- The projections of the stick-breaking layer at the sample group: what the call's blocks hold, its result arrays, the operands prepared for it, and its results over
   the launched arguments. -/
module

public import proofs.«01_k».proof.Proof.Gen.Kernel11Ideal.Value
public import Idealize.ShloMosaic.Lib.Claim
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel11Ideal.SbS

open Idealize.ShloMosaic Idealize.ShloMosaic.TcCoe Cert.Kernel11Ideal.Gen Idealize.ShloMosaic.Tactic

/-- Arrays of two axes agree where they agree at every pair of indices, -/
theorem ext_ix2 {n k : ℕ} {A B : (⟨2, ![n, k]⟩ : Shape).Idx → EReal} (h : ∀ (a : Fin n) (b : Fin k), A (ix2 a b) = B (ix2 a b)) : A = B := by
  funext i
  have e : i = ix2 (i 0 : Fin n) (i 1 : Fin k) := by
    funext a
    fin_cases a <;> rfl
  rw [e]
  exact h _ _

/-- and of three at every triple. -/
theorem ext_ix3 {n k l : ℕ} {A B : (⟨3, ![n, k, l]⟩ : Shape).Idx → EReal}
    (h : ∀ (a : Fin n) (b : Fin k) (d : Fin l), A (ix3 a b d) = B (ix3 a b d)) : A = B := by
  funext i
  have e : i = ix3 (i 0 : Fin n) (i 1 : Fin k) (i 2 : Fin l) := by
    funext a
    fin_cases a <;> rfl
  rw [e]
  exact h _ _ _

/-- The zero offsets. -/
theorem z2 : ∀ a, (![0, 0] : Fin 2 → ℕ) a = 0 := by decide
@[inherit_doc z2] theorem z3 : ∀ a, (![0, 0, 0] : Fin 3 → ℕ) a = 0 := by decide

/-- The block indices of the windows at a grid point. -/
theorem idx_at : ∀ t : Fin grid0.N,
    win0_0.index t = ![0, 0]
    ∧ win0_1.index t = ![0, 0]
    ∧ win0_2.index t = ![0, 0]
    ∧ win0_3.index t = ![0, 0]
    ∧ win0_4.index t = ![0, 0, 0] := by decide +kernel

/-! ## The payloads -/

/-- A block's product with a weight block. -/
theorem pay_3_at (x : Vec Ideal S128x1024 .f32) (w : Vec Ideal S1024x1024 .bf16) (r : Fin 128) (f : Fin 1024) :
    k0_pay2 (F := Ideal) x w (ix2 r f) = ∑ l, x (ix2 r l) * w (ix2 l f) := by
  pointwise [k0_pay2, k0_pay1]

/-- A block's product with a weight block. -/
theorem pay_4_at (x : Vec Ideal S128x1024 .f32) (w : Vec Ideal S512x1024 .bf16) (r : Fin 128) (f : Fin 512) :
    k0_pay3 (F := Ideal) x w (ix3 0 f r) = ∑ l, w (ix2 f l) * x (ix2 r l) := by
  pointwise [k0_pay3, k0_pay1]

/-! ## The blocks -/

/-- A row of the input's block is a row of the input. -/
theorem x_read (t : Fin grid0.N) (r : Fin 128) (l : Fin 1024) (A : Vec Ideal S128x1024 .f32)  :
    (win0_0.blk t).view.read (Elt Ideal) A (ix2 r l) = A (ix2 r l) := by
  blk_ext [idx_at t]

/-- A block of this weight is all of it. -/
theorem w1_read (t : Fin grid0.N) (A : Vec Ideal S1024x1024 .bf16) : (win0_1.blk t).view.read (Elt Ideal) A = A := by
  refine ext_ix2 fun a b => ?_
  blk_ext [idx_at t]

/-- A block of this weight is all of it. -/
theorem w2_read (t : Fin grid0.N) (A : Vec Ideal S512x1024 .bf16) : (win0_2.blk t).view.read (Elt Ideal) A = A := by
  refine ext_ix2 fun a b => ?_
  blk_ext [idx_at t]

/-- The input's product with a weight, by rows, -/
def rowsOf {n : ℕ} (A : S128x1024.Idx → EReal) (W : (⟨2, ![1024, n]⟩ : Shape).Idx → EReal) : (⟨2, ![128, n]⟩ : Shape).Idx → EReal :=
  fun i => ∑ l, A (ix2 (i 0 : Fin 128) l) * W (ix2 l (i 1 : Fin n))

/-- and feature by feature, the sequences along the last axis. -/
def colsOf {n : ℕ} (A : S128x1024.Idx → EReal) (W : (⟨2, ![n, 1024]⟩ : Shape).Idx → EReal) : (⟨3, ![1, n, 128]⟩ : Shape).Idx → EReal :=
  fun i => ∑ l, W (ix2 (i 1 : Fin n) l) * A (ix2 (i 2 : Fin 128) l)

/-- Both at an index, by its position and feature. -/
theorem rowsOf_at {n : ℕ} (A : S128x1024.Idx → EReal) (W : (⟨2, ![1024, n]⟩ : Shape).Idx → EReal) (i : (⟨2, ![128, n]⟩ : Shape).Idx)
    (p : Fin 128) (f : Fin n) (h0 : (i 0).val = p.val) (h1 : (i 1).val = f.val) : rowsOf A W i = ∑ l, A (ix2 p l) * W (ix2 l f) := by
  have e0 : (i 0 : Fin 128) = p := Fin.ext h0
  have e1 : (i 1 : Fin n) = f := Fin.ext h1
  unfold rowsOf
  rw [e0, e1]

@[inherit_doc rowsOf_at]
theorem colsOf_at {n : ℕ} (A : S128x1024.Idx → EReal) (W : (⟨2, ![n, 1024]⟩ : Shape).Idx → EReal) (i : (⟨3, ![1, n, 128]⟩ : Shape).Idx)
    (p : Fin 128) (f : Fin n) (h0 : (i 2).val = p.val) (h1 : (i 1).val = f.val) :
    colsOf A W i = ∑ l, W (ix2 f l) * A (ix2 p l) := by
  have e0 : (i 2 : Fin 128) = p := Fin.ext h0
  have e1 : (i 1 : Fin n) = f := Fin.ext h1
  unfold colsOf
  rw [e0, e1]

variable (m : (ℓ : Loc nD τ sig) → Buf (Elt Ideal) ℓ) (c : Dev nD)

/-- The input and the weights as the call reads them. -/
abbrev qx : Vec Ideal S128x1024 .f32 := V m c main_v0
@[inherit_doc qx] abbrev q1 : Vec Ideal S1024x1024 .bf16 := V m c main_v2
@[inherit_doc qx] abbrev q2 : Vec Ideal S512x1024 .bf16 := V m c main_v5

/-! ## The result arrays -/

/-- After the run, this result array holds the product with its weight. -/
theorem final3 : (dats m 0 c).arrAt 3 cfg0.N = rowsOf (qx m c) (q1 m c) := by
  refine (dats m 0 c).arrAt_eq_of_covers 3 _ (by decide +kernel) fun t hf y => ?_
  rw [after0_3]
  have e0 : iblk m c 0 t = (win0_0.blk t).view.read (Elt Ideal) (qx m c) := rfl
  have e1 : iblk m c 1 t = (win0_1.blk t).view.read (Elt Ideal) (q1 m c) := rfl
  unfold out0_3
  rw [e0, e1]
  generalize qx m c = A
  generalize q1 m c = W
  rw [w1_read, View.canon_cons_unit_lit _ _ _ z2, View.ld_unit_lit _ _ z2, View.ld_unit_lit _ _ z2]
  blk_simp
  have y0 : (y 0).val < 128 := (y 0).isLt
  have y1 : (y 1).val < 1024 := (y 1).isLt
  have hy : y = ix2 (⟨(y 0).val, y0⟩ : Fin 128) (⟨(y 1).val, y1⟩ : Fin 1024) := by
    funext a
    fin_cases a <;> rfl
  refine (congrArg _ hy).trans ((pay_3_at _ _ _ _).trans ?_)
  have hx := fun l => x_read t (⟨(y 0).val, y0⟩ : Fin 128) l A
  rw [Finset.sum_congr rfl fun l _ => congrArg (· * W (ix2 l (⟨(y 1).val, y1⟩ : Fin 1024))) (hx l)]
  refine (rowsOf_at _ _ _ _ _ ?_ ?_).symm
  · blk_simp [idx_at t]
  · blk_simp [idx_at t]

/-- After the run, this result array holds the product with its weight. -/
theorem final4 : (dats m 0 c).arrAt 4 cfg0.N = colsOf (qx m c) (q2 m c) := by
  refine (dats m 0 c).arrAt_eq_of_covers 4 _ (by decide +kernel) fun t hf y => ?_
  rw [after0_4]
  have e0 : iblk m c 0 t = (win0_0.blk t).view.read (Elt Ideal) (qx m c) := rfl
  have e1 : iblk m c 2 t = (win0_2.blk t).view.read (Elt Ideal) (q2 m c) := rfl
  unfold out0_4
  rw [e0, e1]
  generalize qx m c = A
  generalize q2 m c = W
  rw [w2_read, View.canon_cons_unit_lit _ _ _ z3, View.ld_unit_lit _ _ z2, View.ld_unit_lit _ _ z2]
  blk_simp
  have y0 : (y 0).val < 1 := (y 0).isLt
  have y1 : (y 1).val < 512 := (y 1).isLt
  have y2 : (y 2).val < 128 := (y 2).isLt
  have hy : y = ix3 (0 : Fin 1) (⟨(y 1).val, y1⟩ : Fin 512) (⟨(y 2).val, y2⟩ : Fin 128) := by
    funext a
    fin_cases a
    · exact Fin.ext (by show (y 0).val = 0; omega)
    · rfl
    · rfl
  refine (congrArg _ hy).trans ((pay_4_at _ _ _ _).trans ?_)
  have hx := fun l => x_read t (⟨(y 2).val, y2⟩ : Fin 128) l A
  rw [Finset.sum_congr rfl fun l _ => congrArg (W (ix2 (⟨(y 1).val, y1⟩ : Fin 512) l) * ·) (hx l)]
  refine (colsOf_at _ _ _ _ _ ?_ ?_).symm
  · blk_simp [idx_at t]
  · blk_simp [idx_at t]

/-! ## The operands, and the results over the launched arguments -/

/-- The input's rows. -/
theorem x_host (p : Fin 128) (l : Fin 1024) :
    qx m c (ix2 p l) = (m ((c : Thread nD τ).loc main_arg0) : S128x1x1024.Idx → EReal)
      (ix3 p 0 l) := by
  show StableHlo.after hostOps0 (fun b => m (c, b)) (Proc.tc.devRef main_v0) _ = _
  entry_read
  clean_types
  pointwise

/-- A weight's columns are columns of the launched weight. -/
theorem w1_host (a : Fin 1024) (b : Fin 1024) : q1 m c (ix2 a b) = (m ((c : Thread nD τ).loc main_arg1) : S1024x1536.Idx → EReal) (ix2 a ⟨0 + b.val, by omega⟩) := by
  show StableHlo.after hostOps0 (fun b => m (c, b)) (Proc.tc.devRef main_v2) _ = _
  entry_read
  clean_types
  pointwise

/-- A weight's columns are columns of the launched weight. -/
theorem w2_host (a : Fin 1024) (b : Fin 512) : q2 m c (ix2 b a) = (m ((c : Thread nD τ).loc main_arg1) : S1024x1536.Idx → EReal) (ix2 a ⟨1024 + b.val, by omega⟩) := by
  show StableHlo.after hostOps0 (fun b => m (c, b)) (Proc.tc.devRef main_v5) _ = _
  entry_read
  clean_types
  pointwise

/-- One feature of one sequence: the input's row times a column of the weight. -/
def feat (x : S128x1x1024.Idx → EReal) (w : S1024x1536.Idx → EReal) (p : Fin 128) (f : Fin 1536) : EReal :=
  ∑ l, x (ix3 p 0 l) * w (ix2 l f)

/-- The launched arguments. -/
abbrev lx : S128x1x1024.Idx → EReal := m ((c : Thread nD τ).loc main_arg0)
@[inherit_doc lx] abbrev lw : S1024x1536.Idx → EReal := m ((c : Thread nD τ).loc main_arg1)

/-- The result rows over the launched arguments. -/
theorem value3 (p : Fin 128) (f : Fin 1024) : rowsOf (qx m c) (q1 m c) (ix2 p f)
    = feat (lx m c) (lw m c) p ⟨0 + f.val, by omega⟩ := by
  refine (rowsOf_at _ _ _ p f rfl rfl).trans (Finset.sum_congr rfl fun l _ => ?_)
  rw [x_host, w1_host]

/-- The result's features over the launched arguments. -/
theorem value4 (b : Fin 1) (f : Fin 512) (s : Fin 128) : colsOf (qx m c) (q2 m c) (ix3 b f s)
    = feat (lx m c) (lw m c) s ⟨1024 + f.val, by omega⟩ := by
  refine (colsOf_at _ _ _ s f rfl rfl).trans (Finset.sum_congr rfl fun l _ => ?_)
  rw [x_host, w2_host, mul_comm]

end Cert.Kernel11Ideal.SbS

end
-- ==== Proof.SbS.Algebra.lean ====
/- The value claim of the projections of the stick-breaking layer at the sample group. -/
module

public import proofs.«01_k».proof.Defs
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.SbS.Value

@[expose] public section

set_option maxRecDepth 16384

noncomputable section

namespace Cert.Reference11Ideal.SbS

open Idealize.ShloMosaic Idealize.ShloMosaic.TcCoe Cert.Reference11Ideal.Gen Idealize.ShloMosaic.Tactic
open Cert.Kernel11Ideal.SbS (feat ext_ix2 ext_ix3)

/-- The reference's result, from its arguments, -/
def result3 (x : FVec Ideal S128x1x1024 .f32) (w : FVec Ideal S1024x1536 .f32) : FVec Ideal S128x1024 .f32 :=
  extractStridedSlice S128x1024 ![0, 0] (shapeCast _ (Host.dotGeneral dot_S128x1x1024_S1024x1536_S128x1x1536_2_0_01_1_n_n none x w) shapeCasts_S128x1x1536_S128x1536) slices_S128x1536_S128x1024_0_0

/-- holds the products of the input's rows with the weight's columns. -/
theorem result3_at (x : FVec Ideal S128x1x1024 .f32) (w : FVec Ideal S1024x1536 .f32) (p : Fin 128) (f : Fin 1024) :
    result3 x w (ix2 p f) = feat x w p ⟨0 + f.val, by omega⟩ := by
  unfold result3 feat
  pointwise

/-- The reference's result, from its arguments, -/
def result4 (x : FVec Ideal S128x1x1024 .f32) (w : FVec Ideal S1024x1536 .f32) : FVec Ideal S1x512x128 .f32 :=
  broadcastInDim S1x512x128 ![1, 2] bcast_S512x128_S1x512x128_1_2 (transpose S512x128 [1, 0] (extractStridedSlice S128x512 ![0, 1024] (shapeCast _ (Host.dotGeneral dot_S128x1x1024_S1024x1536_S128x1x1536_2_0_01_1_n_n none x w) shapeCasts_S128x1x1536_S128x1536) slices_S128x1536_S128x512_0_1024) transposes_S128x512_S512x128_1_0)

/-- holds the products of the input's rows with the weight's columns. -/
theorem result4_at (x : FVec Ideal S128x1x1024 .f32) (w : FVec Ideal S1024x1536 .f32) (b : Fin 1) (f : Fin 512) (s : Fin 128) :
    result4 x w (ix3 b f s) = feat x w s ⟨1024 + f.val, by omega⟩ := by
  unfold result4 feat
  pointwise

end Cert.Reference11Ideal.SbS

namespace Cert.Proof.SbS

open Idealize.ShloMosaic Idealize.ShloMosaic.TcCoe Idealize.SL Idealize.SL.Sem
open Cert.Kernel11Ideal.SbS (ext_ix2 ext_ix3)

/-- Over the extended reals the kernel's projections and the reference's are equal: from the same arguments both end, and their results agree. -/
theorem algebraic : Cert.algebraic_Kernel11Ideal_Reference11Ideal := by
  intro m g m' g' _ hagree
  refine ⟨fun c => Cert.Kernel11Ideal.SbS.rowsOf (Cert.Kernel11Ideal.SbS.qx m c) (Cert.Kernel11Ideal.SbS.q1 m c), fun c => Cert.Kernel11Ideal.SbS.colsOf (Cert.Kernel11Ideal.SbS.qx m c) (Cert.Kernel11Ideal.SbS.q2 m c), ?_, ?_⟩
  · refine (θ_run _ _ _).mono (fun r h c => ?_) (Cert.Kernel11Ideal.Value.run_blocks m g)
    obtain ⟨h0, h1, hr⟩ := h c
    exact ⟨h0.trans (Cert.Kernel11Ideal.SbS.final3 m c), h1.trans (Cert.Kernel11Ideal.SbS.final4 m c), hr⟩
  · refine (θ_run _ _ _).mono (fun r h c => ?_) (Cert.Reference11Ideal.Value.run m' g')
    obtain ⟨h0, h1, hr⟩ := h c
    obtain ⟨a0, a1⟩ := hagree c
    refine ⟨h0.trans ?_, h1.trans ?_, hr⟩
    · refine ext_ix2 (n := 128) (k := 1024) fun p f => ?_
      refine Eq.trans ?_ (Cert.Kernel11Ideal.SbS.value3 m c p f).symm
      refine (Cert.Reference11Ideal.SbS.result3_at _ _ p f).trans ?_
      rw [a0, a1]
    · refine ext_ix3 (n := 1) (k := 512) (l := 128) fun b f s => ?_
      refine Eq.trans ?_ (Cert.Kernel11Ideal.SbS.value4 m c b f s).symm
      refine (Cert.Reference11Ideal.SbS.result4_at _ _ b f s).trans ?_
      rw [a0, a1]

end Cert.Proof.SbS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Attn.Algebra
public import proofs.«01_k».proof.Proof.Tail.Algebra
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Nsa.Algebra
public import proofs.«01_k».proof.Proof.Sb.Algebra
public import proofs.«01_k».proof.Proof.Dil.Algebra
public import proofs.«01_k».proof.Proof.Sample.Algebra
public import proofs.«01_k».proof.Proof.Merge.Algebra
public import proofs.«01_k».proof.Proof.Lat.Algebra
public import proofs.«01_k».proof.Proof.NsaS.Algebra
public import proofs.«01_k».proof.Proof.SbS.Algebra
public import Idealize.ShloMosaic.Lib.Quiescent
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run

@[expose] public section

noncomputable section

namespace Cert.Proof

open Idealize.ShloMosaic Idealize.SL.Sem Cert.Kernel

/-- Every claim of this certificate. The frames are the generated ones; the named constants' statements hold by the values the
    table gives them; the algebraic claims are proved in `Proof/Attn`, `Proof/Tail`, `Proof/Nsa`, `Proof/Sb`, `Proof/Dil`, `Proof/Sample`, `Proof/Merge`, `Proof/Lat`, `Proof/NsaS` and `Proof/SbS`. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2.2.2.2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2.2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2.2.2.2.2.2.2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2.2.2.2.2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2.2.2.2.2.2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run _ _ _).mono (fun r h => ⟨fun c => (h c).2.2, sem_eq_zero_of_no_sems (by decide) r.2⟩) (Cert.Reference11Ideal.Value.run m ρ),
  ⟨IdealRules.named_const.statement Cert.KernelIdeal.κ "mask" .f32 0xF149F2CA#32 ⊥ rfl,
    IdealRules.named_const.statement Cert.KernelIdeal.κ "floor" .f32 0xEFA18F08#32 ⊥ rfl⟩,
  Cert.Proof.Attn.algebraic,
  trivial,
  Cert.Proof.Tail.algebraic,
  trivial,
  Cert.Proof.Nsa.algebraic,
  trivial,
  Cert.Proof.Sb.algebraic,
  trivial,
  Cert.Proof.Dil.algebraic,
  trivial,
  Cert.Proof.Sample.algebraic,
  trivial,
  Cert.Proof.Merge.algebraic,
  trivial,
  Cert.Proof.Lat.algebraic,
  trivial,
  Cert.Proof.NsaS.algebraic,
  trivial,
  Cert.Proof.SbS.algebraic⟩

end Cert.Proof

end
